-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUpDa (m : (ℓ : Loc Cert.GateUpDa.nD Cert.GateUpDa.τ Cert.GateUpDa.sig) → Buf (Elt Bits) ℓ) : Prop :=
  True

def Pre_GateUpDaIdeal (m : (ℓ : Loc Cert.GateUpDaIdeal.nD Cert.GateUpDaIdeal.τ Cert.GateUpDaIdeal.sig) → Buf (Elt Ideal) ℓ) : Prop :=
  True

def Pre_GateUpDaRefIdeal (m : (ℓ : Loc Cert.GateUpDaRefIdeal.nD Cert.GateUpDaRefIdeal.τ Cert.GateUpDaRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRefIdeal (m : (ℓ : Loc Cert.InDaRefIdeal.nD Cert.InDaRefIdeal.τ Cert.InDaRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_SquareDa (m : (ℓ : Loc Cert.SquareDa.nD Cert.SquareDa.τ Cert.SquareDa.sig) → Buf (Elt Bits) ℓ) : Prop :=
  True

def Pre_SquareDaIdeal (m : (ℓ : Loc Cert.SquareDaIdeal.nD Cert.SquareDaIdeal.τ Cert.SquareDaIdeal.sig) → Buf (Elt Ideal) ℓ) : Prop :=
  True

def Pre_SquareDaRefIdeal (m : (ℓ : Loc Cert.SquareDaRefIdeal.nD Cert.SquareDaRefIdeal.τ Cert.SquareDaRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_XqDa (m : (ℓ : Loc Cert.XqDa.nD Cert.XqDa.τ Cert.XqDa.sig) → Buf (Elt Bits) ℓ) : Prop :=
  True

def Pre_XqDaIdeal (m : (ℓ : Loc Cert.XqDaIdeal.nD Cert.XqDaIdeal.τ Cert.XqDaIdeal.sig) → Buf (Elt Ideal) ℓ) : Prop :=
  True

def Pre_XqDaRefIdeal (m : (ℓ : Loc Cert.XqDaRefIdeal.nD Cert.XqDaRefIdeal.τ Cert.XqDaRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_XkvDa (m : (ℓ : Loc Cert.XkvDa.nD Cert.XkvDa.τ Cert.XkvDa.sig) → Buf (Elt Bits) ℓ) : Prop :=
  True

def Pre_XkvDaIdeal (m : (ℓ : Loc Cert.XkvDaIdeal.nD Cert.XkvDaIdeal.τ Cert.XkvDaIdeal.sig) → Buf (Elt Ideal) ℓ) : Prop :=
  True

def Pre_XkvDaRefIdeal (m : (ℓ : Loc Cert.XkvDaRefIdeal.nD Cert.XkvDaRefIdeal.τ Cert.XkvDaRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_SquareFwd (m : (ℓ : Loc Cert.SquareFwd.nD Cert.SquareFwd.τ Cert.SquareFwd.sig) → Buf (Elt Bits) ℓ) : Prop :=
  True

def Pre_SquareFwdIdeal (m : (ℓ : Loc Cert.SquareFwdIdeal.nD Cert.SquareFwdIdeal.τ Cert.SquareFwdIdeal.sig) → Buf (Elt Ideal) ℓ) : Prop :=
  True

def Pre_SquareFwdRefIdeal (m : (ℓ : Loc Cert.SquareFwdRefIdeal.nD Cert.SquareFwdRefIdeal.τ Cert.SquareFwdRefIdeal.sig) → Buf (Elt Ideal) ℓ) : Prop :=
  True

def Pre_XqFwd (m : (ℓ : Loc Cert.XqFwd.nD Cert.XqFwd.τ Cert.XqFwd.sig) → Buf (Elt Bits) ℓ) : Prop :=
  True

def Pre_XqFwdIdeal (m : (ℓ : Loc Cert.XqFwdIdeal.nD Cert.XqFwdIdeal.τ Cert.XqFwdIdeal.sig) → Buf (Elt Ideal) ℓ) : Prop :=
  True

def Pre_XqFwdRefIdeal (m : (ℓ : Loc Cert.XqFwdRefIdeal.nD Cert.XqFwdRefIdeal.τ Cert.XqFwdRefIdeal.sig) → Buf (Elt Ideal) ℓ) : Prop :=
  True

def Pre_XkvFwd (m : (ℓ : Loc Cert.XkvFwd.nD Cert.XkvFwd.τ Cert.XkvFwd.sig) → Buf (Elt Bits) ℓ) : Prop :=
  True

def Pre_XkvFwdIdeal (m : (ℓ : Loc Cert.XkvFwdIdeal.nD Cert.XkvFwdIdeal.τ Cert.XkvFwdIdeal.sig) → Buf (Elt Ideal) ℓ) : Prop :=
  True

def Pre_XkvFwdRefIdeal (m : (ℓ : Loc Cert.XkvFwdRefIdeal.nD Cert.XkvFwdRefIdeal.τ Cert.XkvFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_GateUpFwd (m : (ℓ : Loc Cert.GateUpFwd.nD Cert.GateUpFwd.τ Cert.GateUpFwd.sig) → Buf (Elt Bits) ℓ) : Prop :=
  True

def Pre_GateUpFwdIdeal (m : (ℓ : Loc Cert.GateUpFwdIdeal.nD Cert.GateUpFwdIdeal.τ Cert.GateUpFwdIdeal.sig) → Buf (Elt Ideal) ℓ) : Prop :=
  True

def Pre_GateUpFwdRefIdeal (m : (ℓ : Loc Cert.GateUpFwdRefIdeal.nD Cert.GateUpFwdRefIdeal.τ Cert.GateUpFwdRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSconv (m : (ℓ : Loc Cert.AdamSconv.nD Cert.AdamSconv.τ Cert.AdamSconv.sig) → Buf (Elt Bits) ℓ) : Prop :=
  True

def Pre_AdamSconvIdeal (m : (ℓ : Loc Cert.AdamSconvIdeal.nD Cert.AdamSconvIdeal.τ Cert.AdamSconvIdeal.sig) → Buf (Elt Ideal) ℓ) : Prop :=
  True

def Pre_AdamSconvRefIdeal (m : (ℓ : Loc Cert.AdamSconvRefIdeal.nD Cert.AdamSconvRefIdeal.τ Cert.AdamSconvRefIdeal.sig) → Buf (Elt Ideal) ℓ) : Prop :=
  True

def Pre_AdamGconv (m : (ℓ : Loc Cert.AdamGconv.nD Cert.AdamGconv.τ Cert.AdamGconv.sig) → Buf (Elt Bits) ℓ) : Prop :=
  True

def Pre_AdamGconvIdeal (m : (ℓ : Loc Cert.AdamGconvIdeal.nD Cert.AdamGconvIdeal.τ Cert.AdamGconvIdeal.sig) → Buf (Elt Ideal) ℓ) : Prop :=
  True

def Pre_AdamGconvRefIdeal (m : (ℓ : Loc Cert.AdamGconvRefIdeal.nD Cert.AdamGconvRefIdeal.τ Cert.AdamGconvRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamGnorm (m : (ℓ : Loc Cert.AdamGnorm.nD Cert.AdamGnorm.τ Cert.AdamGnorm.sig) → Buf (Elt Bits) ℓ) : Prop :=
  True

def Pre_AdamGnormIdeal (m : (ℓ : Loc Cert.AdamGnormIdeal.nD Cert.AdamGnormIdeal.τ Cert.AdamGnormIdeal.sig) → Buf (Elt Ideal) ℓ) : Prop :=
  True

def Pre_AdamGnormRefIdeal (m : (ℓ : Loc Cert.AdamGnormRefIdeal.nD Cert.AdamGnormRefIdeal.τ Cert.AdamGnormRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_ResNormBwd (m : (ℓ : Loc Cert.ResNormBwd.nD Cert.ResNormBwd.τ Cert.ResNormBwd.sig) → Buf (Elt Bits) ℓ) : Prop :=
  True

def Pre_ResNormBwdIdeal (m : (ℓ : Loc Cert.ResNormBwdIdeal.nD Cert.ResNormBwdIdeal.τ Cert.ResNormBwdIdeal.sig) → Buf (Elt Ideal) ℓ) : Prop :=
  True

def Pre_ResNormBwdRefIdeal (m : (ℓ : Loc Cert.ResNormBwdRefIdeal.nD Cert.ResNormBwdRefIdeal.τ Cert.ResNormBwdRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResNormFwd (m : (ℓ : Loc Cert.ResNormFwd.nD Cert.ResNormFwd.τ Cert.ResNormFwd.sig) → Buf (Elt Bits) ℓ) : Prop :=
  True

def Pre_ResNormFwdIdeal (m : (ℓ : Loc Cert.ResNormFwdIdeal.nD Cert.ResNormFwdIdeal.τ Cert.ResNormFwdIdeal.sig) → Buf (Elt Ideal) ℓ) : Prop :=
  True

def Pre_ResNormFwdRefIdeal (m : (ℓ : Loc Cert.ResNormFwdRefIdeal.nD Cert.ResNormFwdRefIdeal.τ Cert.ResNormFwdRefIdeal.sig) → Buf (Elt Ideal) ℓ) : Prop :=
  True

def Pre_SconvBwd (m : (ℓ : Loc Cert.SconvBwd.nD Cert.SconvBwd.τ Cert.SconvBwd.sig) → Buf (Elt Bits) ℓ) : Prop :=
  True

def Pre_SconvBwdIdeal (m : (ℓ : Loc Cert.SconvBwdIdeal.nD Cert.SconvBwdIdeal.τ Cert.SconvBwdIdeal.sig) → Buf (Elt Ideal) ℓ) : Prop :=
  True

def Pre_SconvBwdRefIdeal (m : (ℓ : Loc Cert.SconvBwdRefIdeal.nD Cert.SconvBwdRefIdeal.τ Cert.SconvBwdRefIdeal.sig) → Buf (Elt Ideal) ℓ) : Prop :=
  True

def Pre_GatesBwd (m : (ℓ : Loc Cert.GatesBwd.nD Cert.GatesBwd.τ Cert.GatesBwd.sig) → Buf (Elt Bits) ℓ) : Prop :=
  True

def Pre_GatesBwdIdeal (m : (ℓ : Loc Cert.GatesBwdIdeal.nD Cert.GatesBwdIdeal.τ Cert.GatesBwdIdeal.sig) → Buf (Elt Ideal) ℓ) : Prop :=
  True

def Pre_GatesBwdIdeal_finite_gates [hPre_finite_gates : Cert.Pre_finite_gates.Facts] (m : (ℓ : Loc Cert.GatesBwdIdeal.nD Cert.GatesBwdIdeal.τ Cert.GatesBwdIdeal.sig) → Buf (Elt Ideal) ℓ) : Prop :=
  ∀ c : Dev Cert.GatesBwdIdeal.nD,
    (Cert.Pre_finite_gates.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3))) = (fun _ => 1#1)

def Pre_GatesBwdRefIdeal (m : (ℓ : Loc Cert.GatesBwdRefIdeal.nD Cert.GatesBwdRefIdeal.τ Cert.GatesBwdRefIdeal.sig) → Buf (Elt Ideal) ℓ) : Prop :=
  True

def Pre_GatesBwdRefIdeal_finite_gates [hPre_finite_gates : Cert.Pre_finite_gates.Facts] (m : (ℓ : Loc Cert.GatesBwdRefIdeal.nD Cert.GatesBwdRefIdeal.τ Cert.GatesBwdRefIdeal.sig) → Buf (Elt Ideal) ℓ) : Prop :=
  ∀ c : Dev Cert.GatesBwdRefIdeal.nD,
    (Cert.Pre_finite_gates.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3))) = (fun _ => 1#1)

def Pre_GdnPreBwd (m : (ℓ : Loc Cert.GdnPreBwd.nD Cert.GdnPreBwd.τ Cert.GdnPreBwd.sig) → Buf (Elt Bits) ℓ) : Prop :=
  True

def Pre_GdnPreBwdIdeal (m : (ℓ : Loc Cert.GdnPreBwdIdeal.nD Cert.GdnPreBwdIdeal.τ Cert.GdnPreBwdIdeal.sig) → Buf (Elt Ideal) ℓ) : Prop :=
  True

def Pre_GdnPreBwdIdeal_finite_heads [hPre_finite_heads : Cert.Pre_finite_heads.Facts] (m : (ℓ : Loc Cert.GdnPreBwdIdeal.nD Cert.GdnPreBwdIdeal.τ Cert.GdnPreBwdIdeal.sig) → Buf (Elt Ideal) ℓ) : Prop :=
  ∀ c : Dev Cert.GdnPreBwdIdeal.nD,
    (Cert.Pre_finite_heads.fn (F := Ideal) (m ((c.tc : Thread Cert.GdnPreBwdIdeal.nD Cert.GdnPreBwdIdeal.τ).loc Cert.GdnPreBwdIdeal.main_arg0)) (m ((c.tc : Thread Cert.GdnPreBwdIdeal.nD Cert.GdnPreBwdIdeal.τ).loc Cert.GdnPreBwdIdeal.main_arg1)) (m ((c.tc : Thread Cert.GdnPreBwdIdeal.nD Cert.GdnPreBwdIdeal.τ).loc Cert.GdnPreBwdIdeal.main_arg2))) = (fun _ => 1#1)

def Pre_GdnPreBwdRefIdeal (m : (ℓ : Loc Cert.GdnPreBwdRefIdeal.nD Cert.GdnPreBwdRefIdeal.τ Cert.GdnPreBwdRefIdeal.sig) → Buf (Elt Ideal) ℓ) : Prop :=
  True

def Pre_GdnPreBwdRefIdeal_finite_heads [hPre_finite_heads : Cert.Pre_finite_heads.Facts] (m : (ℓ : Loc Cert.GdnPreBwdRefIdeal.nD Cert.GdnPreBwdRefIdeal.τ Cert.GdnPreBwdRefIdeal.sig) → Buf (Elt Ideal) ℓ) : Prop :=
  ∀ c : Dev Cert.GdnPreBwdRefIdeal.nD,
    (Cert.Pre_finite_heads.fn (F := Ideal) (m ((c.tc : Thread Cert.GdnPreBwdRefIdeal.nD Cert.GdnPreBwdRefIdeal.τ).loc Cert.GdnPreBwdRefIdeal.main_arg0)) (m ((c.tc : Thread Cert.GdnPreBwdRefIdeal.nD Cert.GdnPreBwdRefIdeal.τ).loc Cert.GdnPreBwdRefIdeal.main_arg1)) (m ((c.tc : Thread Cert.GdnPreBwdRefIdeal.nD Cert.GdnPreBwdRefIdeal.τ).loc Cert.GdnPreBwdRefIdeal.main_arg2))) = (fun _ => 1#1)

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu [hPre_finite_swiglu : Cert.Pre_finite_swiglu.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_swiglu [hPre_finite_swiglu : Cert.Pre_finite_swiglu.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1))) = (fun _ => 1#1)

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdRefIdeal (m : (ℓ : Loc Cert.SconvFwdRefIdeal.nD Cert.SconvFwdRefIdeal.τ Cert.SconvFwdRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def Pre_GdnPreFwd (m : (ℓ : Loc Cert.GdnPreFwd.nD Cert.GdnPreFwd.τ Cert.GdnPreFwd.sig) → Buf (Elt Bits) ℓ) : Prop :=
  True

def Pre_GdnPreFwdIdeal (m : (ℓ : Loc Cert.GdnPreFwdIdeal.nD Cert.GdnPreFwdIdeal.τ Cert.GdnPreFwdIdeal.sig) → Buf (Elt Ideal) ℓ) : Prop :=
  True

def Pre_GdnPreFwdRefIdeal (m : (ℓ : Loc Cert.GdnPreFwdRefIdeal.nD Cert.GdnPreFwdRefIdeal.τ Cert.GdnPreFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateUpDa [hGateUpDa : Cert.GateUpDa.Facts] : Prop :=
  ∀ (m : (ℓ : Loc Cert.GateUpDa.nD Cert.GateUpDa.τ Cert.GateUpDa.sig) → Buf (Elt Bits) ℓ) (g : Dev Cert.GateUpDa.nD → PrngReg), Pre_GateUpDa m →
    θ_run (Cert.GateUpDa.defs (F := Bits)) (onTc (τ := Cert.GateUpDa.τ) (Cert.GateUpDa.main (F := Bits))) ⟨m, fun _ => 0, g⟩ (fun r => (∀ c : Dev Cert.GateUpDa.nD,
      r.2.mem ((c.tc : Thread Cert.GateUpDa.nD Cert.GateUpDa.τ).loc Cert.GateUpDa.main_arg0) = m ((c.tc : Thread Cert.GateUpDa.nD Cert.GateUpDa.τ).loc Cert.GateUpDa.main_arg0)
      ∧ r.2.mem ((c.tc : Thread Cert.GateUpDa.nD Cert.GateUpDa.τ).loc Cert.GateUpDa.main_arg1) = m ((c.tc : Thread Cert.GateUpDa.nD Cert.GateUpDa.τ).loc Cert.GateUpDa.main_arg1))
      ∧ r.2.sem = fun _ => 0)

def quiescent_GateUpDaIdeal [hGateUpDaIdeal : Cert.GateUpDaIdeal.Facts] : Prop :=
  ∀ (m : (ℓ : Loc Cert.GateUpDaIdeal.nD Cert.GateUpDaIdeal.τ Cert.GateUpDaIdeal.sig) → Buf (Elt Ideal) ℓ) (g : Dev Cert.GateUpDaIdeal.nD → PrngReg), Pre_GateUpDaIdeal m →
    θ_run (Cert.GateUpDaIdeal.defs (F := Ideal)) (onTc (τ := Cert.GateUpDaIdeal.τ) (Cert.GateUpDaIdeal.main (F := Ideal))) ⟨m, fun _ => 0, g⟩ (fun r => (∀ c : Dev Cert.GateUpDaIdeal.nD,
      r.2.mem ((c.tc : Thread Cert.GateUpDaIdeal.nD Cert.GateUpDaIdeal.τ).loc Cert.GateUpDaIdeal.main_arg0) = m ((c.tc : Thread Cert.GateUpDaIdeal.nD Cert.GateUpDaIdeal.τ).loc Cert.GateUpDaIdeal.main_arg0)
      ∧ r.2.mem ((c.tc : Thread Cert.GateUpDaIdeal.nD Cert.GateUpDaIdeal.τ).loc Cert.GateUpDaIdeal.main_arg1) = m ((c.tc : Thread Cert.GateUpDaIdeal.nD Cert.GateUpDaIdeal.τ).loc Cert.GateUpDaIdeal.main_arg1))
      ∧ r.2.sem = fun _ => 0)

def quiescent_GateUpDaRefIdeal [hGateUpDaRefIdeal : Cert.GateUpDaRefIdeal.Facts] : Prop :=
  ∀ (m : (ℓ : Loc Cert.GateUpDaRefIdeal.nD Cert.GateUpDaRefIdeal.τ Cert.GateUpDaRefIdeal.sig) → Buf (Elt Ideal) ℓ) (g : Dev Cert.GateUpDaRefIdeal.nD → PrngReg), Pre_GateUpDaRefIdeal m →
    θ_run (Cert.GateUpDaRefIdeal.defs (F := Ideal)) (onTc (τ := Cert.GateUpDaRefIdeal.τ) (Cert.GateUpDaRefIdeal.main (F := Ideal))) ⟨m, fun _ => 0, g⟩ (fun r => (∀ c : Dev Cert.GateUpDaRefIdeal.nD,
      r.2.mem ((c.tc : Thread Cert.GateUpDaRefIdeal.nD Cert.GateUpDaRefIdeal.τ).loc Cert.GateUpDaRefIdeal.main_arg0) = m ((c.tc : Thread Cert.GateUpDaRefIdeal.nD Cert.GateUpDaRefIdeal.τ).loc Cert.GateUpDaRefIdeal.main_arg0)
      ∧ r.2.mem ((c.tc : Thread Cert.GateUpDaRefIdeal.nD Cert.GateUpDaRefIdeal.τ).loc Cert.GateUpDaRefIdeal.main_arg1) = m ((c.tc : Thread Cert.GateUpDaRefIdeal.nD Cert.GateUpDaRefIdeal.τ).loc Cert.GateUpDaRefIdeal.main_arg1))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_SquareDa [hSquareDa : Cert.SquareDa.Facts] : Prop :=
  ∀ (m : (ℓ : Loc Cert.SquareDa.nD Cert.SquareDa.τ Cert.SquareDa.sig) → Buf (Elt Bits) ℓ) (g : Dev Cert.SquareDa.nD → PrngReg), Pre_SquareDa m →
    θ_run (Cert.SquareDa.defs (F := Bits)) (onTc (τ := Cert.SquareDa.τ) (Cert.SquareDa.main (F := Bits))) ⟨m, fun _ => 0, g⟩ (fun r => (∀ c : Dev Cert.SquareDa.nD,
      r.2.mem ((c.tc : Thread Cert.SquareDa.nD Cert.SquareDa.τ).loc Cert.SquareDa.main_arg0) = m ((c.tc : Thread Cert.SquareDa.nD Cert.SquareDa.τ).loc Cert.SquareDa.main_arg0)
      ∧ r.2.mem ((c.tc : Thread Cert.SquareDa.nD Cert.SquareDa.τ).loc Cert.SquareDa.main_arg1) = m ((c.tc : Thread Cert.SquareDa.nD Cert.SquareDa.τ).loc Cert.SquareDa.main_arg1))
      ∧ r.2.sem = fun _ => 0)

def quiescent_SquareDaIdeal [hSquareDaIdeal : Cert.SquareDaIdeal.Facts] : Prop :=
  ∀ (m : (ℓ : Loc Cert.SquareDaIdeal.nD Cert.SquareDaIdeal.τ Cert.SquareDaIdeal.sig) → Buf (Elt Ideal) ℓ) (g : Dev Cert.SquareDaIdeal.nD → PrngReg), Pre_SquareDaIdeal m →
    θ_run (Cert.SquareDaIdeal.defs (F := Ideal)) (onTc (τ := Cert.SquareDaIdeal.τ) (Cert.SquareDaIdeal.main (F := Ideal))) ⟨m, fun _ => 0, g⟩ (fun r => (∀ c : Dev Cert.SquareDaIdeal.nD,
      r.2.mem ((c.tc : Thread Cert.SquareDaIdeal.nD Cert.SquareDaIdeal.τ).loc Cert.SquareDaIdeal.main_arg0) = m ((c.tc : Thread Cert.SquareDaIdeal.nD Cert.SquareDaIdeal.τ).loc Cert.SquareDaIdeal.main_arg0)
      ∧ r.2.mem ((c.tc : Thread Cert.SquareDaIdeal.nD Cert.SquareDaIdeal.τ).loc Cert.SquareDaIdeal.main_arg1) = m ((c.tc : Thread Cert.SquareDaIdeal.nD Cert.SquareDaIdeal.τ).loc Cert.SquareDaIdeal.main_arg1))
      ∧ r.2.sem = fun _ => 0)

def quiescent_SquareDaRefIdeal [hSquareDaRefIdeal : Cert.SquareDaRefIdeal.Facts] : Prop :=
  ∀ (m : (ℓ : Loc Cert.SquareDaRefIdeal.nD Cert.SquareDaRefIdeal.τ Cert.SquareDaRefIdeal.sig) → Buf (Elt Ideal) ℓ) (g : Dev Cert.SquareDaRefIdeal.nD → PrngReg), Pre_SquareDaRefIdeal m →
    θ_run (Cert.SquareDaRefIdeal.defs (F := Ideal)) (onTc (τ := Cert.SquareDaRefIdeal.τ) (Cert.SquareDaRefIdeal.main (F := Ideal))) ⟨m, fun _ => 0, g⟩ (fun r => (∀ c : Dev Cert.SquareDaRefIdeal.nD,
      r.2.mem ((c.tc : Thread Cert.SquareDaRefIdeal.nD Cert.SquareDaRefIdeal.τ).loc Cert.SquareDaRefIdeal.main_arg0) = m ((c.tc : Thread Cert.SquareDaRefIdeal.nD Cert.SquareDaRefIdeal.τ).loc Cert.SquareDaRefIdeal.main_arg0)
      ∧ r.2.mem ((c.tc : Thread Cert.SquareDaRefIdeal.nD Cert.SquareDaRefIdeal.τ).loc Cert.SquareDaRefIdeal.main_arg1) = m ((c.tc : Thread Cert.SquareDaRefIdeal.nD Cert.SquareDaRefIdeal.τ).loc Cert.SquareDaRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_XqDa [hXqDa : Cert.XqDa.Facts] : Prop :=
  ∀ (m : (ℓ : Loc Cert.XqDa.nD Cert.XqDa.τ Cert.XqDa.sig) → Buf (Elt Bits) ℓ) (g : Dev Cert.XqDa.nD → PrngReg), Pre_XqDa m →
    θ_run (Cert.XqDa.defs (F := Bits)) (onTc (τ := Cert.XqDa.τ) (Cert.XqDa.main (F := Bits))) ⟨m, fun _ => 0, g⟩ (fun r => (∀ c : Dev Cert.XqDa.nD,
      r.2.mem ((c.tc : Thread Cert.XqDa.nD Cert.XqDa.τ).loc Cert.XqDa.main_arg0) = m ((c.tc : Thread Cert.XqDa.nD Cert.XqDa.τ).loc Cert.XqDa.main_arg0)
      ∧ r.2.mem ((c.tc : Thread Cert.XqDa.nD Cert.XqDa.τ).loc Cert.XqDa.main_arg1) = m ((c.tc : Thread Cert.XqDa.nD Cert.XqDa.τ).loc Cert.XqDa.main_arg1))
      ∧ r.2.sem = fun _ => 0)

def quiescent_XqDaIdeal [hXqDaIdeal : Cert.XqDaIdeal.Facts] : Prop :=
  ∀ (m : (ℓ : Loc Cert.XqDaIdeal.nD Cert.XqDaIdeal.τ Cert.XqDaIdeal.sig) → Buf (Elt Ideal) ℓ) (g : Dev Cert.XqDaIdeal.nD → PrngReg), Pre_XqDaIdeal m →
    θ_run (Cert.XqDaIdeal.defs (F := Ideal)) (onTc (τ := Cert.XqDaIdeal.τ) (Cert.XqDaIdeal.main (F := Ideal))) ⟨m, fun _ => 0, g⟩ (fun r => (∀ c : Dev Cert.XqDaIdeal.nD,
      r.2.mem ((c.tc : Thread Cert.XqDaIdeal.nD Cert.XqDaIdeal.τ).loc Cert.XqDaIdeal.main_arg0) = m ((c.tc : Thread Cert.XqDaIdeal.nD Cert.XqDaIdeal.τ).loc Cert.XqDaIdeal.main_arg0)
      ∧ r.2.mem ((c.tc : Thread Cert.XqDaIdeal.nD Cert.XqDaIdeal.τ).loc Cert.XqDaIdeal.main_arg1) = m ((c.tc : Thread Cert.XqDaIdeal.nD Cert.XqDaIdeal.τ).loc Cert.XqDaIdeal.main_arg1))
      ∧ r.2.sem = fun _ => 0)

def quiescent_XqDaRefIdeal [hXqDaRefIdeal : Cert.XqDaRefIdeal.Facts] : Prop :=
  ∀ (m : (ℓ : Loc Cert.XqDaRefIdeal.nD Cert.XqDaRefIdeal.τ Cert.XqDaRefIdeal.sig) → Buf (Elt Ideal) ℓ) (g : Dev Cert.XqDaRefIdeal.nD → PrngReg), Pre_XqDaRefIdeal m →
    θ_run (Cert.XqDaRefIdeal.defs (F := Ideal)) (onTc (τ := Cert.XqDaRefIdeal.τ) (Cert.XqDaRefIdeal.main (F := Ideal))) ⟨m, fun _ => 0, g⟩ (fun r => (∀ c : Dev Cert.XqDaRefIdeal.nD,
      r.2.mem ((c.tc : Thread Cert.XqDaRefIdeal.nD Cert.XqDaRefIdeal.τ).loc Cert.XqDaRefIdeal.main_arg0) = m ((c.tc : Thread Cert.XqDaRefIdeal.nD Cert.XqDaRefIdeal.τ).loc Cert.XqDaRefIdeal.main_arg0)
      ∧ r.2.mem ((c.tc : Thread Cert.XqDaRefIdeal.nD Cert.XqDaRefIdeal.τ).loc Cert.XqDaRefIdeal.main_arg1) = m ((c.tc : Thread Cert.XqDaRefIdeal.nD Cert.XqDaRefIdeal.τ).loc Cert.XqDaRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_XkvDa [hXkvDa : Cert.XkvDa.Facts] : Prop :=
  ∀ (m : (ℓ : Loc Cert.XkvDa.nD Cert.XkvDa.τ Cert.XkvDa.sig) → Buf (Elt Bits) ℓ) (g : Dev Cert.XkvDa.nD → PrngReg), Pre_XkvDa m →
    θ_run (Cert.XkvDa.defs (F := Bits)) (onTc (τ := Cert.XkvDa.τ) (Cert.XkvDa.main (F := Bits))) ⟨m, fun _ => 0, g⟩ (fun r => (∀ c : Dev Cert.XkvDa.nD,
      r.2.mem ((c.tc : Thread Cert.XkvDa.nD Cert.XkvDa.τ).loc Cert.XkvDa.main_arg0) = m ((c.tc : Thread Cert.XkvDa.nD Cert.XkvDa.τ).loc Cert.XkvDa.main_arg0)
      ∧ r.2.mem ((c.tc : Thread Cert.XkvDa.nD Cert.XkvDa.τ).loc Cert.XkvDa.main_arg1) = m ((c.tc : Thread Cert.XkvDa.nD Cert.XkvDa.τ).loc Cert.XkvDa.main_arg1))
      ∧ r.2.sem = fun _ => 0)

def quiescent_XkvDaIdeal [hXkvDaIdeal : Cert.XkvDaIdeal.Facts] : Prop :=
  ∀ (m : (ℓ : Loc Cert.XkvDaIdeal.nD Cert.XkvDaIdeal.τ Cert.XkvDaIdeal.sig) → Buf (Elt Ideal) ℓ) (g : Dev Cert.XkvDaIdeal.nD → PrngReg), Pre_XkvDaIdeal m →
    θ_run (Cert.XkvDaIdeal.defs (F := Ideal)) (onTc (τ := Cert.XkvDaIdeal.τ) (Cert.XkvDaIdeal.main (F := Ideal))) ⟨m, fun _ => 0, g⟩ (fun r => (∀ c : Dev Cert.XkvDaIdeal.nD,
      r.2.mem ((c.tc : Thread Cert.XkvDaIdeal.nD Cert.XkvDaIdeal.τ).loc Cert.XkvDaIdeal.main_arg0) = m ((c.tc : Thread Cert.XkvDaIdeal.nD Cert.XkvDaIdeal.τ).loc Cert.XkvDaIdeal.main_arg0)
      ∧ r.2.mem ((c.tc : Thread Cert.XkvDaIdeal.nD Cert.XkvDaIdeal.τ).loc Cert.XkvDaIdeal.main_arg1) = m ((c.tc : Thread Cert.XkvDaIdeal.nD Cert.XkvDaIdeal.τ).loc Cert.XkvDaIdeal.main_arg1))
      ∧ r.2.sem = fun _ => 0)

def quiescent_XkvDaRefIdeal [hXkvDaRefIdeal : Cert.XkvDaRefIdeal.Facts] : Prop :=
  ∀ (m : (ℓ : Loc Cert.XkvDaRefIdeal.nD Cert.XkvDaRefIdeal.τ Cert.XkvDaRefIdeal.sig) → Buf (Elt Ideal) ℓ) (g : Dev Cert.XkvDaRefIdeal.nD → PrngReg), Pre_XkvDaRefIdeal m →
    θ_run (Cert.XkvDaRefIdeal.defs (F := Ideal)) (onTc (τ := Cert.XkvDaRefIdeal.τ) (Cert.XkvDaRefIdeal.main (F := Ideal))) ⟨m, fun _ => 0, g⟩ (fun r => (∀ c : Dev Cert.XkvDaRefIdeal.nD,
      r.2.mem ((c.tc : Thread Cert.XkvDaRefIdeal.nD Cert.XkvDaRefIdeal.τ).loc Cert.XkvDaRefIdeal.main_arg0) = m ((c.tc : Thread Cert.XkvDaRefIdeal.nD Cert.XkvDaRefIdeal.τ).loc Cert.XkvDaRefIdeal.main_arg0)
      ∧ r.2.mem ((c.tc : Thread Cert.XkvDaRefIdeal.nD Cert.XkvDaRefIdeal.τ).loc Cert.XkvDaRefIdeal.main_arg1) = m ((c.tc : Thread Cert.XkvDaRefIdeal.nD Cert.XkvDaRefIdeal.τ).loc Cert.XkvDaRefIdeal.main_arg1))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_SquareFwd [hSquareFwd : Cert.SquareFwd.Facts] : Prop :=
  ∀ (m : (ℓ : Loc Cert.SquareFwd.nD Cert.SquareFwd.τ Cert.SquareFwd.sig) → Buf (Elt Bits) ℓ) (g : Dev Cert.SquareFwd.nD → PrngReg), Pre_SquareFwd m →
    θ_run (Cert.SquareFwd.defs (F := Bits)) (onTc (τ := Cert.SquareFwd.τ) (Cert.SquareFwd.main (F := Bits))) ⟨m, fun _ => 0, g⟩ (fun r => (∀ c : Dev Cert.SquareFwd.nD,
      r.2.mem ((c.tc : Thread Cert.SquareFwd.nD Cert.SquareFwd.τ).loc Cert.SquareFwd.main_arg0) = m ((c.tc : Thread Cert.SquareFwd.nD Cert.SquareFwd.τ).loc Cert.SquareFwd.main_arg0)
      ∧ r.2.mem ((c.tc : Thread Cert.SquareFwd.nD Cert.SquareFwd.τ).loc Cert.SquareFwd.main_arg1) = m ((c.tc : Thread Cert.SquareFwd.nD Cert.SquareFwd.τ).loc Cert.SquareFwd.main_arg1))
      ∧ r.2.sem = fun _ => 0)

def quiescent_SquareFwdIdeal [hSquareFwdIdeal : Cert.SquareFwdIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg), Pre_SquareFwdIdeal m →
    θ_run (Cert.SquareFwdIdeal.defs (F := Ideal)) (onTc (τ := Cert.SquareFwdIdeal.τ) (Cert.SquareFwdIdeal.main (F := Ideal))) ⟨m, fun _ => 0, g⟩ (fun r => (∀ c : Dev Cert.SquareFwdIdeal.nD,
      r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
      ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ r.2.sem = fun _ => 0)

def quiescent_SquareFwdRefIdeal [hSquareFwdRefIdeal : Cert.SquareFwdRefIdeal.Facts] : Prop :=
  ∀ (m : (ℓ : Loc Cert.SquareFwdRefIdeal.nD Cert.SquareFwdRefIdeal.τ Cert.SquareFwdRefIdeal.sig) → Buf (Elt Ideal) ℓ) (g : Dev Cert.SquareFwdRefIdeal.nD → PrngReg), Pre_SquareFwdRefIdeal m →
    θ_run (Cert.SquareFwdRefIdeal.defs (F := Ideal)) (onTc (τ := Cert.SquareFwdRefIdeal.τ) (Cert.SquareFwdRefIdeal.main (F := Ideal))) ⟨m, fun _ => 0, g⟩ (fun r => (∀ c : Dev Cert.SquareFwdRefIdeal.nD,
      r.2.mem ((c.tc : Thread Cert.SquareFwdRefIdeal.nD Cert.SquareFwdRefIdeal.τ).loc Cert.SquareFwdRefIdeal.main_arg0) = m ((c.tc : Thread Cert.SquareFwdRefIdeal.nD Cert.SquareFwdRefIdeal.τ).loc Cert.SquareFwdRefIdeal.main_arg0)
      ∧ r.2.mem ((c.tc : Thread Cert.SquareFwdRefIdeal.nD Cert.SquareFwdRefIdeal.τ).loc Cert.SquareFwdRefIdeal.main_arg1) = m ((c.tc : Thread Cert.SquareFwdRefIdeal.nD Cert.SquareFwdRefIdeal.τ).loc Cert.SquareFwdRefIdeal.main_arg1))
      ∧ r.2.sem = fun _ => 0)

def quiescent_XqFwd [hXqFwd : Cert.XqFwd.Facts] : Prop :=
  ∀ (m : (ℓ : Loc Cert.XqFwd.nD Cert.XqFwd.τ Cert.XqFwd.sig) → Buf (Elt Bits) ℓ) (g : Dev Cert.XqFwd.nD → PrngReg), Pre_XqFwd m →
    θ_run (Cert.XqFwd.defs (F := Bits)) (onTc (τ := Cert.XqFwd.τ) (Cert.XqFwd.main (F := Bits))) ⟨m, fun _ => 0, g⟩ (fun r => (∀ c : Dev Cert.XqFwd.nD,
      r.2.mem ((c.tc : Thread Cert.XqFwd.nD Cert.XqFwd.τ).loc Cert.XqFwd.main_arg0) = m ((c.tc : Thread Cert.XqFwd.nD Cert.XqFwd.τ).loc Cert.XqFwd.main_arg0)
      ∧ r.2.mem ((c.tc : Thread Cert.XqFwd.nD Cert.XqFwd.τ).loc Cert.XqFwd.main_arg1) = m ((c.tc : Thread Cert.XqFwd.nD Cert.XqFwd.τ).loc Cert.XqFwd.main_arg1))
      ∧ r.2.sem = fun _ => 0)

def quiescent_XqFwdIdeal [hXqFwdIdeal : Cert.XqFwdIdeal.Facts] : Prop :=
  ∀ (m : (ℓ : Loc Cert.XqFwdIdeal.nD Cert.XqFwdIdeal.τ Cert.XqFwdIdeal.sig) → Buf (Elt Ideal) ℓ) (g : Dev Cert.XqFwdIdeal.nD → PrngReg), Pre_XqFwdIdeal m →
    θ_run (Cert.XqFwdIdeal.defs (F := Ideal)) (onTc (τ := Cert.XqFwdIdeal.τ) (Cert.XqFwdIdeal.main (F := Ideal))) ⟨m, fun _ => 0, g⟩ (fun r => (∀ c : Dev Cert.XqFwdIdeal.nD,
      r.2.mem ((c.tc : Thread Cert.XqFwdIdeal.nD Cert.XqFwdIdeal.τ).loc Cert.XqFwdIdeal.main_arg0) = m ((c.tc : Thread Cert.XqFwdIdeal.nD Cert.XqFwdIdeal.τ).loc Cert.XqFwdIdeal.main_arg0)
      ∧ r.2.mem ((c.tc : Thread Cert.XqFwdIdeal.nD Cert.XqFwdIdeal.τ).loc Cert.XqFwdIdeal.main_arg1) = m ((c.tc : Thread Cert.XqFwdIdeal.nD Cert.XqFwdIdeal.τ).loc Cert.XqFwdIdeal.main_arg1))
      ∧ r.2.sem = fun _ => 0)

def quiescent_XqFwdRefIdeal [hXqFwdRefIdeal : Cert.XqFwdRefIdeal.Facts] : Prop :=
  ∀ (m : (ℓ : Loc Cert.XqFwdRefIdeal.nD Cert.XqFwdRefIdeal.τ Cert.XqFwdRefIdeal.sig) → Buf (Elt Ideal) ℓ) (g : Dev Cert.XqFwdRefIdeal.nD → PrngReg), Pre_XqFwdRefIdeal m →
    θ_run (Cert.XqFwdRefIdeal.defs (F := Ideal)) (onTc (τ := Cert.XqFwdRefIdeal.τ) (Cert.XqFwdRefIdeal.main (F := Ideal))) ⟨m, fun _ => 0, g⟩ (fun r => (∀ c : Dev Cert.XqFwdRefIdeal.nD,
      r.2.mem ((c.tc : Thread Cert.XqFwdRefIdeal.nD Cert.XqFwdRefIdeal.τ).loc Cert.XqFwdRefIdeal.main_arg0) = m ((c.tc : Thread Cert.XqFwdRefIdeal.nD Cert.XqFwdRefIdeal.τ).loc Cert.XqFwdRefIdeal.main_arg0)
      ∧ r.2.mem ((c.tc : Thread Cert.XqFwdRefIdeal.nD Cert.XqFwdRefIdeal.τ).loc Cert.XqFwdRefIdeal.main_arg1) = m ((c.tc : Thread Cert.XqFwdRefIdeal.nD Cert.XqFwdRefIdeal.τ).loc Cert.XqFwdRefIdeal.main_arg1))
      ∧ r.2.sem = fun _ => 0)

def quiescent_XkvFwd [hXkvFwd : Cert.XkvFwd.Facts] : Prop :=
  ∀ (m : (ℓ : Loc Cert.XkvFwd.nD Cert.XkvFwd.τ Cert.XkvFwd.sig) → Buf (Elt Bits) ℓ) (g : Dev Cert.XkvFwd.nD → PrngReg), Pre_XkvFwd m →
    θ_run (Cert.XkvFwd.defs (F := Bits)) (onTc (τ := Cert.XkvFwd.τ) (Cert.XkvFwd.main (F := Bits))) ⟨m, fun _ => 0, g⟩ (fun r => (∀ c : Dev Cert.XkvFwd.nD,
      r.2.mem ((c.tc : Thread Cert.XkvFwd.nD Cert.XkvFwd.τ).loc Cert.XkvFwd.main_arg0) = m ((c.tc : Thread Cert.XkvFwd.nD Cert.XkvFwd.τ).loc Cert.XkvFwd.main_arg0)
      ∧ r.2.mem ((c.tc : Thread Cert.XkvFwd.nD Cert.XkvFwd.τ).loc Cert.XkvFwd.main_arg1) = m ((c.tc : Thread Cert.XkvFwd.nD Cert.XkvFwd.τ).loc Cert.XkvFwd.main_arg1))
      ∧ r.2.sem = fun _ => 0)

def quiescent_XkvFwdIdeal [hXkvFwdIdeal : Cert.XkvFwdIdeal.Facts] : Prop :=
  ∀ (m : (ℓ : Loc Cert.XkvFwdIdeal.nD Cert.XkvFwdIdeal.τ Cert.XkvFwdIdeal.sig) → Buf (Elt Ideal) ℓ) (g : Dev Cert.XkvFwdIdeal.nD → PrngReg), Pre_XkvFwdIdeal m →
    θ_run (Cert.XkvFwdIdeal.defs (F := Ideal)) (onTc (τ := Cert.XkvFwdIdeal.τ) (Cert.XkvFwdIdeal.main (F := Ideal))) ⟨m, fun _ => 0, g⟩ (fun r => (∀ c : Dev Cert.XkvFwdIdeal.nD,
      r.2.mem ((c.tc : Thread Cert.XkvFwdIdeal.nD Cert.XkvFwdIdeal.τ).loc Cert.XkvFwdIdeal.main_arg0) = m ((c.tc : Thread Cert.XkvFwdIdeal.nD Cert.XkvFwdIdeal.τ).loc Cert.XkvFwdIdeal.main_arg0)
      ∧ r.2.mem ((c.tc : Thread Cert.XkvFwdIdeal.nD Cert.XkvFwdIdeal.τ).loc Cert.XkvFwdIdeal.main_arg1) = m ((c.tc : Thread Cert.XkvFwdIdeal.nD Cert.XkvFwdIdeal.τ).loc Cert.XkvFwdIdeal.main_arg1))
      ∧ r.2.sem = fun _ => 0)

def quiescent_XkvFwdRefIdeal [hXkvFwdRefIdeal : Cert.XkvFwdRefIdeal.Facts] : Prop :=
  ∀ (m : (ℓ : Loc Cert.XkvFwdRefIdeal.nD Cert.XkvFwdRefIdeal.τ Cert.XkvFwdRefIdeal.sig) → Buf (Elt Ideal) ℓ) (g : Dev Cert.XkvFwdRefIdeal.nD → PrngReg), Pre_XkvFwdRefIdeal m →
    θ_run (Cert.XkvFwdRefIdeal.defs (F := Ideal)) (onTc (τ := Cert.XkvFwdRefIdeal.τ) (Cert.XkvFwdRefIdeal.main (F := Ideal))) ⟨m, fun _ => 0, g⟩ (fun r => (∀ c : Dev Cert.XkvFwdRefIdeal.nD,
      r.2.mem ((c.tc : Thread Cert.XkvFwdRefIdeal.nD Cert.XkvFwdRefIdeal.τ).loc Cert.XkvFwdRefIdeal.main_arg0) = m ((c.tc : Thread Cert.XkvFwdRefIdeal.nD Cert.XkvFwdRefIdeal.τ).loc Cert.XkvFwdRefIdeal.main_arg0)
      ∧ r.2.mem ((c.tc : Thread Cert.XkvFwdRefIdeal.nD Cert.XkvFwdRefIdeal.τ).loc Cert.XkvFwdRefIdeal.main_arg1) = m ((c.tc : Thread Cert.XkvFwdRefIdeal.nD Cert.XkvFwdRefIdeal.τ).loc Cert.XkvFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_GateUpFwd [hGateUpFwd : Cert.GateUpFwd.Facts] : Prop :=
  ∀ (m : (ℓ : Loc Cert.GateUpFwd.nD Cert.GateUpFwd.τ Cert.GateUpFwd.sig) → Buf (Elt Bits) ℓ) (g : Dev Cert.GateUpFwd.nD → PrngReg), Pre_GateUpFwd m →
    θ_run (Cert.GateUpFwd.defs (F := Bits)) (onTc (τ := Cert.GateUpFwd.τ) (Cert.GateUpFwd.main (F := Bits))) ⟨m, fun _ => 0, g⟩ (fun r => (∀ c : Dev Cert.GateUpFwd.nD,
      r.2.mem ((c.tc : Thread Cert.GateUpFwd.nD Cert.GateUpFwd.τ).loc Cert.GateUpFwd.main_arg0) = m ((c.tc : Thread Cert.GateUpFwd.nD Cert.GateUpFwd.τ).loc Cert.GateUpFwd.main_arg0)
      ∧ r.2.mem ((c.tc : Thread Cert.GateUpFwd.nD Cert.GateUpFwd.τ).loc Cert.GateUpFwd.main_arg1) = m ((c.tc : Thread Cert.GateUpFwd.nD Cert.GateUpFwd.τ).loc Cert.GateUpFwd.main_arg1))
      ∧ r.2.sem = fun _ => 0)

def quiescent_GateUpFwdIdeal [hGateUpFwdIdeal : Cert.GateUpFwdIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg), Pre_GateUpFwdIdeal m →
    θ_run (Cert.GateUpFwdIdeal.defs (F := Ideal)) (onTc (τ := Cert.GateUpFwdIdeal.τ) (Cert.GateUpFwdIdeal.main (F := Ideal))) ⟨m, fun _ => 0, g⟩ (fun r => (∀ c : Dev Cert.GateUpFwdIdeal.nD,
      r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
      ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1))
      ∧ r.2.sem = fun _ => 0)

def quiescent_GateUpFwdRefIdeal [hGateUpFwdRefIdeal : Cert.GateUpFwdRefIdeal.Facts] : Prop :=
  ∀ (m : (ℓ : Loc Cert.GateUpFwdRefIdeal.nD Cert.GateUpFwdRefIdeal.τ Cert.GateUpFwdRefIdeal.sig) → Buf (Elt Ideal) ℓ) (g : Dev Cert.GateUpFwdRefIdeal.nD → PrngReg), Pre_GateUpFwdRefIdeal m →
    θ_run (Cert.GateUpFwdRefIdeal.defs (F := Ideal)) (onTc (τ := Cert.GateUpFwdRefIdeal.τ) (Cert.GateUpFwdRefIdeal.main (F := Ideal))) ⟨m, fun _ => 0, g⟩ (fun r => (∀ c : Dev Cert.GateUpFwdRefIdeal.nD,
      r.2.mem ((c.tc : Thread Cert.GateUpFwdRefIdeal.nD Cert.GateUpFwdRefIdeal.τ).loc Cert.GateUpFwdRefIdeal.main_arg0) = m ((c.tc : Thread Cert.GateUpFwdRefIdeal.nD Cert.GateUpFwdRefIdeal.τ).loc Cert.GateUpFwdRefIdeal.main_arg0)
      ∧ r.2.mem ((c.tc : Thread Cert.GateUpFwdRefIdeal.nD Cert.GateUpFwdRefIdeal.τ).loc Cert.GateUpFwdRefIdeal.main_arg1) = m ((c.tc : Thread Cert.GateUpFwdRefIdeal.nD Cert.GateUpFwdRefIdeal.τ).loc Cert.GateUpFwdRefIdeal.main_arg1))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSconv [hAdamSconv : Cert.AdamSconv.Facts] : Prop :=
  ∀ (m : (ℓ : Loc Cert.AdamSconv.nD Cert.AdamSconv.τ Cert.AdamSconv.sig) → Buf (Elt Bits) ℓ) (g : Dev Cert.AdamSconv.nD → PrngReg), Pre_AdamSconv m →
    θ_run (Cert.AdamSconv.defs (F := Bits)) (onTc (τ := Cert.AdamSconv.τ) (Cert.AdamSconv.main (F := Bits))) ⟨m, fun _ => 0, g⟩ (fun r => (∀ c : Dev Cert.AdamSconv.nD,
      r.2.mem ((c.tc : Thread Cert.AdamSconv.nD Cert.AdamSconv.τ).loc Cert.AdamSconv.main_arg0) = m ((c.tc : Thread Cert.AdamSconv.nD Cert.AdamSconv.τ).loc Cert.AdamSconv.main_arg0)
      ∧ r.2.mem ((c.tc : Thread Cert.AdamSconv.nD Cert.AdamSconv.τ).loc Cert.AdamSconv.main_arg1) = m ((c.tc : Thread Cert.AdamSconv.nD Cert.AdamSconv.τ).loc Cert.AdamSconv.main_arg1)
      ∧ r.2.mem ((c.tc : Thread Cert.AdamSconv.nD Cert.AdamSconv.τ).loc Cert.AdamSconv.main_arg2) = m ((c.tc : Thread Cert.AdamSconv.nD Cert.AdamSconv.τ).loc Cert.AdamSconv.main_arg2)
      ∧ r.2.mem ((c.tc : Thread Cert.AdamSconv.nD Cert.AdamSconv.τ).loc Cert.AdamSconv.main_arg3) = m ((c.tc : Thread Cert.AdamSconv.nD Cert.AdamSconv.τ).loc Cert.AdamSconv.main_arg3))
      ∧ r.2.sem = fun _ => 0)

def quiescent_AdamSconvIdeal [hAdamSconvIdeal : Cert.AdamSconvIdeal.Facts] : Prop :=
  ∀ (m : (ℓ : Loc Cert.AdamSconvIdeal.nD Cert.AdamSconvIdeal.τ Cert.AdamSconvIdeal.sig) → Buf (Elt Ideal) ℓ) (g : Dev Cert.AdamSconvIdeal.nD → PrngReg), Pre_AdamSconvIdeal m →
    θ_run (Cert.AdamSconvIdeal.defs (F := Ideal)) (onTc (τ := Cert.AdamSconvIdeal.τ) (Cert.AdamSconvIdeal.main (F := Ideal))) ⟨m, fun _ => 0, g⟩ (fun r => (∀ c : Dev Cert.AdamSconvIdeal.nD,
      r.2.mem ((c.tc : Thread Cert.AdamSconvIdeal.nD Cert.AdamSconvIdeal.τ).loc Cert.AdamSconvIdeal.main_arg0) = m ((c.tc : Thread Cert.AdamSconvIdeal.nD Cert.AdamSconvIdeal.τ).loc Cert.AdamSconvIdeal.main_arg0)
      ∧ r.2.mem ((c.tc : Thread Cert.AdamSconvIdeal.nD Cert.AdamSconvIdeal.τ).loc Cert.AdamSconvIdeal.main_arg1) = m ((c.tc : Thread Cert.AdamSconvIdeal.nD Cert.AdamSconvIdeal.τ).loc Cert.AdamSconvIdeal.main_arg1)
      ∧ r.2.mem ((c.tc : Thread Cert.AdamSconvIdeal.nD Cert.AdamSconvIdeal.τ).loc Cert.AdamSconvIdeal.main_arg2) = m ((c.tc : Thread Cert.AdamSconvIdeal.nD Cert.AdamSconvIdeal.τ).loc Cert.AdamSconvIdeal.main_arg2)
      ∧ r.2.mem ((c.tc : Thread Cert.AdamSconvIdeal.nD Cert.AdamSconvIdeal.τ).loc Cert.AdamSconvIdeal.main_arg3) = m ((c.tc : Thread Cert.AdamSconvIdeal.nD Cert.AdamSconvIdeal.τ).loc Cert.AdamSconvIdeal.main_arg3))
      ∧ r.2.sem = fun _ => 0)

def quiescent_AdamSconvRefIdeal [hAdamSconvRefIdeal : Cert.AdamSconvRefIdeal.Facts] : Prop :=
  ∀ (m : (ℓ : Loc Cert.AdamSconvRefIdeal.nD Cert.AdamSconvRefIdeal.τ Cert.AdamSconvRefIdeal.sig) → Buf (Elt Ideal) ℓ) (g : Dev Cert.AdamSconvRefIdeal.nD → PrngReg), Pre_AdamSconvRefIdeal m →
    θ_run (Cert.AdamSconvRefIdeal.defs (F := Ideal)) (onTc (τ := Cert.AdamSconvRefIdeal.τ) (Cert.AdamSconvRefIdeal.main (F := Ideal))) ⟨m, fun _ => 0, g⟩ (fun r => (∀ c : Dev Cert.AdamSconvRefIdeal.nD,
      r.2.mem ((c.tc : Thread Cert.AdamSconvRefIdeal.nD Cert.AdamSconvRefIdeal.τ).loc Cert.AdamSconvRefIdeal.main_arg0) = m ((c.tc : Thread Cert.AdamSconvRefIdeal.nD Cert.AdamSconvRefIdeal.τ).loc Cert.AdamSconvRefIdeal.main_arg0)
      ∧ r.2.mem ((c.tc : Thread Cert.AdamSconvRefIdeal.nD Cert.AdamSconvRefIdeal.τ).loc Cert.AdamSconvRefIdeal.main_arg1) = m ((c.tc : Thread Cert.AdamSconvRefIdeal.nD Cert.AdamSconvRefIdeal.τ).loc Cert.AdamSconvRefIdeal.main_arg1)
      ∧ r.2.mem ((c.tc : Thread Cert.AdamSconvRefIdeal.nD Cert.AdamSconvRefIdeal.τ).loc Cert.AdamSconvRefIdeal.main_arg2) = m ((c.tc : Thread Cert.AdamSconvRefIdeal.nD Cert.AdamSconvRefIdeal.τ).loc Cert.AdamSconvRefIdeal.main_arg2)
      ∧ r.2.mem ((c.tc : Thread Cert.AdamSconvRefIdeal.nD Cert.AdamSconvRefIdeal.τ).loc Cert.AdamSconvRefIdeal.main_arg3) = m ((c.tc : Thread Cert.AdamSconvRefIdeal.nD Cert.AdamSconvRefIdeal.τ).loc Cert.AdamSconvRefIdeal.main_arg3))
      ∧ r.2.sem = fun _ => 0)

def quiescent_AdamGconv [hAdamGconv : Cert.AdamGconv.Facts] : Prop :=
  ∀ (m : (ℓ : Loc Cert.AdamGconv.nD Cert.AdamGconv.τ Cert.AdamGconv.sig) → Buf (Elt Bits) ℓ) (g : Dev Cert.AdamGconv.nD → PrngReg), Pre_AdamGconv m →
    θ_run (Cert.AdamGconv.defs (F := Bits)) (onTc (τ := Cert.AdamGconv.τ) (Cert.AdamGconv.main (F := Bits))) ⟨m, fun _ => 0, g⟩ (fun r => (∀ c : Dev Cert.AdamGconv.nD,
      r.2.mem ((c.tc : Thread Cert.AdamGconv.nD Cert.AdamGconv.τ).loc Cert.AdamGconv.main_arg0) = m ((c.tc : Thread Cert.AdamGconv.nD Cert.AdamGconv.τ).loc Cert.AdamGconv.main_arg0)
      ∧ r.2.mem ((c.tc : Thread Cert.AdamGconv.nD Cert.AdamGconv.τ).loc Cert.AdamGconv.main_arg1) = m ((c.tc : Thread Cert.AdamGconv.nD Cert.AdamGconv.τ).loc Cert.AdamGconv.main_arg1)
      ∧ r.2.mem ((c.tc : Thread Cert.AdamGconv.nD Cert.AdamGconv.τ).loc Cert.AdamGconv.main_arg2) = m ((c.tc : Thread Cert.AdamGconv.nD Cert.AdamGconv.τ).loc Cert.AdamGconv.main_arg2)
      ∧ r.2.mem ((c.tc : Thread Cert.AdamGconv.nD Cert.AdamGconv.τ).loc Cert.AdamGconv.main_arg3) = m ((c.tc : Thread Cert.AdamGconv.nD Cert.AdamGconv.τ).loc Cert.AdamGconv.main_arg3))
      ∧ r.2.sem = fun _ => 0)

def quiescent_AdamGconvIdeal [hAdamGconvIdeal : Cert.AdamGconvIdeal.Facts] : Prop :=
  ∀ (m : (ℓ : Loc Cert.AdamGconvIdeal.nD Cert.AdamGconvIdeal.τ Cert.AdamGconvIdeal.sig) → Buf (Elt Ideal) ℓ) (g : Dev Cert.AdamGconvIdeal.nD → PrngReg), Pre_AdamGconvIdeal m →
    θ_run (Cert.AdamGconvIdeal.defs (F := Ideal)) (onTc (τ := Cert.AdamGconvIdeal.τ) (Cert.AdamGconvIdeal.main (F := Ideal))) ⟨m, fun _ => 0, g⟩ (fun r => (∀ c : Dev Cert.AdamGconvIdeal.nD,
      r.2.mem ((c.tc : Thread Cert.AdamGconvIdeal.nD Cert.AdamGconvIdeal.τ).loc Cert.AdamGconvIdeal.main_arg0) = m ((c.tc : Thread Cert.AdamGconvIdeal.nD Cert.AdamGconvIdeal.τ).loc Cert.AdamGconvIdeal.main_arg0)
      ∧ r.2.mem ((c.tc : Thread Cert.AdamGconvIdeal.nD Cert.AdamGconvIdeal.τ).loc Cert.AdamGconvIdeal.main_arg1) = m ((c.tc : Thread Cert.AdamGconvIdeal.nD Cert.AdamGconvIdeal.τ).loc Cert.AdamGconvIdeal.main_arg1)
      ∧ r.2.mem ((c.tc : Thread Cert.AdamGconvIdeal.nD Cert.AdamGconvIdeal.τ).loc Cert.AdamGconvIdeal.main_arg2) = m ((c.tc : Thread Cert.AdamGconvIdeal.nD Cert.AdamGconvIdeal.τ).loc Cert.AdamGconvIdeal.main_arg2)
      ∧ r.2.mem ((c.tc : Thread Cert.AdamGconvIdeal.nD Cert.AdamGconvIdeal.τ).loc Cert.AdamGconvIdeal.main_arg3) = m ((c.tc : Thread Cert.AdamGconvIdeal.nD Cert.AdamGconvIdeal.τ).loc Cert.AdamGconvIdeal.main_arg3))
      ∧ r.2.sem = fun _ => 0)

def quiescent_AdamGconvRefIdeal [hAdamGconvRefIdeal : Cert.AdamGconvRefIdeal.Facts] : Prop :=
  ∀ (m : (ℓ : Loc Cert.AdamGconvRefIdeal.nD Cert.AdamGconvRefIdeal.τ Cert.AdamGconvRefIdeal.sig) → Buf (Elt Ideal) ℓ) (g : Dev Cert.AdamGconvRefIdeal.nD → PrngReg), Pre_AdamGconvRefIdeal m →
    θ_run (Cert.AdamGconvRefIdeal.defs (F := Ideal)) (onTc (τ := Cert.AdamGconvRefIdeal.τ) (Cert.AdamGconvRefIdeal.main (F := Ideal))) ⟨m, fun _ => 0, g⟩ (fun r => (∀ c : Dev Cert.AdamGconvRefIdeal.nD,
      r.2.mem ((c.tc : Thread Cert.AdamGconvRefIdeal.nD Cert.AdamGconvRefIdeal.τ).loc Cert.AdamGconvRefIdeal.main_arg0) = m ((c.tc : Thread Cert.AdamGconvRefIdeal.nD Cert.AdamGconvRefIdeal.τ).loc Cert.AdamGconvRefIdeal.main_arg0)
      ∧ r.2.mem ((c.tc : Thread Cert.AdamGconvRefIdeal.nD Cert.AdamGconvRefIdeal.τ).loc Cert.AdamGconvRefIdeal.main_arg1) = m ((c.tc : Thread Cert.AdamGconvRefIdeal.nD Cert.AdamGconvRefIdeal.τ).loc Cert.AdamGconvRefIdeal.main_arg1)
      ∧ r.2.mem ((c.tc : Thread Cert.AdamGconvRefIdeal.nD Cert.AdamGconvRefIdeal.τ).loc Cert.AdamGconvRefIdeal.main_arg2) = m ((c.tc : Thread Cert.AdamGconvRefIdeal.nD Cert.AdamGconvRefIdeal.τ).loc Cert.AdamGconvRefIdeal.main_arg2)
      ∧ r.2.mem ((c.tc : Thread Cert.AdamGconvRefIdeal.nD Cert.AdamGconvRefIdeal.τ).loc Cert.AdamGconvRefIdeal.main_arg3) = m ((c.tc : Thread Cert.AdamGconvRefIdeal.nD Cert.AdamGconvRefIdeal.τ).loc Cert.AdamGconvRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamGnorm [hAdamGnorm : Cert.AdamGnorm.Facts] : Prop :=
  ∀ (m : (ℓ : Loc Cert.AdamGnorm.nD Cert.AdamGnorm.τ Cert.AdamGnorm.sig) → Buf (Elt Bits) ℓ) (g : Dev Cert.AdamGnorm.nD → PrngReg), Pre_AdamGnorm m →
    θ_run (Cert.AdamGnorm.defs (F := Bits)) (onTc (τ := Cert.AdamGnorm.τ) (Cert.AdamGnorm.main (F := Bits))) ⟨m, fun _ => 0, g⟩ (fun r => (∀ c : Dev Cert.AdamGnorm.nD,
      r.2.mem ((c.tc : Thread Cert.AdamGnorm.nD Cert.AdamGnorm.τ).loc Cert.AdamGnorm.main_arg0) = m ((c.tc : Thread Cert.AdamGnorm.nD Cert.AdamGnorm.τ).loc Cert.AdamGnorm.main_arg0)
      ∧ r.2.mem ((c.tc : Thread Cert.AdamGnorm.nD Cert.AdamGnorm.τ).loc Cert.AdamGnorm.main_arg1) = m ((c.tc : Thread Cert.AdamGnorm.nD Cert.AdamGnorm.τ).loc Cert.AdamGnorm.main_arg1)
      ∧ r.2.mem ((c.tc : Thread Cert.AdamGnorm.nD Cert.AdamGnorm.τ).loc Cert.AdamGnorm.main_arg2) = m ((c.tc : Thread Cert.AdamGnorm.nD Cert.AdamGnorm.τ).loc Cert.AdamGnorm.main_arg2)
      ∧ r.2.mem ((c.tc : Thread Cert.AdamGnorm.nD Cert.AdamGnorm.τ).loc Cert.AdamGnorm.main_arg3) = m ((c.tc : Thread Cert.AdamGnorm.nD Cert.AdamGnorm.τ).loc Cert.AdamGnorm.main_arg3))
      ∧ r.2.sem = fun _ => 0)

def quiescent_AdamGnormIdeal [hAdamGnormIdeal : Cert.AdamGnormIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg), Pre_AdamGnormIdeal m →
    θ_run (Cert.AdamGnormIdeal.defs (F := Ideal)) (onTc (τ := Cert.AdamGnormIdeal.τ) (Cert.AdamGnormIdeal.main (F := Ideal))) ⟨m, fun _ => 0, g⟩ (fun r => (∀ c : Dev Cert.AdamGnormIdeal.nD,
      r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
      ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
      ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
      ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ r.2.sem = fun _ => 0)

def quiescent_AdamGnormRefIdeal [hAdamGnormRefIdeal : Cert.AdamGnormRefIdeal.Facts] : Prop :=
  ∀ (m : (ℓ : Loc Cert.AdamGnormRefIdeal.nD Cert.AdamGnormRefIdeal.τ Cert.AdamGnormRefIdeal.sig) → Buf (Elt Ideal) ℓ) (g : Dev Cert.AdamGnormRefIdeal.nD → PrngReg), Pre_AdamGnormRefIdeal m →
    θ_run (Cert.AdamGnormRefIdeal.defs (F := Ideal)) (onTc (τ := Cert.AdamGnormRefIdeal.τ) (Cert.AdamGnormRefIdeal.main (F := Ideal))) ⟨m, fun _ => 0, g⟩ (fun r => (∀ c : Dev Cert.AdamGnormRefIdeal.nD,
      r.2.mem ((c.tc : Thread Cert.AdamGnormRefIdeal.nD Cert.AdamGnormRefIdeal.τ).loc Cert.AdamGnormRefIdeal.main_arg0) = m ((c.tc : Thread Cert.AdamGnormRefIdeal.nD Cert.AdamGnormRefIdeal.τ).loc Cert.AdamGnormRefIdeal.main_arg0)
      ∧ r.2.mem ((c.tc : Thread Cert.AdamGnormRefIdeal.nD Cert.AdamGnormRefIdeal.τ).loc Cert.AdamGnormRefIdeal.main_arg1) = m ((c.tc : Thread Cert.AdamGnormRefIdeal.nD Cert.AdamGnormRefIdeal.τ).loc Cert.AdamGnormRefIdeal.main_arg1)
      ∧ r.2.mem ((c.tc : Thread Cert.AdamGnormRefIdeal.nD Cert.AdamGnormRefIdeal.τ).loc Cert.AdamGnormRefIdeal.main_arg2) = m ((c.tc : Thread Cert.AdamGnormRefIdeal.nD Cert.AdamGnormRefIdeal.τ).loc Cert.AdamGnormRefIdeal.main_arg2)
      ∧ r.2.mem ((c.tc : Thread Cert.AdamGnormRefIdeal.nD Cert.AdamGnormRefIdeal.τ).loc Cert.AdamGnormRefIdeal.main_arg3) = m ((c.tc : Thread Cert.AdamGnormRefIdeal.nD Cert.AdamGnormRefIdeal.τ).loc Cert.AdamGnormRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_ResNormBwd [hResNormBwd : Cert.ResNormBwd.Facts] : Prop :=
  ∀ (m : (ℓ : Loc Cert.ResNormBwd.nD Cert.ResNormBwd.τ Cert.ResNormBwd.sig) → Buf (Elt Bits) ℓ) (g : Dev Cert.ResNormBwd.nD → PrngReg), Pre_ResNormBwd m →
    θ_run (Cert.ResNormBwd.defs (F := Bits)) (onTc (τ := Cert.ResNormBwd.τ) (Cert.ResNormBwd.main (F := Bits))) ⟨m, fun _ => 0, g⟩ (fun r => (∀ c : Dev Cert.ResNormBwd.nD,
      r.2.mem ((c.tc : Thread Cert.ResNormBwd.nD Cert.ResNormBwd.τ).loc Cert.ResNormBwd.main_arg0) = m ((c.tc : Thread Cert.ResNormBwd.nD Cert.ResNormBwd.τ).loc Cert.ResNormBwd.main_arg0)
      ∧ r.2.mem ((c.tc : Thread Cert.ResNormBwd.nD Cert.ResNormBwd.τ).loc Cert.ResNormBwd.main_arg1) = m ((c.tc : Thread Cert.ResNormBwd.nD Cert.ResNormBwd.τ).loc Cert.ResNormBwd.main_arg1)
      ∧ r.2.mem ((c.tc : Thread Cert.ResNormBwd.nD Cert.ResNormBwd.τ).loc Cert.ResNormBwd.main_arg2) = m ((c.tc : Thread Cert.ResNormBwd.nD Cert.ResNormBwd.τ).loc Cert.ResNormBwd.main_arg2)
      ∧ r.2.mem ((c.tc : Thread Cert.ResNormBwd.nD Cert.ResNormBwd.τ).loc Cert.ResNormBwd.main_arg3) = m ((c.tc : Thread Cert.ResNormBwd.nD Cert.ResNormBwd.τ).loc Cert.ResNormBwd.main_arg3))
      ∧ r.2.sem = fun _ => 0)

def quiescent_ResNormBwdIdeal [hResNormBwdIdeal : Cert.ResNormBwdIdeal.Facts] : Prop :=
  ∀ (m : (ℓ : Loc Cert.ResNormBwdIdeal.nD Cert.ResNormBwdIdeal.τ Cert.ResNormBwdIdeal.sig) → Buf (Elt Ideal) ℓ) (g : Dev Cert.ResNormBwdIdeal.nD → PrngReg), Pre_ResNormBwdIdeal m →
    θ_run (Cert.ResNormBwdIdeal.defs (F := Ideal)) (onTc (τ := Cert.ResNormBwdIdeal.τ) (Cert.ResNormBwdIdeal.main (F := Ideal))) ⟨m, fun _ => 0, g⟩ (fun r => (∀ c : Dev Cert.ResNormBwdIdeal.nD,
      r.2.mem ((c.tc : Thread Cert.ResNormBwdIdeal.nD Cert.ResNormBwdIdeal.τ).loc Cert.ResNormBwdIdeal.main_arg0) = m ((c.tc : Thread Cert.ResNormBwdIdeal.nD Cert.ResNormBwdIdeal.τ).loc Cert.ResNormBwdIdeal.main_arg0)
      ∧ r.2.mem ((c.tc : Thread Cert.ResNormBwdIdeal.nD Cert.ResNormBwdIdeal.τ).loc Cert.ResNormBwdIdeal.main_arg1) = m ((c.tc : Thread Cert.ResNormBwdIdeal.nD Cert.ResNormBwdIdeal.τ).loc Cert.ResNormBwdIdeal.main_arg1)
      ∧ r.2.mem ((c.tc : Thread Cert.ResNormBwdIdeal.nD Cert.ResNormBwdIdeal.τ).loc Cert.ResNormBwdIdeal.main_arg2) = m ((c.tc : Thread Cert.ResNormBwdIdeal.nD Cert.ResNormBwdIdeal.τ).loc Cert.ResNormBwdIdeal.main_arg2)
      ∧ r.2.mem ((c.tc : Thread Cert.ResNormBwdIdeal.nD Cert.ResNormBwdIdeal.τ).loc Cert.ResNormBwdIdeal.main_arg3) = m ((c.tc : Thread Cert.ResNormBwdIdeal.nD Cert.ResNormBwdIdeal.τ).loc Cert.ResNormBwdIdeal.main_arg3))
      ∧ r.2.sem = fun _ => 0)

def quiescent_ResNormBwdRefIdeal [hResNormBwdRefIdeal : Cert.ResNormBwdRefIdeal.Facts] : Prop :=
  ∀ (m : (ℓ : Loc Cert.ResNormBwdRefIdeal.nD Cert.ResNormBwdRefIdeal.τ Cert.ResNormBwdRefIdeal.sig) → Buf (Elt Ideal) ℓ) (g : Dev Cert.ResNormBwdRefIdeal.nD → PrngReg), Pre_ResNormBwdRefIdeal m →
    θ_run (Cert.ResNormBwdRefIdeal.defs (F := Ideal)) (onTc (τ := Cert.ResNormBwdRefIdeal.τ) (Cert.ResNormBwdRefIdeal.main (F := Ideal))) ⟨m, fun _ => 0, g⟩ (fun r => (∀ c : Dev Cert.ResNormBwdRefIdeal.nD,
      r.2.mem ((c.tc : Thread Cert.ResNormBwdRefIdeal.nD Cert.ResNormBwdRefIdeal.τ).loc Cert.ResNormBwdRefIdeal.main_arg0) = m ((c.tc : Thread Cert.ResNormBwdRefIdeal.nD Cert.ResNormBwdRefIdeal.τ).loc Cert.ResNormBwdRefIdeal.main_arg0)
      ∧ r.2.mem ((c.tc : Thread Cert.ResNormBwdRefIdeal.nD Cert.ResNormBwdRefIdeal.τ).loc Cert.ResNormBwdRefIdeal.main_arg1) = m ((c.tc : Thread Cert.ResNormBwdRefIdeal.nD Cert.ResNormBwdRefIdeal.τ).loc Cert.ResNormBwdRefIdeal.main_arg1)
      ∧ r.2.mem ((c.tc : Thread Cert.ResNormBwdRefIdeal.nD Cert.ResNormBwdRefIdeal.τ).loc Cert.ResNormBwdRefIdeal.main_arg2) = m ((c.tc : Thread Cert.ResNormBwdRefIdeal.nD Cert.ResNormBwdRefIdeal.τ).loc Cert.ResNormBwdRefIdeal.main_arg2)
      ∧ r.2.mem ((c.tc : Thread Cert.ResNormBwdRefIdeal.nD Cert.ResNormBwdRefIdeal.τ).loc Cert.ResNormBwdRefIdeal.main_arg3) = m ((c.tc : Thread Cert.ResNormBwdRefIdeal.nD Cert.ResNormBwdRefIdeal.τ).loc Cert.ResNormBwdRefIdeal.main_arg3))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ResNormFwd [hResNormFwd : Cert.ResNormFwd.Facts] : Prop :=
  ∀ (m : (ℓ : Loc Cert.ResNormFwd.nD Cert.ResNormFwd.τ Cert.ResNormFwd.sig) → Buf (Elt Bits) ℓ) (g : Dev Cert.ResNormFwd.nD → PrngReg), Pre_ResNormFwd m →
    θ_run (Cert.ResNormFwd.defs (F := Bits)) (onTc (τ := Cert.ResNormFwd.τ) (Cert.ResNormFwd.main (F := Bits))) ⟨m, fun _ => 0, g⟩ (fun r => (∀ c : Dev Cert.ResNormFwd.nD,
      r.2.mem ((c.tc : Thread Cert.ResNormFwd.nD Cert.ResNormFwd.τ).loc Cert.ResNormFwd.main_arg0) = m ((c.tc : Thread Cert.ResNormFwd.nD Cert.ResNormFwd.τ).loc Cert.ResNormFwd.main_arg0)
      ∧ r.2.mem ((c.tc : Thread Cert.ResNormFwd.nD Cert.ResNormFwd.τ).loc Cert.ResNormFwd.main_arg1) = m ((c.tc : Thread Cert.ResNormFwd.nD Cert.ResNormFwd.τ).loc Cert.ResNormFwd.main_arg1)
      ∧ r.2.mem ((c.tc : Thread Cert.ResNormFwd.nD Cert.ResNormFwd.τ).loc Cert.ResNormFwd.main_arg2) = m ((c.tc : Thread Cert.ResNormFwd.nD Cert.ResNormFwd.τ).loc Cert.ResNormFwd.main_arg2))
      ∧ r.2.sem = fun _ => 0)

def quiescent_ResNormFwdIdeal [hResNormFwdIdeal : Cert.ResNormFwdIdeal.Facts] : Prop :=
  ∀ (m : (ℓ : Loc Cert.ResNormFwdIdeal.nD Cert.ResNormFwdIdeal.τ Cert.ResNormFwdIdeal.sig) → Buf (Elt Ideal) ℓ) (g : Dev Cert.ResNormFwdIdeal.nD → PrngReg), Pre_ResNormFwdIdeal m →
    θ_run (Cert.ResNormFwdIdeal.defs (F := Ideal)) (onTc (τ := Cert.ResNormFwdIdeal.τ) (Cert.ResNormFwdIdeal.main (F := Ideal))) ⟨m, fun _ => 0, g⟩ (fun r => (∀ c : Dev Cert.ResNormFwdIdeal.nD,
      r.2.mem ((c.tc : Thread Cert.ResNormFwdIdeal.nD Cert.ResNormFwdIdeal.τ).loc Cert.ResNormFwdIdeal.main_arg0) = m ((c.tc : Thread Cert.ResNormFwdIdeal.nD Cert.ResNormFwdIdeal.τ).loc Cert.ResNormFwdIdeal.main_arg0)
      ∧ r.2.mem ((c.tc : Thread Cert.ResNormFwdIdeal.nD Cert.ResNormFwdIdeal.τ).loc Cert.ResNormFwdIdeal.main_arg1) = m ((c.tc : Thread Cert.ResNormFwdIdeal.nD Cert.ResNormFwdIdeal.τ).loc Cert.ResNormFwdIdeal.main_arg1)
      ∧ r.2.mem ((c.tc : Thread Cert.ResNormFwdIdeal.nD Cert.ResNormFwdIdeal.τ).loc Cert.ResNormFwdIdeal.main_arg2) = m ((c.tc : Thread Cert.ResNormFwdIdeal.nD Cert.ResNormFwdIdeal.τ).loc Cert.ResNormFwdIdeal.main_arg2))
      ∧ r.2.sem = fun _ => 0)

def quiescent_ResNormFwdRefIdeal [hResNormFwdRefIdeal : Cert.ResNormFwdRefIdeal.Facts] : Prop :=
  ∀ (m : (ℓ : Loc Cert.ResNormFwdRefIdeal.nD Cert.ResNormFwdRefIdeal.τ Cert.ResNormFwdRefIdeal.sig) → Buf (Elt Ideal) ℓ) (g : Dev Cert.ResNormFwdRefIdeal.nD → PrngReg), Pre_ResNormFwdRefIdeal m →
    θ_run (Cert.ResNormFwdRefIdeal.defs (F := Ideal)) (onTc (τ := Cert.ResNormFwdRefIdeal.τ) (Cert.ResNormFwdRefIdeal.main (F := Ideal))) ⟨m, fun _ => 0, g⟩ (fun r => (∀ c : Dev Cert.ResNormFwdRefIdeal.nD,
      r.2.mem ((c.tc : Thread Cert.ResNormFwdRefIdeal.nD Cert.ResNormFwdRefIdeal.τ).loc Cert.ResNormFwdRefIdeal.main_arg0) = m ((c.tc : Thread Cert.ResNormFwdRefIdeal.nD Cert.ResNormFwdRefIdeal.τ).loc Cert.ResNormFwdRefIdeal.main_arg0)
      ∧ r.2.mem ((c.tc : Thread Cert.ResNormFwdRefIdeal.nD Cert.ResNormFwdRefIdeal.τ).loc Cert.ResNormFwdRefIdeal.main_arg1) = m ((c.tc : Thread Cert.ResNormFwdRefIdeal.nD Cert.ResNormFwdRefIdeal.τ).loc Cert.ResNormFwdRefIdeal.main_arg1)
      ∧ r.2.mem ((c.tc : Thread Cert.ResNormFwdRefIdeal.nD Cert.ResNormFwdRefIdeal.τ).loc Cert.ResNormFwdRefIdeal.main_arg2) = m ((c.tc : Thread Cert.ResNormFwdRefIdeal.nD Cert.ResNormFwdRefIdeal.τ).loc Cert.ResNormFwdRefIdeal.main_arg2))
      ∧ r.2.sem = fun _ => 0)

def quiescent_SconvBwd [hSconvBwd : Cert.SconvBwd.Facts] : Prop :=
  ∀ (m : (ℓ : Loc Cert.SconvBwd.nD Cert.SconvBwd.τ Cert.SconvBwd.sig) → Buf (Elt Bits) ℓ) (g : Dev Cert.SconvBwd.nD → PrngReg), Pre_SconvBwd m →
    θ_run (Cert.SconvBwd.defs (F := Bits)) (onTc (τ := Cert.SconvBwd.τ) (Cert.SconvBwd.main (F := Bits))) ⟨m, fun _ => 0, g⟩ (fun r => (∀ c : Dev Cert.SconvBwd.nD,
      r.2.mem ((c.tc : Thread Cert.SconvBwd.nD Cert.SconvBwd.τ).loc Cert.SconvBwd.main_arg0) = m ((c.tc : Thread Cert.SconvBwd.nD Cert.SconvBwd.τ).loc Cert.SconvBwd.main_arg0)
      ∧ r.2.mem ((c.tc : Thread Cert.SconvBwd.nD Cert.SconvBwd.τ).loc Cert.SconvBwd.main_arg1) = m ((c.tc : Thread Cert.SconvBwd.nD Cert.SconvBwd.τ).loc Cert.SconvBwd.main_arg1)
      ∧ r.2.mem ((c.tc : Thread Cert.SconvBwd.nD Cert.SconvBwd.τ).loc Cert.SconvBwd.main_arg2) = m ((c.tc : Thread Cert.SconvBwd.nD Cert.SconvBwd.τ).loc Cert.SconvBwd.main_arg2))
      ∧ r.2.sem = fun _ => 0)

def quiescent_SconvBwdIdeal [hSconvBwdIdeal : Cert.SconvBwdIdeal.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg), Pre_SconvBwdIdeal m →
    θ_run (Cert.SconvBwdIdeal.defs (F := Ideal)) (onTc (τ := Cert.SconvBwdIdeal.τ) (Cert.SconvBwdIdeal.main (F := Ideal))) ⟨m, fun _ => 0, g⟩ (fun r => (∀ c : Dev Cert.SconvBwdIdeal.nD,
      r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
      ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
      ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ r.2.sem = fun _ => 0)

def quiescent_SconvBwdRefIdeal [hSconvBwdRefIdeal : Cert.SconvBwdRefIdeal.Facts] : Prop :=
  ∀ (m : (ℓ : Loc Cert.SconvBwdRefIdeal.nD Cert.SconvBwdRefIdeal.τ Cert.SconvBwdRefIdeal.sig) → Buf (Elt Ideal) ℓ) (g : Dev Cert.SconvBwdRefIdeal.nD → PrngReg), Pre_SconvBwdRefIdeal m →
    θ_run (Cert.SconvBwdRefIdeal.defs (F := Ideal)) (onTc (τ := Cert.SconvBwdRefIdeal.τ) (Cert.SconvBwdRefIdeal.main (F := Ideal))) ⟨m, fun _ => 0, g⟩ (fun r => (∀ c : Dev Cert.SconvBwdRefIdeal.nD,
      r.2.mem ((c.tc : Thread Cert.SconvBwdRefIdeal.nD Cert.SconvBwdRefIdeal.τ).loc Cert.SconvBwdRefIdeal.main_arg0) = m ((c.tc : Thread Cert.SconvBwdRefIdeal.nD Cert.SconvBwdRefIdeal.τ).loc Cert.SconvBwdRefIdeal.main_arg0)
      ∧ r.2.mem ((c.tc : Thread Cert.SconvBwdRefIdeal.nD Cert.SconvBwdRefIdeal.τ).loc Cert.SconvBwdRefIdeal.main_arg1) = m ((c.tc : Thread Cert.SconvBwdRefIdeal.nD Cert.SconvBwdRefIdeal.τ).loc Cert.SconvBwdRefIdeal.main_arg1)
      ∧ r.2.mem ((c.tc : Thread Cert.SconvBwdRefIdeal.nD Cert.SconvBwdRefIdeal.τ).loc Cert.SconvBwdRefIdeal.main_arg2) = m ((c.tc : Thread Cert.SconvBwdRefIdeal.nD Cert.SconvBwdRefIdeal.τ).loc Cert.SconvBwdRefIdeal.main_arg2))
      ∧ r.2.sem = fun _ => 0)

def quiescent_GatesBwd [hGatesBwd : Cert.GatesBwd.Facts] : Prop :=
  ∀ (m : (ℓ : Loc Cert.GatesBwd.nD Cert.GatesBwd.τ Cert.GatesBwd.sig) → Buf (Elt Bits) ℓ) (g : Dev Cert.GatesBwd.nD → PrngReg), Pre_GatesBwd m →
    θ_run (Cert.GatesBwd.defs (F := Bits)) (onTc (τ := Cert.GatesBwd.τ) (Cert.GatesBwd.main (F := Bits))) ⟨m, fun _ => 0, g⟩ (fun r => (∀ c : Dev Cert.GatesBwd.nD,
      r.2.mem ((c.tc : Thread Cert.GatesBwd.nD Cert.GatesBwd.τ).loc Cert.GatesBwd.main_arg0) = m ((c.tc : Thread Cert.GatesBwd.nD Cert.GatesBwd.τ).loc Cert.GatesBwd.main_arg0)
      ∧ r.2.mem ((c.tc : Thread Cert.GatesBwd.nD Cert.GatesBwd.τ).loc Cert.GatesBwd.main_arg1) = m ((c.tc : Thread Cert.GatesBwd.nD Cert.GatesBwd.τ).loc Cert.GatesBwd.main_arg1)
      ∧ r.2.mem ((c.tc : Thread Cert.GatesBwd.nD Cert.GatesBwd.τ).loc Cert.GatesBwd.main_arg2) = m ((c.tc : Thread Cert.GatesBwd.nD Cert.GatesBwd.τ).loc Cert.GatesBwd.main_arg2)
      ∧ r.2.mem ((c.tc : Thread Cert.GatesBwd.nD Cert.GatesBwd.τ).loc Cert.GatesBwd.main_arg3) = m ((c.tc : Thread Cert.GatesBwd.nD Cert.GatesBwd.τ).loc Cert.GatesBwd.main_arg3))
      ∧ r.2.sem = fun _ => 0)

def quiescent_GatesBwdIdeal [hGatesBwdIdeal : Cert.GatesBwdIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3))
      ∧ r.2.sem = fun _ => 0)

def quiescent_GatesBwdIdeal_pre_finite_gates [hGatesBwdIdeal : Cert.GatesBwdIdeal.Facts] [hPre_finite_gates : Cert.Pre_finite_gates.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal_finite_gates m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3))
      ∧ r.2.sem = fun _ => 0)

def quiescent_GatesBwdRefIdeal [hGatesBwdRefIdeal : Cert.GatesBwdRefIdeal.Facts] : Prop :=
  ∀ (m : (ℓ : Loc Cert.GatesBwdRefIdeal.nD Cert.GatesBwdRefIdeal.τ Cert.GatesBwdRefIdeal.sig) → Buf (Elt Ideal) ℓ) (g : Dev Cert.GatesBwdRefIdeal.nD → PrngReg), Pre_GatesBwdRefIdeal m →
    θ_run (Cert.GatesBwdRefIdeal.defs (F := Ideal)) (onTc (τ := Cert.GatesBwdRefIdeal.τ) (Cert.GatesBwdRefIdeal.main (F := Ideal))) ⟨m, fun _ => 0, g⟩ (fun r => (∀ c : Dev Cert.GatesBwdRefIdeal.nD,
      r.2.mem ((c.tc : Thread Cert.GatesBwdRefIdeal.nD Cert.GatesBwdRefIdeal.τ).loc Cert.GatesBwdRefIdeal.main_arg0) = m ((c.tc : Thread Cert.GatesBwdRefIdeal.nD Cert.GatesBwdRefIdeal.τ).loc Cert.GatesBwdRefIdeal.main_arg0)
      ∧ r.2.mem ((c.tc : Thread Cert.GatesBwdRefIdeal.nD Cert.GatesBwdRefIdeal.τ).loc Cert.GatesBwdRefIdeal.main_arg1) = m ((c.tc : Thread Cert.GatesBwdRefIdeal.nD Cert.GatesBwdRefIdeal.τ).loc Cert.GatesBwdRefIdeal.main_arg1)
      ∧ r.2.mem ((c.tc : Thread Cert.GatesBwdRefIdeal.nD Cert.GatesBwdRefIdeal.τ).loc Cert.GatesBwdRefIdeal.main_arg2) = m ((c.tc : Thread Cert.GatesBwdRefIdeal.nD Cert.GatesBwdRefIdeal.τ).loc Cert.GatesBwdRefIdeal.main_arg2)
      ∧ r.2.mem ((c.tc : Thread Cert.GatesBwdRefIdeal.nD Cert.GatesBwdRefIdeal.τ).loc Cert.GatesBwdRefIdeal.main_arg3) = m ((c.tc : Thread Cert.GatesBwdRefIdeal.nD Cert.GatesBwdRefIdeal.τ).loc Cert.GatesBwdRefIdeal.main_arg3))
      ∧ r.2.sem = fun _ => 0)

def quiescent_GatesBwdRefIdeal_pre_finite_gates [hGatesBwdRefIdeal : Cert.GatesBwdRefIdeal.Facts] [hPre_finite_gates : Cert.Pre_finite_gates.Facts] : Prop :=
  ∀ (m : (ℓ : Loc Cert.GatesBwdRefIdeal.nD Cert.GatesBwdRefIdeal.τ Cert.GatesBwdRefIdeal.sig) → Buf (Elt Ideal) ℓ) (g : Dev Cert.GatesBwdRefIdeal.nD → PrngReg), Pre_GatesBwdRefIdeal_finite_gates m →
    θ_run (Cert.GatesBwdRefIdeal.defs (F := Ideal)) (onTc (τ := Cert.GatesBwdRefIdeal.τ) (Cert.GatesBwdRefIdeal.main (F := Ideal))) ⟨m, fun _ => 0, g⟩ (fun r => (∀ c : Dev Cert.GatesBwdRefIdeal.nD,
      r.2.mem ((c.tc : Thread Cert.GatesBwdRefIdeal.nD Cert.GatesBwdRefIdeal.τ).loc Cert.GatesBwdRefIdeal.main_arg0) = m ((c.tc : Thread Cert.GatesBwdRefIdeal.nD Cert.GatesBwdRefIdeal.τ).loc Cert.GatesBwdRefIdeal.main_arg0)
      ∧ r.2.mem ((c.tc : Thread Cert.GatesBwdRefIdeal.nD Cert.GatesBwdRefIdeal.τ).loc Cert.GatesBwdRefIdeal.main_arg1) = m ((c.tc : Thread Cert.GatesBwdRefIdeal.nD Cert.GatesBwdRefIdeal.τ).loc Cert.GatesBwdRefIdeal.main_arg1)
      ∧ r.2.mem ((c.tc : Thread Cert.GatesBwdRefIdeal.nD Cert.GatesBwdRefIdeal.τ).loc Cert.GatesBwdRefIdeal.main_arg2) = m ((c.tc : Thread Cert.GatesBwdRefIdeal.nD Cert.GatesBwdRefIdeal.τ).loc Cert.GatesBwdRefIdeal.main_arg2)
      ∧ r.2.mem ((c.tc : Thread Cert.GatesBwdRefIdeal.nD Cert.GatesBwdRefIdeal.τ).loc Cert.GatesBwdRefIdeal.main_arg3) = m ((c.tc : Thread Cert.GatesBwdRefIdeal.nD Cert.GatesBwdRefIdeal.τ).loc Cert.GatesBwdRefIdeal.main_arg3))
      ∧ r.2.sem = fun _ => 0)

def quiescent_GdnPreBwd [hGdnPreBwd : Cert.GdnPreBwd.Facts] : Prop :=
  ∀ (m : (ℓ : Loc Cert.GdnPreBwd.nD Cert.GdnPreBwd.τ Cert.GdnPreBwd.sig) → Buf (Elt Bits) ℓ) (g : Dev Cert.GdnPreBwd.nD → PrngReg), Pre_GdnPreBwd m →
    θ_run (Cert.GdnPreBwd.defs (F := Bits)) (onTc (τ := Cert.GdnPreBwd.τ) (Cert.GdnPreBwd.main (F := Bits))) ⟨m, fun _ => 0, g⟩ (fun r => (∀ c : Dev Cert.GdnPreBwd.nD,
      r.2.mem ((c.tc : Thread Cert.GdnPreBwd.nD Cert.GdnPreBwd.τ).loc Cert.GdnPreBwd.main_arg0) = m ((c.tc : Thread Cert.GdnPreBwd.nD Cert.GdnPreBwd.τ).loc Cert.GdnPreBwd.main_arg0)
      ∧ r.2.mem ((c.tc : Thread Cert.GdnPreBwd.nD Cert.GdnPreBwd.τ).loc Cert.GdnPreBwd.main_arg1) = m ((c.tc : Thread Cert.GdnPreBwd.nD Cert.GdnPreBwd.τ).loc Cert.GdnPreBwd.main_arg1)
      ∧ r.2.mem ((c.tc : Thread Cert.GdnPreBwd.nD Cert.GdnPreBwd.τ).loc Cert.GdnPreBwd.main_arg2) = m ((c.tc : Thread Cert.GdnPreBwd.nD Cert.GdnPreBwd.τ).loc Cert.GdnPreBwd.main_arg2))
      ∧ r.2.sem = fun _ => 0)

def quiescent_GdnPreBwdIdeal [hGdnPreBwdIdeal : Cert.GdnPreBwdIdeal.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg), Pre_GdnPreBwdIdeal m →
    θ_run (Cert.GdnPreBwdIdeal.defs (F := Ideal)) (onTc (τ := Cert.GdnPreBwdIdeal.τ) (Cert.GdnPreBwdIdeal.main (F := Ideal))) ⟨m, fun _ => 0, g⟩ (fun r => (∀ c : Dev Cert.GdnPreBwdIdeal.nD,
      r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
      ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
      ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2))
      ∧ r.2.sem = fun _ => 0)

def quiescent_GdnPreBwdIdeal_pre_finite_heads [hGdnPreBwdIdeal : Cert.GdnPreBwdIdeal.Facts] [hPre_finite_heads : Cert.Pre_finite_heads.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg), Pre_GdnPreBwdIdeal_finite_heads m →
    θ_run (Cert.GdnPreBwdIdeal.defs (F := Ideal)) (onTc (τ := Cert.GdnPreBwdIdeal.τ) (Cert.GdnPreBwdIdeal.main (F := Ideal))) ⟨m, fun _ => 0, g⟩ (fun r => (∀ c : Dev Cert.GdnPreBwdIdeal.nD,
      r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
      ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
      ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2))
      ∧ r.2.sem = fun _ => 0)

def quiescent_GdnPreBwdRefIdeal [hGdnPreBwdRefIdeal : Cert.GdnPreBwdRefIdeal.Facts] : Prop :=
  ∀ (m : (ℓ : Loc Cert.GdnPreBwdRefIdeal.nD Cert.GdnPreBwdRefIdeal.τ Cert.GdnPreBwdRefIdeal.sig) → Buf (Elt Ideal) ℓ) (g : Dev Cert.GdnPreBwdRefIdeal.nD → PrngReg), Pre_GdnPreBwdRefIdeal m →
    θ_run (Cert.GdnPreBwdRefIdeal.defs (F := Ideal)) (onTc (τ := Cert.GdnPreBwdRefIdeal.τ) (Cert.GdnPreBwdRefIdeal.main (F := Ideal))) ⟨m, fun _ => 0, g⟩ (fun r => (∀ c : Dev Cert.GdnPreBwdRefIdeal.nD,
      r.2.mem ((c.tc : Thread Cert.GdnPreBwdRefIdeal.nD Cert.GdnPreBwdRefIdeal.τ).loc Cert.GdnPreBwdRefIdeal.main_arg0) = m ((c.tc : Thread Cert.GdnPreBwdRefIdeal.nD Cert.GdnPreBwdRefIdeal.τ).loc Cert.GdnPreBwdRefIdeal.main_arg0)
      ∧ r.2.mem ((c.tc : Thread Cert.GdnPreBwdRefIdeal.nD Cert.GdnPreBwdRefIdeal.τ).loc Cert.GdnPreBwdRefIdeal.main_arg1) = m ((c.tc : Thread Cert.GdnPreBwdRefIdeal.nD Cert.GdnPreBwdRefIdeal.τ).loc Cert.GdnPreBwdRefIdeal.main_arg1)
      ∧ r.2.mem ((c.tc : Thread Cert.GdnPreBwdRefIdeal.nD Cert.GdnPreBwdRefIdeal.τ).loc Cert.GdnPreBwdRefIdeal.main_arg2) = m ((c.tc : Thread Cert.GdnPreBwdRefIdeal.nD Cert.GdnPreBwdRefIdeal.τ).loc Cert.GdnPreBwdRefIdeal.main_arg2))
      ∧ r.2.sem = fun _ => 0)

def quiescent_GdnPreBwdRefIdeal_pre_finite_heads [hGdnPreBwdRefIdeal : Cert.GdnPreBwdRefIdeal.Facts] [hPre_finite_heads : Cert.Pre_finite_heads.Facts] : Prop :=
  ∀ (m : (ℓ : Loc Cert.GdnPreBwdRefIdeal.nD Cert.GdnPreBwdRefIdeal.τ Cert.GdnPreBwdRefIdeal.sig) → Buf (Elt Ideal) ℓ) (g : Dev Cert.GdnPreBwdRefIdeal.nD → PrngReg), Pre_GdnPreBwdRefIdeal_finite_heads m →
    θ_run (Cert.GdnPreBwdRefIdeal.defs (F := Ideal)) (onTc (τ := Cert.GdnPreBwdRefIdeal.τ) (Cert.GdnPreBwdRefIdeal.main (F := Ideal))) ⟨m, fun _ => 0, g⟩ (fun r => (∀ c : Dev Cert.GdnPreBwdRefIdeal.nD,
      r.2.mem ((c.tc : Thread Cert.GdnPreBwdRefIdeal.nD Cert.GdnPreBwdRefIdeal.τ).loc Cert.GdnPreBwdRefIdeal.main_arg0) = m ((c.tc : Thread Cert.GdnPreBwdRefIdeal.nD Cert.GdnPreBwdRefIdeal.τ).loc Cert.GdnPreBwdRefIdeal.main_arg0)
      ∧ r.2.mem ((c.tc : Thread Cert.GdnPreBwdRefIdeal.nD Cert.GdnPreBwdRefIdeal.τ).loc Cert.GdnPreBwdRefIdeal.main_arg1) = m ((c.tc : Thread Cert.GdnPreBwdRefIdeal.nD Cert.GdnPreBwdRefIdeal.τ).loc Cert.GdnPreBwdRefIdeal.main_arg1)
      ∧ r.2.mem ((c.tc : Thread Cert.GdnPreBwdRefIdeal.nD Cert.GdnPreBwdRefIdeal.τ).loc Cert.GdnPreBwdRefIdeal.main_arg2) = m ((c.tc : Thread Cert.GdnPreBwdRefIdeal.nD Cert.GdnPreBwdRefIdeal.τ).loc Cert.GdnPreBwdRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdIdeal_pre_finite_swiglu [hSwigluBwdIdeal : Cert.SwigluBwdIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_SwigluBwdRefIdeal_pre_finite_swiglu [hSwigluBwdRefIdeal : Cert.SwigluBwdRefIdeal.Facts] [hPre_finite_swiglu : Cert.Pre_finite_swiglu.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_swiglu m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ r.2.sem = fun _ => 0)

def quiescent_SconvFwdRefIdeal [hSconvFwdRefIdeal : Cert.SconvFwdRefIdeal.Facts] : Prop :=
  ∀ (m : (ℓ : Loc Cert.SconvFwdRefIdeal.nD Cert.SconvFwdRefIdeal.τ Cert.SconvFwdRefIdeal.sig) → Buf (Elt Ideal) ℓ) (g : Dev Cert.SconvFwdRefIdeal.nD → PrngReg), Pre_SconvFwdRefIdeal m →
    θ_run (Cert.SconvFwdRefIdeal.defs (F := Ideal)) (onTc (τ := Cert.SconvFwdRefIdeal.τ) (Cert.SconvFwdRefIdeal.main (F := Ideal))) ⟨m, fun _ => 0, g⟩ (fun r => (∀ c : Dev Cert.SconvFwdRefIdeal.nD,
      r.2.mem ((c.tc : Thread Cert.SconvFwdRefIdeal.nD Cert.SconvFwdRefIdeal.τ).loc Cert.SconvFwdRefIdeal.main_arg0) = m ((c.tc : Thread Cert.SconvFwdRefIdeal.nD Cert.SconvFwdRefIdeal.τ).loc Cert.SconvFwdRefIdeal.main_arg0)
      ∧ r.2.mem ((c.tc : Thread Cert.SconvFwdRefIdeal.nD Cert.SconvFwdRefIdeal.τ).loc Cert.SconvFwdRefIdeal.main_arg1) = m ((c.tc : Thread Cert.SconvFwdRefIdeal.nD Cert.SconvFwdRefIdeal.τ).loc Cert.SconvFwdRefIdeal.main_arg1))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2))
      ∧ r.2.sem = fun _ => 0)

def quiescent_GdnPreFwd [hGdnPreFwd : Cert.GdnPreFwd.Facts] : Prop :=
  ∀ (m : (ℓ : Loc Cert.GdnPreFwd.nD Cert.GdnPreFwd.τ Cert.GdnPreFwd.sig) → Buf (Elt Bits) ℓ) (g : Dev Cert.GdnPreFwd.nD → PrngReg), Pre_GdnPreFwd m →
    θ_run (Cert.GdnPreFwd.defs (F := Bits)) (onTc (τ := Cert.GdnPreFwd.τ) (Cert.GdnPreFwd.main (F := Bits))) ⟨m, fun _ => 0, g⟩ (fun r => (∀ c : Dev Cert.GdnPreFwd.nD,
      r.2.mem ((c.tc : Thread Cert.GdnPreFwd.nD Cert.GdnPreFwd.τ).loc Cert.GdnPreFwd.main_arg0) = m ((c.tc : Thread Cert.GdnPreFwd.nD Cert.GdnPreFwd.τ).loc Cert.GdnPreFwd.main_arg0)
      ∧ r.2.mem ((c.tc : Thread Cert.GdnPreFwd.nD Cert.GdnPreFwd.τ).loc Cert.GdnPreFwd.main_arg1) = m ((c.tc : Thread Cert.GdnPreFwd.nD Cert.GdnPreFwd.τ).loc Cert.GdnPreFwd.main_arg1))
      ∧ r.2.sem = fun _ => 0)

def quiescent_GdnPreFwdIdeal [hGdnPreFwdIdeal : Cert.GdnPreFwdIdeal.Facts] : Prop :=
  ∀ (m : (ℓ : Loc Cert.GdnPreFwdIdeal.nD Cert.GdnPreFwdIdeal.τ Cert.GdnPreFwdIdeal.sig) → Buf (Elt Ideal) ℓ) (g : Dev Cert.GdnPreFwdIdeal.nD → PrngReg), Pre_GdnPreFwdIdeal m →
    θ_run (Cert.GdnPreFwdIdeal.defs (F := Ideal)) (onTc (τ := Cert.GdnPreFwdIdeal.τ) (Cert.GdnPreFwdIdeal.main (F := Ideal))) ⟨m, fun _ => 0, g⟩ (fun r => (∀ c : Dev Cert.GdnPreFwdIdeal.nD,
      r.2.mem ((c.tc : Thread Cert.GdnPreFwdIdeal.nD Cert.GdnPreFwdIdeal.τ).loc Cert.GdnPreFwdIdeal.main_arg0) = m ((c.tc : Thread Cert.GdnPreFwdIdeal.nD Cert.GdnPreFwdIdeal.τ).loc Cert.GdnPreFwdIdeal.main_arg0)
      ∧ r.2.mem ((c.tc : Thread Cert.GdnPreFwdIdeal.nD Cert.GdnPreFwdIdeal.τ).loc Cert.GdnPreFwdIdeal.main_arg1) = m ((c.tc : Thread Cert.GdnPreFwdIdeal.nD Cert.GdnPreFwdIdeal.τ).loc Cert.GdnPreFwdIdeal.main_arg1))
      ∧ r.2.sem = fun _ => 0)

def quiescent_GdnPreFwdRefIdeal [hGdnPreFwdRefIdeal : Cert.GdnPreFwdRefIdeal.Facts] : Prop :=
  ∀ (m : (ℓ : Loc Cert.GdnPreFwdRefIdeal.nD Cert.GdnPreFwdRefIdeal.τ Cert.GdnPreFwdRefIdeal.sig) → Buf (Elt Ideal) ℓ) (g : Dev Cert.GdnPreFwdRefIdeal.nD → PrngReg), Pre_GdnPreFwdRefIdeal m →
    θ_run (Cert.GdnPreFwdRefIdeal.defs (F := Ideal)) (onTc (τ := Cert.GdnPreFwdRefIdeal.τ) (Cert.GdnPreFwdRefIdeal.main (F := Ideal))) ⟨m, fun _ => 0, g⟩ (fun r => (∀ c : Dev Cert.GdnPreFwdRefIdeal.nD,
      r.2.mem ((c.tc : Thread Cert.GdnPreFwdRefIdeal.nD Cert.GdnPreFwdRefIdeal.τ).loc Cert.GdnPreFwdRefIdeal.main_arg0) = m ((c.tc : Thread Cert.GdnPreFwdRefIdeal.nD Cert.GdnPreFwdRefIdeal.τ).loc Cert.GdnPreFwdRefIdeal.main_arg0)
      ∧ r.2.mem ((c.tc : Thread Cert.GdnPreFwdRefIdeal.nD Cert.GdnPreFwdRefIdeal.τ).loc Cert.GdnPreFwdRefIdeal.main_arg1) = m ((c.tc : Thread Cert.GdnPreFwdRefIdeal.nD Cert.GdnPreFwdRefIdeal.τ).loc Cert.GdnPreFwdRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v3) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateUpDa_GateUpDaIdeal : Prop :=
  True

def algebraic_GateUpDaIdeal_GateUpDaRefIdeal [hGateUpDaIdeal : Cert.GateUpDaIdeal.Facts] [hGateUpDaRefIdeal : Cert.GateUpDaRefIdeal.Facts] : Prop :=
  ∀ (m : (ℓ : Loc Cert.GateUpDaIdeal.nD Cert.GateUpDaIdeal.τ Cert.GateUpDaIdeal.sig) → Buf (Elt Ideal) ℓ) (g : Dev Cert.GateUpDaIdeal.nD → PrngReg)
    (m' : (ℓ : Loc Cert.GateUpDaRefIdeal.nD Cert.GateUpDaRefIdeal.τ Cert.GateUpDaRefIdeal.sig) → Buf (Elt Ideal) ℓ) (g' : Dev Cert.GateUpDaRefIdeal.nD → PrngReg), Pre_GateUpDaIdeal m →
    (∀ c : Dev Cert.GateUpDaIdeal.nD,
      m' ((c.tc : Thread Cert.GateUpDaRefIdeal.nD Cert.GateUpDaRefIdeal.τ).loc Cert.GateUpDaRefIdeal.main_arg0) = m ((c.tc : Thread Cert.GateUpDaIdeal.nD Cert.GateUpDaIdeal.τ).loc Cert.GateUpDaIdeal.main_arg0)
      ∧ m' ((c.tc : Thread Cert.GateUpDaRefIdeal.nD Cert.GateUpDaRefIdeal.τ).loc Cert.GateUpDaRefIdeal.main_arg1) = m ((c.tc : Thread Cert.GateUpDaIdeal.nD Cert.GateUpDaIdeal.τ).loc Cert.GateUpDaIdeal.main_arg1)) →
    ∃ (v0 : (c : Dev Cert.GateUpDaIdeal.nD) → Buf (Elt Ideal) ((c.tc : Thread Cert.GateUpDaIdeal.nD Cert.GateUpDaIdeal.τ).loc Cert.GateUpDaIdeal.main_v0)),
      θ_run (Cert.GateUpDaIdeal.defs (F := Ideal)) (onTc (τ := Cert.GateUpDaIdeal.τ) (Cert.GateUpDaIdeal.main (F := Ideal))) ⟨m, fun _ => 0, g⟩ (fun r => ∀ c : Dev Cert.GateUpDaIdeal.nD,
          r.2.mem ((c.tc : Thread Cert.GateUpDaIdeal.nD Cert.GateUpDaIdeal.τ).loc Cert.GateUpDaIdeal.main_v0) = v0 c
          ∧ r.2.mem ((c.tc : Thread Cert.GateUpDaIdeal.nD Cert.GateUpDaIdeal.τ).loc Cert.GateUpDaIdeal.main_arg0) = m ((c.tc : Thread Cert.GateUpDaIdeal.nD Cert.GateUpDaIdeal.τ).loc Cert.GateUpDaIdeal.main_arg0)
          ∧ r.2.mem ((c.tc : Thread Cert.GateUpDaIdeal.nD Cert.GateUpDaIdeal.τ).loc Cert.GateUpDaIdeal.main_arg1) = m ((c.tc : Thread Cert.GateUpDaIdeal.nD Cert.GateUpDaIdeal.τ).loc Cert.GateUpDaIdeal.main_arg1))
      ∧ θ_run (Cert.GateUpDaRefIdeal.defs (F := Ideal)) (onTc (τ := Cert.GateUpDaRefIdeal.τ) (Cert.GateUpDaRefIdeal.main (F := Ideal))) ⟨m', fun _ => 0, g'⟩ (fun r => ∀ c : Dev Cert.GateUpDaRefIdeal.nD,
          r.2.mem ((c.tc : Thread Cert.GateUpDaRefIdeal.nD Cert.GateUpDaRefIdeal.τ).loc Cert.GateUpDaRefIdeal.main_v16) = v0 c
          ∧ r.2.mem ((c.tc : Thread Cert.GateUpDaRefIdeal.nD Cert.GateUpDaRefIdeal.τ).loc Cert.GateUpDaRefIdeal.main_arg0) = m' ((c.tc : Thread Cert.GateUpDaRefIdeal.nD Cert.GateUpDaRefIdeal.τ).loc Cert.GateUpDaRefIdeal.main_arg0)
          ∧ r.2.mem ((c.tc : Thread Cert.GateUpDaRefIdeal.nD Cert.GateUpDaRefIdeal.τ).loc Cert.GateUpDaRefIdeal.main_arg1) = m' ((c.tc : Thread Cert.GateUpDaRefIdeal.nD Cert.GateUpDaRefIdeal.τ).loc Cert.GateUpDaRefIdeal.main_arg1))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v19) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1))

def preserves_InDa_InDaIdeal : Prop :=
  True

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)) →
    ∃ (v0 : (c : Dev Cert.InDaIdeal.nD) → Buf (Elt Ideal) ((c.tc : Thread Cert.InDaIdeal.nD Cert.InDaIdeal.τ).loc Cert.InDaIdeal.main_v0)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v0) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v4) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_SquareDa_SquareDaIdeal : Prop :=
  True

def algebraic_SquareDaIdeal_SquareDaRefIdeal [hSquareDaIdeal : Cert.SquareDaIdeal.Facts] [hSquareDaRefIdeal : Cert.SquareDaRefIdeal.Facts] : Prop :=
  ∀ (m : (ℓ : Loc Cert.SquareDaIdeal.nD Cert.SquareDaIdeal.τ Cert.SquareDaIdeal.sig) → Buf (Elt Ideal) ℓ) (g : Dev Cert.SquareDaIdeal.nD → PrngReg)
    (m' : (ℓ : Loc Cert.SquareDaRefIdeal.nD Cert.SquareDaRefIdeal.τ Cert.SquareDaRefIdeal.sig) → Buf (Elt Ideal) ℓ) (g' : Dev Cert.SquareDaRefIdeal.nD → PrngReg), Pre_SquareDaIdeal m →
    (∀ c : Dev Cert.SquareDaIdeal.nD,
      m' ((c.tc : Thread Cert.SquareDaRefIdeal.nD Cert.SquareDaRefIdeal.τ).loc Cert.SquareDaRefIdeal.main_arg0) = m ((c.tc : Thread Cert.SquareDaIdeal.nD Cert.SquareDaIdeal.τ).loc Cert.SquareDaIdeal.main_arg0)
      ∧ m' ((c.tc : Thread Cert.SquareDaRefIdeal.nD Cert.SquareDaRefIdeal.τ).loc Cert.SquareDaRefIdeal.main_arg1) = m ((c.tc : Thread Cert.SquareDaIdeal.nD Cert.SquareDaIdeal.τ).loc Cert.SquareDaIdeal.main_arg1)) →
    ∃ (v0 : (c : Dev Cert.SquareDaIdeal.nD) → Buf (Elt Ideal) ((c.tc : Thread Cert.SquareDaIdeal.nD Cert.SquareDaIdeal.τ).loc Cert.SquareDaIdeal.main_v0)),
      θ_run (Cert.SquareDaIdeal.defs (F := Ideal)) (onTc (τ := Cert.SquareDaIdeal.τ) (Cert.SquareDaIdeal.main (F := Ideal))) ⟨m, fun _ => 0, g⟩ (fun r => ∀ c : Dev Cert.SquareDaIdeal.nD,
          r.2.mem ((c.tc : Thread Cert.SquareDaIdeal.nD Cert.SquareDaIdeal.τ).loc Cert.SquareDaIdeal.main_v0) = v0 c
          ∧ r.2.mem ((c.tc : Thread Cert.SquareDaIdeal.nD Cert.SquareDaIdeal.τ).loc Cert.SquareDaIdeal.main_arg0) = m ((c.tc : Thread Cert.SquareDaIdeal.nD Cert.SquareDaIdeal.τ).loc Cert.SquareDaIdeal.main_arg0)
          ∧ r.2.mem ((c.tc : Thread Cert.SquareDaIdeal.nD Cert.SquareDaIdeal.τ).loc Cert.SquareDaIdeal.main_arg1) = m ((c.tc : Thread Cert.SquareDaIdeal.nD Cert.SquareDaIdeal.τ).loc Cert.SquareDaIdeal.main_arg1))
      ∧ θ_run (Cert.SquareDaRefIdeal.defs (F := Ideal)) (onTc (τ := Cert.SquareDaRefIdeal.τ) (Cert.SquareDaRefIdeal.main (F := Ideal))) ⟨m', fun _ => 0, g'⟩ (fun r => ∀ c : Dev Cert.SquareDaRefIdeal.nD,
          r.2.mem ((c.tc : Thread Cert.SquareDaRefIdeal.nD Cert.SquareDaRefIdeal.τ).loc Cert.SquareDaRefIdeal.main_v3) = v0 c
          ∧ r.2.mem ((c.tc : Thread Cert.SquareDaRefIdeal.nD Cert.SquareDaRefIdeal.τ).loc Cert.SquareDaRefIdeal.main_arg0) = m' ((c.tc : Thread Cert.SquareDaRefIdeal.nD Cert.SquareDaRefIdeal.τ).loc Cert.SquareDaRefIdeal.main_arg0)
          ∧ r.2.mem ((c.tc : Thread Cert.SquareDaRefIdeal.nD Cert.SquareDaRefIdeal.τ).loc Cert.SquareDaRefIdeal.main_arg1) = m' ((c.tc : Thread Cert.SquareDaRefIdeal.nD Cert.SquareDaRefIdeal.τ).loc Cert.SquareDaRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v4) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_XqDa_XqDaIdeal : Prop :=
  True

def algebraic_XqDaIdeal_XqDaRefIdeal [hXqDaIdeal : Cert.XqDaIdeal.Facts] [hXqDaRefIdeal : Cert.XqDaRefIdeal.Facts] : Prop :=
  ∀ (m : (ℓ : Loc Cert.XqDaIdeal.nD Cert.XqDaIdeal.τ Cert.XqDaIdeal.sig) → Buf (Elt Ideal) ℓ) (g : Dev Cert.XqDaIdeal.nD → PrngReg)
    (m' : (ℓ : Loc Cert.XqDaRefIdeal.nD Cert.XqDaRefIdeal.τ Cert.XqDaRefIdeal.sig) → Buf (Elt Ideal) ℓ) (g' : Dev Cert.XqDaRefIdeal.nD → PrngReg), Pre_XqDaIdeal m →
    (∀ c : Dev Cert.XqDaIdeal.nD,
      m' ((c.tc : Thread Cert.XqDaRefIdeal.nD Cert.XqDaRefIdeal.τ).loc Cert.XqDaRefIdeal.main_arg0) = m ((c.tc : Thread Cert.XqDaIdeal.nD Cert.XqDaIdeal.τ).loc Cert.XqDaIdeal.main_arg0)
      ∧ m' ((c.tc : Thread Cert.XqDaRefIdeal.nD Cert.XqDaRefIdeal.τ).loc Cert.XqDaRefIdeal.main_arg1) = m ((c.tc : Thread Cert.XqDaIdeal.nD Cert.XqDaIdeal.τ).loc Cert.XqDaIdeal.main_arg1)) →
    ∃ (v0 : (c : Dev Cert.XqDaIdeal.nD) → Buf (Elt Ideal) ((c.tc : Thread Cert.XqDaIdeal.nD Cert.XqDaIdeal.τ).loc Cert.XqDaIdeal.main_v0)),
      θ_run (Cert.XqDaIdeal.defs (F := Ideal)) (onTc (τ := Cert.XqDaIdeal.τ) (Cert.XqDaIdeal.main (F := Ideal))) ⟨m, fun _ => 0, g⟩ (fun r => ∀ c : Dev Cert.XqDaIdeal.nD,
          r.2.mem ((c.tc : Thread Cert.XqDaIdeal.nD Cert.XqDaIdeal.τ).loc Cert.XqDaIdeal.main_v0) = v0 c
          ∧ r.2.mem ((c.tc : Thread Cert.XqDaIdeal.nD Cert.XqDaIdeal.τ).loc Cert.XqDaIdeal.main_arg0) = m ((c.tc : Thread Cert.XqDaIdeal.nD Cert.XqDaIdeal.τ).loc Cert.XqDaIdeal.main_arg0)
          ∧ r.2.mem ((c.tc : Thread Cert.XqDaIdeal.nD Cert.XqDaIdeal.τ).loc Cert.XqDaIdeal.main_arg1) = m ((c.tc : Thread Cert.XqDaIdeal.nD Cert.XqDaIdeal.τ).loc Cert.XqDaIdeal.main_arg1))
      ∧ θ_run (Cert.XqDaRefIdeal.defs (F := Ideal)) (onTc (τ := Cert.XqDaRefIdeal.τ) (Cert.XqDaRefIdeal.main (F := Ideal))) ⟨m', fun _ => 0, g'⟩ (fun r => ∀ c : Dev Cert.XqDaRefIdeal.nD,
          r.2.mem ((c.tc : Thread Cert.XqDaRefIdeal.nD Cert.XqDaRefIdeal.τ).loc Cert.XqDaRefIdeal.main_v4) = v0 c
          ∧ r.2.mem ((c.tc : Thread Cert.XqDaRefIdeal.nD Cert.XqDaRefIdeal.τ).loc Cert.XqDaRefIdeal.main_arg0) = m' ((c.tc : Thread Cert.XqDaRefIdeal.nD Cert.XqDaRefIdeal.τ).loc Cert.XqDaRefIdeal.main_arg0)
          ∧ r.2.mem ((c.tc : Thread Cert.XqDaRefIdeal.nD Cert.XqDaRefIdeal.τ).loc Cert.XqDaRefIdeal.main_arg1) = m' ((c.tc : Thread Cert.XqDaRefIdeal.nD Cert.XqDaRefIdeal.τ).loc Cert.XqDaRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v5) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_XkvDa_XkvDaIdeal : Prop :=
  True

def algebraic_XkvDaIdeal_XkvDaRefIdeal [hXkvDaIdeal : Cert.XkvDaIdeal.Facts] [hXkvDaRefIdeal : Cert.XkvDaRefIdeal.Facts] : Prop :=
  ∀ (m : (ℓ : Loc Cert.XkvDaIdeal.nD Cert.XkvDaIdeal.τ Cert.XkvDaIdeal.sig) → Buf (Elt Ideal) ℓ) (g : Dev Cert.XkvDaIdeal.nD → PrngReg)
    (m' : (ℓ : Loc Cert.XkvDaRefIdeal.nD Cert.XkvDaRefIdeal.τ Cert.XkvDaRefIdeal.sig) → Buf (Elt Ideal) ℓ) (g' : Dev Cert.XkvDaRefIdeal.nD → PrngReg), Pre_XkvDaIdeal m →
    (∀ c : Dev Cert.XkvDaIdeal.nD,
      m' ((c.tc : Thread Cert.XkvDaRefIdeal.nD Cert.XkvDaRefIdeal.τ).loc Cert.XkvDaRefIdeal.main_arg0) = m ((c.tc : Thread Cert.XkvDaIdeal.nD Cert.XkvDaIdeal.τ).loc Cert.XkvDaIdeal.main_arg0)
      ∧ m' ((c.tc : Thread Cert.XkvDaRefIdeal.nD Cert.XkvDaRefIdeal.τ).loc Cert.XkvDaRefIdeal.main_arg1) = m ((c.tc : Thread Cert.XkvDaIdeal.nD Cert.XkvDaIdeal.τ).loc Cert.XkvDaIdeal.main_arg1)) →
    ∃ (v0 : (c : Dev Cert.XkvDaIdeal.nD) → Buf (Elt Ideal) ((c.tc : Thread Cert.XkvDaIdeal.nD Cert.XkvDaIdeal.τ).loc Cert.XkvDaIdeal.main_v0)),
      θ_run (Cert.XkvDaIdeal.defs (F := Ideal)) (onTc (τ := Cert.XkvDaIdeal.τ) (Cert.XkvDaIdeal.main (F := Ideal))) ⟨m, fun _ => 0, g⟩ (fun r => ∀ c : Dev Cert.XkvDaIdeal.nD,
          r.2.mem ((c.tc : Thread Cert.XkvDaIdeal.nD Cert.XkvDaIdeal.τ).loc Cert.XkvDaIdeal.main_v0) = v0 c
          ∧ r.2.mem ((c.tc : Thread Cert.XkvDaIdeal.nD Cert.XkvDaIdeal.τ).loc Cert.XkvDaIdeal.main_arg0) = m ((c.tc : Thread Cert.XkvDaIdeal.nD Cert.XkvDaIdeal.τ).loc Cert.XkvDaIdeal.main_arg0)
          ∧ r.2.mem ((c.tc : Thread Cert.XkvDaIdeal.nD Cert.XkvDaIdeal.τ).loc Cert.XkvDaIdeal.main_arg1) = m ((c.tc : Thread Cert.XkvDaIdeal.nD Cert.XkvDaIdeal.τ).loc Cert.XkvDaIdeal.main_arg1))
      ∧ θ_run (Cert.XkvDaRefIdeal.defs (F := Ideal)) (onTc (τ := Cert.XkvDaRefIdeal.τ) (Cert.XkvDaRefIdeal.main (F := Ideal))) ⟨m', fun _ => 0, g'⟩ (fun r => ∀ c : Dev Cert.XkvDaRefIdeal.nD,
          r.2.mem ((c.tc : Thread Cert.XkvDaRefIdeal.nD Cert.XkvDaRefIdeal.τ).loc Cert.XkvDaRefIdeal.main_v5) = v0 c
          ∧ r.2.mem ((c.tc : Thread Cert.XkvDaRefIdeal.nD Cert.XkvDaRefIdeal.τ).loc Cert.XkvDaRefIdeal.main_arg0) = m' ((c.tc : Thread Cert.XkvDaRefIdeal.nD Cert.XkvDaRefIdeal.τ).loc Cert.XkvDaRefIdeal.main_arg0)
          ∧ r.2.mem ((c.tc : Thread Cert.XkvDaRefIdeal.nD Cert.XkvDaRefIdeal.τ).loc Cert.XkvDaRefIdeal.main_arg1) = m' ((c.tc : Thread Cert.XkvDaRefIdeal.nD Cert.XkvDaRefIdeal.τ).loc Cert.XkvDaRefIdeal.main_arg1))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v8) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_SquareFwd_SquareFwdIdeal : Prop :=
  True

def algebraic_SquareFwdIdeal_SquareFwdRefIdeal [hSquareFwdIdeal : Cert.SquareFwdIdeal.Facts] [hSquareFwdRefIdeal : Cert.SquareFwdRefIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg)
    (m' : (ℓ : Loc Cert.SquareFwdRefIdeal.nD Cert.SquareFwdRefIdeal.τ Cert.SquareFwdRefIdeal.sig) → Buf (Elt Ideal) ℓ) (g' : Dev Cert.SquareFwdRefIdeal.nD → PrngReg), Pre_SquareFwdIdeal m →
    (∀ c : Dev Cert.SquareFwdIdeal.nD,
      m' ((c.tc : Thread Cert.SquareFwdRefIdeal.nD Cert.SquareFwdRefIdeal.τ).loc Cert.SquareFwdRefIdeal.main_arg0) = m ((c.tc : Thread Cert.SquareFwdIdeal.nD Cert.SquareFwdIdeal.τ).loc Cert.SquareFwdIdeal.main_arg0)
      ∧ m' ((c.tc : Thread Cert.SquareFwdRefIdeal.nD Cert.SquareFwdRefIdeal.τ).loc Cert.SquareFwdRefIdeal.main_arg1) = m ((c.tc : Thread Cert.SquareFwdIdeal.nD Cert.SquareFwdIdeal.τ).loc Cert.SquareFwdIdeal.main_arg1)) →
    ∃ (v0 : (c : Dev Cert.SquareFwdIdeal.nD) → Buf (Elt Ideal) ((c.tc : Thread Cert.SquareFwdIdeal.nD Cert.SquareFwdIdeal.τ).loc Cert.SquareFwdIdeal.main_v0)),
      θ_run (Cert.SquareFwdIdeal.defs (F := Ideal)) (onTc (τ := Cert.SquareFwdIdeal.τ) (Cert.SquareFwdIdeal.main (F := Ideal))) ⟨m, fun _ => 0, g⟩ (fun r => ∀ c : Dev Cert.SquareFwdIdeal.nD,
          r.2.mem ((c.tc : Thread Cert.SquareFwdIdeal.nD Cert.SquareFwdIdeal.τ).loc Cert.SquareFwdIdeal.main_v0) = v0 c
          ∧ r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
          ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ θ_run (Cert.SquareFwdRefIdeal.defs (F := Ideal)) (onTc (τ := Cert.SquareFwdRefIdeal.τ) (Cert.SquareFwdRefIdeal.main (F := Ideal))) ⟨m', fun _ => 0, g'⟩ (fun r => ∀ c : Dev Cert.SquareFwdRefIdeal.nD,
          r.2.mem ((c.tc : Thread Cert.SquareFwdRefIdeal.nD Cert.SquareFwdRefIdeal.τ).loc Cert.SquareFwdRefIdeal.main_v2) = v0 c
          ∧ r.2.mem ((c.tc : Thread Cert.SquareFwdRefIdeal.nD Cert.SquareFwdRefIdeal.τ).loc Cert.SquareFwdRefIdeal.main_arg0) = m' ((c.tc : Thread Cert.SquareFwdRefIdeal.nD Cert.SquareFwdRefIdeal.τ).loc Cert.SquareFwdRefIdeal.main_arg0)
          ∧ r.2.mem ((c.tc : Thread Cert.SquareFwdRefIdeal.nD Cert.SquareFwdRefIdeal.τ).loc Cert.SquareFwdRefIdeal.main_arg1) = m' ((c.tc : Thread Cert.SquareFwdRefIdeal.nD Cert.SquareFwdRefIdeal.τ).loc Cert.SquareFwdRefIdeal.main_arg1))

def preserves_XqFwd_XqFwdIdeal : Prop :=
  True

def algebraic_XqFwdIdeal_XqFwdRefIdeal [hXqFwdIdeal : Cert.XqFwdIdeal.Facts] [hXqFwdRefIdeal : Cert.XqFwdRefIdeal.Facts] : Prop :=
  ∀ (m : (ℓ : Loc Cert.XqFwdIdeal.nD Cert.XqFwdIdeal.τ Cert.XqFwdIdeal.sig) → Buf (Elt Ideal) ℓ) (g : Dev Cert.XqFwdIdeal.nD → PrngReg)
    (m' : (ℓ : Loc Cert.XqFwdRefIdeal.nD Cert.XqFwdRefIdeal.τ Cert.XqFwdRefIdeal.sig) → Buf (Elt Ideal) ℓ) (g' : Dev Cert.XqFwdRefIdeal.nD → PrngReg), Pre_XqFwdIdeal m →
    (∀ c : Dev Cert.XqFwdIdeal.nD,
      m' ((c.tc : Thread Cert.XqFwdRefIdeal.nD Cert.XqFwdRefIdeal.τ).loc Cert.XqFwdRefIdeal.main_arg0) = m ((c.tc : Thread Cert.XqFwdIdeal.nD Cert.XqFwdIdeal.τ).loc Cert.XqFwdIdeal.main_arg0)
      ∧ m' ((c.tc : Thread Cert.XqFwdRefIdeal.nD Cert.XqFwdRefIdeal.τ).loc Cert.XqFwdRefIdeal.main_arg1) = m ((c.tc : Thread Cert.XqFwdIdeal.nD Cert.XqFwdIdeal.τ).loc Cert.XqFwdIdeal.main_arg1)) →
    ∃ (v0 : (c : Dev Cert.XqFwdIdeal.nD) → Buf (Elt Ideal) ((c.tc : Thread Cert.XqFwdIdeal.nD Cert.XqFwdIdeal.τ).loc Cert.XqFwdIdeal.main_v0)),
      θ_run (Cert.XqFwdIdeal.defs (F := Ideal)) (onTc (τ := Cert.XqFwdIdeal.τ) (Cert.XqFwdIdeal.main (F := Ideal))) ⟨m, fun _ => 0, g⟩ (fun r => ∀ c : Dev Cert.XqFwdIdeal.nD,
          r.2.mem ((c.tc : Thread Cert.XqFwdIdeal.nD Cert.XqFwdIdeal.τ).loc Cert.XqFwdIdeal.main_v0) = v0 c
          ∧ r.2.mem ((c.tc : Thread Cert.XqFwdIdeal.nD Cert.XqFwdIdeal.τ).loc Cert.XqFwdIdeal.main_arg0) = m ((c.tc : Thread Cert.XqFwdIdeal.nD Cert.XqFwdIdeal.τ).loc Cert.XqFwdIdeal.main_arg0)
          ∧ r.2.mem ((c.tc : Thread Cert.XqFwdIdeal.nD Cert.XqFwdIdeal.τ).loc Cert.XqFwdIdeal.main_arg1) = m ((c.tc : Thread Cert.XqFwdIdeal.nD Cert.XqFwdIdeal.τ).loc Cert.XqFwdIdeal.main_arg1))
      ∧ θ_run (Cert.XqFwdRefIdeal.defs (F := Ideal)) (onTc (τ := Cert.XqFwdRefIdeal.τ) (Cert.XqFwdRefIdeal.main (F := Ideal))) ⟨m', fun _ => 0, g'⟩ (fun r => ∀ c : Dev Cert.XqFwdRefIdeal.nD,
          r.2.mem ((c.tc : Thread Cert.XqFwdRefIdeal.nD Cert.XqFwdRefIdeal.τ).loc Cert.XqFwdRefIdeal.main_v3) = v0 c
          ∧ r.2.mem ((c.tc : Thread Cert.XqFwdRefIdeal.nD Cert.XqFwdRefIdeal.τ).loc Cert.XqFwdRefIdeal.main_arg0) = m' ((c.tc : Thread Cert.XqFwdRefIdeal.nD Cert.XqFwdRefIdeal.τ).loc Cert.XqFwdRefIdeal.main_arg0)
          ∧ r.2.mem ((c.tc : Thread Cert.XqFwdRefIdeal.nD Cert.XqFwdRefIdeal.τ).loc Cert.XqFwdRefIdeal.main_arg1) = m' ((c.tc : Thread Cert.XqFwdRefIdeal.nD Cert.XqFwdRefIdeal.τ).loc Cert.XqFwdRefIdeal.main_arg1))

def preserves_XkvFwd_XkvFwdIdeal : Prop :=
  True

def algebraic_XkvFwdIdeal_XkvFwdRefIdeal [hXkvFwdIdeal : Cert.XkvFwdIdeal.Facts] [hXkvFwdRefIdeal : Cert.XkvFwdRefIdeal.Facts] : Prop :=
  ∀ (m : (ℓ : Loc Cert.XkvFwdIdeal.nD Cert.XkvFwdIdeal.τ Cert.XkvFwdIdeal.sig) → Buf (Elt Ideal) ℓ) (g : Dev Cert.XkvFwdIdeal.nD → PrngReg)
    (m' : (ℓ : Loc Cert.XkvFwdRefIdeal.nD Cert.XkvFwdRefIdeal.τ Cert.XkvFwdRefIdeal.sig) → Buf (Elt Ideal) ℓ) (g' : Dev Cert.XkvFwdRefIdeal.nD → PrngReg), Pre_XkvFwdIdeal m →
    (∀ c : Dev Cert.XkvFwdIdeal.nD,
      m' ((c.tc : Thread Cert.XkvFwdRefIdeal.nD Cert.XkvFwdRefIdeal.τ).loc Cert.XkvFwdRefIdeal.main_arg0) = m ((c.tc : Thread Cert.XkvFwdIdeal.nD Cert.XkvFwdIdeal.τ).loc Cert.XkvFwdIdeal.main_arg0)
      ∧ m' ((c.tc : Thread Cert.XkvFwdRefIdeal.nD Cert.XkvFwdRefIdeal.τ).loc Cert.XkvFwdRefIdeal.main_arg1) = m ((c.tc : Thread Cert.XkvFwdIdeal.nD Cert.XkvFwdIdeal.τ).loc Cert.XkvFwdIdeal.main_arg1)) →
    ∃ (v0 : (c : Dev Cert.XkvFwdIdeal.nD) → Buf (Elt Ideal) ((c.tc : Thread Cert.XkvFwdIdeal.nD Cert.XkvFwdIdeal.τ).loc Cert.XkvFwdIdeal.main_v0)),
      θ_run (Cert.XkvFwdIdeal.defs (F := Ideal)) (onTc (τ := Cert.XkvFwdIdeal.τ) (Cert.XkvFwdIdeal.main (F := Ideal))) ⟨m, fun _ => 0, g⟩ (fun r => ∀ c : Dev Cert.XkvFwdIdeal.nD,
          r.2.mem ((c.tc : Thread Cert.XkvFwdIdeal.nD Cert.XkvFwdIdeal.τ).loc Cert.XkvFwdIdeal.main_v0) = v0 c
          ∧ r.2.mem ((c.tc : Thread Cert.XkvFwdIdeal.nD Cert.XkvFwdIdeal.τ).loc Cert.XkvFwdIdeal.main_arg0) = m ((c.tc : Thread Cert.XkvFwdIdeal.nD Cert.XkvFwdIdeal.τ).loc Cert.XkvFwdIdeal.main_arg0)
          ∧ r.2.mem ((c.tc : Thread Cert.XkvFwdIdeal.nD Cert.XkvFwdIdeal.τ).loc Cert.XkvFwdIdeal.main_arg1) = m ((c.tc : Thread Cert.XkvFwdIdeal.nD Cert.XkvFwdIdeal.τ).loc Cert.XkvFwdIdeal.main_arg1))
      ∧ θ_run (Cert.XkvFwdRefIdeal.defs (F := Ideal)) (onTc (τ := Cert.XkvFwdRefIdeal.τ) (Cert.XkvFwdRefIdeal.main (F := Ideal))) ⟨m', fun _ => 0, g'⟩ (fun r => ∀ c : Dev Cert.XkvFwdRefIdeal.nD,
          r.2.mem ((c.tc : Thread Cert.XkvFwdRefIdeal.nD Cert.XkvFwdRefIdeal.τ).loc Cert.XkvFwdRefIdeal.main_v5) = v0 c
          ∧ r.2.mem ((c.tc : Thread Cert.XkvFwdRefIdeal.nD Cert.XkvFwdRefIdeal.τ).loc Cert.XkvFwdRefIdeal.main_arg0) = m' ((c.tc : Thread Cert.XkvFwdRefIdeal.nD Cert.XkvFwdRefIdeal.τ).loc Cert.XkvFwdRefIdeal.main_arg0)
          ∧ r.2.mem ((c.tc : Thread Cert.XkvFwdRefIdeal.nD Cert.XkvFwdRefIdeal.τ).loc Cert.XkvFwdRefIdeal.main_arg1) = m' ((c.tc : Thread Cert.XkvFwdRefIdeal.nD Cert.XkvFwdRefIdeal.τ).loc Cert.XkvFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_GateUpFwd_GateUpFwdIdeal : Prop :=
  True

def algebraic_GateUpFwdIdeal_GateUpFwdRefIdeal [hGateUpFwdIdeal : Cert.GateUpFwdIdeal.Facts] [hGateUpFwdRefIdeal : Cert.GateUpFwdRefIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg)
    (m' : (ℓ : Loc Cert.GateUpFwdRefIdeal.nD Cert.GateUpFwdRefIdeal.τ Cert.GateUpFwdRefIdeal.sig) → Buf (Elt Ideal) ℓ) (g' : Dev Cert.GateUpFwdRefIdeal.nD → PrngReg), Pre_GateUpFwdIdeal m →
    (∀ c : Dev Cert.GateUpFwdIdeal.nD,
      m' ((c.tc : Thread Cert.GateUpFwdRefIdeal.nD Cert.GateUpFwdRefIdeal.τ).loc Cert.GateUpFwdRefIdeal.main_arg0) = m ((c.tc : Thread Cert.GateUpFwdIdeal.nD Cert.GateUpFwdIdeal.τ).loc Cert.GateUpFwdIdeal.main_arg0)
      ∧ m' ((c.tc : Thread Cert.GateUpFwdRefIdeal.nD Cert.GateUpFwdRefIdeal.τ).loc Cert.GateUpFwdRefIdeal.main_arg1) = m ((c.tc : Thread Cert.GateUpFwdIdeal.nD Cert.GateUpFwdIdeal.τ).loc Cert.GateUpFwdIdeal.main_arg1)) →
    ∃ (v0 : (c : Dev Cert.GateUpFwdIdeal.nD) → Buf (Elt Ideal) ((c.tc : Thread Cert.GateUpFwdIdeal.nD Cert.GateUpFwdIdeal.τ).loc Cert.GateUpFwdIdeal.main_v0_0)) (v1 : (c : Dev Cert.GateUpFwdIdeal.nD) → Buf (Elt Ideal) ((c.tc : Thread Cert.GateUpFwdIdeal.nD Cert.GateUpFwdIdeal.τ).loc Cert.GateUpFwdIdeal.main_v0_1)),
      θ_run (Cert.GateUpFwdIdeal.defs (F := Ideal)) (onTc (τ := Cert.GateUpFwdIdeal.τ) (Cert.GateUpFwdIdeal.main (F := Ideal))) ⟨m, fun _ => 0, g⟩ (fun r => ∀ c : Dev Cert.GateUpFwdIdeal.nD,
          r.2.mem ((c.tc : Thread Cert.GateUpFwdIdeal.nD Cert.GateUpFwdIdeal.τ).loc Cert.GateUpFwdIdeal.main_v0_0) = v0 c
          ∧ r.2.mem ((c.tc : Thread Cert.GateUpFwdIdeal.nD Cert.GateUpFwdIdeal.τ).loc Cert.GateUpFwdIdeal.main_v0_1) = v1 c
          ∧ r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
          ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1))
      ∧ θ_run (Cert.GateUpFwdRefIdeal.defs (F := Ideal)) (onTc (τ := Cert.GateUpFwdRefIdeal.τ) (Cert.GateUpFwdRefIdeal.main (F := Ideal))) ⟨m', fun _ => 0, g'⟩ (fun r => ∀ c : Dev Cert.GateUpFwdRefIdeal.nD,
          r.2.mem ((c.tc : Thread Cert.GateUpFwdRefIdeal.nD Cert.GateUpFwdRefIdeal.τ).loc Cert.GateUpFwdRefIdeal.main_v9) = v0 c
          ∧ r.2.mem ((c.tc : Thread Cert.GateUpFwdRefIdeal.nD Cert.GateUpFwdRefIdeal.τ).loc Cert.GateUpFwdRefIdeal.main_v16) = v1 c
          ∧ r.2.mem ((c.tc : Thread Cert.GateUpFwdRefIdeal.nD Cert.GateUpFwdRefIdeal.τ).loc Cert.GateUpFwdRefIdeal.main_arg0) = m' ((c.tc : Thread Cert.GateUpFwdRefIdeal.nD Cert.GateUpFwdRefIdeal.τ).loc Cert.GateUpFwdRefIdeal.main_arg0)
          ∧ r.2.mem ((c.tc : Thread Cert.GateUpFwdRefIdeal.nD Cert.GateUpFwdRefIdeal.τ).loc Cert.GateUpFwdRefIdeal.main_arg1) = m' ((c.tc : Thread Cert.GateUpFwdRefIdeal.nD Cert.GateUpFwdRefIdeal.τ).loc Cert.GateUpFwdRefIdeal.main_arg1))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSconv_AdamSconvIdeal : Prop :=
  True

def algebraic_AdamSconvIdeal_AdamSconvRefIdeal [hAdamSconvIdeal : Cert.AdamSconvIdeal.Facts] [hAdamSconvRefIdeal : Cert.AdamSconvRefIdeal.Facts] : Prop :=
  ∀ (m : (ℓ : Loc Cert.AdamSconvIdeal.nD Cert.AdamSconvIdeal.τ Cert.AdamSconvIdeal.sig) → Buf (Elt Ideal) ℓ) (g : Dev Cert.AdamSconvIdeal.nD → PrngReg)
    (m' : (ℓ : Loc Cert.AdamSconvRefIdeal.nD Cert.AdamSconvRefIdeal.τ Cert.AdamSconvRefIdeal.sig) → Buf (Elt Ideal) ℓ) (g' : Dev Cert.AdamSconvRefIdeal.nD → PrngReg), Pre_AdamSconvIdeal m →
    (∀ c : Dev Cert.AdamSconvIdeal.nD,
      m' ((c.tc : Thread Cert.AdamSconvRefIdeal.nD Cert.AdamSconvRefIdeal.τ).loc Cert.AdamSconvRefIdeal.main_arg0) = m ((c.tc : Thread Cert.AdamSconvIdeal.nD Cert.AdamSconvIdeal.τ).loc Cert.AdamSconvIdeal.main_arg0)
      ∧ m' ((c.tc : Thread Cert.AdamSconvRefIdeal.nD Cert.AdamSconvRefIdeal.τ).loc Cert.AdamSconvRefIdeal.main_arg1) = m ((c.tc : Thread Cert.AdamSconvIdeal.nD Cert.AdamSconvIdeal.τ).loc Cert.AdamSconvIdeal.main_arg1)
      ∧ m' ((c.tc : Thread Cert.AdamSconvRefIdeal.nD Cert.AdamSconvRefIdeal.τ).loc Cert.AdamSconvRefIdeal.main_arg2) = m ((c.tc : Thread Cert.AdamSconvIdeal.nD Cert.AdamSconvIdeal.τ).loc Cert.AdamSconvIdeal.main_arg2)
      ∧ m' ((c.tc : Thread Cert.AdamSconvRefIdeal.nD Cert.AdamSconvRefIdeal.τ).loc Cert.AdamSconvRefIdeal.main_arg3) = m ((c.tc : Thread Cert.AdamSconvIdeal.nD Cert.AdamSconvIdeal.τ).loc Cert.AdamSconvIdeal.main_arg3)) →
    ∃ (v0 : (c : Dev Cert.AdamSconvIdeal.nD) → Buf (Elt Ideal) ((c.tc : Thread Cert.AdamSconvIdeal.nD Cert.AdamSconvIdeal.τ).loc Cert.AdamSconvIdeal.main_v4_0)) (v1 : (c : Dev Cert.AdamSconvIdeal.nD) → Buf (Elt Ideal) ((c.tc : Thread Cert.AdamSconvIdeal.nD Cert.AdamSconvIdeal.τ).loc Cert.AdamSconvIdeal.main_v4_1)) (v2 : (c : Dev Cert.AdamSconvIdeal.nD) → Buf (Elt Ideal) ((c.tc : Thread Cert.AdamSconvIdeal.nD Cert.AdamSconvIdeal.τ).loc Cert.AdamSconvIdeal.main_v4_2)),
      θ_run (Cert.AdamSconvIdeal.defs (F := Ideal)) (onTc (τ := Cert.AdamSconvIdeal.τ) (Cert.AdamSconvIdeal.main (F := Ideal))) ⟨m, fun _ => 0, g⟩ (fun r => ∀ c : Dev Cert.AdamSconvIdeal.nD,
          r.2.mem ((c.tc : Thread Cert.AdamSconvIdeal.nD Cert.AdamSconvIdeal.τ).loc Cert.AdamSconvIdeal.main_v4_0) = v0 c
          ∧ r.2.mem ((c.tc : Thread Cert.AdamSconvIdeal.nD Cert.AdamSconvIdeal.τ).loc Cert.AdamSconvIdeal.main_v4_1) = v1 c
          ∧ r.2.mem ((c.tc : Thread Cert.AdamSconvIdeal.nD Cert.AdamSconvIdeal.τ).loc Cert.AdamSconvIdeal.main_v4_2) = v2 c
          ∧ r.2.mem ((c.tc : Thread Cert.AdamSconvIdeal.nD Cert.AdamSconvIdeal.τ).loc Cert.AdamSconvIdeal.main_arg0) = m ((c.tc : Thread Cert.AdamSconvIdeal.nD Cert.AdamSconvIdeal.τ).loc Cert.AdamSconvIdeal.main_arg0)
          ∧ r.2.mem ((c.tc : Thread Cert.AdamSconvIdeal.nD Cert.AdamSconvIdeal.τ).loc Cert.AdamSconvIdeal.main_arg1) = m ((c.tc : Thread Cert.AdamSconvIdeal.nD Cert.AdamSconvIdeal.τ).loc Cert.AdamSconvIdeal.main_arg1)
          ∧ r.2.mem ((c.tc : Thread Cert.AdamSconvIdeal.nD Cert.AdamSconvIdeal.τ).loc Cert.AdamSconvIdeal.main_arg2) = m ((c.tc : Thread Cert.AdamSconvIdeal.nD Cert.AdamSconvIdeal.τ).loc Cert.AdamSconvIdeal.main_arg2)
          ∧ r.2.mem ((c.tc : Thread Cert.AdamSconvIdeal.nD Cert.AdamSconvIdeal.τ).loc Cert.AdamSconvIdeal.main_arg3) = m ((c.tc : Thread Cert.AdamSconvIdeal.nD Cert.AdamSconvIdeal.τ).loc Cert.AdamSconvIdeal.main_arg3))
      ∧ θ_run (Cert.AdamSconvRefIdeal.defs (F := Ideal)) (onTc (τ := Cert.AdamSconvRefIdeal.τ) (Cert.AdamSconvRefIdeal.main (F := Ideal))) ⟨m', fun _ => 0, g'⟩ (fun r => ∀ c : Dev Cert.AdamSconvRefIdeal.nD,
          r.2.mem ((c.tc : Thread Cert.AdamSconvRefIdeal.nD Cert.AdamSconvRefIdeal.τ).loc Cert.AdamSconvRefIdeal.main_v24) = v0 c
          ∧ r.2.mem ((c.tc : Thread Cert.AdamSconvRefIdeal.nD Cert.AdamSconvRefIdeal.τ).loc Cert.AdamSconvRefIdeal.main_v25) = v1 c
          ∧ r.2.mem ((c.tc : Thread Cert.AdamSconvRefIdeal.nD Cert.AdamSconvRefIdeal.τ).loc Cert.AdamSconvRefIdeal.main_v26) = v2 c
          ∧ r.2.mem ((c.tc : Thread Cert.AdamSconvRefIdeal.nD Cert.AdamSconvRefIdeal.τ).loc Cert.AdamSconvRefIdeal.main_arg0) = m' ((c.tc : Thread Cert.AdamSconvRefIdeal.nD Cert.AdamSconvRefIdeal.τ).loc Cert.AdamSconvRefIdeal.main_arg0)
          ∧ r.2.mem ((c.tc : Thread Cert.AdamSconvRefIdeal.nD Cert.AdamSconvRefIdeal.τ).loc Cert.AdamSconvRefIdeal.main_arg1) = m' ((c.tc : Thread Cert.AdamSconvRefIdeal.nD Cert.AdamSconvRefIdeal.τ).loc Cert.AdamSconvRefIdeal.main_arg1)
          ∧ r.2.mem ((c.tc : Thread Cert.AdamSconvRefIdeal.nD Cert.AdamSconvRefIdeal.τ).loc Cert.AdamSconvRefIdeal.main_arg2) = m' ((c.tc : Thread Cert.AdamSconvRefIdeal.nD Cert.AdamSconvRefIdeal.τ).loc Cert.AdamSconvRefIdeal.main_arg2)
          ∧ r.2.mem ((c.tc : Thread Cert.AdamSconvRefIdeal.nD Cert.AdamSconvRefIdeal.τ).loc Cert.AdamSconvRefIdeal.main_arg3) = m' ((c.tc : Thread Cert.AdamSconvRefIdeal.nD Cert.AdamSconvRefIdeal.τ).loc Cert.AdamSconvRefIdeal.main_arg3))

def preserves_AdamGconv_AdamGconvIdeal : Prop :=
  True

def algebraic_AdamGconvIdeal_AdamGconvRefIdeal [hAdamGconvIdeal : Cert.AdamGconvIdeal.Facts] [hAdamGconvRefIdeal : Cert.AdamGconvRefIdeal.Facts] : Prop :=
  ∀ (m : (ℓ : Loc Cert.AdamGconvIdeal.nD Cert.AdamGconvIdeal.τ Cert.AdamGconvIdeal.sig) → Buf (Elt Ideal) ℓ) (g : Dev Cert.AdamGconvIdeal.nD → PrngReg)
    (m' : (ℓ : Loc Cert.AdamGconvRefIdeal.nD Cert.AdamGconvRefIdeal.τ Cert.AdamGconvRefIdeal.sig) → Buf (Elt Ideal) ℓ) (g' : Dev Cert.AdamGconvRefIdeal.nD → PrngReg), Pre_AdamGconvIdeal m →
    (∀ c : Dev Cert.AdamGconvIdeal.nD,
      m' ((c.tc : Thread Cert.AdamGconvRefIdeal.nD Cert.AdamGconvRefIdeal.τ).loc Cert.AdamGconvRefIdeal.main_arg0) = m ((c.tc : Thread Cert.AdamGconvIdeal.nD Cert.AdamGconvIdeal.τ).loc Cert.AdamGconvIdeal.main_arg0)
      ∧ m' ((c.tc : Thread Cert.AdamGconvRefIdeal.nD Cert.AdamGconvRefIdeal.τ).loc Cert.AdamGconvRefIdeal.main_arg1) = m ((c.tc : Thread Cert.AdamGconvIdeal.nD Cert.AdamGconvIdeal.τ).loc Cert.AdamGconvIdeal.main_arg1)
      ∧ m' ((c.tc : Thread Cert.AdamGconvRefIdeal.nD Cert.AdamGconvRefIdeal.τ).loc Cert.AdamGconvRefIdeal.main_arg2) = m ((c.tc : Thread Cert.AdamGconvIdeal.nD Cert.AdamGconvIdeal.τ).loc Cert.AdamGconvIdeal.main_arg2)
      ∧ m' ((c.tc : Thread Cert.AdamGconvRefIdeal.nD Cert.AdamGconvRefIdeal.τ).loc Cert.AdamGconvRefIdeal.main_arg3) = m ((c.tc : Thread Cert.AdamGconvIdeal.nD Cert.AdamGconvIdeal.τ).loc Cert.AdamGconvIdeal.main_arg3)) →
    ∃ (v0 : (c : Dev Cert.AdamGconvIdeal.nD) → Buf (Elt Ideal) ((c.tc : Thread Cert.AdamGconvIdeal.nD Cert.AdamGconvIdeal.τ).loc Cert.AdamGconvIdeal.main_v4_0)) (v1 : (c : Dev Cert.AdamGconvIdeal.nD) → Buf (Elt Ideal) ((c.tc : Thread Cert.AdamGconvIdeal.nD Cert.AdamGconvIdeal.τ).loc Cert.AdamGconvIdeal.main_v4_1)) (v2 : (c : Dev Cert.AdamGconvIdeal.nD) → Buf (Elt Ideal) ((c.tc : Thread Cert.AdamGconvIdeal.nD Cert.AdamGconvIdeal.τ).loc Cert.AdamGconvIdeal.main_v4_2)),
      θ_run (Cert.AdamGconvIdeal.defs (F := Ideal)) (onTc (τ := Cert.AdamGconvIdeal.τ) (Cert.AdamGconvIdeal.main (F := Ideal))) ⟨m, fun _ => 0, g⟩ (fun r => ∀ c : Dev Cert.AdamGconvIdeal.nD,
          r.2.mem ((c.tc : Thread Cert.AdamGconvIdeal.nD Cert.AdamGconvIdeal.τ).loc Cert.AdamGconvIdeal.main_v4_0) = v0 c
          ∧ r.2.mem ((c.tc : Thread Cert.AdamGconvIdeal.nD Cert.AdamGconvIdeal.τ).loc Cert.AdamGconvIdeal.main_v4_1) = v1 c
          ∧ r.2.mem ((c.tc : Thread Cert.AdamGconvIdeal.nD Cert.AdamGconvIdeal.τ).loc Cert.AdamGconvIdeal.main_v4_2) = v2 c
          ∧ r.2.mem ((c.tc : Thread Cert.AdamGconvIdeal.nD Cert.AdamGconvIdeal.τ).loc Cert.AdamGconvIdeal.main_arg0) = m ((c.tc : Thread Cert.AdamGconvIdeal.nD Cert.AdamGconvIdeal.τ).loc Cert.AdamGconvIdeal.main_arg0)
          ∧ r.2.mem ((c.tc : Thread Cert.AdamGconvIdeal.nD Cert.AdamGconvIdeal.τ).loc Cert.AdamGconvIdeal.main_arg1) = m ((c.tc : Thread Cert.AdamGconvIdeal.nD Cert.AdamGconvIdeal.τ).loc Cert.AdamGconvIdeal.main_arg1)
          ∧ r.2.mem ((c.tc : Thread Cert.AdamGconvIdeal.nD Cert.AdamGconvIdeal.τ).loc Cert.AdamGconvIdeal.main_arg2) = m ((c.tc : Thread Cert.AdamGconvIdeal.nD Cert.AdamGconvIdeal.τ).loc Cert.AdamGconvIdeal.main_arg2)
          ∧ r.2.mem ((c.tc : Thread Cert.AdamGconvIdeal.nD Cert.AdamGconvIdeal.τ).loc Cert.AdamGconvIdeal.main_arg3) = m ((c.tc : Thread Cert.AdamGconvIdeal.nD Cert.AdamGconvIdeal.τ).loc Cert.AdamGconvIdeal.main_arg3))
      ∧ θ_run (Cert.AdamGconvRefIdeal.defs (F := Ideal)) (onTc (τ := Cert.AdamGconvRefIdeal.τ) (Cert.AdamGconvRefIdeal.main (F := Ideal))) ⟨m', fun _ => 0, g'⟩ (fun r => ∀ c : Dev Cert.AdamGconvRefIdeal.nD,
          r.2.mem ((c.tc : Thread Cert.AdamGconvRefIdeal.nD Cert.AdamGconvRefIdeal.τ).loc Cert.AdamGconvRefIdeal.main_v24) = v0 c
          ∧ r.2.mem ((c.tc : Thread Cert.AdamGconvRefIdeal.nD Cert.AdamGconvRefIdeal.τ).loc Cert.AdamGconvRefIdeal.main_v25) = v1 c
          ∧ r.2.mem ((c.tc : Thread Cert.AdamGconvRefIdeal.nD Cert.AdamGconvRefIdeal.τ).loc Cert.AdamGconvRefIdeal.main_v26) = v2 c
          ∧ r.2.mem ((c.tc : Thread Cert.AdamGconvRefIdeal.nD Cert.AdamGconvRefIdeal.τ).loc Cert.AdamGconvRefIdeal.main_arg0) = m' ((c.tc : Thread Cert.AdamGconvRefIdeal.nD Cert.AdamGconvRefIdeal.τ).loc Cert.AdamGconvRefIdeal.main_arg0)
          ∧ r.2.mem ((c.tc : Thread Cert.AdamGconvRefIdeal.nD Cert.AdamGconvRefIdeal.τ).loc Cert.AdamGconvRefIdeal.main_arg1) = m' ((c.tc : Thread Cert.AdamGconvRefIdeal.nD Cert.AdamGconvRefIdeal.τ).loc Cert.AdamGconvRefIdeal.main_arg1)
          ∧ r.2.mem ((c.tc : Thread Cert.AdamGconvRefIdeal.nD Cert.AdamGconvRefIdeal.τ).loc Cert.AdamGconvRefIdeal.main_arg2) = m' ((c.tc : Thread Cert.AdamGconvRefIdeal.nD Cert.AdamGconvRefIdeal.τ).loc Cert.AdamGconvRefIdeal.main_arg2)
          ∧ r.2.mem ((c.tc : Thread Cert.AdamGconvRefIdeal.nD Cert.AdamGconvRefIdeal.τ).loc Cert.AdamGconvRefIdeal.main_arg3) = m' ((c.tc : Thread Cert.AdamGconvRefIdeal.nD Cert.AdamGconvRefIdeal.τ).loc Cert.AdamGconvRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamGnorm_AdamGnormIdeal : Prop :=
  True

def algebraic_AdamGnormIdeal_AdamGnormRefIdeal [hAdamGnormIdeal : Cert.AdamGnormIdeal.Facts] [hAdamGnormRefIdeal : Cert.AdamGnormRefIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg)
    (m' : (ℓ : Loc Cert.AdamGnormRefIdeal.nD Cert.AdamGnormRefIdeal.τ Cert.AdamGnormRefIdeal.sig) → Buf (Elt Ideal) ℓ) (g' : Dev Cert.AdamGnormRefIdeal.nD → PrngReg), Pre_AdamGnormIdeal m →
    (∀ c : Dev Cert.AdamGnormIdeal.nD,
      m' ((c.tc : Thread Cert.AdamGnormRefIdeal.nD Cert.AdamGnormRefIdeal.τ).loc Cert.AdamGnormRefIdeal.main_arg0) = m ((c.tc : Thread Cert.AdamGnormIdeal.nD Cert.AdamGnormIdeal.τ).loc Cert.AdamGnormIdeal.main_arg0)
      ∧ m' ((c.tc : Thread Cert.AdamGnormRefIdeal.nD Cert.AdamGnormRefIdeal.τ).loc Cert.AdamGnormRefIdeal.main_arg1) = m ((c.tc : Thread Cert.AdamGnormIdeal.nD Cert.AdamGnormIdeal.τ).loc Cert.AdamGnormIdeal.main_arg1)
      ∧ m' ((c.tc : Thread Cert.AdamGnormRefIdeal.nD Cert.AdamGnormRefIdeal.τ).loc Cert.AdamGnormRefIdeal.main_arg2) = m ((c.tc : Thread Cert.AdamGnormIdeal.nD Cert.AdamGnormIdeal.τ).loc Cert.AdamGnormIdeal.main_arg2)
      ∧ m' ((c.tc : Thread Cert.AdamGnormRefIdeal.nD Cert.AdamGnormRefIdeal.τ).loc Cert.AdamGnormRefIdeal.main_arg3) = m ((c.tc : Thread Cert.AdamGnormIdeal.nD Cert.AdamGnormIdeal.τ).loc Cert.AdamGnormIdeal.main_arg3)) →
    ∃ (v0 : (c : Dev Cert.AdamGnormIdeal.nD) → Buf (Elt Ideal) ((c.tc : Thread Cert.AdamGnormIdeal.nD Cert.AdamGnormIdeal.τ).loc Cert.AdamGnormIdeal.main_v0_0)) (v1 : (c : Dev Cert.AdamGnormIdeal.nD) → Buf (Elt Ideal) ((c.tc : Thread Cert.AdamGnormIdeal.nD Cert.AdamGnormIdeal.τ).loc Cert.AdamGnormIdeal.main_v0_1)) (v2 : (c : Dev Cert.AdamGnormIdeal.nD) → Buf (Elt Ideal) ((c.tc : Thread Cert.AdamGnormIdeal.nD Cert.AdamGnormIdeal.τ).loc Cert.AdamGnormIdeal.main_v0_2)),
      θ_run (Cert.AdamGnormIdeal.defs (F := Ideal)) (onTc (τ := Cert.AdamGnormIdeal.τ) (Cert.AdamGnormIdeal.main (F := Ideal))) ⟨m, fun _ => 0, g⟩ (fun r => ∀ c : Dev Cert.AdamGnormIdeal.nD,
          r.2.mem ((c.tc : Thread Cert.AdamGnormIdeal.nD Cert.AdamGnormIdeal.τ).loc Cert.AdamGnormIdeal.main_v0_0) = v0 c
          ∧ r.2.mem ((c.tc : Thread Cert.AdamGnormIdeal.nD Cert.AdamGnormIdeal.τ).loc Cert.AdamGnormIdeal.main_v0_1) = v1 c
          ∧ r.2.mem ((c.tc : Thread Cert.AdamGnormIdeal.nD Cert.AdamGnormIdeal.τ).loc Cert.AdamGnormIdeal.main_v0_2) = v2 c
          ∧ r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
          ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
          ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
          ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ θ_run (Cert.AdamGnormRefIdeal.defs (F := Ideal)) (onTc (τ := Cert.AdamGnormRefIdeal.τ) (Cert.AdamGnormRefIdeal.main (F := Ideal))) ⟨m', fun _ => 0, g'⟩ (fun r => ∀ c : Dev Cert.AdamGnormRefIdeal.nD,
          r.2.mem ((c.tc : Thread Cert.AdamGnormRefIdeal.nD Cert.AdamGnormRefIdeal.τ).loc Cert.AdamGnormRefIdeal.main_v23) = v0 c
          ∧ r.2.mem ((c.tc : Thread Cert.AdamGnormRefIdeal.nD Cert.AdamGnormRefIdeal.τ).loc Cert.AdamGnormRefIdeal.main_v4) = v1 c
          ∧ r.2.mem ((c.tc : Thread Cert.AdamGnormRefIdeal.nD Cert.AdamGnormRefIdeal.τ).loc Cert.AdamGnormRefIdeal.main_v10) = v2 c
          ∧ r.2.mem ((c.tc : Thread Cert.AdamGnormRefIdeal.nD Cert.AdamGnormRefIdeal.τ).loc Cert.AdamGnormRefIdeal.main_arg0) = m' ((c.tc : Thread Cert.AdamGnormRefIdeal.nD Cert.AdamGnormRefIdeal.τ).loc Cert.AdamGnormRefIdeal.main_arg0)
          ∧ r.2.mem ((c.tc : Thread Cert.AdamGnormRefIdeal.nD Cert.AdamGnormRefIdeal.τ).loc Cert.AdamGnormRefIdeal.main_arg1) = m' ((c.tc : Thread Cert.AdamGnormRefIdeal.nD Cert.AdamGnormRefIdeal.τ).loc Cert.AdamGnormRefIdeal.main_arg1)
          ∧ r.2.mem ((c.tc : Thread Cert.AdamGnormRefIdeal.nD Cert.AdamGnormRefIdeal.τ).loc Cert.AdamGnormRefIdeal.main_arg2) = m' ((c.tc : Thread Cert.AdamGnormRefIdeal.nD Cert.AdamGnormRefIdeal.τ).loc Cert.AdamGnormRefIdeal.main_arg2)
          ∧ r.2.mem ((c.tc : Thread Cert.AdamGnormRefIdeal.nD Cert.AdamGnormRefIdeal.τ).loc Cert.AdamGnormRefIdeal.main_arg3) = m' ((c.tc : Thread Cert.AdamGnormRefIdeal.nD Cert.AdamGnormRefIdeal.τ).loc Cert.AdamGnormRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v4_0)) (v1 : (c : Dev Cert.AdamSquareIdeal.nD) → Buf (Elt Ideal) ((c.tc : Thread Cert.AdamSquareIdeal.nD Cert.AdamSquareIdeal.τ).loc Cert.AdamSquareIdeal.main_v4_1)) (v2 : (c : Dev Cert.AdamSquareIdeal.nD) → Buf (Elt Ideal) ((c.tc : Thread Cert.AdamSquareIdeal.nD Cert.AdamSquareIdeal.τ).loc Cert.AdamSquareIdeal.main_v4_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v4_0) = v0 c
          ∧ r.2.mem ((c.tc : Thread Cert.AdamSquareIdeal.nD Cert.AdamSquareIdeal.τ).loc Cert.AdamSquareIdeal.main_v4_1) = v1 c
          ∧ r.2.mem ((c.tc : Thread Cert.AdamSquareIdeal.nD Cert.AdamSquareIdeal.τ).loc Cert.AdamSquareIdeal.main_v4_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v24) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v26) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v4_0)) (v1 : (c : Dev Cert.AdamXkvIdeal.nD) → Buf (Elt Ideal) ((c.tc : Thread Cert.AdamXkvIdeal.nD Cert.AdamXkvIdeal.τ).loc Cert.AdamXkvIdeal.main_v4_1)) (v2 : (c : Dev Cert.AdamXkvIdeal.nD) → Buf (Elt Ideal) ((c.tc : Thread Cert.AdamXkvIdeal.nD Cert.AdamXkvIdeal.τ).loc Cert.AdamXkvIdeal.main_v4_2)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v4_0) = v0 c
          ∧ r.2.mem ((c.tc : Thread Cert.AdamXkvIdeal.nD Cert.AdamXkvIdeal.τ).loc Cert.AdamXkvIdeal.main_v4_1) = v1 c
          ∧ r.2.mem ((c.tc : Thread Cert.AdamXkvIdeal.nD Cert.AdamXkvIdeal.τ).loc Cert.AdamXkvIdeal.main_v4_2) = v2 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v24) = v0 c
          ∧ r.2.mem ((c.tc : Thread Cert.AdamXkvRefIdeal.nD Cert.AdamXkvRefIdeal.τ).loc Cert.AdamXkvRefIdeal.main_v25) = v1 c
          ∧ r.2.mem ((c.tc : Thread Cert.AdamXkvRefIdeal.nD Cert.AdamXkvRefIdeal.τ).loc Cert.AdamXkvRefIdeal.main_v26) = v2 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v4_0)) (v1 : (c : Dev Cert.AdamGateUpIdeal.nD) → Buf (Elt Ideal) ((c.tc : Thread Cert.AdamGateUpIdeal.nD Cert.AdamGateUpIdeal.τ).loc Cert.AdamGateUpIdeal.main_v4_1)) (v2 : (c : Dev Cert.AdamGateUpIdeal.nD) → Buf (Elt Ideal) ((c.tc : Thread Cert.AdamGateUpIdeal.nD Cert.AdamGateUpIdeal.τ).loc Cert.AdamGateUpIdeal.main_v4_2)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v4_0) = v0 c
          ∧ r.2.mem ((c.tc : Thread Cert.AdamGateUpIdeal.nD Cert.AdamGateUpIdeal.τ).loc Cert.AdamGateUpIdeal.main_v4_1) = v1 c
          ∧ r.2.mem ((c.tc : Thread Cert.AdamGateUpIdeal.nD Cert.AdamGateUpIdeal.τ).loc Cert.AdamGateUpIdeal.main_v4_2) = v2 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v24) = v0 c
          ∧ r.2.mem ((c.tc : Thread Cert.AdamGateUpRefIdeal.nD Cert.AdamGateUpRefIdeal.τ).loc Cert.AdamGateUpRefIdeal.main_v25) = v1 c
          ∧ r.2.mem ((c.tc : Thread Cert.AdamGateUpRefIdeal.nD Cert.AdamGateUpRefIdeal.τ).loc Cert.AdamGateUpRefIdeal.main_v26) = v2 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2))

def preserves_ResNormBwd_ResNormBwdIdeal : Prop :=
  True

def algebraic_ResNormBwdIdeal_ResNormBwdRefIdeal [hResNormBwdIdeal : Cert.ResNormBwdIdeal.Facts] [hResNormBwdRefIdeal : Cert.ResNormBwdRefIdeal.Facts] : Prop :=
  ∀ (m : (ℓ : Loc Cert.ResNormBwdIdeal.nD Cert.ResNormBwdIdeal.τ Cert.ResNormBwdIdeal.sig) → Buf (Elt Ideal) ℓ) (g : Dev Cert.ResNormBwdIdeal.nD → PrngReg)
    (m' : (ℓ : Loc Cert.ResNormBwdRefIdeal.nD Cert.ResNormBwdRefIdeal.τ Cert.ResNormBwdRefIdeal.sig) → Buf (Elt Ideal) ℓ) (g' : Dev Cert.ResNormBwdRefIdeal.nD → PrngReg), Pre_ResNormBwdIdeal m →
    (∀ c : Dev Cert.ResNormBwdIdeal.nD,
      m' ((c.tc : Thread Cert.ResNormBwdRefIdeal.nD Cert.ResNormBwdRefIdeal.τ).loc Cert.ResNormBwdRefIdeal.main_arg0) = m ((c.tc : Thread Cert.ResNormBwdIdeal.nD Cert.ResNormBwdIdeal.τ).loc Cert.ResNormBwdIdeal.main_arg0)
      ∧ m' ((c.tc : Thread Cert.ResNormBwdRefIdeal.nD Cert.ResNormBwdRefIdeal.τ).loc Cert.ResNormBwdRefIdeal.main_arg1) = m ((c.tc : Thread Cert.ResNormBwdIdeal.nD Cert.ResNormBwdIdeal.τ).loc Cert.ResNormBwdIdeal.main_arg1)
      ∧ m' ((c.tc : Thread Cert.ResNormBwdRefIdeal.nD Cert.ResNormBwdRefIdeal.τ).loc Cert.ResNormBwdRefIdeal.main_arg2) = m ((c.tc : Thread Cert.ResNormBwdIdeal.nD Cert.ResNormBwdIdeal.τ).loc Cert.ResNormBwdIdeal.main_arg2)
      ∧ m' ((c.tc : Thread Cert.ResNormBwdRefIdeal.nD Cert.ResNormBwdRefIdeal.τ).loc Cert.ResNormBwdRefIdeal.main_arg3) = m ((c.tc : Thread Cert.ResNormBwdIdeal.nD Cert.ResNormBwdIdeal.τ).loc Cert.ResNormBwdIdeal.main_arg3)) →
    ∃ (v0 : (c : Dev Cert.ResNormBwdIdeal.nD) → Buf (Elt Ideal) ((c.tc : Thread Cert.ResNormBwdIdeal.nD Cert.ResNormBwdIdeal.τ).loc Cert.ResNormBwdIdeal.main_v0_0)) (v1 : (c : Dev Cert.ResNormBwdIdeal.nD) → Buf (Elt Ideal) ((c.tc : Thread Cert.ResNormBwdIdeal.nD Cert.ResNormBwdIdeal.τ).loc Cert.ResNormBwdIdeal.main_v0_1)),
      θ_run (Cert.ResNormBwdIdeal.defs (F := Ideal)) (onTc (τ := Cert.ResNormBwdIdeal.τ) (Cert.ResNormBwdIdeal.main (F := Ideal))) ⟨m, fun _ => 0, g⟩ (fun r => ∀ c : Dev Cert.ResNormBwdIdeal.nD,
          r.2.mem ((c.tc : Thread Cert.ResNormBwdIdeal.nD Cert.ResNormBwdIdeal.τ).loc Cert.ResNormBwdIdeal.main_v0_0) = v0 c
          ∧ r.2.mem ((c.tc : Thread Cert.ResNormBwdIdeal.nD Cert.ResNormBwdIdeal.τ).loc Cert.ResNormBwdIdeal.main_v0_1) = v1 c
          ∧ r.2.mem ((c.tc : Thread Cert.ResNormBwdIdeal.nD Cert.ResNormBwdIdeal.τ).loc Cert.ResNormBwdIdeal.main_arg0) = m ((c.tc : Thread Cert.ResNormBwdIdeal.nD Cert.ResNormBwdIdeal.τ).loc Cert.ResNormBwdIdeal.main_arg0)
          ∧ r.2.mem ((c.tc : Thread Cert.ResNormBwdIdeal.nD Cert.ResNormBwdIdeal.τ).loc Cert.ResNormBwdIdeal.main_arg1) = m ((c.tc : Thread Cert.ResNormBwdIdeal.nD Cert.ResNormBwdIdeal.τ).loc Cert.ResNormBwdIdeal.main_arg1)
          ∧ r.2.mem ((c.tc : Thread Cert.ResNormBwdIdeal.nD Cert.ResNormBwdIdeal.τ).loc Cert.ResNormBwdIdeal.main_arg2) = m ((c.tc : Thread Cert.ResNormBwdIdeal.nD Cert.ResNormBwdIdeal.τ).loc Cert.ResNormBwdIdeal.main_arg2)
          ∧ r.2.mem ((c.tc : Thread Cert.ResNormBwdIdeal.nD Cert.ResNormBwdIdeal.τ).loc Cert.ResNormBwdIdeal.main_arg3) = m ((c.tc : Thread Cert.ResNormBwdIdeal.nD Cert.ResNormBwdIdeal.τ).loc Cert.ResNormBwdIdeal.main_arg3))
      ∧ θ_run (Cert.ResNormBwdRefIdeal.defs (F := Ideal)) (onTc (τ := Cert.ResNormBwdRefIdeal.τ) (Cert.ResNormBwdRefIdeal.main (F := Ideal))) ⟨m', fun _ => 0, g'⟩ (fun r => ∀ c : Dev Cert.ResNormBwdRefIdeal.nD,
          r.2.mem ((c.tc : Thread Cert.ResNormBwdRefIdeal.nD Cert.ResNormBwdRefIdeal.τ).loc Cert.ResNormBwdRefIdeal.main_v37) = v0 c
          ∧ r.2.mem ((c.tc : Thread Cert.ResNormBwdRefIdeal.nD Cert.ResNormBwdRefIdeal.τ).loc Cert.ResNormBwdRefIdeal.main_v38) = v1 c
          ∧ r.2.mem ((c.tc : Thread Cert.ResNormBwdRefIdeal.nD Cert.ResNormBwdRefIdeal.τ).loc Cert.ResNormBwdRefIdeal.main_arg0) = m' ((c.tc : Thread Cert.ResNormBwdRefIdeal.nD Cert.ResNormBwdRefIdeal.τ).loc Cert.ResNormBwdRefIdeal.main_arg0)
          ∧ r.2.mem ((c.tc : Thread Cert.ResNormBwdRefIdeal.nD Cert.ResNormBwdRefIdeal.τ).loc Cert.ResNormBwdRefIdeal.main_arg1) = m' ((c.tc : Thread Cert.ResNormBwdRefIdeal.nD Cert.ResNormBwdRefIdeal.τ).loc Cert.ResNormBwdRefIdeal.main_arg1)
          ∧ r.2.mem ((c.tc : Thread Cert.ResNormBwdRefIdeal.nD Cert.ResNormBwdRefIdeal.τ).loc Cert.ResNormBwdRefIdeal.main_arg2) = m' ((c.tc : Thread Cert.ResNormBwdRefIdeal.nD Cert.ResNormBwdRefIdeal.τ).loc Cert.ResNormBwdRefIdeal.main_arg2)
          ∧ r.2.mem ((c.tc : Thread Cert.ResNormBwdRefIdeal.nD Cert.ResNormBwdRefIdeal.τ).loc Cert.ResNormBwdRefIdeal.main_arg3) = m' ((c.tc : Thread Cert.ResNormBwdRefIdeal.nD Cert.ResNormBwdRefIdeal.τ).loc Cert.ResNormBwdRefIdeal.main_arg3))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0_0)) (v1 : (c : Dev Cert.MemNormBwdIdeal.nD) → Buf (Elt Ideal) ((c.tc : Thread Cert.MemNormBwdIdeal.nD Cert.MemNormBwdIdeal.τ).loc Cert.MemNormBwdIdeal.main_v0_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0_0) = v0 c
          ∧ r.2.mem ((c.tc : Thread Cert.MemNormBwdIdeal.nD Cert.MemNormBwdIdeal.τ).loc Cert.MemNormBwdIdeal.main_v0_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v36) = v0 c
          ∧ r.2.mem ((c.tc : Thread Cert.MemNormBwdRefIdeal.nD Cert.MemNormBwdRefIdeal.τ).loc Cert.MemNormBwdRefIdeal.main_v37) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v15) = v0 c
          ∧ r.2.mem ((c.tc : Thread Cert.LossGradRefIdeal.nD Cert.LossGradRefIdeal.τ).loc Cert.LossGradRefIdeal.main_v14) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ResNormFwd_ResNormFwdIdeal : Prop :=
  True

def algebraic_ResNormFwdIdeal_ResNormFwdRefIdeal [hResNormFwdIdeal : Cert.ResNormFwdIdeal.Facts] [hResNormFwdRefIdeal : Cert.ResNormFwdRefIdeal.Facts] : Prop :=
  ∀ (m : (ℓ : Loc Cert.ResNormFwdIdeal.nD Cert.ResNormFwdIdeal.τ Cert.ResNormFwdIdeal.sig) → Buf (Elt Ideal) ℓ) (g : Dev Cert.ResNormFwdIdeal.nD → PrngReg)
    (m' : (ℓ : Loc Cert.ResNormFwdRefIdeal.nD Cert.ResNormFwdRefIdeal.τ Cert.ResNormFwdRefIdeal.sig) → Buf (Elt Ideal) ℓ) (g' : Dev Cert.ResNormFwdRefIdeal.nD → PrngReg), Pre_ResNormFwdIdeal m →
    (∀ c : Dev Cert.ResNormFwdIdeal.nD,
      m' ((c.tc : Thread Cert.ResNormFwdRefIdeal.nD Cert.ResNormFwdRefIdeal.τ).loc Cert.ResNormFwdRefIdeal.main_arg0) = m ((c.tc : Thread Cert.ResNormFwdIdeal.nD Cert.ResNormFwdIdeal.τ).loc Cert.ResNormFwdIdeal.main_arg0)
      ∧ m' ((c.tc : Thread Cert.ResNormFwdRefIdeal.nD Cert.ResNormFwdRefIdeal.τ).loc Cert.ResNormFwdRefIdeal.main_arg1) = m ((c.tc : Thread Cert.ResNormFwdIdeal.nD Cert.ResNormFwdIdeal.τ).loc Cert.ResNormFwdIdeal.main_arg1)
      ∧ m' ((c.tc : Thread Cert.ResNormFwdRefIdeal.nD Cert.ResNormFwdRefIdeal.τ).loc Cert.ResNormFwdRefIdeal.main_arg2) = m ((c.tc : Thread Cert.ResNormFwdIdeal.nD Cert.ResNormFwdIdeal.τ).loc Cert.ResNormFwdIdeal.main_arg2)) →
    ∃ (v0 : (c : Dev Cert.ResNormFwdIdeal.nD) → Buf (Elt Ideal) ((c.tc : Thread Cert.ResNormFwdIdeal.nD Cert.ResNormFwdIdeal.τ).loc Cert.ResNormFwdIdeal.main_v0)),
      θ_run (Cert.ResNormFwdIdeal.defs (F := Ideal)) (onTc (τ := Cert.ResNormFwdIdeal.τ) (Cert.ResNormFwdIdeal.main (F := Ideal))) ⟨m, fun _ => 0, g⟩ (fun r => ∀ c : Dev Cert.ResNormFwdIdeal.nD,
          r.2.mem ((c.tc : Thread Cert.ResNormFwdIdeal.nD Cert.ResNormFwdIdeal.τ).loc Cert.ResNormFwdIdeal.main_v0) = v0 c
          ∧ r.2.mem ((c.tc : Thread Cert.ResNormFwdIdeal.nD Cert.ResNormFwdIdeal.τ).loc Cert.ResNormFwdIdeal.main_arg0) = m ((c.tc : Thread Cert.ResNormFwdIdeal.nD Cert.ResNormFwdIdeal.τ).loc Cert.ResNormFwdIdeal.main_arg0)
          ∧ r.2.mem ((c.tc : Thread Cert.ResNormFwdIdeal.nD Cert.ResNormFwdIdeal.τ).loc Cert.ResNormFwdIdeal.main_arg1) = m ((c.tc : Thread Cert.ResNormFwdIdeal.nD Cert.ResNormFwdIdeal.τ).loc Cert.ResNormFwdIdeal.main_arg1)
          ∧ r.2.mem ((c.tc : Thread Cert.ResNormFwdIdeal.nD Cert.ResNormFwdIdeal.τ).loc Cert.ResNormFwdIdeal.main_arg2) = m ((c.tc : Thread Cert.ResNormFwdIdeal.nD Cert.ResNormFwdIdeal.τ).loc Cert.ResNormFwdIdeal.main_arg2))
      ∧ θ_run (Cert.ResNormFwdRefIdeal.defs (F := Ideal)) (onTc (τ := Cert.ResNormFwdRefIdeal.τ) (Cert.ResNormFwdRefIdeal.main (F := Ideal))) ⟨m', fun _ => 0, g'⟩ (fun r => ∀ c : Dev Cert.ResNormFwdRefIdeal.nD,
          r.2.mem ((c.tc : Thread Cert.ResNormFwdRefIdeal.nD Cert.ResNormFwdRefIdeal.τ).loc Cert.ResNormFwdRefIdeal.main_v12) = v0 c
          ∧ r.2.mem ((c.tc : Thread Cert.ResNormFwdRefIdeal.nD Cert.ResNormFwdRefIdeal.τ).loc Cert.ResNormFwdRefIdeal.main_arg0) = m' ((c.tc : Thread Cert.ResNormFwdRefIdeal.nD Cert.ResNormFwdRefIdeal.τ).loc Cert.ResNormFwdRefIdeal.main_arg0)
          ∧ r.2.mem ((c.tc : Thread Cert.ResNormFwdRefIdeal.nD Cert.ResNormFwdRefIdeal.τ).loc Cert.ResNormFwdRefIdeal.main_arg1) = m' ((c.tc : Thread Cert.ResNormFwdRefIdeal.nD Cert.ResNormFwdRefIdeal.τ).loc Cert.ResNormFwdRefIdeal.main_arg1)
          ∧ r.2.mem ((c.tc : Thread Cert.ResNormFwdRefIdeal.nD Cert.ResNormFwdRefIdeal.τ).loc Cert.ResNormFwdRefIdeal.main_arg2) = m' ((c.tc : Thread Cert.ResNormFwdRefIdeal.nD Cert.ResNormFwdRefIdeal.τ).loc Cert.ResNormFwdRefIdeal.main_arg2))

def preserves_SconvBwd_SconvBwdIdeal : Prop :=
  True

def algebraic_SconvBwdIdeal_SconvBwdRefIdeal [hSconvBwdIdeal : Cert.SconvBwdIdeal.Facts] [hSconvBwdRefIdeal : Cert.SconvBwdRefIdeal.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg)
    (m' : (ℓ : Loc Cert.SconvBwdRefIdeal.nD Cert.SconvBwdRefIdeal.τ Cert.SconvBwdRefIdeal.sig) → Buf (Elt Ideal) ℓ) (g' : Dev Cert.SconvBwdRefIdeal.nD → PrngReg), Pre_SconvBwdIdeal m →
    (∀ c : Dev Cert.SconvBwdIdeal.nD,
      m' ((c.tc : Thread Cert.SconvBwdRefIdeal.nD Cert.SconvBwdRefIdeal.τ).loc Cert.SconvBwdRefIdeal.main_arg0) = m ((c.tc : Thread Cert.SconvBwdIdeal.nD Cert.SconvBwdIdeal.τ).loc Cert.SconvBwdIdeal.main_arg0)
      ∧ m' ((c.tc : Thread Cert.SconvBwdRefIdeal.nD Cert.SconvBwdRefIdeal.τ).loc Cert.SconvBwdRefIdeal.main_arg1) = m ((c.tc : Thread Cert.SconvBwdIdeal.nD Cert.SconvBwdIdeal.τ).loc Cert.SconvBwdIdeal.main_arg1)
      ∧ m' ((c.tc : Thread Cert.SconvBwdRefIdeal.nD Cert.SconvBwdRefIdeal.τ).loc Cert.SconvBwdRefIdeal.main_arg2) = m ((c.tc : Thread Cert.SconvBwdIdeal.nD Cert.SconvBwdIdeal.τ).loc Cert.SconvBwdIdeal.main_arg2)) →
    ∃ (v0 : (c : Dev Cert.SconvBwdIdeal.nD) → Buf (Elt Ideal) ((c.tc : Thread Cert.SconvBwdIdeal.nD Cert.SconvBwdIdeal.τ).loc Cert.SconvBwdIdeal.main_v0_0)) (v1 : (c : Dev Cert.SconvBwdIdeal.nD) → Buf (Elt Ideal) ((c.tc : Thread Cert.SconvBwdIdeal.nD Cert.SconvBwdIdeal.τ).loc Cert.SconvBwdIdeal.main_v0_1)) (v2 : (c : Dev Cert.SconvBwdIdeal.nD) → Buf (Elt Ideal) ((c.tc : Thread Cert.SconvBwdIdeal.nD Cert.SconvBwdIdeal.τ).loc Cert.SconvBwdIdeal.main_v0_2)) (v3 : (c : Dev Cert.SconvBwdIdeal.nD) → Buf (Elt Ideal) ((c.tc : Thread Cert.SconvBwdIdeal.nD Cert.SconvBwdIdeal.τ).loc Cert.SconvBwdIdeal.main_v0_3)),
      θ_run (Cert.SconvBwdIdeal.defs (F := Ideal)) (onTc (τ := Cert.SconvBwdIdeal.τ) (Cert.SconvBwdIdeal.main (F := Ideal))) ⟨m, fun _ => 0, g⟩ (fun r => ∀ c : Dev Cert.SconvBwdIdeal.nD,
          r.2.mem ((c.tc : Thread Cert.SconvBwdIdeal.nD Cert.SconvBwdIdeal.τ).loc Cert.SconvBwdIdeal.main_v0_0) = v0 c
          ∧ r.2.mem ((c.tc : Thread Cert.SconvBwdIdeal.nD Cert.SconvBwdIdeal.τ).loc Cert.SconvBwdIdeal.main_v0_1) = v1 c
          ∧ r.2.mem ((c.tc : Thread Cert.SconvBwdIdeal.nD Cert.SconvBwdIdeal.τ).loc Cert.SconvBwdIdeal.main_v0_2) = v2 c
          ∧ r.2.mem ((c.tc : Thread Cert.SconvBwdIdeal.nD Cert.SconvBwdIdeal.τ).loc Cert.SconvBwdIdeal.main_v0_3) = v3 c
          ∧ r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
          ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
          ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ θ_run (Cert.SconvBwdRefIdeal.defs (F := Ideal)) (onTc (τ := Cert.SconvBwdRefIdeal.τ) (Cert.SconvBwdRefIdeal.main (F := Ideal))) ⟨m', fun _ => 0, g'⟩ (fun r => ∀ c : Dev Cert.SconvBwdRefIdeal.nD,
          r.2.mem ((c.tc : Thread Cert.SconvBwdRefIdeal.nD Cert.SconvBwdRefIdeal.τ).loc Cert.SconvBwdRefIdeal.main_v66) = v0 c
          ∧ r.2.mem ((c.tc : Thread Cert.SconvBwdRefIdeal.nD Cert.SconvBwdRefIdeal.τ).loc Cert.SconvBwdRefIdeal.main_v67) = v1 c
          ∧ r.2.mem ((c.tc : Thread Cert.SconvBwdRefIdeal.nD Cert.SconvBwdRefIdeal.τ).loc Cert.SconvBwdRefIdeal.main_v68) = v2 c
          ∧ r.2.mem ((c.tc : Thread Cert.SconvBwdRefIdeal.nD Cert.SconvBwdRefIdeal.τ).loc Cert.SconvBwdRefIdeal.main_v61) = v3 c
          ∧ r.2.mem ((c.tc : Thread Cert.SconvBwdRefIdeal.nD Cert.SconvBwdRefIdeal.τ).loc Cert.SconvBwdRefIdeal.main_arg0) = m' ((c.tc : Thread Cert.SconvBwdRefIdeal.nD Cert.SconvBwdRefIdeal.τ).loc Cert.SconvBwdRefIdeal.main_arg0)
          ∧ r.2.mem ((c.tc : Thread Cert.SconvBwdRefIdeal.nD Cert.SconvBwdRefIdeal.τ).loc Cert.SconvBwdRefIdeal.main_arg1) = m' ((c.tc : Thread Cert.SconvBwdRefIdeal.nD Cert.SconvBwdRefIdeal.τ).loc Cert.SconvBwdRefIdeal.main_arg1)
          ∧ r.2.mem ((c.tc : Thread Cert.SconvBwdRefIdeal.nD Cert.SconvBwdRefIdeal.τ).loc Cert.SconvBwdRefIdeal.main_arg2) = m' ((c.tc : Thread Cert.SconvBwdRefIdeal.nD Cert.SconvBwdRefIdeal.τ).loc Cert.SconvBwdRefIdeal.main_arg2))

def preserves_GatesBwd_GatesBwdIdeal : Prop :=
  True

def algebraic_GatesBwdIdeal_GatesBwdRefIdeal_pre_finite_gates [hGatesBwdIdeal : Cert.GatesBwdIdeal.Facts] [hGatesBwdRefIdeal : Cert.GatesBwdRefIdeal.Facts] [hPre_finite_gates : Cert.Pre_finite_gates.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg)
    (m' : (ℓ : Loc Cert.GatesBwdRefIdeal.nD Cert.GatesBwdRefIdeal.τ Cert.GatesBwdRefIdeal.sig) → Buf (Elt Ideal) ℓ) (g' : Dev Cert.GatesBwdRefIdeal.nD → PrngReg), Pre_GatesBwdIdeal_finite_gates m →
    (∀ c : Dev Cert.GatesBwdIdeal.nD,
      m' ((c.tc : Thread Cert.GatesBwdRefIdeal.nD Cert.GatesBwdRefIdeal.τ).loc Cert.GatesBwdRefIdeal.main_arg0) = m ((c.tc : Thread Cert.GatesBwdIdeal.nD Cert.GatesBwdIdeal.τ).loc Cert.GatesBwdIdeal.main_arg0)
      ∧ m' ((c.tc : Thread Cert.GatesBwdRefIdeal.nD Cert.GatesBwdRefIdeal.τ).loc Cert.GatesBwdRefIdeal.main_arg1) = m ((c.tc : Thread Cert.GatesBwdIdeal.nD Cert.GatesBwdIdeal.τ).loc Cert.GatesBwdIdeal.main_arg1)
      ∧ m' ((c.tc : Thread Cert.GatesBwdRefIdeal.nD Cert.GatesBwdRefIdeal.τ).loc Cert.GatesBwdRefIdeal.main_arg2) = m ((c.tc : Thread Cert.GatesBwdIdeal.nD Cert.GatesBwdIdeal.τ).loc Cert.GatesBwdIdeal.main_arg2)
      ∧ m' ((c.tc : Thread Cert.GatesBwdRefIdeal.nD Cert.GatesBwdRefIdeal.τ).loc Cert.GatesBwdRefIdeal.main_arg3) = m ((c.tc : Thread Cert.GatesBwdIdeal.nD Cert.GatesBwdIdeal.τ).loc Cert.GatesBwdIdeal.main_arg3)) →
    ∃ (v0 : (c : Dev Cert.GatesBwdIdeal.nD) → Buf (Elt Ideal) ((c.tc : Thread Cert.GatesBwdIdeal.nD Cert.GatesBwdIdeal.τ).loc Cert.GatesBwdIdeal.main_v0_0)) (v1 : (c : Dev Cert.GatesBwdIdeal.nD) → Buf (Elt Ideal) ((c.tc : Thread Cert.GatesBwdIdeal.nD Cert.GatesBwdIdeal.τ).loc Cert.GatesBwdIdeal.main_v0_1)) (v2 : (c : Dev Cert.GatesBwdIdeal.nD) → Buf (Elt Ideal) ((c.tc : Thread Cert.GatesBwdIdeal.nD Cert.GatesBwdIdeal.τ).loc Cert.GatesBwdIdeal.main_v0_2)),
      θ_run (Cert.GatesBwdIdeal.defs (F := Ideal)) (onTc (τ := Cert.GatesBwdIdeal.τ) (Cert.GatesBwdIdeal.main (F := Ideal))) ⟨m, fun _ => 0, g⟩ (fun r => ∀ c : Dev Cert.GatesBwdIdeal.nD,
          r.2.mem ((c.tc : Thread Cert.GatesBwdIdeal.nD Cert.GatesBwdIdeal.τ).loc Cert.GatesBwdIdeal.main_v0_0) = v0 c
          ∧ r.2.mem ((c.tc : Thread Cert.GatesBwdIdeal.nD Cert.GatesBwdIdeal.τ).loc Cert.GatesBwdIdeal.main_v0_1) = v1 c
          ∧ r.2.mem ((c.tc : Thread Cert.GatesBwdIdeal.nD Cert.GatesBwdIdeal.τ).loc Cert.GatesBwdIdeal.main_v0_2) = v2 c
          ∧ r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
          ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
          ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
          ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3))
      ∧ θ_run (Cert.GatesBwdRefIdeal.defs (F := Ideal)) (onTc (τ := Cert.GatesBwdRefIdeal.τ) (Cert.GatesBwdRefIdeal.main (F := Ideal))) ⟨m', fun _ => 0, g'⟩ (fun r => ∀ c : Dev Cert.GatesBwdRefIdeal.nD,
          r.2.mem ((c.tc : Thread Cert.GatesBwdRefIdeal.nD Cert.GatesBwdRefIdeal.τ).loc Cert.GatesBwdRefIdeal.main_v51) = v0 c
          ∧ r.2.mem ((c.tc : Thread Cert.GatesBwdRefIdeal.nD Cert.GatesBwdRefIdeal.τ).loc Cert.GatesBwdRefIdeal.main_v47) = v1 c
          ∧ r.2.mem ((c.tc : Thread Cert.GatesBwdRefIdeal.nD Cert.GatesBwdRefIdeal.τ).loc Cert.GatesBwdRefIdeal.main_v43) = v2 c
          ∧ r.2.mem ((c.tc : Thread Cert.GatesBwdRefIdeal.nD Cert.GatesBwdRefIdeal.τ).loc Cert.GatesBwdRefIdeal.main_arg0) = m' ((c.tc : Thread Cert.GatesBwdRefIdeal.nD Cert.GatesBwdRefIdeal.τ).loc Cert.GatesBwdRefIdeal.main_arg0)
          ∧ r.2.mem ((c.tc : Thread Cert.GatesBwdRefIdeal.nD Cert.GatesBwdRefIdeal.τ).loc Cert.GatesBwdRefIdeal.main_arg1) = m' ((c.tc : Thread Cert.GatesBwdRefIdeal.nD Cert.GatesBwdRefIdeal.τ).loc Cert.GatesBwdRefIdeal.main_arg1)
          ∧ r.2.mem ((c.tc : Thread Cert.GatesBwdRefIdeal.nD Cert.GatesBwdRefIdeal.τ).loc Cert.GatesBwdRefIdeal.main_arg2) = m' ((c.tc : Thread Cert.GatesBwdRefIdeal.nD Cert.GatesBwdRefIdeal.τ).loc Cert.GatesBwdRefIdeal.main_arg2)
          ∧ r.2.mem ((c.tc : Thread Cert.GatesBwdRefIdeal.nD Cert.GatesBwdRefIdeal.τ).loc Cert.GatesBwdRefIdeal.main_arg3) = m' ((c.tc : Thread Cert.GatesBwdRefIdeal.nD Cert.GatesBwdRefIdeal.τ).loc Cert.GatesBwdRefIdeal.main_arg3))

def preserves_GdnPreBwd_GdnPreBwdIdeal : Prop :=
  True

def algebraic_GdnPreBwdIdeal_GdnPreBwdRefIdeal_pre_finite_heads [hGdnPreBwdIdeal : Cert.GdnPreBwdIdeal.Facts] [hGdnPreBwdRefIdeal : Cert.GdnPreBwdRefIdeal.Facts] [hPre_finite_heads : Cert.Pre_finite_heads.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg)
    (m' : (ℓ : Loc Cert.GdnPreBwdRefIdeal.nD Cert.GdnPreBwdRefIdeal.τ Cert.GdnPreBwdRefIdeal.sig) → Buf (Elt Ideal) ℓ) (g' : Dev Cert.GdnPreBwdRefIdeal.nD → PrngReg), Pre_GdnPreBwdIdeal_finite_heads m →
    (∀ c : Dev Cert.GdnPreBwdIdeal.nD,
      m' ((c.tc : Thread Cert.GdnPreBwdRefIdeal.nD Cert.GdnPreBwdRefIdeal.τ).loc Cert.GdnPreBwdRefIdeal.main_arg0) = m ((c.tc : Thread Cert.GdnPreBwdIdeal.nD Cert.GdnPreBwdIdeal.τ).loc Cert.GdnPreBwdIdeal.main_arg0)
      ∧ m' ((c.tc : Thread Cert.GdnPreBwdRefIdeal.nD Cert.GdnPreBwdRefIdeal.τ).loc Cert.GdnPreBwdRefIdeal.main_arg1) = m ((c.tc : Thread Cert.GdnPreBwdIdeal.nD Cert.GdnPreBwdIdeal.τ).loc Cert.GdnPreBwdIdeal.main_arg1)
      ∧ m' ((c.tc : Thread Cert.GdnPreBwdRefIdeal.nD Cert.GdnPreBwdRefIdeal.τ).loc Cert.GdnPreBwdRefIdeal.main_arg2) = m ((c.tc : Thread Cert.GdnPreBwdIdeal.nD Cert.GdnPreBwdIdeal.τ).loc Cert.GdnPreBwdIdeal.main_arg2)) →
    ∃ (v0 : (c : Dev Cert.GdnPreBwdIdeal.nD) → Buf (Elt Ideal) ((c.tc : Thread Cert.GdnPreBwdIdeal.nD Cert.GdnPreBwdIdeal.τ).loc Cert.GdnPreBwdIdeal.main_v0_0)) (v1 : (c : Dev Cert.GdnPreBwdIdeal.nD) → Buf (Elt Ideal) ((c.tc : Thread Cert.GdnPreBwdIdeal.nD Cert.GdnPreBwdIdeal.τ).loc Cert.GdnPreBwdIdeal.main_v0_1)),
      θ_run (Cert.GdnPreBwdIdeal.defs (F := Ideal)) (onTc (τ := Cert.GdnPreBwdIdeal.τ) (Cert.GdnPreBwdIdeal.main (F := Ideal))) ⟨m, fun _ => 0, g⟩ (fun r => ∀ c : Dev Cert.GdnPreBwdIdeal.nD,
          r.2.mem ((c.tc : Thread Cert.GdnPreBwdIdeal.nD Cert.GdnPreBwdIdeal.τ).loc Cert.GdnPreBwdIdeal.main_v0_0) = v0 c
          ∧ r.2.mem ((c.tc : Thread Cert.GdnPreBwdIdeal.nD Cert.GdnPreBwdIdeal.τ).loc Cert.GdnPreBwdIdeal.main_v0_1) = v1 c
          ∧ r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
          ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
          ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2))
      ∧ θ_run (Cert.GdnPreBwdRefIdeal.defs (F := Ideal)) (onTc (τ := Cert.GdnPreBwdRefIdeal.τ) (Cert.GdnPreBwdRefIdeal.main (F := Ideal))) ⟨m', fun _ => 0, g'⟩ (fun r => ∀ c : Dev Cert.GdnPreBwdRefIdeal.nD,
          r.2.mem ((c.tc : Thread Cert.GdnPreBwdRefIdeal.nD Cert.GdnPreBwdRefIdeal.τ).loc Cert.GdnPreBwdRefIdeal.main_v143) = v0 c
          ∧ r.2.mem ((c.tc : Thread Cert.GdnPreBwdRefIdeal.nD Cert.GdnPreBwdRefIdeal.τ).loc Cert.GdnPreBwdRefIdeal.main_v140) = v1 c
          ∧ r.2.mem ((c.tc : Thread Cert.GdnPreBwdRefIdeal.nD Cert.GdnPreBwdRefIdeal.τ).loc Cert.GdnPreBwdRefIdeal.main_arg0) = m' ((c.tc : Thread Cert.GdnPreBwdRefIdeal.nD Cert.GdnPreBwdRefIdeal.τ).loc Cert.GdnPreBwdRefIdeal.main_arg0)
          ∧ r.2.mem ((c.tc : Thread Cert.GdnPreBwdRefIdeal.nD Cert.GdnPreBwdRefIdeal.τ).loc Cert.GdnPreBwdRefIdeal.main_arg1) = m' ((c.tc : Thread Cert.GdnPreBwdRefIdeal.nD Cert.GdnPreBwdRefIdeal.τ).loc Cert.GdnPreBwdRefIdeal.main_arg1)
          ∧ r.2.mem ((c.tc : Thread Cert.GdnPreBwdRefIdeal.nD Cert.GdnPreBwdRefIdeal.τ).loc Cert.GdnPreBwdRefIdeal.main_arg2) = m' ((c.tc : Thread Cert.GdnPreBwdRefIdeal.nD Cert.GdnPreBwdRefIdeal.τ).loc Cert.GdnPreBwdRefIdeal.main_arg2))

def preserves_SwigluBwd_SwigluBwdIdeal : Prop :=
  True

def algebraic_SwigluBwdIdeal_SwigluBwdRefIdeal_pre_finite_swiglu [hSwigluBwdIdeal : Cert.SwigluBwdIdeal.Facts] [hSwigluBwdRefIdeal : Cert.SwigluBwdRefIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_swiglu m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v14) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_SconvFwd_SconvFwdIdeal : Prop :=
  True

def algebraic_SconvFwdIdeal_SconvFwdRefIdeal [hSconvFwdIdeal : Cert.SconvFwdIdeal.Facts] [hSconvFwdRefIdeal : Cert.SconvFwdRefIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdRefIdeal.nD Cert.SconvFwdRefIdeal.τ Cert.SconvFwdRefIdeal.sig) → Buf (Elt Ideal) ℓ) (g' : Dev Cert.SconvFwdRefIdeal.nD → PrngReg), Pre_SconvFwdIdeal m →
    (∀ c : Dev Cert.SconvFwdIdeal.nD,
      m' ((c.tc : Thread Cert.SconvFwdRefIdeal.nD Cert.SconvFwdRefIdeal.τ).loc Cert.SconvFwdRefIdeal.main_arg0) = m ((c.tc : Thread Cert.SconvFwdIdeal.nD Cert.SconvFwdIdeal.τ).loc Cert.SconvFwdIdeal.main_arg0)
      ∧ m' ((c.tc : Thread Cert.SconvFwdRefIdeal.nD Cert.SconvFwdRefIdeal.τ).loc Cert.SconvFwdRefIdeal.main_arg1) = m ((c.tc : Thread Cert.SconvFwdIdeal.nD Cert.SconvFwdIdeal.τ).loc Cert.SconvFwdIdeal.main_arg1)) →
    ∃ (v0 : (c : Dev Cert.SconvFwdIdeal.nD) → Buf (Elt Ideal) ((c.tc : Thread Cert.SconvFwdIdeal.nD Cert.SconvFwdIdeal.τ).loc Cert.SconvFwdIdeal.main_v0)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v0) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ θ_run (Cert.SconvFwdRefIdeal.defs (F := Ideal)) (onTc (τ := Cert.SconvFwdRefIdeal.τ) (Cert.SconvFwdRefIdeal.main (F := Ideal))) ⟨m', fun _ => 0, g'⟩ (fun r => ∀ c : Dev Cert.SconvFwdRefIdeal.nD,
          r.2.mem ((c.tc : Thread Cert.SconvFwdRefIdeal.nD Cert.SconvFwdRefIdeal.τ).loc Cert.SconvFwdRefIdeal.main_v27) = v0 c
          ∧ r.2.mem ((c.tc : Thread Cert.SconvFwdRefIdeal.nD Cert.SconvFwdRefIdeal.τ).loc Cert.SconvFwdRefIdeal.main_arg0) = m' ((c.tc : Thread Cert.SconvFwdRefIdeal.nD Cert.SconvFwdRefIdeal.τ).loc Cert.SconvFwdRefIdeal.main_arg0)
          ∧ r.2.mem ((c.tc : Thread Cert.SconvFwdRefIdeal.nD Cert.SconvFwdRefIdeal.τ).loc Cert.SconvFwdRefIdeal.main_arg1) = m' ((c.tc : Thread Cert.SconvFwdRefIdeal.nD Cert.SconvFwdRefIdeal.τ).loc Cert.SconvFwdRefIdeal.main_arg1))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)) →
    ∃ (v0 : (c : Dev Cert.GatesFwdIdeal.nD) → Buf (Elt Ideal) ((c.tc : Thread Cert.GatesFwdIdeal.nD Cert.GatesFwdIdeal.τ).loc Cert.GatesFwdIdeal.main_v0)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v0) = v0 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v23) = v0 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2))

def preserves_GdnPreFwd_GdnPreFwdIdeal : Prop :=
  True

def algebraic_GdnPreFwdIdeal_GdnPreFwdRefIdeal [hGdnPreFwdIdeal : Cert.GdnPreFwdIdeal.Facts] [hGdnPreFwdRefIdeal : Cert.GdnPreFwdRefIdeal.Facts] : Prop :=
  ∀ (m : (ℓ : Loc Cert.GdnPreFwdIdeal.nD Cert.GdnPreFwdIdeal.τ Cert.GdnPreFwdIdeal.sig) → Buf (Elt Ideal) ℓ) (g : Dev Cert.GdnPreFwdIdeal.nD → PrngReg)
    (m' : (ℓ : Loc Cert.GdnPreFwdRefIdeal.nD Cert.GdnPreFwdRefIdeal.τ Cert.GdnPreFwdRefIdeal.sig) → Buf (Elt Ideal) ℓ) (g' : Dev Cert.GdnPreFwdRefIdeal.nD → PrngReg), Pre_GdnPreFwdIdeal m →
    (∀ c : Dev Cert.GdnPreFwdIdeal.nD,
      m' ((c.tc : Thread Cert.GdnPreFwdRefIdeal.nD Cert.GdnPreFwdRefIdeal.τ).loc Cert.GdnPreFwdRefIdeal.main_arg0) = m ((c.tc : Thread Cert.GdnPreFwdIdeal.nD Cert.GdnPreFwdIdeal.τ).loc Cert.GdnPreFwdIdeal.main_arg0)
      ∧ m' ((c.tc : Thread Cert.GdnPreFwdRefIdeal.nD Cert.GdnPreFwdRefIdeal.τ).loc Cert.GdnPreFwdRefIdeal.main_arg1) = m ((c.tc : Thread Cert.GdnPreFwdIdeal.nD Cert.GdnPreFwdIdeal.τ).loc Cert.GdnPreFwdIdeal.main_arg1)) →
    ∃ (v0 : (c : Dev Cert.GdnPreFwdIdeal.nD) → Buf (Elt Ideal) ((c.tc : Thread Cert.GdnPreFwdIdeal.nD Cert.GdnPreFwdIdeal.τ).loc Cert.GdnPreFwdIdeal.main_v0)),
      θ_run (Cert.GdnPreFwdIdeal.defs (F := Ideal)) (onTc (τ := Cert.GdnPreFwdIdeal.τ) (Cert.GdnPreFwdIdeal.main (F := Ideal))) ⟨m, fun _ => 0, g⟩ (fun r => ∀ c : Dev Cert.GdnPreFwdIdeal.nD,
          r.2.mem ((c.tc : Thread Cert.GdnPreFwdIdeal.nD Cert.GdnPreFwdIdeal.τ).loc Cert.GdnPreFwdIdeal.main_v0) = v0 c
          ∧ r.2.mem ((c.tc : Thread Cert.GdnPreFwdIdeal.nD Cert.GdnPreFwdIdeal.τ).loc Cert.GdnPreFwdIdeal.main_arg0) = m ((c.tc : Thread Cert.GdnPreFwdIdeal.nD Cert.GdnPreFwdIdeal.τ).loc Cert.GdnPreFwdIdeal.main_arg0)
          ∧ r.2.mem ((c.tc : Thread Cert.GdnPreFwdIdeal.nD Cert.GdnPreFwdIdeal.τ).loc Cert.GdnPreFwdIdeal.main_arg1) = m ((c.tc : Thread Cert.GdnPreFwdIdeal.nD Cert.GdnPreFwdIdeal.τ).loc Cert.GdnPreFwdIdeal.main_arg1))
      ∧ θ_run (Cert.GdnPreFwdRefIdeal.defs (F := Ideal)) (onTc (τ := Cert.GdnPreFwdRefIdeal.τ) (Cert.GdnPreFwdRefIdeal.main (F := Ideal))) ⟨m', fun _ => 0, g'⟩ (fun r => ∀ c : Dev Cert.GdnPreFwdRefIdeal.nD,
          r.2.mem ((c.tc : Thread Cert.GdnPreFwdRefIdeal.nD Cert.GdnPreFwdRefIdeal.τ).loc Cert.GdnPreFwdRefIdeal.main_v56) = v0 c
          ∧ r.2.mem ((c.tc : Thread Cert.GdnPreFwdRefIdeal.nD Cert.GdnPreFwdRefIdeal.τ).loc Cert.GdnPreFwdRefIdeal.main_arg0) = m' ((c.tc : Thread Cert.GdnPreFwdRefIdeal.nD Cert.GdnPreFwdRefIdeal.τ).loc Cert.GdnPreFwdRefIdeal.main_arg0)
          ∧ r.2.mem ((c.tc : Thread Cert.GdnPreFwdRefIdeal.nD Cert.GdnPreFwdRefIdeal.τ).loc Cert.GdnPreFwdRefIdeal.main_arg1) = m' ((c.tc : Thread Cert.GdnPreFwdRefIdeal.nD Cert.GdnPreFwdRefIdeal.τ).loc Cert.GdnPreFwdRefIdeal.main_arg1))

def Claim : Prop :=
  ∃ (hKernel : Cert.Kernel.Facts) (hKernelIdeal : Cert.KernelIdeal.Facts) (hReferenceIdeal : Cert.ReferenceIdeal.Facts) (hDownDa : Cert.DownDa.Facts) (hDownDaIdeal : Cert.DownDaIdeal.Facts) (hDownDaRefIdeal : Cert.DownDaRefIdeal.Facts) (hDownDw : Cert.DownDw.Facts) (hDownDwIdeal : Cert.DownDwIdeal.Facts) (hDownDwRefIdeal : Cert.DownDwRefIdeal.Facts) (hGateUpDa : Cert.GateUpDa.Facts) (hGateUpDaIdeal : Cert.GateUpDaIdeal.Facts) (hGateUpDaRefIdeal : Cert.GateUpDaRefIdeal.Facts) (hGateUpDw : Cert.GateUpDw.Facts) (hGateUpDwIdeal : Cert.GateUpDwIdeal.Facts) (hGateUpDwRefIdeal : Cert.GateUpDwRefIdeal.Facts) (hInDa : Cert.InDa.Facts) (hInDaIdeal : Cert.InDaIdeal.Facts) (hInDaRefIdeal : Cert.InDaRefIdeal.Facts) (hInDw : Cert.InDw.Facts) (hInDwIdeal : Cert.InDwIdeal.Facts) (hInDwRefIdeal : Cert.InDwRefIdeal.Facts) (hSquareDa : Cert.SquareDa.Facts) (hSquareDaIdeal : Cert.SquareDaIdeal.Facts) (hSquareDaRefIdeal : Cert.SquareDaRefIdeal.Facts) (hSquareDw : Cert.SquareDw.Facts) (hSquareDwIdeal : Cert.SquareDwIdeal.Facts) (hSquareDwRefIdeal : Cert.SquareDwRefIdeal.Facts) (hXqDa : Cert.XqDa.Facts) (hXqDaIdeal : Cert.XqDaIdeal.Facts) (hXqDaRefIdeal : Cert.XqDaRefIdeal.Facts) (hXqDw : Cert.XqDw.Facts) (hXqDwIdeal : Cert.XqDwIdeal.Facts) (hXqDwRefIdeal : Cert.XqDwRefIdeal.Facts) (hXkvDa : Cert.XkvDa.Facts) (hXkvDaIdeal : Cert.XkvDaIdeal.Facts) (hXkvDaRefIdeal : Cert.XkvDaRefIdeal.Facts) (hXkvDw : Cert.XkvDw.Facts) (hXkvDwIdeal : Cert.XkvDwIdeal.Facts) (hXkvDwRefIdeal : Cert.XkvDwRefIdeal.Facts) (hInFwd : Cert.InFwd.Facts) (hInFwdIdeal : Cert.InFwdIdeal.Facts) (hInFwdRefIdeal : Cert.InFwdRefIdeal.Facts) (hSquareFwd : Cert.SquareFwd.Facts) (hSquareFwdIdeal : Cert.SquareFwdIdeal.Facts) (hSquareFwdRefIdeal : Cert.SquareFwdRefIdeal.Facts) (hXqFwd : Cert.XqFwd.Facts) (hXqFwdIdeal : Cert.XqFwdIdeal.Facts) (hXqFwdRefIdeal : Cert.XqFwdRefIdeal.Facts) (hXkvFwd : Cert.XkvFwd.Facts) (hXkvFwdIdeal : Cert.XkvFwdIdeal.Facts) (hXkvFwdRefIdeal : Cert.XkvFwdRefIdeal.Facts) (hDownFwd : Cert.DownFwd.Facts) (hDownFwdIdeal : Cert.DownFwdIdeal.Facts) (hDownFwdRefIdeal : Cert.DownFwdRefIdeal.Facts) (hGateUpFwd : Cert.GateUpFwd.Facts) (hGateUpFwdIdeal : Cert.GateUpFwdIdeal.Facts) (hGateUpFwdRefIdeal : Cert.GateUpFwdRefIdeal.Facts) (hAdamVec : Cert.AdamVec.Facts) (hAdamVecIdeal : Cert.AdamVecIdeal.Facts) (hAdamVecRefIdeal : Cert.AdamVecRefIdeal.Facts) (hAdamIn : Cert.AdamIn.Facts) (hAdamInIdeal : Cert.AdamInIdeal.Facts) (hAdamInRefIdeal : Cert.AdamInRefIdeal.Facts) (hAdamSconv : Cert.AdamSconv.Facts) (hAdamSconvIdeal : Cert.AdamSconvIdeal.Facts) (hAdamSconvRefIdeal : Cert.AdamSconvRefIdeal.Facts) (hAdamGconv : Cert.AdamGconv.Facts) (hAdamGconvIdeal : Cert.AdamGconvIdeal.Facts) (hAdamGconvRefIdeal : Cert.AdamGconvRefIdeal.Facts) (hAdamHead : Cert.AdamHead.Facts) (hAdamHeadIdeal : Cert.AdamHeadIdeal.Facts) (hAdamHeadRefIdeal : Cert.AdamHeadRefIdeal.Facts) (hAdamGnorm : Cert.AdamGnorm.Facts) (hAdamGnormIdeal : Cert.AdamGnormIdeal.Facts) (hAdamGnormRefIdeal : Cert.AdamGnormRefIdeal.Facts) (hAdamSquare : Cert.AdamSquare.Facts) (hAdamSquareIdeal : Cert.AdamSquareIdeal.Facts) (hAdamSquareRefIdeal : Cert.AdamSquareRefIdeal.Facts) (hAdamXkv : Cert.AdamXkv.Facts) (hAdamXkvIdeal : Cert.AdamXkvIdeal.Facts) (hAdamXkvRefIdeal : Cert.AdamXkvRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hNormBwd : Cert.NormBwd.Facts) (hNormBwdIdeal : Cert.NormBwdIdeal.Facts) (hNormBwdRefIdeal : Cert.NormBwdRefIdeal.Facts) (hResNormBwd : Cert.ResNormBwd.Facts) (hResNormBwdIdeal : Cert.ResNormBwdIdeal.Facts) (hResNormBwdRefIdeal : Cert.ResNormBwdRefIdeal.Facts) (hMemNormBwd : Cert.MemNormBwd.Facts) (hMemNormBwdIdeal : Cert.MemNormBwdIdeal.Facts) (hMemNormBwdRefIdeal : Cert.MemNormBwdRefIdeal.Facts) (hLossGrad : Cert.LossGrad.Facts) (hLossGradIdeal : Cert.LossGradIdeal.Facts) (hLossGradRefIdeal : Cert.LossGradRefIdeal.Facts) (hNormFwd : Cert.NormFwd.Facts) (hNormFwdIdeal : Cert.NormFwdIdeal.Facts) (hNormFwdRefIdeal : Cert.NormFwdRefIdeal.Facts) (hResNormFwd : Cert.ResNormFwd.Facts) (hResNormFwdIdeal : Cert.ResNormFwdIdeal.Facts) (hResNormFwdRefIdeal : Cert.ResNormFwdRefIdeal.Facts) (hSconvBwd : Cert.SconvBwd.Facts) (hSconvBwdIdeal : Cert.SconvBwdIdeal.Facts) (hSconvBwdRefIdeal : Cert.SconvBwdRefIdeal.Facts) (hGatesBwd : Cert.GatesBwd.Facts) (hGatesBwdIdeal : Cert.GatesBwdIdeal.Facts) (hGatesBwdRefIdeal : Cert.GatesBwdRefIdeal.Facts) (hGdnPreBwd : Cert.GdnPreBwd.Facts) (hGdnPreBwdIdeal : Cert.GdnPreBwdIdeal.Facts) (hGdnPreBwdRefIdeal : Cert.GdnPreBwdRefIdeal.Facts) (hSwigluBwd : Cert.SwigluBwd.Facts) (hSwigluBwdIdeal : Cert.SwigluBwdIdeal.Facts) (hSwigluBwdRefIdeal : Cert.SwigluBwdRefIdeal.Facts) (hSconvFwd : Cert.SconvFwd.Facts) (hSconvFwdIdeal : Cert.SconvFwdIdeal.Facts) (hSconvFwdRefIdeal : Cert.SconvFwdRefIdeal.Facts) (hGatesFwd : Cert.GatesFwd.Facts) (hGatesFwdIdeal : Cert.GatesFwdIdeal.Facts) (hGatesFwdRefIdeal : Cert.GatesFwdRefIdeal.Facts) (hGdnPreFwd : Cert.GdnPreFwd.Facts) (hGdnPreFwdIdeal : Cert.GdnPreFwdIdeal.Facts) (hGdnPreFwdRefIdeal : Cert.GdnPreFwdRefIdeal.Facts) (hPre_finite : Cert.Pre_finite.Facts) (hPre_finite_gates : Cert.Pre_finite_gates.Facts) (hPre_finite_heads : Cert.Pre_finite_heads.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUpDa (hGateUpDa := hGateUpDa)
    ∧ quiescent_GateUpDaIdeal (hGateUpDaIdeal := hGateUpDaIdeal)
    ∧ quiescent_GateUpDaRefIdeal (hGateUpDaRefIdeal := hGateUpDaRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_InDa (hInDa := hInDa)
    ∧ quiescent_InDaIdeal (hInDaIdeal := hInDaIdeal)
    ∧ quiescent_InDaRefIdeal (hInDaRefIdeal := hInDaRefIdeal)
    ∧ quiescent_InDw (hInDw := hInDw)
    ∧ quiescent_InDwIdeal (hInDwIdeal := hInDwIdeal)
    ∧ quiescent_InDwRefIdeal (hInDwRefIdeal := hInDwRefIdeal)
    ∧ quiescent_SquareDa (hSquareDa := hSquareDa)
    ∧ quiescent_SquareDaIdeal (hSquareDaIdeal := hSquareDaIdeal)
    ∧ quiescent_SquareDaRefIdeal (hSquareDaRefIdeal := hSquareDaRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_XqDa (hXqDa := hXqDa)
    ∧ quiescent_XqDaIdeal (hXqDaIdeal := hXqDaIdeal)
    ∧ quiescent_XqDaRefIdeal (hXqDaRefIdeal := hXqDaRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_XkvDa (hXkvDa := hXkvDa)
    ∧ quiescent_XkvDaIdeal (hXkvDaIdeal := hXkvDaIdeal)
    ∧ quiescent_XkvDaRefIdeal (hXkvDaRefIdeal := hXkvDaRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_SquareFwd (hSquareFwd := hSquareFwd)
    ∧ quiescent_SquareFwdIdeal (hSquareFwdIdeal := hSquareFwdIdeal)
    ∧ quiescent_SquareFwdRefIdeal (hSquareFwdRefIdeal := hSquareFwdRefIdeal)
    ∧ quiescent_XqFwd (hXqFwd := hXqFwd)
    ∧ quiescent_XqFwdIdeal (hXqFwdIdeal := hXqFwdIdeal)
    ∧ quiescent_XqFwdRefIdeal (hXqFwdRefIdeal := hXqFwdRefIdeal)
    ∧ quiescent_XkvFwd (hXkvFwd := hXkvFwd)
    ∧ quiescent_XkvFwdIdeal (hXkvFwdIdeal := hXkvFwdIdeal)
    ∧ quiescent_XkvFwdRefIdeal (hXkvFwdRefIdeal := hXkvFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_GateUpFwd (hGateUpFwd := hGateUpFwd)
    ∧ quiescent_GateUpFwdIdeal (hGateUpFwdIdeal := hGateUpFwdIdeal)
    ∧ quiescent_GateUpFwdRefIdeal (hGateUpFwdRefIdeal := hGateUpFwdRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSconv (hAdamSconv := hAdamSconv)
    ∧ quiescent_AdamSconvIdeal (hAdamSconvIdeal := hAdamSconvIdeal)
    ∧ quiescent_AdamSconvRefIdeal (hAdamSconvRefIdeal := hAdamSconvRefIdeal)
    ∧ quiescent_AdamGconv (hAdamGconv := hAdamGconv)
    ∧ quiescent_AdamGconvIdeal (hAdamGconvIdeal := hAdamGconvIdeal)
    ∧ quiescent_AdamGconvRefIdeal (hAdamGconvRefIdeal := hAdamGconvRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamGnorm (hAdamGnorm := hAdamGnorm)
    ∧ quiescent_AdamGnormIdeal (hAdamGnormIdeal := hAdamGnormIdeal)
    ∧ quiescent_AdamGnormRefIdeal (hAdamGnormRefIdeal := hAdamGnormRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_ResNormBwd (hResNormBwd := hResNormBwd)
    ∧ quiescent_ResNormBwdIdeal (hResNormBwdIdeal := hResNormBwdIdeal)
    ∧ quiescent_ResNormBwdRefIdeal (hResNormBwdRefIdeal := hResNormBwdRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResNormFwd (hResNormFwd := hResNormFwd)
    ∧ quiescent_ResNormFwdIdeal (hResNormFwdIdeal := hResNormFwdIdeal)
    ∧ quiescent_ResNormFwdRefIdeal (hResNormFwdRefIdeal := hResNormFwdRefIdeal)
    ∧ quiescent_SconvBwd (hSconvBwd := hSconvBwd)
    ∧ quiescent_SconvBwdIdeal (hSconvBwdIdeal := hSconvBwdIdeal)
    ∧ quiescent_SconvBwdRefIdeal (hSconvBwdRefIdeal := hSconvBwdRefIdeal)
    ∧ quiescent_GatesBwd (hGatesBwd := hGatesBwd)
    ∧ quiescent_GatesBwdIdeal (hGatesBwdIdeal := hGatesBwdIdeal)
    ∧ quiescent_GatesBwdIdeal_pre_finite_gates (hGatesBwdIdeal := hGatesBwdIdeal) (hPre_finite_gates := hPre_finite_gates)
    ∧ quiescent_GatesBwdRefIdeal (hGatesBwdRefIdeal := hGatesBwdRefIdeal)
    ∧ quiescent_GatesBwdRefIdeal_pre_finite_gates (hGatesBwdRefIdeal := hGatesBwdRefIdeal) (hPre_finite_gates := hPre_finite_gates)
    ∧ quiescent_GdnPreBwd (hGdnPreBwd := hGdnPreBwd)
    ∧ quiescent_GdnPreBwdIdeal (hGdnPreBwdIdeal := hGdnPreBwdIdeal)
    ∧ quiescent_GdnPreBwdIdeal_pre_finite_heads (hGdnPreBwdIdeal := hGdnPreBwdIdeal) (hPre_finite_heads := hPre_finite_heads)
    ∧ quiescent_GdnPreBwdRefIdeal (hGdnPreBwdRefIdeal := hGdnPreBwdRefIdeal)
    ∧ quiescent_GdnPreBwdRefIdeal_pre_finite_heads (hGdnPreBwdRefIdeal := hGdnPreBwdRefIdeal) (hPre_finite_heads := hPre_finite_heads)
    ∧ quiescent_SwigluBwd (hSwigluBwd := hSwigluBwd)
    ∧ quiescent_SwigluBwdIdeal (hSwigluBwdIdeal := hSwigluBwdIdeal)
    ∧ quiescent_SwigluBwdIdeal_pre_finite_swiglu (hSwigluBwdIdeal := hSwigluBwdIdeal) (hPre_finite_swiglu := hPre_finite_swiglu)
    ∧ quiescent_SwigluBwdRefIdeal (hSwigluBwdRefIdeal := hSwigluBwdRefIdeal)
    ∧ quiescent_SwigluBwdRefIdeal_pre_finite_swiglu (hSwigluBwdRefIdeal := hSwigluBwdRefIdeal) (hPre_finite_swiglu := hPre_finite_swiglu)
    ∧ quiescent_SconvFwd (hSconvFwd := hSconvFwd)
    ∧ quiescent_SconvFwdIdeal (hSconvFwdIdeal := hSconvFwdIdeal)
    ∧ quiescent_SconvFwdRefIdeal (hSconvFwdRefIdeal := hSconvFwdRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ quiescent_GdnPreFwd (hGdnPreFwd := hGdnPreFwd)
    ∧ quiescent_GdnPreFwdIdeal (hGdnPreFwdIdeal := hGdnPreFwdIdeal)
    ∧ quiescent_GdnPreFwdRefIdeal (hGdnPreFwdRefIdeal := hGdnPreFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDa_DownDaIdeal
    ∧ algebraic_DownDaIdeal_DownDaRefIdeal (hDownDaIdeal := hDownDaIdeal) (hDownDaRefIdeal := hDownDaRefIdeal)
    ∧ preserves_DownDw_DownDwIdeal
    ∧ algebraic_DownDwIdeal_DownDwRefIdeal (hDownDwIdeal := hDownDwIdeal) (hDownDwRefIdeal := hDownDwRefIdeal)
    ∧ preserves_GateUpDa_GateUpDaIdeal
    ∧ algebraic_GateUpDaIdeal_GateUpDaRefIdeal (hGateUpDaIdeal := hGateUpDaIdeal) (hGateUpDaRefIdeal := hGateUpDaRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_InDa_InDaIdeal
    ∧ algebraic_InDaIdeal_InDaRefIdeal (hInDaIdeal := hInDaIdeal) (hInDaRefIdeal := hInDaRefIdeal)
    ∧ preserves_InDw_InDwIdeal
    ∧ algebraic_InDwIdeal_InDwRefIdeal (hInDwIdeal := hInDwIdeal) (hInDwRefIdeal := hInDwRefIdeal)
    ∧ preserves_SquareDa_SquareDaIdeal
    ∧ algebraic_SquareDaIdeal_SquareDaRefIdeal (hSquareDaIdeal := hSquareDaIdeal) (hSquareDaRefIdeal := hSquareDaRefIdeal)
    ∧ preserves_SquareDw_SquareDwIdeal
    ∧ algebraic_SquareDwIdeal_SquareDwRefIdeal (hSquareDwIdeal := hSquareDwIdeal) (hSquareDwRefIdeal := hSquareDwRefIdeal)
    ∧ preserves_XqDa_XqDaIdeal
    ∧ algebraic_XqDaIdeal_XqDaRefIdeal (hXqDaIdeal := hXqDaIdeal) (hXqDaRefIdeal := hXqDaRefIdeal)
    ∧ preserves_XqDw_XqDwIdeal
    ∧ algebraic_XqDwIdeal_XqDwRefIdeal (hXqDwIdeal := hXqDwIdeal) (hXqDwRefIdeal := hXqDwRefIdeal)
    ∧ preserves_XkvDa_XkvDaIdeal
    ∧ algebraic_XkvDaIdeal_XkvDaRefIdeal (hXkvDaIdeal := hXkvDaIdeal) (hXkvDaRefIdeal := hXkvDaRefIdeal)
    ∧ preserves_XkvDw_XkvDwIdeal
    ∧ algebraic_XkvDwIdeal_XkvDwRefIdeal (hXkvDwIdeal := hXkvDwIdeal) (hXkvDwRefIdeal := hXkvDwRefIdeal)
    ∧ preserves_InFwd_InFwdIdeal
    ∧ algebraic_InFwdIdeal_InFwdRefIdeal (hInFwdIdeal := hInFwdIdeal) (hInFwdRefIdeal := hInFwdRefIdeal)
    ∧ preserves_SquareFwd_SquareFwdIdeal
    ∧ algebraic_SquareFwdIdeal_SquareFwdRefIdeal (hSquareFwdIdeal := hSquareFwdIdeal) (hSquareFwdRefIdeal := hSquareFwdRefIdeal)
    ∧ preserves_XqFwd_XqFwdIdeal
    ∧ algebraic_XqFwdIdeal_XqFwdRefIdeal (hXqFwdIdeal := hXqFwdIdeal) (hXqFwdRefIdeal := hXqFwdRefIdeal)
    ∧ preserves_XkvFwd_XkvFwdIdeal
    ∧ algebraic_XkvFwdIdeal_XkvFwdRefIdeal (hXkvFwdIdeal := hXkvFwdIdeal) (hXkvFwdRefIdeal := hXkvFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_GateUpFwd_GateUpFwdIdeal
    ∧ algebraic_GateUpFwdIdeal_GateUpFwdRefIdeal (hGateUpFwdIdeal := hGateUpFwdIdeal) (hGateUpFwdRefIdeal := hGateUpFwdRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamIn_AdamInIdeal
    ∧ algebraic_AdamInIdeal_AdamInRefIdeal (hAdamInIdeal := hAdamInIdeal) (hAdamInRefIdeal := hAdamInRefIdeal)
    ∧ preserves_AdamSconv_AdamSconvIdeal
    ∧ algebraic_AdamSconvIdeal_AdamSconvRefIdeal (hAdamSconvIdeal := hAdamSconvIdeal) (hAdamSconvRefIdeal := hAdamSconvRefIdeal)
    ∧ preserves_AdamGconv_AdamGconvIdeal
    ∧ algebraic_AdamGconvIdeal_AdamGconvRefIdeal (hAdamGconvIdeal := hAdamGconvIdeal) (hAdamGconvRefIdeal := hAdamGconvRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamGnorm_AdamGnormIdeal
    ∧ algebraic_AdamGnormIdeal_AdamGnormRefIdeal (hAdamGnormIdeal := hAdamGnormIdeal) (hAdamGnormRefIdeal := hAdamGnormRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_NormBwd_NormBwdIdeal
    ∧ algebraic_NormBwdIdeal_NormBwdRefIdeal (hNormBwdIdeal := hNormBwdIdeal) (hNormBwdRefIdeal := hNormBwdRefIdeal)
    ∧ preserves_ResNormBwd_ResNormBwdIdeal
    ∧ algebraic_ResNormBwdIdeal_ResNormBwdRefIdeal (hResNormBwdIdeal := hResNormBwdIdeal) (hResNormBwdRefIdeal := hResNormBwdRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_LossGrad_LossGradIdeal
    ∧ algebraic_LossGradIdeal_LossGradRefIdeal (hLossGradIdeal := hLossGradIdeal) (hLossGradRefIdeal := hLossGradRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ResNormFwd_ResNormFwdIdeal
    ∧ algebraic_ResNormFwdIdeal_ResNormFwdRefIdeal (hResNormFwdIdeal := hResNormFwdIdeal) (hResNormFwdRefIdeal := hResNormFwdRefIdeal)
    ∧ preserves_SconvBwd_SconvBwdIdeal
    ∧ algebraic_SconvBwdIdeal_SconvBwdRefIdeal (hSconvBwdIdeal := hSconvBwdIdeal) (hSconvBwdRefIdeal := hSconvBwdRefIdeal)
    ∧ preserves_GatesBwd_GatesBwdIdeal
    ∧ algebraic_GatesBwdIdeal_GatesBwdRefIdeal_pre_finite_gates (hGatesBwdIdeal := hGatesBwdIdeal) (hGatesBwdRefIdeal := hGatesBwdRefIdeal) (hPre_finite_gates := hPre_finite_gates)
    ∧ preserves_GdnPreBwd_GdnPreBwdIdeal
    ∧ algebraic_GdnPreBwdIdeal_GdnPreBwdRefIdeal_pre_finite_heads (hGdnPreBwdIdeal := hGdnPreBwdIdeal) (hGdnPreBwdRefIdeal := hGdnPreBwdRefIdeal) (hPre_finite_heads := hPre_finite_heads)
    ∧ preserves_SwigluBwd_SwigluBwdIdeal
    ∧ algebraic_SwigluBwdIdeal_SwigluBwdRefIdeal_pre_finite_swiglu (hSwigluBwdIdeal := hSwigluBwdIdeal) (hSwigluBwdRefIdeal := hSwigluBwdRefIdeal) (hPre_finite_swiglu := hPre_finite_swiglu)
    ∧ preserves_SconvFwd_SconvFwdIdeal
    ∧ algebraic_SconvFwdIdeal_SconvFwdRefIdeal (hSconvFwdIdeal := hSconvFwdIdeal) (hSconvFwdRefIdeal := hSconvFwdRefIdeal)
    ∧ preserves_GatesFwd_GatesFwdIdeal
    ∧ algebraic_GatesFwdIdeal_GatesFwdRefIdeal (hGatesFwdIdeal := hGatesFwdIdeal) (hGatesFwdRefIdeal := hGatesFwdRefIdeal)
    ∧ preserves_GdnPreFwd_GdnPreFwdIdeal
    ∧ algebraic_GdnPreFwdIdeal_GdnPreFwdRefIdeal (hGdnPreFwdIdeal := hGdnPreFwdIdeal) (hGdnPreFwdRefIdeal := hGdnPreFwdRefIdeal)
-- ==== Pre_finite.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x1024 .bf16) (main_arg1 : FVec F S256x2048 .bf16) (main_arg2 : FVec F S2048x1024 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  main_v10
-- ==== Pre_finite_gates.lean ====
abbrev S2048x3840 : Shape := ⟨2, ![2048, 3840]⟩
abbrev S1x128 : Shape := ⟨2, ![1, 128]⟩
abbrev S2048x128 : Shape := ⟨2, ![2048, 128]⟩
abbrev S_ : Shape := ⟨0, ![]⟩

class Facts : Prop where
  bcast_S_S2048x3840 : S_.BroadcastsInDim S2048x3840 (![] : Fin 0 → Fin S2048x3840.rank)
  reducesTo_S2048x3840_S_d0_1 : S2048x3840.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S2048x3840 .f32) (main_arg1 : FVec F S1x128 .f32) (main_arg2 : FVec F S1x128 .f32) (main_arg3 : FVec F S2048x128 .f32) : IVec S_ 1 :=
  let main_v0 : FVec F S2048x3840 .f32 := Host.absf main_arg0
  let main_cst : FVec F S_ .f32 := constant S_ .f32 0x7F800000#32
  let main_v1 : FVec F S2048x3840 .f32 := broadcastInDim S2048x3840 ![] bcast_S_S2048x3840 main_cst
  let main_v2 : IVec S2048x3840 1 := cmpf .olt main_v0 main_v1
  let main_c : IVec S_ 1 := constantI S_ 1 1#1
  let main_v3 : IVec S_ 1 := (fun x v => Host.reduce IntOp.andi x v reducesTo_S2048x3840_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Pre_finite_heads.lean ====
abbrev S2048x3840 : Shape := ⟨2, ![2048, 3840]⟩
abbrev S4x1536 : Shape := ⟨2, ![4, 1536]⟩
abbrev S2048x1536 : Shape := ⟨2, ![2048, 1536]⟩
abbrev S_ : Shape := ⟨0, ![]⟩

class Facts : Prop where
  bcast_S_S2048x3840 : S_.BroadcastsInDim S2048x3840 (![] : Fin 0 → Fin S2048x3840.rank)
  reducesTo_S2048x3840_S_d0_1 : S2048x3840.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_
  bcast_S_S2048x1536 : S_.BroadcastsInDim S2048x1536 (![] : Fin 0 → Fin S2048x1536.rank)
  reducesTo_S2048x1536_S_d0_1 : S2048x1536.ReducesTo [0, 1] S_

variable [Facts]

def fn {F : FTy → Type} [FloatOps F] (main_arg0 : FVec F S2048x3840 .f32) (main_arg1 : FVec F S4x1536 .f32) (main_arg2 : FVec F S2048x1536 .f32) : IVec S_ 1 :=
  let main_v0 : FVec F S2048x3840 .f32 := Host.absf main_arg0
  let main_cst : FVec F S_ .f32 := constant S_ .f32 0x7F800000#32
  let main_v1 : FVec F S2048x3840 .f32 := broadcastInDim S2048x3840 ![] bcast_S_S2048x3840 main_cst
  let main_v2 : IVec S2048x3840 1 := cmpf .olt main_v0 main_v1
  let main_c : IVec S_ 1 := constantI S_ 1 1#1
  let main_v3 : IVec S_ 1 := (fun x v => Host.reduce IntOp.andi x v reducesTo_S2048x3840_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : IVec S_ 1 := andi main_v3 main_v7
  let main_v9 : FVec F S2048x1536 .f32 := Host.absf main_arg2
  let main_cst_2 : FVec F S_ .f32 := constant S_ .f32 0x7F800000#32
  let main_v10 : FVec F S2048x1536 .f32 := broadcastInDim S2048x1536 ![] bcast_S_S2048x1536 main_cst_2
  let main_v11 : IVec S2048x1536 1 := cmpf .olt main_v9 main_v10
  let main_c_3 : IVec S_ 1 := constantI S_ 1 1#1
  let main_v12 : IVec S_ 1 := (fun x v => Host.reduce IntOp.andi x v reducesTo_S2048x1536_S_d0_1 h_S_) main_v11 main_c_3
  let main_v13 : IVec S_ 1 := andi main_v8 main_v12
  main_v13
-- ==== Pre_finite_swiglu.lean ====
abbrev S2x2048x2816 : Shape := ⟨3, ![2, 2048, 2816]⟩
abbrev S2048x2816 : Shape := ⟨2, ![2048, 2816]⟩
abbrev S_ : Shape := ⟨0, ![]⟩

class Facts : Prop where
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2x2048x2816 .f32) (main_arg1 : FVec F S2048x2816 .f32) : IVec S_ 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_c : IVec S_ 1 := constantI S_ 1 1#1
  let main_v3 : IVec S_ 1 := (fun x v => Host.reduce IntOp.andi x v reducesTo_S2x2048x2816_S_d0_1_2 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  main_v8
-- ==== Kernel.lean ====
abbrev S2048x1024 : Shape := ⟨2, ![2048, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x1024 : Shape := ⟨2, ![2048, 1024]⟩
abbrev S256x2048 : Shape := ⟨2, ![256, 2048]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .f32⟩
  | .hbm, ⟨4, _⟩ => ⟨S256x2048, .f32⟩
  | .hbm, ⟨5, _⟩ => ⟨S2048x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x4x256, .f32⟩
  | .hbm, ⟨56, _⟩ => ⟨S4x256x2048, .f32⟩
  | .hbm, ⟨57, _⟩ => ⟨S4x2048x256, .f32⟩
  | .hbm, ⟨58, _⟩ => ⟨S4x256x256, .f32⟩
  | .hbm, ⟨59, _⟩ => ⟨S256x4x256, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1, .f32⟩
  | .hbm, ⟨67, _⟩ => ⟨S4x2048x256, .f32⟩
  | .hbm, ⟨68, _⟩ => ⟨S4x2048x256, .f32⟩
  | .hbm, ⟨69, _⟩ => ⟨S_, .f32⟩
  | .hbm, ⟨70, _⟩ => ⟨S4x2048, .f32⟩
  | .hbm, ⟨71, _⟩ => ⟨S4x2048x256, .f32⟩
  | .hbm, ⟨72, _⟩ => ⟨S4x2048x256, .f32⟩
  | .hbm, ⟨73, _⟩ => ⟨S4x2048x256, .f32⟩
  | .hbm, ⟨74, _⟩ => ⟨S_, .f32⟩
  | .hbm, ⟨75, _⟩ => ⟨S4x2048x256, .f32⟩
  | .hbm, ⟨76, _⟩ => ⟨S4x2048x256, .f32⟩
  | .hbm, ⟨77, _⟩ => ⟨S4x256x256, .f32⟩
  | .hbm, ⟨78, _⟩ => ⟨S256x4x256, .f32⟩
  | .hbm, ⟨79, _⟩ => ⟨S4x2048x256, .f32⟩
  | .hbm, ⟨80, _⟩ => ⟨S2048x4x256, .f32⟩
  | .hbm, ⟨81, _⟩ => ⟨S256x1024, .f32⟩
  | .hbm, ⟨82, _⟩ => ⟨S256x1024, .f32⟩
  | .hbm, ⟨83, _⟩ => ⟨S256x2048, .f32⟩
  | .hbm, ⟨84, _⟩ => ⟨S2048x1024, .f32⟩
  | .hbm, ⟨85, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== DownDa.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDaRefIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .f32⟩
  | .local _ .vmem, ⟨5, _⟩ => ⟨S1408x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateUpDa.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S2x512x2816 : Shape := ⟨3, ![2, 512, 2816]⟩
abbrev S4x512x1408 : Shape := ⟨3, ![4, 512, 1408]⟩
abbrev S512x512 : Shape := ⟨2, ![512, 512]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x512, .f32⟩
  | .local _ .vmem, ⟨5, _⟩ => ⟨S512x512, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateUpDaRefIdeal.lean ====
abbrev S2x2048x2816 : Shape := ⟨3, ![2, 2048, 2816]⟩
abbrev S4x1024x1408 : Shape := ⟨3, ![4, 1024, 1408]⟩
abbrev S_ : Shape := ⟨0, ![]⟩
abbrev S2048x1024 : Shape := ⟨2, ![2048, 1024]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S_, .f32⟩
  | .hbm, ⟨3, _⟩ => ⟨S2048x1024, .f32⟩
  | .hbm, ⟨4, _⟩ => ⟨S1024x4x1408, .bf16⟩
  | .hbm, ⟨5, _⟩ => ⟨S1024x5632, .bf16⟩
  | .hbm, ⟨6, _⟩ => ⟨S1024x5632, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S1x2048x2816, .f32⟩
  | .hbm, ⟨11, _⟩ => ⟨S1x2048x2816, .f32⟩
  | .hbm, ⟨12, _⟩ => ⟨S2x2048x2816, .f32⟩
  | .hbm, ⟨13, _⟩ => ⟨S2x2048x2816, .f32⟩
  | .hbm, ⟨14, _⟩ => ⟨S1x2048x2816, .f32⟩
  | .hbm, ⟨15, _⟩ => ⟨S2048x2816, .f32⟩
  | .hbm, ⟨16, _⟩ => ⟨S1x2048x2816, .f32⟩
  | .hbm, ⟨17, _⟩ => ⟨S2048x2816, .f32⟩
  | .hbm, ⟨18, _⟩ => ⟨S2048x5632, .f32⟩
  | .hbm, ⟨19, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== GateUpDw.lean ====
abbrev S2048x1024 : Shape := ⟨2, ![2048, 1024]⟩
abbrev S2x2048x2816 : Shape := ⟨3, ![2, 2048, 2816]⟩
abbrev S4x1024x1408 : Shape := ⟨3, ![4, 1024, 1408]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S4x1024x1408, .f32⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .f32⟩
  | .local _ .vmem, ⟨4, _⟩ => ⟨S1x1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateUpDwRefIdeal.lean ====
abbrev S2048x1024 : Shape := ⟨2, ![2048, 1024]⟩
abbrev S2x2048x2816 : Shape := ⟨3, ![2, 2048, 2816]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S_, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2048x1024, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S1x2048x2816, .f32⟩
  | .hbm, ⟨11, _⟩ => ⟨S1x2048x2816, .f32⟩
  | .hbm, ⟨12, _⟩ => ⟨S2x2048x2816, .f32⟩
  | .hbm, ⟨13, _⟩ => ⟨S2x2048x2816, .f32⟩
  | .hbm, ⟨14, _⟩ => ⟨S1x2048x2816, .f32⟩
  | .hbm, ⟨15, _⟩ => ⟨S2048x2816, .f32⟩
  | .hbm, ⟨16, _⟩ => ⟨S1x2048x2816, .f32⟩
  | .hbm, ⟨17, _⟩ => ⟨S2048x2816, .f32⟩
  | .hbm, ⟨18, _⟩ => ⟨S2048x5632, .f32⟩
  | .hbm, ⟨19, _⟩ => ⟨S5632x1024, .f32⟩
  | .hbm, ⟨20, _⟩ => ⟨S1024x5632, .f32⟩
  | .hbm, ⟨21, _⟩ => ⟨S1024x4x1408, .f32⟩
  | .hbm, ⟨22, _⟩ => ⟨S4x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== InDa.lean ====
abbrev S2048x3840 : Shape := ⟨2, ![2048, 3840]⟩
abbrev S1024x3840 : Shape := ⟨2, ![1024, 3840]⟩
abbrev S2048x1024 : Shape := ⟨2, ![2048, 1024]⟩
abbrev S512x3840 : Shape := ⟨2, ![512, 3840]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3840, .bf16⟩
  | .hbm, ⟨1, _⟩ => ⟨S1024x3840, .bf16⟩
  | .hbm, ⟨2, _⟩ => ⟨S2048x1024, .f32⟩
  | .local _ .vmem, ⟨0, _⟩ => ⟨S1024x3840, .bf16⟩
  | .local _ .vmem, ⟨1, _⟩ => ⟨S1024x3840, .bf16⟩
  | .local _ .vmem, ⟨2, _⟩ => ⟨S512x3840, .bf16⟩
  | .local _ .vmem, ⟨3, _⟩ => ⟨S512x3840, .bf16⟩
  | .local _ .vmem, ⟨4, _⟩ => ⟨S1024x512, .f32⟩
  | .local _ .vmem, ⟨5, _⟩ => ⟨S1024x512, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDaRefIdeal.lean ====
abbrev S2048x3840 : Shape := ⟨2, ![2048, 3840]⟩
abbrev S1024x3840 : Shape := ⟨2, ![1024, 3840]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S1024x3840, .bf16⟩
  | .hbm, ⟨2, _⟩ => ⟨S_, .f32⟩
  | .hbm, ⟨3, _⟩ => ⟨S2048x1024, .f32⟩
  | .hbm, ⟨4, _⟩ => ⟨S1024x3840, .f32⟩
  | .hbm, ⟨5, _⟩ => ⟨S2048x3840, .f32⟩
  | .hbm, ⟨6, _⟩ => ⟨S2048x3840, .f32⟩
  | .hbm, ⟨7, _⟩ => ⟨S2048x1024, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2048x1024 : Shape := ⟨2, ![2048, 1024]⟩
abbrev S2048x3840 : Shape := ⟨2, ![2048, 3840]⟩
abbrev S1024x3840 : Shape := ⟨2, ![1024, 3840]⟩
abbrev S2048x768 : Shape := ⟨2, ![2048, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S1024x3840, .f32⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S2048x1024 : Shape := ⟨2, ![2048, 1024]⟩
abbrev S2048x3840 : Shape := ⟨2, ![2048, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S_, .f32⟩
  | .hbm, ⟨3, _⟩ => ⟨S1024x3840, .f32⟩
  | .hbm, ⟨4, _⟩ => ⟨S2048x1024, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareDa.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SquareDaRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SquareDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SquareDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDa.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XqDaRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== XqDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XkvDa.lean ====
abbrev S256x2048 : Shape := ⟨2, ![256, 2048]⟩
abbrev S4x1024x512 : Shape := ⟨3, ![4, 1024, 512]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .local _ .vmem, ⟨0, _⟩ => ⟨S256x2048, .f32⟩
  | .local _ .vmem, ⟨1, _⟩ => ⟨S4x1024x512, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== XkvDaRefIdeal.lean ====
abbrev S256x2048 : Shape := ⟨2, ![256, 2048]⟩
abbrev S4x1024x512 : Shape := ⟨3, ![4, 1024, 512]⟩
abbrev S_ : Shape := ⟨0, ![]⟩
abbrev S256x1024 : Shape := ⟨2, ![256, 1024]⟩
abbrev S1024x4x512 : Shape := ⟨3, ![1024, 4, 512]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S_, .f32⟩
  | .hbm, ⟨3, _⟩ => ⟨S256x1024, .f32⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S256x2048, .f32⟩
  | .hbm, ⟨8, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XkvDw.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x512, .f32⟩
  | .local _ .vmem, ⟨0, _⟩ => ⟨S256x1024, .bf16⟩
  | .local _ .vmem, ⟨1, _⟩ => ⟨S256x512, .f32⟩
  | .local _ .vmem, ⟨2, _⟩ => ⟨S256x512, .f32⟩
  | .local _ .vmem, ⟨3, _⟩ => ⟨S1x1024x512, .f32⟩
  | .local _ .vmem, ⟨4, _⟩ => ⟨S1x1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XkvDwRefIdeal.lean ====
abbrev S256x1024 : Shape := ⟨2, ![256, 1024]⟩
abbrev S256x2048 : Shape := ⟨2, ![256, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S256x1024, .f32⟩
  | .hbm, ⟨7, _⟩ => ⟨S256x2048, .f32⟩
  | .hbm, ⟨8, _⟩ => ⟨S2048x1024, .f32⟩
  | .hbm, ⟨9, _⟩ => ⟨S1024x2048, .f32⟩
  | .hbm, ⟨10, _⟩ => ⟨S1024x4x512, .f32⟩
  | .hbm, ⟨11, _⟩ => ⟨S4x1024x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwd.lean ====
abbrev S2048x1024 : Shape := ⟨2, ![2048, 1024]⟩
abbrev S1024x3840 : Shape := ⟨2, ![1024, 3840]⟩
abbrev S2048x3840 : Shape := ⟨2, ![2048, 3840]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdRefIdeal.lean ====
abbrev S2048x1024 : Shape := ⟨2, ![2048, 1024]⟩
abbrev S1024x3840 : Shape := ⟨2, ![1024, 3840]⟩
abbrev S2048x3840 : Shape := ⟨2, ![2048, 3840]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x1024, .f32⟩
  | .hbm, ⟨3, _⟩ => ⟨S1024x3840, .f32⟩
  | .hbm, ⟨4, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SquareFwd.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SquareFwdRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XqFwd.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XqFwdRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XkvFwd.lean ====
abbrev S256x1024 : Shape := ⟨2, ![256, 1024]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x2048, .bf16⟩
  | .local _ .vmem, ⟨0, _⟩ => ⟨S256x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XkvFwdRefIdeal.lean ====
abbrev S256x1024 : Shape := ⟨2, ![256, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownFwd.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownFwdRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateUpFwd.lean ====
abbrev S2048x1024 : Shape := ⟨2, ![2048, 1024]⟩
abbrev S4x1024x1408 : Shape := ⟨3, ![4, 1024, 1408]⟩
abbrev S2x2048x2816 : Shape := ⟨3, ![2, 2048, 2816]⟩
abbrev S2048x2816 : Shape := ⟨2, ![2048, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2x2048x2816, .f32⟩
  | .hbm, ⟨3, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .f32⟩
  | .local _ .vmem, ⟨7, _⟩ => ⟨S2x1024x1408, .f32⟩
  | .local _ .vmem, ⟨8, _⟩ => ⟨S1024x1408, .bf16⟩
  | .local _ .vmem, ⟨9, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpFwdRefIdeal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S2048x1024, .f32⟩
  | .hbm, ⟨5, _⟩ => ⟨S1024x5632, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S1x2048x2816, .f32⟩
  | .hbm, ⟨10, _⟩ => ⟨S1x2048x2816, .f32⟩
  | .hbm, ⟨11, _⟩ => ⟨S2x2048x2816, .f32⟩
  | .hbm, ⟨12, _⟩ => ⟨S1x2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S1x2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== AdamVec.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4x1024x898 : Shape := ⟨3, ![4, 1024, 898]⟩
abbrev S4096x898 : Shape := ⟨2, ![4096, 898]⟩
abbrev S512x898 : Shape := ⟨2, ![512, 898]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x898, .f32⟩
  | .hbm, ⟨1, _⟩ => ⟨S4x1024x898, .f32⟩
  | .hbm, ⟨2, _⟩ => ⟨S4x1024x898, .f32⟩
  | .hbm, ⟨3, _⟩ => ⟨S4x1024x898, .f32⟩
  | .hbm, ⟨4, _⟩ => ⟨S4096x898, .f32⟩
  | .hbm, ⟨5, _⟩ => ⟨S4096x898, .f32⟩
  | .hbm, ⟨6, _⟩ => ⟨S4096x898, .f32⟩
  | .hbm, ⟨7, _⟩ => ⟨S4096x898, .f32⟩
  | .hbm, ⟨8, _⟩ => ⟨S4096x898, .f32⟩
  | .hbm, ⟨9, _⟩ => ⟨S4096x898, .f32⟩
  | .hbm, ⟨10, _⟩ => ⟨S4096x898, .f32⟩
  | .local _ .vmem, ⟨0, _⟩ => ⟨S512x898, .f32⟩
  | .local _ .vmem, ⟨1, _⟩ => ⟨S512x898, .f32⟩
  | .local _ .vmem, ⟨2, _⟩ => ⟨S512x898, .f32⟩
  | .local _ .vmem, ⟨3, _⟩ => ⟨S512x898, .f32⟩
  | .local _ .vmem, ⟨4, _⟩ => ⟨S512x898, .f32⟩
  | .local _ .vmem, ⟨5, _⟩ => ⟨S512x898, .f32⟩
  | .local _ .vmem, ⟨6, _⟩ => ⟨S512x898, .f32⟩
  | .local _ .vmem, ⟨7, _⟩ => ⟨S512x898, .f32⟩
  | .local _ .vmem, ⟨8, _⟩ => ⟨S512x898, .f32⟩
  | .local _ .vmem, ⟨9, _⟩ => ⟨S512x898, .f32⟩
  | .local _ .vmem, ⟨10, _⟩ => ⟨S512x898, .f32⟩
  | .local _ .vmem, ⟨11, _⟩ => ⟨S512x898, .f32⟩
  | .local _ .vmem, ⟨12, _⟩ => ⟨S512x898, .f32⟩
  | .local _ .vmem, ⟨13, _⟩ => ⟨S512x898, .f32⟩
  | _, _ => ⟨S4x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x898 : Shape := ⟨3, ![4, 1024, 898]⟩
abbrev S4096x898 : Shape := ⟨2, ![4096, 898]⟩
abbrev S512x898 : Shape := ⟨2, ![512, 898]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x898, .f32⟩
  | .hbm, ⟨1, _⟩ => ⟨S4x1024x898, .f32⟩
  | .hbm, ⟨2, _⟩ => ⟨S4x1024x898, .f32⟩
  | .hbm, ⟨3, _⟩ => ⟨S4x1024x898, .f32⟩
  | .hbm, ⟨4, _⟩ => ⟨S4096x898, .f32⟩
  | .hbm, ⟨5, _⟩ => ⟨S4096x898, .f32⟩
  | .hbm, ⟨6, _⟩ => ⟨S4096x898, .f32⟩
  | .hbm, ⟨7, _⟩ => ⟨S4096x898, .f32⟩
  | .hbm, ⟨8, _⟩ => ⟨S4096x898, .f32⟩
  | .hbm, ⟨9, _⟩ => ⟨S4096x898, .f32⟩
  | .hbm, ⟨10, _⟩ => ⟨S4096x898, .f32⟩
  | .local _ .vmem, ⟨0, _⟩ => ⟨S512x898, .f32⟩
  | .local _ .vmem, ⟨1, _⟩ => ⟨S512x898, .f32⟩
  | .local _ .vmem, ⟨2, _⟩ => ⟨S512x898, .f32⟩
  | .local _ .vmem, ⟨3, _⟩ => ⟨S512x898, .f32⟩
  | .local _ .vmem, ⟨4, _⟩ => ⟨S512x898, .f32⟩
  | .local _ .vmem, ⟨5, _⟩ => ⟨S512x898, .f32⟩
  | .local _ .vmem, ⟨6, _⟩ => ⟨S512x898, .f32⟩
  | .local _ .vmem, ⟨7, _⟩ => ⟨S512x898, .f32⟩
  | .local _ .vmem, ⟨8, _⟩ => ⟨S512x898, .f32⟩
  | .local _ .vmem, ⟨9, _⟩ => ⟨S512x898, .f32⟩
  | .local _ .vmem, ⟨10, _⟩ => ⟨S512x898, .f32⟩
  | .local _ .vmem, ⟨11, _⟩ => ⟨S512x898, .f32⟩
  | .local _ .vmem, ⟨12, _⟩ => ⟨S512x898, .f32⟩
  | .local _ .vmem, ⟨13, _⟩ => ⟨S512x898, .f32⟩
  | _, _ => ⟨S4x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x898 : Shape := ⟨3, ![4, 1024, 898]⟩
abbrev S_ : Shape := ⟨0, ![]⟩
abbrev S4096x898 : Shape := ⟨2, ![4096, 898]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x898, .f32⟩
  | .hbm, ⟨1, _⟩ => ⟨S4x1024x898, .f32⟩
  | .hbm, ⟨2, _⟩ => ⟨S4x1024x898, .f32⟩
  | .hbm, ⟨3, _⟩ => ⟨S4x1024x898, .f32⟩
  | .hbm, ⟨4, _⟩ => ⟨S_, .f32⟩
  | .hbm, ⟨5, _⟩ => ⟨S4x1024x898, .f32⟩
  | .hbm, ⟨6, _⟩ => ⟨S4x1024x898, .f32⟩
  | .hbm, ⟨7, _⟩ => ⟨S_, .f32⟩
  | .hbm, ⟨8, _⟩ => ⟨S4x1024x898, .f32⟩
  | .hbm, ⟨9, _⟩ => ⟨S4x1024x898, .f32⟩
  | .hbm, ⟨10, _⟩ => ⟨S4x1024x898, .f32⟩
  | .hbm, ⟨11, _⟩ => ⟨S_, .f32⟩
  | .hbm, ⟨12, _⟩ => ⟨S4x1024x898, .f32⟩
  | .hbm, ⟨13, _⟩ => ⟨S4x1024x898, .f32⟩
  | .hbm, ⟨14, _⟩ => ⟨S4x1024x898, .f32⟩
  | .hbm, ⟨15, _⟩ => ⟨S_, .f32⟩
  | .hbm, ⟨16, _⟩ => ⟨S4x1024x898, .f32⟩
  | .hbm, ⟨17, _⟩ => ⟨S4x1024x898, .f32⟩
  | .hbm, ⟨18, _⟩ => ⟨S4x1024x898, .f32⟩
  | .hbm, ⟨19, _⟩ => ⟨S_, .f32⟩
  | .hbm, ⟨20, _⟩ => ⟨S4x1024x898, .f32⟩
  | .hbm, ⟨21, _⟩ => ⟨S4x1024x898, .f32⟩
  | .hbm, ⟨22, _⟩ => ⟨S_, .f32⟩
  | .hbm, ⟨23, _⟩ => ⟨S4x1024x898, .f32⟩
  | .hbm, ⟨24, _⟩ => ⟨S4x1024x898, .f32⟩
  | .hbm, ⟨25, _⟩ => ⟨S4x1024x898, .f32⟩
  | .hbm, ⟨26, _⟩ => ⟨S_, .f32⟩
  | .hbm, ⟨27, _⟩ => ⟨S4x1024x898, .f32⟩
  | .hbm, ⟨28, _⟩ => ⟨S4x1024x898, .f32⟩
  | .hbm, ⟨29, _⟩ => ⟨S4x1024x898, .f32⟩
  | .hbm, ⟨30, _⟩ => ⟨S_, .f32⟩
  | .hbm, ⟨31, _⟩ => ⟨S4x1024x898, .f32⟩
  | .hbm, ⟨32, _⟩ => ⟨S4x1024x898, .f32⟩
  | .hbm, ⟨33, _⟩ => ⟨S4x1024x898, .f32⟩
  | .hbm, ⟨34, _⟩ => ⟨S_, .f32⟩
  | .hbm, ⟨35, _⟩ => ⟨S4x1024x898, .f32⟩
  | .hbm, ⟨36, _⟩ => ⟨S4x1024x898, .f32⟩
  | .hbm, ⟨37, _⟩ => ⟨S4096x898, .f32⟩
  | .hbm, ⟨38, _⟩ => ⟨S4096x898, .f32⟩
  | .hbm, ⟨39, _⟩ => ⟨S4096x898, .f32⟩
  | _, _ => ⟨S4x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSconv.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSconvIdeal.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSconvRefIdeal.lean ====
abbrev S4x3x64 : Shape := ⟨3, ![4, 3, 64]⟩
abbrev S_ : Shape := ⟨0, ![]⟩
abbrev S12x64 : Shape := ⟨2, ![12, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S_, .f32⟩
  | .hbm, ⟨5, _⟩ => ⟨S4x3x64, .f32⟩
  | .hbm, ⟨6, _⟩ => ⟨S4x3x64, .f32⟩
  | .hbm, ⟨7, _⟩ => ⟨S_, .f32⟩
  | .hbm, ⟨8, _⟩ => ⟨S4x3x64, .f32⟩
  | .hbm, ⟨9, _⟩ => ⟨S4x3x64, .f32⟩
  | .hbm, ⟨10, _⟩ => ⟨S4x3x64, .f32⟩
  | .hbm, ⟨11, _⟩ => ⟨S_, .f32⟩
  | .hbm, ⟨12, _⟩ => ⟨S4x3x64, .f32⟩
  | .hbm, ⟨13, _⟩ => ⟨S4x3x64, .f32⟩
  | .hbm, ⟨14, _⟩ => ⟨S4x3x64, .f32⟩
  | .hbm, ⟨15, _⟩ => ⟨S_, .f32⟩
  | .hbm, ⟨16, _⟩ => ⟨S4x3x64, .f32⟩
  | .hbm, ⟨17, _⟩ => ⟨S4x3x64, .f32⟩
  | .hbm, ⟨18, _⟩ => ⟨S4x3x64, .f32⟩
  | .hbm, ⟨19, _⟩ => ⟨S_, .f32⟩
  | .hbm, ⟨20, _⟩ => ⟨S4x3x64, .f32⟩
  | .hbm, ⟨21, _⟩ => ⟨S4x3x64, .f32⟩
  | .hbm, ⟨22, _⟩ => ⟨S_, .f32⟩
  | .hbm, ⟨23, _⟩ => ⟨S4x3x64, .f32⟩
  | .hbm, ⟨24, _⟩ => ⟨S4x3x64, .f32⟩
  | .hbm, ⟨25, _⟩ => ⟨S4x3x64, .f32⟩
  | .hbm, ⟨26, _⟩ => ⟨S_, .f32⟩
  | .hbm, ⟨27, _⟩ => ⟨S4x3x64, .f32⟩
  | .hbm, ⟨28, _⟩ => ⟨S4x3x64, .f32⟩
  | .hbm, ⟨29, _⟩ => ⟨S4x3x64, .f32⟩
  | .hbm, ⟨30, _⟩ => ⟨S_, .f32⟩
  | .hbm, ⟨31, _⟩ => ⟨S4x3x64, .f32⟩
  | .hbm, ⟨32, _⟩ => ⟨S4x3x64, .f32⟩
  | .hbm, ⟨33, _⟩ => ⟨S4x3x64, .f32⟩
  | .hbm, ⟨34, _⟩ => ⟨S_, .f32⟩
  | .hbm, ⟨35, _⟩ => ⟨S4x3x64, .f32⟩
  | .hbm, ⟨36, _⟩ => ⟨S4x3x64, .f32⟩
  | .hbm, ⟨37, _⟩ => ⟨S12x64, .f32⟩
  | .hbm, ⟨38, _⟩ => ⟨S12x64, .f32⟩
  | .hbm, ⟨39, _⟩ => ⟨S12x64, .f32⟩
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGconv.lean ====
abbrev S4x4x384 : Shape := ⟨3, ![4, 4, 384]⟩
abbrev S16x384 : Shape := ⟨2, ![16, 384]⟩

abbrev nBuf : Space → Nat
  | .hbm => 11
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGconvIdeal.lean ====
abbrev S4x4x384 : Shape := ⟨3, ![4, 4, 384]⟩
abbrev S16x384 : Shape := ⟨2, ![16, 384]⟩

abbrev nBuf : Space → Nat
  | .hbm => 11
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGconvRefIdeal.lean ====
abbrev S4x4x384 : Shape := ⟨3, ![4, 4, 384]⟩
abbrev S_ : Shape := ⟨0, ![]⟩
abbrev S16x384 : Shape := ⟨2, ![16, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S_, .f32⟩
  | .hbm, ⟨5, _⟩ => ⟨S4x4x384, .f32⟩
  | .hbm, ⟨6, _⟩ => ⟨S4x4x384, .f32⟩
  | .hbm, ⟨7, _⟩ => ⟨S_, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S_, .f32⟩
  | .hbm, ⟨12, _⟩ => ⟨S4x4x384, .f32⟩
  | .hbm, ⟨13, _⟩ => ⟨S4x4x384, .f32⟩
  | .hbm, ⟨14, _⟩ => ⟨S4x4x384, .f32⟩
  | .hbm, ⟨15, _⟩ => ⟨S_, .f32⟩
  | .hbm, ⟨16, _⟩ => ⟨S4x4x384, .f32⟩
  | .hbm, ⟨17, _⟩ => ⟨S4x4x384, .f32⟩
  | .hbm, ⟨18, _⟩ => ⟨S4x4x384, .f32⟩
  | .hbm, ⟨19, _⟩ => ⟨S_, .f32⟩
  | .hbm, ⟨20, _⟩ => ⟨S4x4x384, .f32⟩
  | .hbm, ⟨21, _⟩ => ⟨S4x4x384, .f32⟩
  | .hbm, ⟨22, _⟩ => ⟨S_, .f32⟩
  | .hbm, ⟨23, _⟩ => ⟨S4x4x384, .f32⟩
  | .hbm, ⟨24, _⟩ => ⟨S4x4x384, .f32⟩
  | .hbm, ⟨25, _⟩ => ⟨S4x4x384, .f32⟩
  | .hbm, ⟨26, _⟩ => ⟨S_, .f32⟩
  | .hbm, ⟨27, _⟩ => ⟨S4x4x384, .f32⟩
  | .hbm, ⟨28, _⟩ => ⟨S4x4x384, .f32⟩
  | .hbm, ⟨29, _⟩ => ⟨S4x4x384, .f32⟩
  | .hbm, ⟨30, _⟩ => ⟨S_, .f32⟩
  | .hbm, ⟨31, _⟩ => ⟨S4x4x384, .f32⟩
  | .hbm, ⟨32, _⟩ => ⟨S4x4x384, .f32⟩
  | .hbm, ⟨33, _⟩ => ⟨S4x4x384, .f32⟩
  | .hbm, ⟨34, _⟩ => ⟨S_, .f32⟩
  | .hbm, ⟨35, _⟩ => ⟨S4x4x384, .f32⟩
  | .hbm, ⟨36, _⟩ => ⟨S4x4x384, .f32⟩
  | .hbm, ⟨37, _⟩ => ⟨S16x384, .f32⟩
  | .hbm, ⟨38, _⟩ => ⟨S16x384, .f32⟩
  | .hbm, ⟨39, _⟩ => ⟨S16x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamHead.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S4x4 : Shape := ⟨2, ![4, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S_, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x4, .f32⟩
  | .hbm, ⟨11, _⟩ => ⟨S_, .f32⟩
  | .hbm, ⟨12, _⟩ => ⟨S4x4, .f32⟩
  | .hbm, ⟨13, _⟩ => ⟨S4x4, .f32⟩
  | .hbm, ⟨14, _⟩ => ⟨S4x4, .f32⟩
  | .hbm, ⟨15, _⟩ => ⟨S_, .f32⟩
  | .hbm, ⟨16, _⟩ => ⟨S4x4, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .f32⟩
  | .hbm, ⟨22, _⟩ => ⟨S_, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S_, .f32⟩
  | .hbm, ⟨35, _⟩ => ⟨S4x4, .f32⟩
  | .hbm, ⟨36, _⟩ => ⟨S4x4, .f32⟩
  | _, _ => ⟨S4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGnorm.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGnormIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGnormRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareIdeal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamXkv.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXkvIdeal.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXkvRefIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGateUp.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateUpIdeal.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateUpRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdIdeal.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ResNormBwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ResNormBwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MemNormBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormBwdRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== LossGrad.lean ====
abbrev S2048x1024 : Shape := ⟨2, ![2048, 1024]⟩
abbrev S1x128 : Shape := ⟨2, ![1, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossGradRefIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== NormFwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResNormFwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResNormFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SconvBwd.lean ====
abbrev S2048x3840 : Shape := ⟨2, ![2048, 3840]⟩
abbrev S3x256 : Shape := ⟨2, ![3, 256]⟩
abbrev S2048x1024 : Shape := ⟨2, ![2048, 1024]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x3840, .f32⟩
  | .hbm, ⟨1, _⟩ => ⟨S3x256, .f32⟩
  | .hbm, ⟨2, _⟩ => ⟨S2048x1024, .f32⟩
  | .hbm, ⟨3, _⟩ => ⟨S2048x256, .bf16⟩
  | .hbm, ⟨4, _⟩ => ⟨S2048x256, .bf16⟩
  | .hbm, ⟨5, _⟩ => ⟨S2048x256, .bf16⟩
  | .hbm, ⟨6, _⟩ => ⟨S3x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvBwdRefIdeal.lean ====
abbrev S2048x3840 : Shape := ⟨2, ![2048, 3840]⟩
abbrev S3x256 : Shape := ⟨2, ![3, 256]⟩
abbrev S2048x1024 : Shape := ⟨2, ![2048, 1024]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 86
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S3x256, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2x256, .f32⟩
  | .hbm, ⟨9, _⟩ => ⟨S2050x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S1x256, .f32⟩
  | .hbm, ⟨19, _⟩ => ⟨S256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S1x256, .f32⟩
  | .hbm, ⟨26, _⟩ => ⟨S256, .f32⟩
  | .hbm, ⟨27, _⟩ => ⟨S2048x256, .f32⟩
  | .hbm, ⟨28, _⟩ => ⟨S1x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S2050x256, .f32⟩
  | .hbm, ⟨46, _⟩ => ⟨S1x256, .f32⟩
  | .hbm, ⟨47, _⟩ => ⟨S_, .f32⟩
  | .hbm, ⟨48, _⟩ => ⟨S3x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S2050x256, .f32⟩
  | .hbm, ⟨59, _⟩ => ⟨S2050x256, .f32⟩
  | .hbm, ⟨60, _⟩ => ⟨S1x256, .f32⟩
  | .hbm, ⟨61, _⟩ => ⟨S_, .f32⟩
  | .hbm, ⟨62, _⟩ => ⟨S3x256, .f32⟩
  | .hbm, ⟨63, _⟩ => ⟨S3x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S_, .f32⟩
  | .hbm, ⟨68, _⟩ => ⟨S256, .f32⟩
  | .hbm, ⟨69, _⟩ => ⟨S1x256, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S2050x256, .f32⟩
  | .hbm, ⟨74, _⟩ => ⟨S2050x256, .f32⟩
  | .hbm, ⟨75, _⟩ => ⟨S1x256, .f32⟩
  | .hbm, ⟨76, _⟩ => ⟨S_, .f32⟩
  | .hbm, ⟨77, _⟩ => ⟨S3x256, .f32⟩
  | .hbm, ⟨78, _⟩ => ⟨S3x256, .f32⟩
  | .hbm, ⟨79, _⟩ => ⟨S2x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S2048x256, .bf16⟩
  | .hbm, ⟨84, _⟩ => ⟨S2048x256, .bf16⟩
  | .hbm, ⟨85, _⟩ => ⟨S2048x256, .bf16⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== GatesBwd.lean ====
abbrev S2048x3840 : Shape := ⟨2, ![2048, 3840]⟩
abbrev S1x128 : Shape := ⟨2, ![1, 128]⟩
abbrev S2048x128 : Shape := ⟨2, ![2048, 128]⟩
abbrev S128 : Shape := ⟨1, ![128]⟩

abbrev nBuf : Space → Nat
  | .hbm => 7
  | .vmem => 7
  | .smem => 0
  | _ => 0

abbrev bufTy : (tb : Table) → Fin (tcTables nBuf tb) → BufTy
  | .hbm, ⟨0, _⟩ => ⟨S2048x3840, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .bf16⟩
  | .hbm, ⟨5, _⟩ => ⟨S1x128, .f32⟩
  | .hbm, ⟨6, _⟩ => ⟨S1x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .bf16⟩
  | .local _ .vmem, ⟨5, _⟩ => ⟨S1x128, .f32⟩
  | .local _ .vmem, ⟨6, _⟩ => ⟨S1x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatesBwdRefIdeal.lean ====
abbrev S2048x3840 : Shape := ⟨2, ![2048, 3840]⟩
abbrev S1x128 : Shape := ⟨2, ![1, 128]⟩
abbrev S2048x128 : Shape := ⟨2, ![2048, 128]⟩
abbrev S2048x4 : Shape := ⟨2, ![2048, 4]⟩
abbrev S1x4 : Shape := ⟨2, ![1, 4]⟩
abbrev S4 : Shape := ⟨1, ![4]⟩
abbrev S_ : Shape := ⟨0, ![]⟩
abbrev S2048x120 : Shape := ⟨2, ![2048, 120]⟩

abbrev nBuf : Space → Nat
  | .hbm => 114
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x4, .f32⟩
  | .hbm, ⟨6, _⟩ => ⟨S2048x4, .f32⟩
  | .hbm, ⟨7, _⟩ => ⟨S1x4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S1x4, .f32⟩
  | .hbm, ⟨12, _⟩ => ⟨S4, .f32⟩
  | .hbm, ⟨13, _⟩ => ⟨S1x4, .f32⟩
  | .hbm, ⟨14, _⟩ => ⟨S2048x4, .f32⟩
  | .hbm, ⟨15, _⟩ => ⟨S2048x4, .f32⟩
  | .hbm, ⟨16, _⟩ => ⟨S_, .f32⟩
  | .hbm, ⟨17, _⟩ => ⟨S2048x4, .f32⟩
  | .hbm, ⟨18, _⟩ => ⟨S2048x4, .f32⟩
  | .hbm, ⟨19, _⟩ => ⟨S2048x4, .f32⟩
  | .hbm, ⟨20, _⟩ => ⟨S2048x4, .f32⟩
  | .hbm, ⟨21, _⟩ => ⟨S2048x4, .i1⟩
  | .hbm, ⟨22, _⟩ => ⟨S2048x4, .f32⟩
  | .hbm, ⟨23, _⟩ => ⟨S2048x4, .f32⟩
  | .hbm, ⟨24, _⟩ => ⟨S2048x4, .f32⟩
  | .hbm, ⟨25, _⟩ => ⟨S2048x4, .f32⟩
  | .hbm, ⟨26, _⟩ => ⟨S2048x4, .f32⟩
  | .hbm, ⟨27, _⟩ => ⟨S2048x4, .f32⟩
  | .hbm, ⟨28, _⟩ => ⟨S2048x4, .f32⟩
  | .hbm, ⟨29, _⟩ => ⟨S2048x4, .f32⟩
  | .hbm, ⟨30, _⟩ => ⟨S_, .f32⟩
  | .hbm, ⟨31, _⟩ => ⟨S2048x4, .f32⟩
  | .hbm, ⟨32, _⟩ => ⟨S2048x4, .i1⟩
  | .hbm, ⟨33, _⟩ => ⟨S_, .f32⟩
  | .hbm, ⟨34, _⟩ => ⟨S2048x4, .f32⟩
  | .hbm, ⟨35, _⟩ => ⟨S2048x4, .f32⟩
  | .hbm, ⟨36, _⟩ => ⟨S_, .f32⟩
  | .hbm, ⟨37, _⟩ => ⟨S2048x4, .f32⟩
  | .hbm, ⟨38, _⟩ => ⟨S2048x4, .i1⟩
  | .hbm, ⟨39, _⟩ => ⟨S_, .f32⟩
  | .hbm, ⟨40, _⟩ => ⟨S2048x4, .f32⟩
  | .hbm, ⟨41, _⟩ => ⟨S2048x4, .f32⟩
  | .hbm, ⟨42, _⟩ => ⟨S2048x4, .f32⟩
  | .hbm, ⟨43, _⟩ => ⟨S2048x4, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x4, .f32⟩
  | .hbm, ⟨52, _⟩ => ⟨S2048x4, .i1⟩
  | .hbm, ⟨53, _⟩ => ⟨S_, .f32⟩
  | .hbm, ⟨54, _⟩ => ⟨S2048x4, .f32⟩
  | .hbm, ⟨55, _⟩ => ⟨S2048x4, .f32⟩
  | .hbm, ⟨56, _⟩ => ⟨S2048x4, .f32⟩
  | .hbm, ⟨57, _⟩ => ⟨S2048x4, .f32⟩
  | .hbm, ⟨58, _⟩ => ⟨S2048x4, .f32⟩
  | .hbm, ⟨59, _⟩ => ⟨S_, .f32⟩
  | .hbm, ⟨60, _⟩ => ⟨S2048x4, .f32⟩
  | .hbm, ⟨61, _⟩ => ⟨S2048x4, .f32⟩
  | .hbm, ⟨62, _⟩ => ⟨S1x4, .f32⟩
  | .hbm, ⟨63, _⟩ => ⟨S2048x4, .f32⟩
  | .hbm, ⟨64, _⟩ => ⟨S2048x4, .f32⟩
  | .hbm, ⟨65, _⟩ => ⟨S2048x4, .f32⟩
  | .hbm, ⟨66, _⟩ => ⟨S2048x4, .f32⟩
  | .hbm, ⟨67, _⟩ => ⟨S_, .f32⟩
  | .hbm, ⟨68, _⟩ => ⟨S2048x4, .f32⟩
  | .hbm, ⟨69, _⟩ => ⟨S2048x4, .f32⟩
  | .hbm, ⟨70, _⟩ => ⟨S_, .f32⟩
  | .hbm, ⟨71, _⟩ => ⟨S2048x4, .f32⟩
  | .hbm, ⟨72, _⟩ => ⟨S2048x4, .f32⟩
  | .hbm, ⟨73, _⟩ => ⟨S_, .f32⟩
  | .hbm, ⟨74, _⟩ => ⟨S2048x4, .f32⟩
  | .hbm, ⟨75, _⟩ => ⟨S2048x4, .f32⟩
  | .hbm, ⟨76, _⟩ => ⟨S2048x4, .f32⟩
  | .hbm, ⟨77, _⟩ => ⟨S_, .f32⟩
  | .hbm, ⟨78, _⟩ => ⟨S2048x120, .f32⟩
  | .hbm, ⟨79, _⟩ => ⟨S2048x128, .f32⟩
  | .hbm, ⟨80, _⟩ => ⟨S_, .f32⟩
  | .hbm, ⟨81, _⟩ => ⟨S2048x120, .f32⟩
  | .hbm, ⟨82, _⟩ => ⟨S2048x4, .f32⟩
  | .hbm, ⟨83, _⟩ => ⟨S2048x4, .f32⟩
  | .hbm, ⟨84, _⟩ => ⟨S2048x120, .f32⟩
  | .hbm, ⟨85, _⟩ => ⟨S2048x4, .f32⟩
  | .hbm, ⟨86, _⟩ => ⟨S2048x4, .f32⟩
  | .hbm, ⟨87, _⟩ => ⟨S2048x4, .f32⟩
  | .hbm, ⟨88, _⟩ => ⟨S2048x4, .f32⟩
  | .hbm, ⟨89, _⟩ => ⟨S_, .f32⟩
  | .hbm, ⟨90, _⟩ => ⟨S4, .f32⟩
  | .hbm, ⟨91, _⟩ => ⟨S1x4, .f32⟩
  | .hbm, ⟨92, _⟩ => ⟨S_, .f32⟩
  | .hbm, ⟨93, _⟩ => ⟨S4, .f32⟩
  | .hbm, ⟨94, _⟩ => ⟨S2048x4, .f32⟩
  | .hbm, ⟨95, _⟩ => ⟨S_, .f32⟩
  | .hbm, ⟨96, _⟩ => ⟨S4, .f32⟩
  | .hbm, ⟨97, _⟩ => ⟨S1x4, .f32⟩
  | .hbm, ⟨98, _⟩ => ⟨S_, .f32⟩
  | .hbm, ⟨99, _⟩ => ⟨S4, .f32⟩
  | .hbm, ⟨100, _⟩ => ⟨S1x4, .f32⟩
  | .hbm, ⟨101, _⟩ => ⟨S_, .f32⟩
  | .hbm, ⟨102, _⟩ => ⟨S1x128, .f32⟩
  | .hbm, ⟨103, _⟩ => ⟨S4, .f32⟩
  | .hbm, ⟨104, _⟩ => ⟨S4, .f32⟩
  | .hbm, ⟨105, _⟩ => ⟨S1x4, .f32⟩
  | .hbm, ⟨106, _⟩ => ⟨S_, .f32⟩
  | .hbm, ⟨107, _⟩ => ⟨S1x128, .f32⟩
  | .hbm, ⟨108, _⟩ => ⟨S_, .f32⟩
  | .hbm, ⟨109, _⟩ => ⟨S2048x128, .f32⟩
  | .hbm, ⟨110, _⟩ => ⟨S_, .f32⟩
  | .hbm, ⟨111, _⟩ => ⟨S2048x128, .f32⟩
  | .hbm, ⟨112, _⟩ => ⟨S2048x128, .f32⟩
  | .hbm, ⟨113, _⟩ => ⟨S2048x128, .bf16⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v12_0 : Ref sig .tc := ⟨.hbm, 29, rfl⟩
abbrev main_call0_cst_0 : Ref sig .tc := ⟨.hbm, 30, rfl⟩
abbrev main_call0_v13 : Ref sig .tc := ⟨.hbm, 31, rfl⟩
abbrev main_call0_v14 : Ref sig .tc := ⟨.hbm, 32, rfl⟩
abbrev main_call0_cst_1 : Ref sig .tc := ⟨.hbm, 33, rfl⟩
abbrev main_call0_v15 : Ref sig .tc := ⟨.hbm, 34, rfl⟩
abbrev main_call0_v16 : Ref sig .tc := ⟨.hbm, 35, rfl⟩
abbrev main_call0_cst_2 : Ref sig .tc := ⟨.hbm, 36, rfl⟩
abbrev main_call0_v17 : Ref sig .tc := ⟨.hbm, 37, rfl⟩
abbrev main_call0_v18 : Ref sig .tc := ⟨.hbm, 38, rfl⟩
abbrev main_call0_cst_3 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_v12_1 : Ref sig .tc := ⟨.hbm, 43, rfl⟩
abbrev main_call0_cst_4 : Ref sig .tc := ⟨.hbm, 44, rfl⟩
abbrev main_call0_cst_5 : Ref sig .tc := ⟨.hbm, 45, rfl⟩
abbrev main_call0_v23 : Ref sig .tc := ⟨.hbm, 46, rfl⟩
abbrev main_call0_cst_6 : Ref sig .tc := ⟨.hbm, 47, rfl⟩
abbrev main_call0_cst_7 : Ref sig .tc := ⟨.hbm, 48, rfl⟩
abbrev main_call0_v24 : Ref sig .tc := ⟨.hbm, 49, rfl⟩
abbrev main_call0_cst_8 : Ref sig .tc := ⟨.hbm, 50, rfl⟩
abbrev main_call0_v25 : Ref sig .tc := ⟨.hbm, 51, rfl⟩
abbrev main_call0_v26 : Ref sig .tc := ⟨.hbm, 52, rfl⟩
abbrev main_call0_cst_9 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_cst_10 : Ref sig .tc := ⟨.hbm, 59, rfl⟩
abbrev main_call0_v32 : Ref sig .tc := ⟨.hbm, 60, rfl⟩
abbrev main_v12_2 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_v19 : Ref sig .tc := ⟨.hbm, 69, rfl⟩
abbrev main_cst_0 : Ref sig .tc := ⟨.hbm, 70, rfl⟩
abbrev main_v20 : Ref sig .tc := ⟨.hbm, 71, rfl⟩
abbrev main_v21 : Ref sig .tc := ⟨.hbm, 72, rfl⟩
abbrev main_cst_1 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_2 : Ref sig .tc := ⟨.hbm, 77, rfl⟩
abbrev main_v25 : Ref sig .tc := ⟨.hbm, 78, rfl⟩
abbrev main_v26 : Ref sig .tc := ⟨.hbm, 79, rfl⟩
abbrev main_cst_3 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_4 : Ref sig .tc := ⟨.hbm, 89, rfl⟩
abbrev main_v35 : Ref sig .tc := ⟨.hbm, 90, rfl⟩
abbrev main_v36 : Ref sig .tc := ⟨.hbm, 91, rfl⟩
abbrev main_cst_5 : Ref sig .tc := ⟨.hbm, 92, rfl⟩
abbrev main_v37 : Ref sig .tc := ⟨.hbm, 93, rfl⟩
abbrev main_v38 : Ref sig .tc := ⟨.hbm, 94, rfl⟩
abbrev main_cst_6 : Ref sig .tc := ⟨.hbm, 95, rfl⟩
abbrev main_v39 : Ref sig .tc := ⟨.hbm, 96, rfl⟩
abbrev main_v40 : Ref sig .tc := ⟨.hbm, 97, rfl⟩
abbrev main_cst_7 : Ref sig .tc := ⟨.hbm, 98, rfl⟩
abbrev main_v41 : Ref sig .tc := ⟨.hbm, 99, rfl⟩
abbrev main_v42 : Ref sig .tc := ⟨.hbm, 100, rfl⟩
abbrev main_cst_8 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_9 : Ref sig .tc := ⟨.hbm, 106, rfl⟩
abbrev main_v47 : Ref sig .tc := ⟨.hbm, 107, rfl⟩
abbrev main_cst_10 : Ref sig .tc := ⟨.hbm, 108, rfl⟩
abbrev main_v48 : Ref sig .tc := ⟨.hbm, 109, rfl⟩
abbrev main_cst_11 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩

abbrev nD : Nat := 1
abbrev τ : Topo := Topo.v7x

variable {F : FTy → Type} [FloatOps F]
-- ==== GdnPreBwd.lean ====
abbrev S2048x3840 : Shape := ⟨2, ![2048, 3840]⟩
abbrev S4x1536 : Shape := ⟨2, ![4, 1536]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S2048x1536, .bf16⟩
  | .hbm, ⟨4, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnPreBwdRefIdeal.lean ====
abbrev S2048x3840 : Shape := ⟨2, ![2048, 3840]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 192
  | .vmem => 0
  | .smem => 0
  | _ => 0

abbrev hbmTy0_0 (i : Nat) : BufTy := match i % 128 with
  | 0 => ⟨S2048x3840, .f32⟩
  | 1 => ⟨S4x1536, .f32⟩
  | 2 => ⟨S2048x1536, .f32⟩
  | 3 => ⟨S2048x1536, .f32⟩
  | 4 => ⟨S_, .f32⟩
  | 5 => ⟨S3x1536, .f32⟩
  | 6 => ⟨S2051x1536, .f32⟩
  | 7 => ⟨S_, .f32⟩
  | 8 => ⟨S3x1536, .f32⟩
  | 9 => ⟨S1x1536, .f32⟩
  | 10 => ⟨S1536, .f32⟩
  | 11 => ⟨S2048x1536, .f32⟩
  | 12 => ⟨S1x1536, .f32⟩
  | 13 => ⟨S2048x1536, .f32⟩
  | 14 => ⟨S2048x1536, .f32⟩
  | 15 => ⟨S1x1536, .f32⟩
  | 16 => ⟨S1536, .f32⟩
  | 17 => ⟨S2048x1536, .f32⟩
  | 18 => ⟨S1x1536, .f32⟩
  | 19 => ⟨S2048x1536, .f32⟩
  | 20 => ⟨S2048x1536, .f32⟩
  | 21 => ⟨S2048x1536, .f32⟩
  | 22 => ⟨S1x1536, .f32⟩
  | 23 => ⟨S1536, .f32⟩
  | 24 => ⟨S2048x1536, .f32⟩
  | 25 => ⟨S1x1536, .f32⟩
  | 26 => ⟨S2048x1536, .f32⟩
  | 27 => ⟨S2048x1536, .f32⟩
  | 28 => ⟨S2048x1536, .f32⟩
  | 29 => ⟨S1x1536, .f32⟩
  | 30 => ⟨S1536, .f32⟩
  | 31 => ⟨S2048x1536, .f32⟩
  | 32 => ⟨S1x1536, .f32⟩
  | 33 => ⟨S2048x1536, .f32⟩
  | 34 => ⟨S2048x1536, .f32⟩
  | 35 => ⟨S2048x1536, .f32⟩
  | 36 => ⟨S2048x1536, .f32⟩
  | 37 => ⟨S2048x1536, .f32⟩
  | 38 => ⟨S_, .f32⟩
  | 39 => ⟨S2048x1536, .f32⟩
  | 40 => ⟨S2048x1536, .f32⟩
  | 41 => ⟨S_, .f32⟩
  | 42 => ⟨S2048x1536, .f32⟩
  | 43 => ⟨S2048x1536, .f32⟩
  | 44 => ⟨S_, .f32⟩
  | 45 => ⟨S2048x1536, .f32⟩
  | 46 => ⟨S2048x1536, .f32⟩
  | 47 => ⟨S2048x1536, .f32⟩
  | 48 => ⟨S2048x1536, .f32⟩
  | 49 => ⟨S2048x512, .f32⟩
  | 50 => ⟨S2048x512, .f32⟩
  | 51 => ⟨S2048x512, .f32⟩
  | 52 => ⟨S2048x4x128, .f32⟩
  | 53 => ⟨S2048x4x128, .f32⟩
  | 54 => ⟨S2048x4x128, .f32⟩
  | 55 => ⟨S_, .f32⟩
  | 56 => ⟨S2048x4, .f32⟩
  | 57 => ⟨S2048x4x1, .f32⟩
  | 58 => ⟨S_, .f32⟩
  | 59 => ⟨S2048x4x1, .f32⟩
  | 60 => ⟨S2048x4x1, .f32⟩
  | 61 => ⟨S2048x4x1, .f32⟩
  | 62 => ⟨S2048x4x1, .f32⟩
  | 63 => ⟨S_, .f32⟩
  | 64 => ⟨S2048x4x1, .f32⟩
  | 65 => ⟨S2048x4x1, .f32⟩
  | 66 => ⟨S2048x4x128, .f32⟩
  | 67 => ⟨S2048x4x128, .f32⟩
  | 68 => ⟨S_, .f32⟩
  | 69 => ⟨S2048x4x128, .f32⟩
  | 70 => ⟨S2048x4x128, .f32⟩
  | 71 => ⟨S2048x4x128, .f32⟩
  | 72 => ⟨S_, .f32⟩
  | 73 => ⟨S2048x4, .f32⟩
  | 74 => ⟨S2048x4x1, .f32⟩
  | 75 => ⟨S_, .f32⟩
  | 76 => ⟨S2048x4x1, .f32⟩
  | 77 => ⟨S2048x4x1, .f32⟩
  | 78 => ⟨S2048x4x1, .f32⟩
  | 79 => ⟨S2048x4x1, .f32⟩
  | 80 => ⟨S_, .f32⟩
  | 81 => ⟨S2048x4x1, .f32⟩
  | 82 => ⟨S2048x4x1, .f32⟩
  | 83 => ⟨S2048x4x128, .f32⟩
  | 84 => ⟨S2048x4x128, .f32⟩
  | 85 => ⟨S2048x512, .f32⟩
  | 86 => ⟨S2048x512, .f32⟩
  | 87 => ⟨S2048x1536, .f32⟩
  | 88 => ⟨S2048x512, .f32⟩
  | 89 => ⟨S2048x512, .f32⟩
  | 90 => ⟨S2048x512, .f32⟩
  | 91 => ⟨S2048x4x128, .f32⟩
  | 92 => ⟨S2048x4x128, .f32⟩
  | 93 => ⟨S2048x4x128, .f32⟩
  | 94 => ⟨S_, .f32⟩
  | 95 => ⟨S2048x4, .f32⟩
  | 96 => ⟨S2048x4x1, .f32⟩
  | 97 => ⟨S2048x4x128, .f32⟩
  | 98 => ⟨S2048x4x128, .f32⟩
  | 99 => ⟨S2048x4x1, .f32⟩
  | 100 => ⟨S_, .f32⟩
  | 101 => ⟨S2048x4, .f32⟩
  | 102 => ⟨S2048x4x128, .f32⟩
  | 103 => ⟨S2048x4x128, .f32⟩
  | 104 => ⟨S2048x4x128, .f32⟩
  | 105 => ⟨S2048x4x128, .f32⟩
  | 106 => ⟨S2048x4x128, .f32⟩
  | 107 => ⟨S_, .f32⟩
  | 108 => ⟨S2048x4x128, .f32⟩
  | 109 => ⟨S2048x4x128, .f32⟩
  | 110 => ⟨S2048x4x128, .f32⟩
  | 111 => ⟨S_, .f32⟩
  | 112 => ⟨S2048x4, .f32⟩
  | 113 => ⟨S2048x4x1, .f32⟩
  | 114 => ⟨S2048x4x128, .f32⟩
  | 115 => ⟨S2048x4x128, .f32⟩
  | 116 => ⟨S2048x4x1, .f32⟩
  | 117 => ⟨S_, .f32⟩
  | 118 => ⟨S2048x4, .f32⟩
  | 119 => ⟨S2048x4x128, .f32⟩
  | 120 => ⟨S2048x4x128, .f32⟩
  | 121 => ⟨S2048x4x128, .f32⟩
  | 122 => ⟨S2048x4x128, .f32⟩
  | 123 => ⟨S2048x4x128, .f32⟩
  | 124 => ⟨S2048x512, .f32⟩
  | 125 => ⟨S2048x512, .f32⟩
  | 126 => ⟨S2048x1536, .f32⟩
  | 127 => ⟨S2048x1536, .f32⟩
  | _ => ⟨S2048x3840, .f32⟩

abbrev hbmTy0_1 (i : Nat) : BufTy := match i % 128 with
  | 0 => ⟨S2048x1536, .f32⟩
  | 1 => ⟨S2048x1536, .f32⟩
  | 2 => ⟨S2048x1536, .f32⟩
  | 3 => ⟨S2048x1536, .f32⟩
  | 4 => ⟨S2048x1536, .f32⟩
  | 5 => ⟨S2048x1536, .f32⟩
  | 6 => ⟨S_, .f32⟩
  | 7 => ⟨S1536, .f32⟩
  | 8 => ⟨S1x1536, .f32⟩
  | 9 => ⟨S_, .f32⟩
  | 10 => ⟨S1536, .f32⟩
  | 11 => ⟨S_, .f32⟩
  | 12 => ⟨S2051x1536, .f32⟩
  | 13 => ⟨S1x1536, .f32⟩
  | 14 => ⟨S_, .f32⟩
  | 15 => ⟨S4x1536, .f32⟩
  | 16 => ⟨S2048x1536, .f32⟩
  | 17 => ⟨S2048x1536, .f32⟩
  | 18 => ⟨S2048x1536, .f32⟩
  | 19 => ⟨S_, .f32⟩
  | 20 => ⟨S1536, .f32⟩
  | 21 => ⟨S1x1536, .f32⟩
  | 22 => ⟨S_, .f32⟩
  | 23 => ⟨S1536, .f32⟩
  | 24 => ⟨S_, .f32⟩
  | 25 => ⟨S2051x1536, .f32⟩
  | 26 => ⟨S2051x1536, .f32⟩
  | 27 => ⟨S1x1536, .f32⟩
  | 28 => ⟨S_, .f32⟩
  | 29 => ⟨S4x1536, .f32⟩
  | 30 => ⟨S4x1536, .f32⟩
  | 31 => ⟨S2048x1536, .f32⟩
  | 32 => ⟨S2048x1536, .f32⟩
  | 33 => ⟨S2048x1536, .f32⟩
  | 34 => ⟨S_, .f32⟩
  | 35 => ⟨S1536, .f32⟩
  | 36 => ⟨S1x1536, .f32⟩
  | 37 => ⟨S_, .f32⟩
  | 38 => ⟨S1536, .f32⟩
  | 39 => ⟨S_, .f32⟩
  | 40 => ⟨S2051x1536, .f32⟩
  | 41 => ⟨S2051x1536, .f32⟩
  | 42 => ⟨S1x1536, .f32⟩
  | 43 => ⟨S_, .f32⟩
  | 44 => ⟨S4x1536, .f32⟩
  | 45 => ⟨S4x1536, .f32⟩
  | 46 => ⟨S2048x1536, .f32⟩
  | 47 => ⟨S2048x1536, .f32⟩
  | 48 => ⟨S2048x1536, .f32⟩
  | 49 => ⟨S_, .f32⟩
  | 50 => ⟨S1536, .f32⟩
  | 51 => ⟨S1x1536, .f32⟩
  | 52 => ⟨S_, .f32⟩
  | 53 => ⟨S1536, .f32⟩
  | 54 => ⟨S_, .f32⟩
  | 55 => ⟨S2051x1536, .f32⟩
  | 56 => ⟨S2051x1536, .f32⟩
  | 57 => ⟨S1x1536, .f32⟩
  | 58 => ⟨S_, .f32⟩
  | 59 => ⟨S4x1536, .f32⟩
  | 60 => ⟨S4x1536, .f32⟩
  | 61 => ⟨S3x1536, .f32⟩
  | 62 => ⟨S2048x1536, .f32⟩
  | 63 => ⟨S2048x1536, .bf16⟩
  | _ => ⟨S2048x3840, .f32⟩

abbrev hbmTy (i : Nat) : BufTy := match i / 128 with
  | 0 => hbmTy0_0 i
  | 1 => hbmTy0_1 i
  | _ => ⟨S2048x3840, .f32⟩

abbrev bufTy : (tb : Table) → Fin (tcTables nBuf tb) → BufTy
  | .hbm, ⟨i, _⟩ => hbmTy i
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_10 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_13 : Ref sig .tc := ⟨.hbm, 134, rfl⟩
abbrev main_v102 : Ref sig .tc := ⟨.hbm, 135, rfl⟩
abbrev main_v103 : Ref sig .tc := ⟨.hbm, 136, rfl⟩
abbrev main_cst_14 : Ref sig .tc := ⟨.hbm, 137, rfl⟩
abbrev main_v104 : Ref sig .tc := ⟨.hbm, 138, rfl⟩
abbrev main_cst_15 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_17 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_cst_19 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_20 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_21 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_cst_23 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_24 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_25 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_cst_27 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_28 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]
-- ==== SwigluBwd.lean ====
abbrev S2x2048x2816 : Shape := ⟨3, ![2, 2048, 2816]⟩
abbrev S2048x2816 : Shape := ⟨2, ![2048, 2816]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2x2048x2816, .bf16⟩
  | .local _ .vmem, ⟨0, _⟩ => ⟨S2x512x1408, .f32⟩
  | .local _ .vmem, ⟨1, _⟩ => ⟨S2x512x1408, .f32⟩
  | .local _ .vmem, ⟨2, _⟩ => ⟨S512x1408, .f32⟩
  | .local _ .vmem, ⟨3, _⟩ => ⟨S512x1408, .f32⟩
  | .local _ .vmem, ⟨4, _⟩ => ⟨S2x512x1408, .bf16⟩
  | .local _ .vmem, ⟨5, _⟩ => ⟨S2x512x1408, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluBwdRefIdeal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S1x2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S1x2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S1x2048x2816, .f32⟩
  | .hbm, ⟨23, _⟩ => ⟨S_, .f32⟩
  | .hbm, ⟨24, _⟩ => ⟨S2x2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S1x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== SconvFwd.lean ====
abbrev S2048x3840 : Shape := ⟨2, ![2048, 3840]⟩
abbrev S3x256 : Shape := ⟨2, ![3, 256]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x3840, .f32⟩
  | .hbm, ⟨1, _⟩ => ⟨S3x256, .f32⟩
  | .hbm, ⟨2, _⟩ => ⟨S2048x256, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SconvFwdRefIdeal.lean ====
abbrev S2048x3840 : Shape := ⟨2, ![2048, 3840]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 31
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S3x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2x256, .f32⟩
  | .hbm, ⟨8, _⟩ => ⟨S2050x256, .f32⟩
  | .hbm, ⟨9, _⟩ => ⟨S1x256, .f32⟩
  | .hbm, ⟨10, _⟩ => ⟨S256, .f32⟩
  | .hbm, ⟨11, _⟩ => ⟨S2048x256, .f32⟩
  | .hbm, ⟨12, _⟩ => ⟨S1x256, .f32⟩
  | .hbm, ⟨13, _⟩ => ⟨S2048x256, .f32⟩
  | .hbm, ⟨14, _⟩ => ⟨S2048x256, .f32⟩
  | .hbm, ⟨15, _⟩ => ⟨S1x256, .f32⟩
  | .hbm, ⟨16, _⟩ => ⟨S256, .f32⟩
  | .hbm, ⟨17, _⟩ => ⟨S2048x256, .f32⟩
  | .hbm, ⟨18, _⟩ => ⟨S1x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S1x256, .f32⟩
  | .hbm, ⟨23, _⟩ => ⟨S256, .f32⟩
  | .hbm, ⟨24, _⟩ => ⟨S2048x256, .f32⟩
  | .hbm, ⟨25, _⟩ => ⟨S1x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .bf16⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== GatesFwd.lean ====
abbrev S2048x3840 : Shape := ⟨2, ![2048, 3840]⟩
abbrev S1x128 : Shape := ⟨2, ![1, 128]⟩
abbrev S2048x128 : Shape := ⟨2, ![2048, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x3840, .f32⟩
  | .hbm, ⟨1, _⟩ => ⟨S1x128, .f32⟩
  | .hbm, ⟨2, _⟩ => ⟨S1x128, .f32⟩
  | .hbm, ⟨3, _⟩ => ⟨S2048x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GatesFwdRefIdeal.lean ====
abbrev S2048x3840 : Shape := ⟨2, ![2048, 3840]⟩
abbrev S1x128 : Shape := ⟨2, ![1, 128]⟩
abbrev S2048x128 : Shape := ⟨2, ![2048, 128]⟩
abbrev S2048x4 : Shape := ⟨2, ![2048, 4]⟩
abbrev S1x4 : Shape := ⟨2, ![1, 4]⟩
abbrev S4 : Shape := ⟨1, ![4]⟩
abbrev S_ : Shape := ⟨0, ![]⟩
abbrev S2048x120 : Shape := ⟨2, ![2048, 120]⟩

abbrev nBuf : Space → Nat
  | .hbm => 43
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x4, .f32⟩
  | .hbm, ⟨5, _⟩ => ⟨S2048x4, .f32⟩
  | .hbm, ⟨6, _⟩ => ⟨S1x4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S1x4, .f32⟩
  | .hbm, ⟨11, _⟩ => ⟨S4, .f32⟩
  | .hbm, ⟨12, _⟩ => ⟨S1x4, .f32⟩
  | .hbm, ⟨13, _⟩ => ⟨S2048x4, .f32⟩
  | .hbm, ⟨14, _⟩ => ⟨S2048x4, .f32⟩
  | .hbm, ⟨15, _⟩ => ⟨S_, .f32⟩
  | .hbm, ⟨16, _⟩ => ⟨S2048x4, .f32⟩
  | .hbm, ⟨17, _⟩ => ⟨S2048x4, .f32⟩
  | .hbm, ⟨18, _⟩ => ⟨S2048x4, .f32⟩
  | .hbm, ⟨19, _⟩ => ⟨S2048x4, .f32⟩
  | .hbm, ⟨20, _⟩ => ⟨S2048x4, .i1⟩
  | .hbm, ⟨21, _⟩ => ⟨S2048x4, .f32⟩
  | .hbm, ⟨22, _⟩ => ⟨S2048x4, .f32⟩
  | .hbm, ⟨23, _⟩ => ⟨S2048x4, .f32⟩
  | .hbm, ⟨24, _⟩ => ⟨S2048x4, .f32⟩
  | .hbm, ⟨25, _⟩ => ⟨S2048x4, .f32⟩
  | .hbm, ⟨26, _⟩ => ⟨S2048x4, .f32⟩
  | .hbm, ⟨27, _⟩ => ⟨S2048x4, .f32⟩
  | .hbm, ⟨28, _⟩ => ⟨S2048x4, .f32⟩
  | .hbm, ⟨29, _⟩ => ⟨S1x4, .f32⟩
  | .hbm, ⟨30, _⟩ => ⟨S2048x4, .f32⟩
  | .hbm, ⟨31, _⟩ => ⟨S2048x4, .f32⟩
  | .hbm, ⟨32, _⟩ => ⟨S2048x4, .f32⟩
  | .hbm, ⟨33, _⟩ => ⟨S2048x4, .f32⟩
  | .hbm, ⟨34, _⟩ => ⟨S_, .f32⟩
  | .hbm, ⟨35, _⟩ => ⟨S2048x4, .f32⟩
  | .hbm, ⟨36, _⟩ => ⟨S2048x4, .f32⟩
  | .hbm, ⟨37, _⟩ => ⟨S_, .f32⟩
  | .hbm, ⟨38, _⟩ => ⟨S2048x4, .f32⟩
  | .hbm, ⟨39, _⟩ => ⟨S2048x4, .f32⟩
  | .hbm, ⟨40, _⟩ => ⟨S_, .f32⟩
  | .hbm, ⟨41, _⟩ => ⟨S2048x120, .f32⟩
  | .hbm, ⟨42, _⟩ => ⟨S2048x128, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== GdnPreFwd.lean ====
abbrev S2048x3840 : Shape := ⟨2, ![2048, 3840]⟩
abbrev S4x1536 : Shape := ⟨2, ![4, 1536]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GdnPreFwdRefIdeal.lean ====
abbrev S2048x3840 : Shape := ⟨2, ![2048, 3840]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S_, .f32⟩
  | .hbm, ⟨4, _⟩ => ⟨S3x1536, .f32⟩
  | .hbm, ⟨5, _⟩ => ⟨S2051x1536, .f32⟩
  | .hbm, ⟨6, _⟩ => ⟨S1x1536, .f32⟩
  | .hbm, ⟨7, _⟩ => ⟨S1536, .f32⟩
  | .hbm, ⟨8, _⟩ => ⟨S2048x1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S1x1536, .f32⟩
  | .hbm, ⟨13, _⟩ => ⟨S1536, .f32⟩
  | .hbm, ⟨14, _⟩ => ⟨S2048x1536, .f32⟩
  | .hbm, ⟨15, _⟩ => ⟨S1x1536, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S1x1536, .f32⟩
  | .hbm, ⟨20, _⟩ => ⟨S1536, .f32⟩
  | .hbm, ⟨21, _⟩ => ⟨S2048x1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S1x1536, .f32⟩
  | .hbm, ⟨27, _⟩ => ⟨S1536, .f32⟩
  | .hbm, ⟨28, _⟩ => ⟨S2048x1536, .f32⟩
  | .hbm, ⟨29, _⟩ => ⟨S1x1536, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x4x128, .f32⟩
  | .hbm, ⟨46, _⟩ => ⟨S2048x4x128, .f32⟩
  | .hbm, ⟨47, _⟩ => ⟨S2048x4x128, .f32⟩
  | .hbm, ⟨48, _⟩ => ⟨S_, .f32⟩
  | .hbm, ⟨49, _⟩ => ⟨S2048x4, .f32⟩
  | .hbm, ⟨50, _⟩ => ⟨S2048x4x1, .f32⟩
  | .hbm, ⟨51, _⟩ => ⟨S_, .f32⟩
  | .hbm, ⟨52, _⟩ => ⟨S2048x4x1, .f32⟩
  | .hbm, ⟨53, _⟩ => ⟨S2048x4x1, .f32⟩
  | .hbm, ⟨54, _⟩ => ⟨S2048x4x1, .f32⟩
  | .hbm, ⟨55, _⟩ => ⟨S2048x4x128, .f32⟩
  | .hbm, ⟨56, _⟩ => ⟨S2048x4x128, .f32⟩
  | .hbm, ⟨57, _⟩ => ⟨S_, .f32⟩
  | .hbm, ⟨58, _⟩ => ⟨S2048x4x128, .f32⟩
  | .hbm, ⟨59, _⟩ => ⟨S2048x4x128, .f32⟩
  | .hbm, ⟨60, _⟩ => ⟨S2048x4x128, .f32⟩
  | .hbm, ⟨61, _⟩ => ⟨S_, .f32⟩
  | .hbm, ⟨62, _⟩ => ⟨S2048x4, .f32⟩
  | .hbm, ⟨63, _⟩ => ⟨S2048x4x1, .f32⟩
  | .hbm, ⟨64, _⟩ => ⟨S_, .f32⟩
  | .hbm, ⟨65, _⟩ => ⟨S2048x4x1, .f32⟩
  | .hbm, ⟨66, _⟩ => ⟨S2048x4x1, .f32⟩
  | .hbm, ⟨67, _⟩ => ⟨S2048x4x1, .f32⟩
  | .hbm, ⟨68, _⟩ => ⟨S2048x4x128, .f32⟩
  | .hbm, ⟨69, _⟩ => ⟨S2048x4x128, .f32⟩
  | .hbm, ⟨70, _⟩ => ⟨S2048x512, .f32⟩
  | .hbm, ⟨71, _⟩ => ⟨S2048x512, .f32⟩
  | .hbm, ⟨72, _⟩ => ⟨S2048x1536, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Proof.SoftmaxRow.lean ====
/-
  The gradient of one row of softmax attention, over the extended reals.

  A row has finitely many scores `s j`, each a real number, and one upstream number `dp j` per score, which may be
  infinite. Two formulas for the gradient in the score are compared: the one that multiplies by the probabilities
  `p j = e j / l` first, and the one that differentiates the quotient `e j / l` and then the exponential.
-/
module

public import Idealize.ShloMosaic.PureOps.Ideal
public import Idealize.ShloMosaic.PureOps.Ideal.Laws
public import Mathlib.Data.EReal.Operations
public import Mathlib.Algebra.BigOperators.Group.Finset.Basic

@[expose] public section

noncomputable section

namespace Cert.SoftmaxRow

open Idealize.ShloMosaic

variable {n : ℕ}

/-- A nonnegative real factor goes into a sum of extended reals, whatever the summands. -/
theorem coe_mul_sum {ι : Type} (r : ℝ) (hr : 0 ≤ r) (t : Finset ι) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- The greatest score of the row. -/
def top (s : Fin n → EReal) : EReal := Finset.univ.fold max ⊥ s

/-- The exponential of a score less the greatest. -/
def ex (s : Fin n → EReal) (j : Fin n) : EReal := Ideal.exp (s j - top s)

/-- The row's denominator. -/
def den (s : Fin n → EReal) : EReal := ∑ j, ex s j

/-- The row's probabilities. -/
def prob (s : Fin n → EReal) (j : Fin n) : EReal := Ideal.div (ex s j) (den s)

/-- The gradient in score `j`, through the probabilities. -/
def grad (s dp : Fin n → EReal) (j : Fin n) : EReal :=
  prob s j * (dp j - ∑ k, prob s k * dp k)

/-- The gradient in score `j`, through the quotient and the exponential in turn. -/
def gradQ (s dp : Fin n → EReal) (j : Fin n) : EReal :=
  (Ideal.div (dp j) (den s) + -(∑ k, dp k * Ideal.div 1 (den s * den s) * ex s k)) * ex s j

theorem top_eq_sup (s : Fin n → EReal) : top s = Finset.univ.sup s := by
  unfold top; rfl

/-- With real scores every exponential is a real number above 0. -/
theorem ex_real (s : Fin n → EReal) (hs : ∀ j, ∃ r : ℝ, s j = r) (j : Fin n) :
    ∃ r : ℝ, 0 < r ∧ ex s j = r := by
  have hne : (Finset.univ : Finset (Fin n)).Nonempty := ⟨j, Finset.mem_univ j⟩
  obtain ⟨k, -, hk⟩ := Finset.exists_mem_eq_sup Finset.univ hne s
  obtain ⟨a, ha⟩ := hs j
  obtain ⟨b, hb⟩ := hs k
  refine ⟨Real.exp (a - b), Real.exp_pos _, ?_⟩
  unfold ex
  rw [top_eq_sup, hk, ha, hb, ← EReal.coe_sub]
  rfl

theorem den_real (s : Fin n → EReal) (hs : ∀ j, ∃ r : ℝ, s j = r) (j : Fin n) :
    ∃ r : ℝ, 0 < r ∧ den s = r := by
  choose e he hE using ex_real s hs
  refine ⟨∑ k, e k, Finset.sum_pos (fun k _ => he k) ⟨j, Finset.mem_univ j⟩, ?_⟩
  unfold den
  rw [Finset.sum_congr rfl (fun k _ => hE k)]
  exact (map_sum (⟨⟨Real.toEReal, EReal.coe_zero⟩, EReal.coe_add⟩ : ℝ →+ EReal) e Finset.univ).symm

/-- Division by a positive real is multiplication by its inverse. -/
theorem div_coe (x : EReal) (l : ℝ) (hl : 0 < l) : Ideal.div x l = x * ((l⁻¹ : ℝ) : EReal) := by
  unfold Ideal.div
  rw [if_neg (by exact_mod_cast hl.ne'), EReal.coe_inv]

/-- The two formulas agree where the scores are real. -/
theorem grad_eq_gradQ (s dp : Fin n → EReal) (hs : ∀ j, ∃ r : ℝ, s j = r) (j : Fin n) :
    grad s dp j = gradQ s dp j := by
  choose e he hE using ex_real s hs
  obtain ⟨l, hl, hL⟩ := den_real s hs j
  have hl' : 0 ≤ l⁻¹ := (inv_pos.mpr hl).le
  have hp : ∀ k, prob s k = ((e k * l⁻¹ : ℝ) : EReal) := fun k => by
    unfold prob; rw [hL, div_coe _ l hl, hE k, EReal.coe_mul]
  have hpj : 0 ≤ e j * l⁻¹ := mul_nonneg (he j).le hl'
  have hq : Ideal.div 1 (den s * den s) = ((l⁻¹ * l⁻¹ : ℝ) : EReal) := by
    rw [hL, ← EReal.coe_mul, div_coe _ _ (mul_pos hl hl), one_mul, mul_inv]
  unfold grad gradQ
  rw [hp j, hL, div_coe _ l hl, hE j]
  simp only [hp, ← hL, hq, hE]
  rw [mul_comm (_ + _) (e j : EReal),
    EReal.left_distrib_of_nonneg_of_ne_top (by exact_mod_cast (he j).le) (EReal.coe_ne_top _),
    sub_eq_add_neg,
    EReal.left_distrib_of_nonneg_of_ne_top (by exact_mod_cast hpj) (EReal.coe_ne_top _)]
  congr 1
  · rw [EReal.coe_mul, mul_assoc, mul_comm (dp j)]
  · rw [mul_neg, mul_neg, coe_mul_sum _ hpj, coe_mul_sum _ (he j).le]
    congr 1
    refine Finset.sum_congr rfl fun k _ => ?_
    simp only [EReal.coe_mul]
    ac_rfl

end Cert.SoftmaxRow
-- ==== Proof.XattnSpec.lean ====
/-
  Softmax attention over a memory of 256 rows with four heads of 256 columns, and its gradient, one query row at a time.

  A query row, its upstream gradient row and the memory rows of keys and values all have 1024 columns; a column belongs
  to the head of its 256-column group, and everything at a column reads only the columns of its head.
-/
module

public import proofs.«01_k».proof.Proof.SoftmaxRow

@[expose] public section

noncomputable section

namespace Cert.Xattn

open Idealize.ShloMosaic

/-- The `d`-th column of the head that column `c` belongs to. -/
def pos (c : Fin 1024) (d : Fin 256) : Fin 1024 := ⟨c.val / 256 * 256 + d.val, by omega⟩

/-- The factor 1/16 both programs write as a constant. -/
def sixteenth : EReal := Ideal.ofBits .f32 0x3D800000#32

theorem sixteenth_eq : sixteenth = ((1 / 16 : ℝ) : EReal) := by
  unfold sixteenth
  simp [Ideal.ofBits, Ideal.ieee, -EReal.coe_mul]; norm_num

/-- The bit pattern of minus infinity. -/
theorem ofBits_bot : Ideal.ofBits .f32 0xFF800000#32 = ⊥ := by
  simp [Ideal.ofBits, Ideal.ieee]

/-- The score of memory row `j` for query row `x`, in the head of column `c`. -/
def score (x : Fin 1024 → EReal) (k : Fin 256 → Fin 1024 → EReal) (c : Fin 1024) (j : Fin 256) : EReal :=
  (∑ d, x (pos c d) * k j (pos c d)) * sixteenth

/-- The upstream gradient of the probability of memory row `j`. -/
def up (y : Fin 1024 → EReal) (v : Fin 256 → Fin 1024 → EReal) (c : Fin 1024) (j : Fin 256) : EReal :=
  ∑ d, y (pos c d) * v j (pos c d)

/-- The probability of memory row `j`. -/
def pr (x : Fin 1024 → EReal) (k : Fin 256 → Fin 1024 → EReal) (c : Fin 1024) (j : Fin 256) : EReal :=
  SoftmaxRow.prob (score x k c) j

/-- The gradient of the unscaled score of memory row `j`. -/
def ds (x : Fin 1024 → EReal) (k : Fin 256 → Fin 1024 → EReal) (y : Fin 1024 → EReal) (v : Fin 256 → Fin 1024 → EReal)
    (c : Fin 1024) (j : Fin 256) : EReal :=
  SoftmaxRow.grad (score x k c) (up y v c) j * sixteenth

/-- The gradient of a query row at column `c`. -/
def dq (x : Fin 1024 → EReal) (k : Fin 256 → Fin 1024 → EReal) (y : Fin 1024 → EReal) (v : Fin 256 → Fin 1024 → EReal)
    (c : Fin 1024) : EReal :=
  ∑ j, ds x k y v c j * k j c

/-- What one query row adds to the gradient of memory row `j`: its keys in columns below 1024, its values above. -/
def dkv (x : Fin 1024 → EReal) (k : Fin 256 → Fin 1024 → EReal) (y : Fin 1024 → EReal) (v : Fin 256 → Fin 1024 → EReal)
    (j : Fin 256) (c : Fin 2048) : EReal :=
  if h : c.val < 1024 then ds x k y v ⟨c.val, h⟩ j * x ⟨c.val, h⟩
  else pr x k ⟨c.val - 1024, by omega⟩ j * y ⟨c.val - 1024, by omega⟩

/-- The gradient of memory row `j`: what all the query rows add. -/
def dkvAll {n : ℕ} (x : Fin n → Fin 1024 → EReal) (k : Fin 256 → Fin 1024 → EReal) (y : Fin n → Fin 1024 → EReal)
    (v : Fin 256 → Fin 1024 → EReal) (j : Fin 256) (c : Fin 2048) : EReal := ∑ i, dkv (x i) k (y i) v j c

theorem dkv_lo (x : Fin 1024 → EReal) (k : Fin 256 → Fin 1024 → EReal) (y : Fin 1024 → EReal) (v : Fin 256 → Fin 1024 → EReal)
    (j : Fin 256) (c : Fin 2048) (c' : Fin 1024) (h : c.val = c'.val) : dkv x k y v j c = ds x k y v c' j * x c' := by
  have hc : c.val < 1024 := by omega
  have he : (⟨c.val, hc⟩ : Fin 1024) = c' := Fin.ext h
  unfold dkv
  rw [dif_pos hc, he]

theorem dkv_hi (x : Fin 1024 → EReal) (k : Fin 256 → Fin 1024 → EReal) (y : Fin 1024 → EReal) (v : Fin 256 → Fin 1024 → EReal)
    (j : Fin 256) (c : Fin 2048) (c' : Fin 1024) (h : c.val = 1024 + c'.val) : dkv x k y v j c = pr x k c' j * y c' := by
  have hc : ¬c.val < 1024 := by omega
  have he : (⟨c.val - 1024, by omega⟩ : Fin 1024) = c' := Fin.ext (by show c.val - 1024 = c'.val; omega)
  unfold dkv
  rw [dif_neg hc, he]

end Cert.Xattn

end
-- ==== Proof.XattnHead.lean ====
/-
  One head of the kernel body: the three values it stores, read at an index.
-/
module

public import proofs.«01_k».proof.Proof.XattnSpec
public import proofs.«01_k».proof.Proof.Gen.KernelIdeal.Value
public import Idealize.ShloMosaic.Lib.Pointwise
public import Idealize.ShloMosaic.Lib.Pipeline.ReadBack
public import Idealize.ShloMosaic.Lib.Pipeline.ValueKit
public import Idealize.ShloMosaic.Lib.Tactic

@[expose] public section

set_option maxRecDepth 16384

noncomputable section

namespace Cert.KernelIdeal.Head

open Cert.KernelIdeal Cert.KernelIdeal.Gen Idealize.ShloMosaic Idealize.ShloMosaic.TcCoe Idealize.SL.Sem

variable (x : Vec Ideal S512x256 .bf16) (k : Vec Ideal S256x256 .bf16) (y : Vec Ideal S512x256 .f32) (v : Vec Ideal S256x256 .bf16)
  (a : Vec Ideal S256x256 .f32)

/-- The scores of row `r`. -/
def score (r : Fin 512) (j : Fin 256) : EReal := (∑ d : Fin 256, x (ix2 r d) * k (ix2 j d)) * Xattn.sixteenth

/-- The upstream gradients of row `r`'s probabilities. -/
def up (r : Fin 512) (j : Fin 256) : EReal := ∑ d : Fin 256, y (ix2 r d) * v (ix2 j d)

theorem pay2_apply (r : Fin 512) (j : Fin 256) : k0_pay2 x k (ix2 r j) = SoftmaxRow.prob (score x k r) j := by
  pointwise [k0_pay2]
  simp only [Xattn.ofBits_bot]
  rfl

/-- The gradient of the unscaled scores, at row `r` and memory row `j`. -/
theorem pay3_apply (r : Fin 512) (j : Fin 256) :
    k0_pay3 x k y v (ix2 r j) = SoftmaxRow.grad (score x k r) (up y v r) j * Xattn.sixteenth := by
  pointwise [k0_pay3]
  simp only [pay2_apply]
  rfl

/-- The block of the query gradient. -/
theorem pay4_apply (r : Fin 512) (c : Fin 256) :
    k0_pay4 x k y v (ix2 r c) = ∑ j, SoftmaxRow.grad (score x k r) (up y v r) j * Xattn.sixteenth * k (ix2 j c) := by
  pointwise [k0_pay4]
  simp only [pay3_apply]

/-- The key gradient after this block: the one before it and the block's own. -/
def stepK : FVec Ideal S256x256 .f32 := k0_pay6 x (k0_pay3 x k y v) (k0_pay5 a)

/-- The value gradient after this block. -/
def stepV : FVec Ideal S256x256 .f32 := k0_pay7 y (k0_pay2 x k) a

theorem stepK_apply (j c : Fin 256) :
    stepK x k y v a (ix2 j c)
      = a (ix2 j c) + ∑ r : Fin 512, SoftmaxRow.grad (score x k r) (up y v r) j * Xattn.sixteenth * x (ix2 r c) := by
  unfold stepK
  pointwise [k0_pay6, k0_pay5]
  simp only [pay3_apply]

theorem stepV_apply (j c : Fin 256) :
    stepV x k y a (ix2 j c) = a (ix2 j c) + ∑ r : Fin 512, SoftmaxRow.prob (score x k r) j * y (ix2 r c) := by
  unfold stepV
  pointwise [k0_pay7]
  simp only [pay2_apply]

/-! The body spells the four heads out; each head's stores are the same three functions of its own loads. -/

theorem q1 : k0_pay11 k (k0_pay9 x k y v) (FloatOps.ofBits FTy.f32 1031798784#32) = k0_pay4 x k y v := rfl
theorem q2 : k0_pay16 k y (k0_pay14 x k) v = k0_pay4 x k y v := rfl
theorem q3 : k0_pay22 k y (k0_pay19 x k) v = k0_pay4 x k y v := rfl
theorem k0 : k0_pay6 x (k0_pay3 x k y v) (k0_pay5 a) = stepK x k y v a := rfl
theorem k1 : k0_pay12 x (k0_pay9 x k y v) (FloatOps.ofBits FTy.f32 1031798784#32) a = stepK x k y v a := rfl
theorem k2 : k0_pay17 x y (k0_pay14 x k) v a = stepK x k y v a := rfl
theorem k3 : k0_pay23 x y (k0_pay19 x k) v a = stepK x k y v a := rfl
theorem v0 : k0_pay7 y (k0_pay2 x k) a = stepV x k y a := rfl
theorem v1 : k0_pay13 y (k0_pay8 x k) a = stepV x k y a := rfl
theorem v2 : k0_pay18 y (k0_pay14 x k) a = stepV x k y a := rfl
theorem v3 : k0_pay24 y (k0_pay19 x k) a = stepV x k y a := rfl

end Cert.KernelIdeal.Head

end
-- ==== Proof.XattnBody.lean ====
/-
  The whole body at one grid point: what it leaves in its block of the query gradient and in the running key and value
  gradient, read at an index from the blocks it loads.
-/
module

public import proofs.«01_k».proof.Proof.XattnHead
public import Idealize.ShloMosaic.Lib.Pointwise
public import Idealize.ShloMosaic.Lib.Pipeline.ReadBack
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (x0 : Vec Ideal S512x1024 .bf16) (x1 x2 : Vec Ideal S256x1024 .bf16) (x3 : Vec Ideal S512x1024 .f32) (xo : Vec Ideal S256x2048 .f32)

/-- The block of the query gradient. -/
def dqBlk : Vec Ideal S512x1024 .bf16 := fun y =>
  Xattn.dq (fun c => x0 (ix2 (y 0) c)) (fun j c => x1 (ix2 j c)) (fun c => x3 (ix2 (y 0) c)) (fun j c => x2 (ix2 j c)) (y 1)

/-- What the block's 512 query rows add to the key and value gradient. -/
def dkvBlk : Vec Ideal S256x2048 .f32 := fun y =>
  ∑ r : Fin 512, Xattn.dkv (fun c => x0 (ix2 r c)) (fun j c => x1 (ix2 j c)) (fun c => x3 (ix2 r c)) (fun j c => x2 (ix2 j c)) (y 0) (y 1)

/-- A head's columns of a block with 1024 columns. -/
theorem ld_cols {n : ℕ} {e : EltTy} (X : Vec Ideal ⟨2, ![n, 1024]⟩ e) (o : ℕ) (ho : o % 256 = 0) (inb) (r : Fin n) (d : Fin 256)
    (c : Fin 1024) (hc : c.val / 256 * 256 = o) :
    View.ld X (Rect.unit ![0, o] ![n, 256] inb) (ix2 r d) = X (ix2 r (Xattn.pos c d)) := by
  refine View.ld_unit_apply_of _ _ _ _ _ _ fun a => ?_
  fin_cases a
  · simp
  · simp [Xattn.pos, hc]

/-- Where a rectangle of whole rows and a range of columns places an index. -/
theorem emb_cols {m n w o : ℕ} (inb : ∀ a, (![0, o] : Fin 2 → ℕ) a + ![m, w] a ≤ (⟨2, ![m, n]⟩ : Shape).size a) (r : Fin m) (d : Fin w)
    (h : o + d.val < n) : (Rect.unit ![0, o] ![m, w] inb : Rect ⟨2, ![m, n]⟩).emb (ix2 r d) = ix2 r ⟨o + d.val, h⟩ := by
  refine Rect.emb_eq_of_coords _ _ _ fun a => ?_
  fin_cases a
  · show r.val = 0 + 1 * r.val
    omega
  · show o + d.val = o + 1 * d.val
    omega

section head

variable (o : ℕ) (ho : o % 256 = 0) (i0 : ∀ a, (![0, o] : Fin 2 → ℕ) a + ![512, 256] a ≤ S512x1024.size a)
  (i1 : ∀ a, (![0, o] : Fin 2 → ℕ) a + ![256, 256] a ≤ S256x1024.size a)
include ho

theorem score_cols (r : Fin 512) (c : Fin 1024) (hc : c.val / 256 * 256 = o) :
    Head.score (View.ld x0 (Rect.unit ![0, o] ![512, 256] i0)) (View.ld x1 (Rect.unit ![0, o] ![256, 256] i1)) r
      = Xattn.score (fun c => x0 (ix2 r c)) (fun j c => x1 (ix2 j c)) c := by
  funext j
  unfold Head.score Xattn.score
  refine congrArg (· * Xattn.sixteenth) (Finset.sum_congr rfl fun d _ => ?_)
  rw [ld_cols x0 o ho i0 r d c hc, ld_cols x1 o ho i1 j d c hc]

theorem up_cols (r : Fin 512) (c : Fin 1024) (hc : c.val / 256 * 256 = o) :
    Head.up (View.ld x3 (Rect.unit ![0, o] ![512, 256] i0)) (View.ld x2 (Rect.unit ![0, o] ![256, 256] i1)) r
      = Xattn.up (fun c => x3 (ix2 r c)) (fun j c => x2 (ix2 j c)) c := by
  funext j
  unfold Head.up Xattn.up
  refine Finset.sum_congr rfl fun d _ => ?_
  rw [ld_cols x3 o ho i0 r d c hc, ld_cols x2 o ho i1 j d c hc]

/-- A head's block of the query gradient. -/
theorem q_piece (y : (Rect.unit ![0, o] ![512, 256] i0 : Rect S512x1024).shape.Idx) :
    k0_pay4 (View.ld x0 (Rect.unit ![0, o] ![512, 256] i0)) (View.ld x1 (Rect.unit ![0, o] ![256, 256] i1))
        (View.ld x3 (Rect.unit ![0, o] ![512, 256] i0)) (View.ld x2 (Rect.unit ![0, o] ![256, 256] i1)) y
      = dqBlk x0 x1 x2 x3 ((Rect.unit ![0, o] ![512, 256] i0).emb y) := by
  obtain ⟨r, d, rfl⟩ : ∃ (r : Fin 512) (d : Fin 256), y = ix2 r d := ⟨y 0, y 1, eq_ix2 y⟩
  have hb : o + 256 ≤ 1024 := i0 1
  have hc : (⟨o + d.val, by omega⟩ : Fin 1024).val / 256 * 256 = o := by
    show (o + d.val) / 256 * 256 = o
    omega
  rw [emb_cols i0 r d (by omega)]
  rw [Head.pay4_apply, score_cols x0 x1 o ho i0 i1 r _ hc, up_cols x2 x3 o ho i0 i1 r _ hc]
  unfold dqBlk Xattn.dq
  refine Finset.sum_congr rfl fun j _ => ?_
  rw [ld_cols x1 o ho i1 j d _ hc]
  have hp : Xattn.pos ⟨o + d.val, by omega⟩ d = ⟨o + d.val, by omega⟩ := Fin.ext (by simp only [Xattn.pos]; omega)
  rw [hp]
  rfl

/-- A head's block of the key gradient. -/
theorem k_piece (io : ∀ a, (![0, o] : Fin 2 → ℕ) a + ![256, 256] a ≤ S256x2048.size a)
    (y : (Rect.unit ![0, o] ![256, 256] io : Rect S256x2048).shape.Idx) :
    Head.stepK (View.ld x0 (Rect.unit ![0, o] ![512, 256] i0)) (View.ld x1 (Rect.unit ![0, o] ![256, 256] i1))
        (View.ld x3 (Rect.unit ![0, o] ![512, 256] i0)) (View.ld x2 (Rect.unit ![0, o] ![256, 256] i1))
        (View.ld xo (Rect.unit ![0, o] ![256, 256] io)) y
      = xo ((Rect.unit ![0, o] ![256, 256] io).emb y) + dkvBlk x0 x1 x2 x3 ((Rect.unit ![0, o] ![256, 256] io).emb y) := by
  obtain ⟨j, d, rfl⟩ : ∃ (j : Fin 256) (d : Fin 256), y = ix2 j d := ⟨y 0, y 1, eq_ix2 y⟩
  have hb : o + 256 ≤ 1024 := i0 1
  have hc : (⟨o + d.val, by omega⟩ : Fin 1024).val / 256 * 256 = o := by
    show (o + d.val) / 256 * 256 = o
    omega
  rw [Head.stepK_apply]
  refine congrArg₂ (· + ·) rfl ?_
  rw [emb_cols io j d (by omega)]
  unfold dkvBlk
  refine Finset.sum_congr rfl fun r _ => ?_
  rw [score_cols x0 x1 o ho i0 i1 r _ hc, up_cols x2 x3 o ho i0 i1 r _ hc, ld_cols x0 o ho i0 r d _ hc]
  have hp : Xattn.pos ⟨o + d.val, by omega⟩ d = ⟨o + d.val, by omega⟩ := Fin.ext (by simp only [Xattn.pos]; omega)
  rw [hp]
  exact (Xattn.dkv_lo _ _ _ _ _ _ ⟨o + d.val, by omega⟩ rfl).symm

/-- A head's block of the value gradient. -/
theorem v_piece (io : ∀ a, (![0, 1024 + o] : Fin 2 → ℕ) a + ![256, 256] a ≤ S256x2048.size a)
    (y : (Rect.unit ![0, 1024 + o] ![256, 256] io : Rect S256x2048).shape.Idx) :
    Head.stepV (View.ld x0 (Rect.unit ![0, o] ![512, 256] i0)) (View.ld x1 (Rect.unit ![0, o] ![256, 256] i1))
        (View.ld x3 (Rect.unit ![0, o] ![512, 256] i0)) (View.ld xo (Rect.unit ![0, 1024 + o] ![256, 256] io)) y
      = xo ((Rect.unit ![0, 1024 + o] ![256, 256] io).emb y)
        + dkvBlk x0 x1 x2 x3 ((Rect.unit ![0, 1024 + o] ![256, 256] io).emb y) := by
  obtain ⟨j, d, rfl⟩ : ∃ (j : Fin 256) (d : Fin 256), y = ix2 j d := ⟨y 0, y 1, eq_ix2 y⟩
  have hb : o + 256 ≤ 1024 := i0 1
  have hc : (⟨o + d.val, by omega⟩ : Fin 1024).val / 256 * 256 = o := by
    show (o + d.val) / 256 * 256 = o
    omega
  rw [Head.stepV_apply]
  refine congrArg₂ (· + ·) rfl ?_
  rw [emb_cols io j d (by omega)]
  unfold dkvBlk
  refine Finset.sum_congr rfl fun r _ => ?_
  rw [score_cols x0 x1 o ho i0 i1 r _ hc, ld_cols x3 o ho i0 r d _ hc]
  have hp : Xattn.pos ⟨o + d.val, by omega⟩ d = ⟨o + d.val, by omega⟩ := Fin.ext (by simp only [Xattn.pos]; omega)
  rw [hp]
  show _ = Xattn.dkv _ _ _ _ j ⟨1024 + o + d.val, by omega⟩
  rw [Xattn.dkv_hi _ _ _ _ j ⟨1024 + o + d.val, by omega⟩ ⟨o + d.val, by omega⟩ (Nat.add_assoc 1024 o d.val)]
  rfl

end head

/-- The eight stores into the running key and value gradient `xo`, last first. -/
def kvPieces : List (View.Piece (Elt Ideal) S256x2048 .f32) :=
  [⟨Rect.unit ![0, 1792] ![256, 256] inb_S256x2048_S256x256_0_1792,
      Head.stepV (View.ld x0 (Rect.unit ![0, 768] ![512, 256] inb_S512x1024_S512x256_0_768)) (View.ld x1 (Rect.unit ![0, 768] ![256, 256] inb_S256x1024_S256x256_0_768))
        (View.ld x3 (Rect.unit ![0, 768] ![512, 256] inb_S512x1024_S512x256_0_768)) (View.ld xo (Rect.unit ![0, 1792] ![256, 256] inb_S256x2048_S256x256_0_1792))⟩,
   ⟨Rect.unit ![0, 768] ![256, 256] inb_S256x2048_S256x256_0_768,
      Head.stepK (View.ld x0 (Rect.unit ![0, 768] ![512, 256] inb_S512x1024_S512x256_0_768)) (View.ld x1 (Rect.unit ![0, 768] ![256, 256] inb_S256x1024_S256x256_0_768))
        (View.ld x3 (Rect.unit ![0, 768] ![512, 256] inb_S512x1024_S512x256_0_768)) (View.ld x2 (Rect.unit ![0, 768] ![256, 256] inb_S256x1024_S256x256_0_768)) (View.ld xo (Rect.unit ![0, 768] ![256, 256] inb_S256x2048_S256x256_0_768))⟩,
   ⟨Rect.unit ![0, 1536] ![256, 256] inb_S256x2048_S256x256_0_1536,
      Head.stepV (View.ld x0 (Rect.unit ![0, 512] ![512, 256] inb_S512x1024_S512x256_0_512)) (View.ld x1 (Rect.unit ![0, 512] ![256, 256] inb_S256x1024_S256x256_0_512))
        (View.ld x3 (Rect.unit ![0, 512] ![512, 256] inb_S512x1024_S512x256_0_512)) (View.ld xo (Rect.unit ![0, 1536] ![256, 256] inb_S256x2048_S256x256_0_1536))⟩,
   ⟨Rect.unit ![0, 512] ![256, 256] inb_S256x2048_S256x256_0_512,
      Head.stepK (View.ld x0 (Rect.unit ![0, 512] ![512, 256] inb_S512x1024_S512x256_0_512)) (View.ld x1 (Rect.unit ![0, 512] ![256, 256] inb_S256x1024_S256x256_0_512))
        (View.ld x3 (Rect.unit ![0, 512] ![512, 256] inb_S512x1024_S512x256_0_512)) (View.ld x2 (Rect.unit ![0, 512] ![256, 256] inb_S256x1024_S256x256_0_512)) (View.ld xo (Rect.unit ![0, 512] ![256, 256] inb_S256x2048_S256x256_0_512))⟩,
   ⟨Rect.unit ![0, 1280] ![256, 256] inb_S256x2048_S256x256_0_1280,
      Head.stepV (View.ld x0 (Rect.unit ![0, 256] ![512, 256] inb_S512x1024_S512x256_0_256)) (View.ld x1 (Rect.unit ![0, 256] ![256, 256] inb_S256x1024_S256x256_0_256))
        (View.ld x3 (Rect.unit ![0, 256] ![512, 256] inb_S512x1024_S512x256_0_256)) (View.ld xo (Rect.unit ![0, 1280] ![256, 256] inb_S256x2048_S256x256_0_1280))⟩,
   ⟨Rect.unit ![0, 256] ![256, 256] inb_S256x2048_S256x256_0_256,
      Head.stepK (View.ld x0 (Rect.unit ![0, 256] ![512, 256] inb_S512x1024_S512x256_0_256)) (View.ld x1 (Rect.unit ![0, 256] ![256, 256] inb_S256x1024_S256x256_0_256))
        (View.ld x3 (Rect.unit ![0, 256] ![512, 256] inb_S512x1024_S512x256_0_256)) (View.ld x2 (Rect.unit ![0, 256] ![256, 256] inb_S256x1024_S256x256_0_256)) (View.ld xo (Rect.unit ![0, 256] ![256, 256] inb_S256x2048_S256x256_0_256))⟩,
   ⟨Rect.unit ![0, 1024] ![256, 256] inb_S256x2048_S256x256_0_1024,
      Head.stepV (View.ld x0 (Rect.unit ![0, 0] ![512, 256] inb_S512x1024_S512x256_0_0)) (View.ld x1 (Rect.unit ![0, 0] ![256, 256] inb_S256x1024_S256x256_0_0))
        (View.ld x3 (Rect.unit ![0, 0] ![512, 256] inb_S512x1024_S512x256_0_0)) (View.ld xo (Rect.unit ![0, 1024] ![256, 256] inb_S256x2048_S256x256_0_1024))⟩,
   ⟨Rect.unit ![0, 0] ![256, 256] inb_S256x2048_S256x256_0_0,
      Head.stepK (View.ld x0 (Rect.unit ![0, 0] ![512, 256] inb_S512x1024_S512x256_0_0)) (View.ld x1 (Rect.unit ![0, 0] ![256, 256] inb_S256x1024_S256x256_0_0))
        (View.ld x3 (Rect.unit ![0, 0] ![512, 256] inb_S512x1024_S512x256_0_0)) (View.ld x2 (Rect.unit ![0, 0] ![256, 256] inb_S256x1024_S256x256_0_0)) (View.ld xo (Rect.unit ![0, 0] ![256, 256] inb_S256x2048_S256x256_0_0))⟩]

theorem kvPieces_of : View.PiecesOf (fun y => xo y + dkvBlk x0 x1 x2 x3 y) (kvPieces x0 x1 x2 x3 xo) :=
  ⟨v_piece x0 x1 x2 x3 xo 768 (by decide) _ _ _, k_piece x0 x1 x2 x3 xo 768 (by decide) _ _ _,
   v_piece x0 x1 x2 x3 xo 512 (by decide) _ _ _, k_piece x0 x1 x2 x3 xo 512 (by decide) _ _ _,
   v_piece x0 x1 x2 x3 xo 256 (by decide) _ _ _, k_piece x0 x1 x2 x3 xo 256 (by decide) _ _ _,
   v_piece x0 x1 x2 x3 xo 0 (by decide) _ _ _, k_piece x0 x1 x2 x3 xo 0 (by decide) _ _ _, trivial⟩

theorem kvPieces_cover (y : S256x2048.Idx) : ∃ p ∈ kvPieces x0 x1 x2 x3 xo, y ∈ p.1.set :=
  View.cover_of_tiledL (kvPieces x0 x1 x2 x3 xo) ![256, 256] (by sl_kernel_rfl) y

/-- The four stores into the block of the query gradient, last first. -/
def qPieces : List (View.Piece (Elt Ideal) S512x1024 .bf16) :=
  [⟨Rect.unit ![0, 768] ![512, 256] inb_S512x1024_S512x256_0_768,
      k0_pay4 (View.ld x0 (Rect.unit ![0, 768] ![512, 256] inb_S512x1024_S512x256_0_768)) (View.ld x1 (Rect.unit ![0, 768] ![256, 256] inb_S256x1024_S256x256_0_768))
        (View.ld x3 (Rect.unit ![0, 768] ![512, 256] inb_S512x1024_S512x256_0_768)) (View.ld x2 (Rect.unit ![0, 768] ![256, 256] inb_S256x1024_S256x256_0_768))⟩,
   ⟨Rect.unit ![0, 512] ![512, 256] inb_S512x1024_S512x256_0_512,
      k0_pay4 (View.ld x0 (Rect.unit ![0, 512] ![512, 256] inb_S512x1024_S512x256_0_512)) (View.ld x1 (Rect.unit ![0, 512] ![256, 256] inb_S256x1024_S256x256_0_512))
        (View.ld x3 (Rect.unit ![0, 512] ![512, 256] inb_S512x1024_S512x256_0_512)) (View.ld x2 (Rect.unit ![0, 512] ![256, 256] inb_S256x1024_S256x256_0_512))⟩,
   ⟨Rect.unit ![0, 256] ![512, 256] inb_S512x1024_S512x256_0_256,
      k0_pay4 (View.ld x0 (Rect.unit ![0, 256] ![512, 256] inb_S512x1024_S512x256_0_256)) (View.ld x1 (Rect.unit ![0, 256] ![256, 256] inb_S256x1024_S256x256_0_256))
        (View.ld x3 (Rect.unit ![0, 256] ![512, 256] inb_S512x1024_S512x256_0_256)) (View.ld x2 (Rect.unit ![0, 256] ![256, 256] inb_S256x1024_S256x256_0_256))⟩,
   ⟨Rect.unit ![0, 0] ![512, 256] inb_S512x1024_S512x256_0_0,
      k0_pay4 (View.ld x0 (Rect.unit ![0, 0] ![512, 256] inb_S512x1024_S512x256_0_0)) (View.ld x1 (Rect.unit ![0, 0] ![256, 256] inb_S256x1024_S256x256_0_0))
        (View.ld x3 (Rect.unit ![0, 0] ![512, 256] inb_S512x1024_S512x256_0_0)) (View.ld x2 (Rect.unit ![0, 0] ![256, 256] inb_S256x1024_S256x256_0_0))⟩]

theorem qPieces_of : View.PiecesOf (dqBlk x0 x1 x2 x3) (qPieces x0 x1 x2 x3) :=
  ⟨q_piece x0 x1 x2 x3 768 (by decide) _ _, q_piece x0 x1 x2 x3 512 (by decide) _ _, q_piece x0 x1 x2 x3 256 (by decide) _ _,
   q_piece x0 x1 x2 x3 0 (by decide) _ _, trivial⟩

theorem qPieces_cover (y : S512x1024.Idx) : ∃ p ∈ qPieces x0 x1 x2 x3, y ∈ p.1.set :=
  View.cover_of_tiledL (qPieces x0 x1 x2 x3) ![512, 256] (by sl_kernel_rfl) y

theorem out_B_5 (c : Dev nD) (i : grid0.Coords) (a1 : Memref sig .tc .vmem S512x1024 .bf16) (h1 : a1.IsWhole)
    (a2 : Memref sig .tc .vmem S256x1024 .bf16) (h2 : a2.IsWhole) (a3 : Memref sig .tc .vmem S256x1024 .bf16) (h3 : a3.IsWhole)
    (a4 : Memref sig .tc .vmem S512x1024 .f32) (h4 : a4.IsWhole) (a5 : Memref sig .tc .vmem S512x1024 .bf16) (h5 : a5.IsWhole)
    (a6 : Memref sig .tc .vmem S256x2048 .f32) (h6 : a6.IsWhole) (hc : ¬cond0_0 i) :
    out0_B_5 c i a1 h1 a2 h2 a3 h3 a4 h4 a5 h5 a6 h6 hc x0 x1 x2 x3 xo = fun y => xo y + dkvBlk x0 x1 x2 x3 y := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  simp only [View.readAt_eq_ld, h1.read_unread, h2.read_unread, h3.read_unread, h4.read_unread, h6.read_unread]
  simp only [Head.q1, Head.q2, Head.q3, Head.k0, Head.k1, Head.k2, Head.k3, Head.v0, Head.v1, Head.v2, Head.v3]
  funext y
  exact View.canon_append_of_piecesOf (fun y => xo y + dkvBlk x0 x1 x2 x3 y) [] (kvPieces x0 x1 x2 x3 xo) (kvPieces_of x0 x1 x2 x3 xo) y
    (kvPieces_cover x0 x1 x2 x3 xo y)

theorem out_A_5 (c : Dev nD) (i : grid0.Coords) (a1 : Memref sig .tc .vmem S512x1024 .bf16) (h1 : a1.IsWhole)
    (a2 : Memref sig .tc .vmem S256x1024 .bf16) (h2 : a2.IsWhole) (a3 : Memref sig .tc .vmem S256x1024 .bf16) (h3 : a3.IsWhole)
    (a4 : Memref sig .tc .vmem S512x1024 .f32) (h4 : a4.IsWhole) (a5 : Memref sig .tc .vmem S512x1024 .bf16) (h5 : a5.IsWhole)
    (a6 : Memref sig .tc .vmem S256x2048 .f32) (h6 : a6.IsWhole) (hc : cond0_0 i) :
    out0_A_5 c i a1 h1 a2 h2 a3 h3 a4 h4 a5 h5 a6 h6 hc x0 x1 x2 x3 = dkvBlk x0 x1 x2 x3 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread]
  simp (disch := decide) only [View.readCov_skip, View.readCov_fill]
  simp only [Head.q1, Head.q2, Head.q3, Head.k0, Head.k1, Head.k2, Head.k3, Head.v0, Head.v1, Head.v2, Head.v3]
  funext y
  let z : Vec Ideal S256x2048 .f32 := k0_pay1 (F := Ideal)
  refine (View.canon_append_of_piecesOf (fun y => z y + dkvBlk x0 x1 x2 x3 y) [⟨Rect.unit ![0, 0] ![256, 2048] inb_S256x2048_S256x2048_0_0, z⟩]
    (kvPieces x0 x1 x2 x3 z) (kvPieces_of x0 x1 x2 x3 z) y (kvPieces_cover x0 x1 x2 x3 z y)).trans ?_
  show (k0_pay1 (F := Ideal) y : EReal) + _ = _
  rw [show (k0_pay1 (F := Ideal) y : EReal) = Ideal.ofBits .f32 0x00000000#32 from rfl, Ideal.ofBits_zero_f32]
  exact zero_add _

theorem out_B_4 (c : Dev nD) (i : grid0.Coords) (a1 : Memref sig .tc .vmem S512x1024 .bf16) (h1 : a1.IsWhole)
    (a2 : Memref sig .tc .vmem S256x1024 .bf16) (h2 : a2.IsWhole) (a3 : Memref sig .tc .vmem S256x1024 .bf16) (h3 : a3.IsWhole)
    (a4 : Memref sig .tc .vmem S512x1024 .f32) (h4 : a4.IsWhole) (a5 : Memref sig .tc .vmem S512x1024 .bf16) (h5 : a5.IsWhole)
    (a6 : Memref sig .tc .vmem S256x2048 .f32) (h6 : a6.IsWhole) (hc : ¬cond0_0 i) :
    out0_B_4 c i a1 h1 a2 h2 a3 h3 a4 h4 a5 h5 a6 h6 hc x0 x1 x2 x3 xo = dqBlk x0 x1 x2 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  simp only [View.readAt_eq_ld, h1.read_unread, h2.read_unread, h3.read_unread, h4.read_unread, h6.read_unread]
  simp only [Head.q1, Head.q2, Head.q3, Head.k0, Head.k1, Head.k2, Head.k3, Head.v0, Head.v1, Head.v2, Head.v3]
  funext y
  exact View.canon_append_of_piecesOf (dqBlk x0 x1 x2 x3) [] (qPieces x0 x1 x2 x3) (qPieces_of x0 x1 x2 x3) y (qPieces_cover x0 x1 x2 x3 y)

theorem out_A_4 (c : Dev nD) (i : grid0.Coords) (a1 : Memref sig .tc .vmem S512x1024 .bf16) (h1 : a1.IsWhole)
    (a2 : Memref sig .tc .vmem S256x1024 .bf16) (h2 : a2.IsWhole) (a3 : Memref sig .tc .vmem S256x1024 .bf16) (h3 : a3.IsWhole)
    (a4 : Memref sig .tc .vmem S512x1024 .f32) (h4 : a4.IsWhole) (a5 : Memref sig .tc .vmem S512x1024 .bf16) (h5 : a5.IsWhole)
    (a6 : Memref sig .tc .vmem S256x2048 .f32) (h6 : a6.IsWhole) (hc : cond0_0 i) :
    out0_A_4 c i a1 h1 a2 h2 a3 h3 a4 h4 a5 h5 a6 h6 hc x0 x1 x2 x3 = dqBlk x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread]
  simp only [Head.q1, Head.q2, Head.q3, Head.k0, Head.k1, Head.k2, Head.k3, Head.v0, Head.v1, Head.v2, Head.v3]
  funext y
  exact View.canon_append_of_piecesOf (dqBlk x0 x1 x2 x3) [] (qPieces x0 x1 x2 x3) (qPieces_of x0 x1 x2 x3) y (qPieces_cover x0 x1 x2 x3 y)

end Cert.KernelIdeal.Body

end
-- ==== Proof.XattnKernel.lean ====
/-
  The kernel's run: its two result arrays, index by index, from the argument arrays.
-/
module

public import proofs.«01_k».proof.Proof.XattnBody
public import Idealize.ShloMosaic.Lib.Pipeline.Value
public import Mathlib.Algebra.BigOperators.Fin

@[expose] public section

set_option maxRecDepth 16384

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Query row `i`. -/
def qrow (c : Dev nD) (i : Fin 2048) : Fin 1024 → EReal := fun k => m ((c : Thread nD τ).loc main_arg0) (ix2 i k : S2048x1024.Idx)
/-- The keys. -/
def keys (c : Dev nD) (j : Fin 256) : Fin 1024 → EReal := fun k => m ((c : Thread nD τ).loc main_arg1) (ix2 j ⟨k.val, by omega⟩ : S256x2048.Idx)
/-- The values. -/
def vals (c : Dev nD) (j : Fin 256) : Fin 1024 → EReal := fun k => m ((c : Thread nD τ).loc main_arg1) (ix2 j ⟨1024 + k.val, by omega⟩ : S256x2048.Idx)
/-- Upstream gradient row `i`. -/
def drow (c : Dev nD) (i : Fin 2048) : Fin 1024 → EReal := fun k => m ((c : Thread nD τ).loc main_arg2) (ix2 i k : S2048x1024.Idx)

/-- Row `r` of block `t` of the rows. -/
def rowOf (t : Fin cfg0.N) (r : Fin 512) : Fin 2048 := ⟨t.val * 512 + r.val, by have := t.isLt; have : cfg0.N = 4 := N_0; omega⟩

theorem iblk0_apply (c : Dev nD) (t : Fin cfg0.N) (r : Fin 512) (k : Fin 1024) :
    (iblk m c 0 t : Vec Ideal S512x1024 .bf16) (ix2 r k) = qrow m c (rowOf t r) k := by
  have hi : win0_0.index t 0 = t.val ∧ win0_0.index t 1 = 0 := by
    rcases fin_N0 t with rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * k.val = k.val; rw [hi.2]; omega

theorem iblk3_apply (c : Dev nD) (t : Fin cfg0.N) (r : Fin 512) (k : Fin 1024) :
    (iblk m c 3 t : Vec Ideal S512x1024 .f32) (ix2 r k) = drow m c (rowOf t r) k := by
  have hi : win0_3.index t 0 = t.val ∧ win0_3.index t 1 = 0 := by
    rcases fin_N0 t with rfl | rfl | rfl | rfl <;> decide
  unfold iblk
  rw [View.read_apply]
  show V m c main_arg2 _ = m (c.tc.loc main_arg2) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * k.val = k.val; rw [hi.2]; omega

theorem iblk1_apply (c : Dev nD) (t : Fin cfg0.N) (j : Fin 256) (k : Fin 1024) :
    (iblk m c 1 t : Vec Ideal S256x1024 .bf16) (ix2 j k) = keys m c j k := by
  have hi : win0_1.index t 0 = 0 ∧ win0_1.index t 1 = 0 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 256 + 1 * j.val = j.val; rw [hi.1]; omega
  | ⟨1, _⟩ => show win0_1.index t 1 * 1024 + 1 * k.val = k.val; rw [hi.2]; omega

theorem iblk2_apply (c : Dev nD) (t : Fin cfg0.N) (j : Fin 256) (k : Fin 1024) :
    (iblk m c 2 t : Vec Ideal S256x1024 .bf16) (ix2 j k) = vals m c j k := by
  have hi : win0_2.index t 0 = 0 ∧ win0_2.index t 1 = 1 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_2.index t 0 * 256 + 1 * j.val = j.val; rw [hi.1]; omega
  | ⟨1, _⟩ => show win0_2.index t 1 * 1024 + 1 * k.val = 1024 + k.val; rw [hi.2]; omega

/-- The query gradient. -/
def dq (c : Dev nD) : Buf (Elt Ideal) ((c : Thread nD τ).loc main_v0_0) := fun y : S2048x1024.Idx =>
  Xattn.dq (qrow m c (y 0)) (keys m c) (drow m c (y 0)) (vals m c) (y 1)

/-- The key and value gradient. -/
def dkv (c : Dev nD) : Buf (Elt Ideal) ((c : Thread nD τ).loc main_v0_1) := fun y : S256x2048.Idx =>
  Xattn.dkvAll (qrow m c) (keys m c) (drow m c) (vals m c) (y 0) (y 1)

theorem keys_eq (c : Dev nD) (t : Fin cfg0.N) : (fun j k => (iblk m c 1 t : Vec Ideal S256x1024 .bf16) (ix2 j k)) = keys m c :=
  funext fun j => funext fun k => iblk1_apply m c t j k
theorem vals_eq (c : Dev nD) (t : Fin cfg0.N) : (fun j k => (iblk m c 2 t : Vec Ideal S256x1024 .bf16) (ix2 j k)) = vals m c :=
  funext fun j => funext fun k => iblk2_apply m c t j k
theorem qrow_eq (c : Dev nD) (t : Fin cfg0.N) (r : Fin 512) :
    (fun k => (iblk m c 0 t : Vec Ideal S512x1024 .bf16) (ix2 r k)) = qrow m c (rowOf t r) := funext fun k => iblk0_apply m c t r k
theorem drow_eq (c : Dev nD) (t : Fin cfg0.N) (r : Fin 512) :
    (fun k => (iblk m c 3 t : Vec Ideal S512x1024 .f32) (ix2 r k)) = drow m c (rowOf t r) := funext fun k => iblk3_apply m c t r k

/-- What block `t` of the rows adds to the key and value gradient. -/
def part (c : Dev nD) (t : Fin cfg0.N) : Vec Ideal S256x2048 .f32 := fun y =>
  ∑ r : Fin 512, Xattn.dkv (qrow m c (rowOf t r)) (keys m c) (drow m c (rowOf t r)) (vals m c) (y 0) (y 1)

theorem dkvBlk_eq (c : Dev nD) (t : Fin cfg0.N) : dkvBlk (iblk m c 0 t) (iblk m c 1 t) (iblk m c 2 t) (iblk m c 3 t) = part m c t := by
  funext y
  unfold dkvBlk part
  refine Finset.sum_congr rfl fun r _ => ?_
  rw [keys_eq m c t, vals_eq m c t, qrow_eq m c t r, drow_eq m c t r]

/-- At every point the block of the query gradient is the point's own. -/
theorem outs_fst (c : Dev nD) (t : Fin cfg0.N) :
    (outsAt0 m c t.val t.isLt).1 = dqBlk (iblk m c 0 t) (iblk m c 1 t) (iblk m c 2 t) (iblk m c 3 t) := by
  by_cases h0 : t.val % 4 = 0
  · rw [outsAt0_A m c t h0, out_A_4]
  · rw [outsAt0_B m c t h0, out_B_4]

/-- After point `n` the running gradient is the sum of the blocks up to it. -/
theorem outs_snd (c : Dev nD) : ∀ (n : ℕ) (h : n < cfg0.N) (y : S256x2048.Idx),
    (outsAt0 m c n h).2 y = ∑ t : Fin (n + 1), part m c ⟨t.val, by omega⟩ y
  | 0, h, y => by
    rw [outsAt0_A m c ⟨0, h⟩ rfl, out_A_5, dkvBlk_eq, Fin.sum_univ_one]
    rfl
  | n + 1, h, y => by
    have hN : cfg0.N = 4 := N_0
    have hB : ¬(⟨n + 1, h⟩ : Fin cfg0.N).val % 4 = 0 := by dsimp only; omega
    rw [outsAt0_B m c ⟨n + 1, h⟩ hB, out_B_5, dkvBlk_eq, Fin.sum_univ_castSucc]
    exact congrArg (· + part m c ⟨n + 1, h⟩ y) (outs_snd c n _ y)

theorem sum_parts (c : Dev nD) (y : S256x2048.Idx) :
    ∑ t : Fin 4, part m c ⟨t.val, by have : cfg0.N = 4 := N_0; omega⟩ y = dkv m c y := by
  unfold part dkv Xattn.dkvAll
  rw [← Fintype.sum_prod_type', ← (finProdFinEquiv (m := 4) (n := 512)).sum_comp]
  refine Finset.sum_congr rfl fun p _ => ?_
  have he : rowOf ⟨p.1.val, by have : cfg0.N = 4 := N_0; omega⟩ p.2 = finProdFinEquiv p :=
    Fin.ext (by simp [rowOf, finProdFinEquiv]; omega)
  rw [he]

theorem flushed_q (c : Dev nD) (t : Fin cfg0.N) (hf : (cfg0.win 4).flush t = true) :
    (dats m 0 c).flushed 4 t = ((cfg0.win 4).blk t).view.read (Elt Ideal) (dq m c) := by
  rw [Value.flushed4, outs_fst]
  have hi : win0_4.index t 0 = t.val ∧ win0_4.index t 1 = 0 := by
    rcases fin_N0 t with rfl | rfl | rfl | rfl <;> decide
  funext y
  rw [View.read_apply]
  obtain ⟨r, k, rfl⟩ : ∃ (r : Fin 512) (k : Fin 1024), y = ix2 r k := ⟨y 0, y 1, eq_ix2 y⟩
  show dqBlk _ _ _ _ (ix2 r k : S512x1024.Idx) = dq m c _
  have he : (((cfg0.win 4).blk t).view.emb (ix2 r k) : S2048x1024.Idx) = ix2 (rowOf t r) k := by
    funext a
    apply Fin.ext
    match a with
    | ⟨0, _⟩ => show win0_4.index t 0 * 512 + 1 * r.val = t.val * 512 + r.val; rw [hi.1]; omega
    | ⟨1, _⟩ => show win0_4.index t 1 * 1024 + 1 * k.val = k.val; rw [hi.2]; omega
  refine Eq.trans ?_ (congrArg (dq m c) he).symm
  unfold dqBlk dq
  simp only [ix2_0, ix2_1]
  rw [keys_eq m c t, vals_eq m c t, qrow_eq m c t r, drow_eq m c t r]

theorem final_q (c : Dev nD) : (dats m 0 c).arrAt 4 cfg0.N = dq m c :=
  (dats m 0 c).arrAt_eq_of_cover 4 (dq m c) (flushed_q m c) fun i => by
    have hN : cfg0.N = 4 := N_0
    have h0 : (i 0 : Nat) < 2048 := (i 0).isLt
    have h1 : (i 1 : Nat) < 1024 := (i 1).isLt
    refine ⟨⟨(i 0 : Nat) / 512, by omega⟩, flush0_4 _, ?_⟩
    generalize ht : (⟨(i 0 : Nat) / 512, by omega⟩ : Fin cfg0.N) = t
    have htv : t.val = (i 0 : Nat) / 512 := by rw [← ht]
    show i ∈ ((View.whole main_v0_0).slice (win0_4.rect t)).set
    rw [View.set_slice_whole, Rect.mem_set_unit]
    have e : win0_4.index t 0 * win0_4.size 0 = t.val * 512 ∧ win0_4.xsize (grid0.coords t) 0 = 512
        ∧ win0_4.index t 1 * win0_4.size 1 = 0 ∧ win0_4.xsize (grid0.coords t) 1 = 1024 := by
      clear htv ht
      rcases fin_N0 t with rfl | rfl | rfl | rfl <;> decide +kernel
    intro a
    match a with
    | ⟨0, _⟩ => show win0_4.index t 0 * win0_4.size 0 ≤ (i 0 : Nat) ∧ (i 0 : Nat) < win0_4.index t 0 * win0_4.size 0 + win0_4.xsize (grid0.coords t) 0
                rw [e.1, e.2.1]; omega
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

theorem flushed_kv (c : Dev nD) (t : Fin cfg0.N) (hf : (cfg0.win 5).flush t = true) :
    (dats m 0 c).flushed 5 t = ((cfg0.win 5).blk t).view.read (Elt Ideal) (dkv m c) := by
  have hN : cfg0.N = 4 := N_0
  have h3 : t.val = 3 := by have := (flush0_5 t).mp hf; have := t.isLt; omega
  obtain rfl : t = t0_3 := Fin.ext h3
  rw [Value.flushed5]
  funext y
  rw [View.read_apply]
  obtain ⟨r, k, rfl⟩ : ∃ (r : Fin 256) (k : Fin 2048), y = ix2 r k := ⟨y 0, y 1, eq_ix2 y⟩
  show (outsAt0 m c t0_3.val t0_3.isLt).2 (ix2 r k : S256x2048.Idx) = dkv m c _
  have hi : win0_5.index t0_3 0 = 0 ∧ win0_5.index t0_3 1 = 0 := by decide
  have he : (((cfg0.win 5).blk t0_3).view.emb (ix2 r k) : S256x2048.Idx) = ix2 r k := by
    funext a
    apply Fin.ext
    match a with
    | ⟨0, _⟩ => show win0_5.index t0_3 0 * 256 + 1 * r.val = r.val; rw [hi.1]; omega
    | ⟨1, _⟩ => show win0_5.index t0_3 1 * 2048 + 1 * k.val = k.val; rw [hi.2]; omega
  refine Eq.trans ?_ (congrArg (dkv m c) he).symm
  rw [outs_snd]
  exact sum_parts m c (ix2 r k)

theorem final_kv (c : Dev nD) : (dats m 0 c).arrAt 5 cfg0.N = dkv m c :=
  (dats m 0 c).arrAt_eq_of_cover 5 (dkv m c) (flushed_kv m c) fun i =>
    ⟨t0_3, (flush0_5 t0_3).mpr rfl, by
      show i ∈ ((View.whole main_v0_1).slice (win0_5.rect t0_3)).set
      rw [View.set_slice_whole, Rect.mem_set_unit]
      intro a
      have h0 : (i 0 : Nat) < 256 := (i 0).isLt
      have h1 : (i 1 : Nat) < 2048 := (i 1).isLt
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 256 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 2048 from by decide +kernel]; omega⟩

/-- The run, read. -/
theorem run : θ_run defs (onTc (τ := τ) (main (F := Ideal))) ⟨m, fun _ => 0, ρ⟩ fun r => ∀ c : Dev nD,
      r.2.mem ((c : Thread nD τ).loc main_v0_0) = dq m c
      ∧ r.2.mem ((c : Thread nD τ).loc main_v0_1) = dkv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_q m c), (h c).2.1.trans (final_kv m c), (h c).2.2⟩)
    (Value.run_blocks m ρ)

end Cert.KernelIdeal.Arrays

end
-- ==== Proof.XattnRef.lean ====
/-
  The reference, index by index: the same quantities per query row, differentiated through the quotient.
-/
module

public import proofs.«01_k».proof.Proof.XattnSpec
public import proofs.«01_k».proof.Proof.Gen.ReferenceIdeal.Run
public import proofs.«01_k».proof.Proof.Gen.ReferenceIdeal.Read
public import Idealize.ShloMosaic.Lib.Pointwise
public import Idealize.ShloMosaic.Lib.Pipeline.Value

@[expose] public section

set_option maxRecDepth 16384

noncomputable section

namespace Cert.ReferenceIdeal.Arrays

open Cert.ReferenceIdeal Cert.ReferenceIdeal.Gen Cert.ReferenceIdeal.Read Idealize.ShloMosaic Idealize.ShloMosaic.TcCoe

variable (x0 : (⟨S2048x1024, .bf16⟩ : BufTy).Contents (Elt Ideal)) (x1 : (⟨S256x2048, .bf16⟩ : BufTy).Contents (Elt Ideal))
  (x2 : (⟨S2048x1024, .f32⟩ : BufTy).Contents (Elt Ideal))

/-- Column `d` of head `h`. -/
def col (h : Fin 4) (d : Fin 256) : Fin 1024 := ⟨h.val * 256 + d.val, by omega⟩

theorem pos_col (h : Fin 4) (e d : Fin 256) : Xattn.pos (col h e) d = col h d :=
  Fin.ext (by simp only [Xattn.pos, col]; omega)

theorem col_self (c : Fin 1024) : col ⟨c.val / 256, by omega⟩ ⟨c.val % 256, by omega⟩ = c :=
  Fin.ext (by simp only [col]; omega)

/-- Query row `i`. -/
def qrow (i : Fin 2048) : Fin 1024 → EReal := fun k => x0 (ix2 i k : S2048x1024.Idx)
/-- The keys. -/
def keys (j : Fin 256) : Fin 1024 → EReal := fun k => x1 (ix2 j ⟨k.val, by omega⟩ : S256x2048.Idx)
/-- The values. -/
def vals (j : Fin 256) : Fin 1024 → EReal := fun k => x1 (ix2 j ⟨1024 + k.val, by omega⟩ : S256x2048.Idx)
/-- Upstream gradient row `i`. -/
def drow (i : Fin 2048) : Fin 1024 → EReal := fun k => x2 (ix2 i k : S2048x1024.Idx)

theorem v2 (s : Fin 2048) (h : Fin 4) (d : Fin 256) : val_main_v2 (F := Ideal) x0 (ix3 s h d) = qrow x0 s (col h d) := by
  pointwise [val_main_v2, val_main_v0]
  rfl

theorem v5 (j : Fin 256) (h : Fin 4) (d : Fin 256) : val_main_v5 (F := Ideal) x1 (ix3 j h d) = keys x1 j (col h d) := by
  pointwise [val_main_v5, val_main_v3, val_main_v1]
  rfl

theorem v6 (j : Fin 256) (h : Fin 4) (d : Fin 256) : val_main_v6 (F := Ideal) x1 (ix3 j h d) = vals x1 j (col h d) := by
  pointwise [val_main_v6, val_main_v4, val_main_v1]
  rfl

theorem v42 (s : Fin 2048) (h : Fin 4) (d : Fin 256) : val_main_v42 (F := Ideal) x2 (ix3 h d s) = drow x2 s (col h d) := by
  pointwise [val_main_v42, val_main_v41]
  rfl

/-- The scores of row `s` under head `h` (named by its column `e`). -/
abbrev sc (s : Fin 2048) (h : Fin 4) (e : Fin 256) : Fin 256 → EReal := Xattn.score (qrow x0 s) (keys x1) (col h e)
/-- The upstream gradient of the probabilities. -/
abbrev dp (s : Fin 2048) (h : Fin 4) (e : Fin 256) : Fin 256 → EReal := Xattn.up (drow x2 s) (vals x1) (col h e)

theorem v9 (s : Fin 2048) (h : Fin 4) (j e : Fin 256) : val_main_v9 (F := Ideal) x0 x1 (ix3 h s j) = sc x0 x1 s h e j := by
  pointwise [val_main_v9, val_main_v7, val_main_v8]
  simp only [v2, v5, sc, Xattn.score, pos_col]
  rfl

theorem bot_cst0 (i : S_.Idx) : val_main_cst_0 (F := Ideal) i = ⊥ := Xattn.ofBits_bot
theorem bot_cst2 (i : S_.Idx) : val_main_cst_2 (F := Ideal) i = ⊥ := Xattn.ofBits_bot
theorem zero_cst8 (i : S_.Idx) : val_main_cst_8 (F := Ideal) i = 0 := Ideal.ofBits_zero_f32
theorem one_cst9 (i : S_.Idx) : val_main_cst_9 (F := Ideal) i = 1 := Ideal.ofBits_one_f32
theorem zero_cst10 (i : S_.Idx) : val_main_cst_10 (F := Ideal) i = 0 := Ideal.ofBits_zero_f32
theorem zero_cst11 (i : S_.Idx) : val_main_cst_11 (F := Ideal) i = 0 := Ideal.ofBits_zero_f32

theorem v10 (s : Fin 2048) (h : Fin 4) (e : Fin 256) :
    val_main_v10 (F := Ideal) x0 x1 (ix2 h s) = SoftmaxRow.top (sc x0 x1 s h e) := by
  pointwise [val_main_v10]
  rw [bot_cst0]
  simp only [v9 x0 x1 s h _ e]
  rfl

theorem v16 (i : S4x2048.Idx) : val_main_v16 (F := Ideal) i = ⊥ := by
  rw [val_main_v16_apply, bot_cst2]

theorem v17 (s : Fin 2048) (h : Fin 4) (e : Fin 256) :
    val_main_v17 (F := Ideal) x0 x1 (ix2 h s) = SoftmaxRow.top (sc x0 x1 s h e) := by
  rw [val_main_v17_apply, v10 x0 x1 s h e, v16]
  exact max_bot_left _

theorem v30 (s : Fin 2048) (h : Fin 4) (j e : Fin 256) :
    val_main_v30 (F := Ideal) x0 x1 (ix3 h s j) = SoftmaxRow.ex (sc x0 x1 s h e) j := by
  pointwise [val_main_v30, val_main_v29, val_main_v28, val_main_v27]
  rw [v9 x0 x1 s h _ e, v17 x0 x1 s h e]
  rfl

theorem v31 (s : Fin 2048) (h : Fin 4) (e : Fin 256) :
    val_main_v31 (F := Ideal) x0 x1 (ix2 h s) = SoftmaxRow.den (sc x0 x1 s h e) := by
  pointwise [val_main_v31]
  simp only [v30 x0 x1 s h _ e]
  rw [zero_cst8, zero_add]
  rfl

theorem v34 (s : Fin 2048) (h : Fin 4) (j e : Fin 256) :
    val_main_v34 (F := Ideal) x0 x1 (ix3 h s j) = SoftmaxRow.prob (sc x0 x1 s h e) j := by
  pointwise [val_main_v34, val_main_v33, val_main_v32]
  rw [v30 x0 x1 s h _ e, v31 x0 x1 s h e]
  rfl

theorem v43 (s : Fin 2048) (h : Fin 4) (j e : Fin 256) :
    val_main_v43 (F := Ideal) x1 x2 (ix3 h s j) = dp x1 x2 s h e j := by
  pointwise [val_main_v43]
  simp only [v42, v6, dp, Xattn.up, pos_col]

theorem v49 (s : Fin 2048) (h : Fin 4) (e : Fin 256) :
    val_main_v49 (F := Ideal) x0 x1 x2 (ix2 h s) =
      ∑ k, dp x1 x2 s h e k * Ideal.div 1 (SoftmaxRow.den (sc x0 x1 s h e) * SoftmaxRow.den (sc x0 x1 s h e)) * SoftmaxRow.ex (sc x0 x1 s h e) k := by
  pointwise [val_main_v49, val_main_v48, val_main_v47, val_main_v46, val_main_v37, val_main_v36, val_main_v35, val_main_v32]
  simp only [v43 x1 x2 s h _ e, v30 x0 x1 s h _ e, v31 x0 x1 s h e]
  rw [zero_cst10, zero_add, one_cst9]

theorem v57 (s : Fin 2048) (h : Fin 4) (j e : Fin 256) :
    val_main_v57 (F := Ideal) x0 x1 x2 (ix3 h s j) = SoftmaxRow.gradQ (sc x0 x1 s h e) (dp x1 x2 s h e) j := by
  have hneg : val_main_v55 (F := Ideal) x0 x1 x2 (ix3 h s j) = -val_main_v49 (F := Ideal) x0 x1 x2 (ix2 h s) := by
    pointwise [val_main_v55, val_main_v54, val_main_v51, val_main_v50]
    rw [zero_cst11, zero_add]
    simp
  pointwise [val_main_v57, val_main_v56, val_main_v53, val_main_v52, val_main_v32]
  simp only [hneg, v43 x1 x2 s h _ e, v30 x0 x1 s h _ e, v31 x0 x1 s h e, v49 x0 x1 x2 s h e]
  rfl

theorem v59 (s : Fin 2048) (h : Fin 4) (j e : Fin 256) (hs : ∀ j, ∃ r : ℝ, sc x0 x1 s h e j = r) :
    val_main_v59 (F := Ideal) x0 x1 x2 (ix3 h s j) = Xattn.ds (qrow x0 s) (keys x1) (drow x2 s) (vals x1) (col h e) j := by
  pointwise [val_main_v59, val_main_v58]
  rw [v57 x0 x1 x2 s h j e, Xattn.ds, SoftmaxRow.grad_eq_gradQ _ _ hs]
  rfl

theorem v68 (hs : ∀ s h e j, ∃ r : ℝ, sc x0 x1 s h e j = r) (s : Fin 2048) (c : Fin 1024) :
    val_main_v68 (F := Ideal) x0 x1 x2 (ix2 s c) = Xattn.dq (qrow x0 s) (keys x1) (drow x2 s) (vals x1) c := by
  pointwise [val_main_v68, val_main_v67, val_main_v63, val_main_v62]
  rw [Xattn.dq]
  refine Finset.sum_congr rfl fun j _ => ?_
  rw [v59 x0 x1 x2 s _ j ⟨c.val % 256, by omega⟩ (hs s _ _), v5, col_self]

theorem v66 (hs : ∀ s h e j, ∃ r : ℝ, sc x0 x1 s h e j = r) (j : Fin 256) (c : Fin 2048) :
    val_main_v66 (F := Ideal) x0 x1 x2 (ix2 j c) = Xattn.dkvAll (qrow x0) (keys x1) (drow x2) (vals x1) j c := by
  pointwise [val_main_v66, val_main_v65, val_main_v64, val_main_v61, val_main_v60, val_main_v45, val_main_v44]
  rw [Xattn.dkvAll]
  by_cases hc : c.val < 1024
  · rw [dif_pos hc]
    refine Finset.sum_congr rfl fun s _ => ?_
    rw [v59 x0 x1 x2 s _ j ⟨c.val % 256, by omega⟩ (hs s _ _), v2, Xattn.dkv_lo _ _ _ _ j c ⟨c.val, hc⟩ rfl]
    rw [show col ⟨c.val / 256, by omega⟩ ⟨c.val % 256, by omega⟩ = ⟨c.val, hc⟩ from col_self ⟨c.val, hc⟩]
  · rw [dif_neg hc]
    refine Finset.sum_congr rfl fun s _ => ?_
    rw [v42, v34 x0 x1 s _ j ⟨(c.val - 1024) % 256, by omega⟩,
      Xattn.dkv_hi _ _ _ _ j c ⟨c.val - 1024, by omega⟩ (by show c.val = 1024 + (c.val - 1024); omega), mul_comm, Xattn.pr, sc]
    rw [show col ⟨(c.val - 1024) / 256, by omega⟩ ⟨(c.val - 1024) % 256, by omega⟩ = ⟨c.val - 1024, by omega⟩ from
      col_self ⟨c.val - 1024, by omega⟩]

end Cert.ReferenceIdeal.Arrays

end
-- ==== Proof.XattnFinite.lean ====
/-
  The precondition read back: queries, keys and values are real numbers, hence so is every score.
-/
module

public import proofs.«01_k».proof.Proof.XattnRef
public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic

/-- The predicate's side conditions. -/
theorem sides : Cert.Pre_finite.Facts where
  bitsLt_bf16_f32 := by decide
  bcast_S_S2048x1024 := by decide
  reducesTo_S2048x1024_S_d0_1 := by decide
  h_S_ := by decide
  bcast_S_S256x2048 := by decide
  reducesTo_S256x2048_S_d0_1 := by decide

/-- A number below infinity in absolute value is real. -/
theorem real_of_abs_lt (x : EReal) (h : max x (-x) < ⊤) : ∃ r : ℝ, x = r := by
  induction x with
  | bot => simp at h
  | top => simp at h
  | coe r => exact ⟨r, rfl⟩

theorem ofBits_top : Ideal.ofBits .f32 0x7F800000#32 = ⊤ := by
  simp [Ideal.ofBits, Ideal.ieee]

/-- The comparison of the predicate read back. -/
theorem real_of_cmp (x : EReal) (h : Ideal.cmp .olt (max x (-x)) (Ideal.ofBits .f32 0x7F800000#32) = 1#1) : ∃ r : ℝ, x = r := by
  refine real_of_abs_lt x ?_
  rw [ofBits_top] at h
  unfold Ideal.cmp at h
  by_contra hn
  simp [hn] at h

instance : Subsingleton S_.Idx := ⟨fun a b => funext fun i => i.elim0⟩

variable [Cert.Pre_finite.Facts]

/-- Under the predicate the first argument's entries are real. -/
theorem real0 (x0 : FVec Ideal S2048x1024 .bf16) (x1 : FVec Ideal S256x2048 .bf16) (x2 : FVec Ideal S2048x1024 .f32)
    (h : fn (F := Ideal) x0 x1 x2 = fun _ => 1#1) (i : S2048x1024.Idx) : ∃ r : ℝ, (x0 i : EReal) = r := by
  have h0 := congrFun h (fun a => a.elim0)
  unfold fn at h0
  exact real_of_cmp _ (Host.reduce_andi_all _ _ _ _ _ (IntOp.andi_eq_one.1 h0).1 i)

/-- Under the predicate the second argument's entries are real. -/
theorem real1 (x0 : FVec Ideal S2048x1024 .bf16) (x1 : FVec Ideal S256x2048 .bf16) (x2 : FVec Ideal S2048x1024 .f32)
    (h : fn (F := Ideal) x0 x1 x2 = fun _ => 1#1) (i : S256x2048.Idx) : ∃ r : ℝ, (x1 i : EReal) = r := by
  have h0 := congrFun h (fun a => a.elim0)
  unfold fn at h0
  exact real_of_cmp _ (Host.reduce_andi_all _ _ _ _ _ (IntOp.andi_eq_one.1 h0).2 i)

end Cert.Pre_finite

namespace Cert.Xattn

open Idealize.ShloMosaic

/-- The sum of real numbers among the extended reals. -/
theorem coe_finset_sum' {n : ℕ} (f : Fin n → ℝ) : ((∑ d, f d : ℝ) : EReal) = ∑ d, (f d : EReal) :=
  map_sum (⟨⟨Real.toEReal, rfl⟩, EReal.coe_add⟩ : ℝ →+ EReal) f Finset.univ

/-- Scores of real rows are real. -/
theorem score_real (x : Fin 1024 → EReal) (k : Fin 256 → Fin 1024 → EReal) (hx : ∀ d, ∃ r : ℝ, x d = r)
    (hk : ∀ j d, ∃ r : ℝ, k j d = r) (c : Fin 1024) (j : Fin 256) : ∃ r : ℝ, score x k c j = r := by
  choose a ha using hx
  choose b hb using hk
  refine ⟨(∑ d, a (pos c d) * b j (pos c d)) * (1 / 16), ?_⟩
  unfold score
  simp only [sixteenth_eq, ha, hb, EReal.coe_mul, coe_finset_sum']

end Cert.Xattn

end
-- ==== Proof.Tiles.lean ====
/-
  Arrays written block by block: what every tiled product uses.
-/
module

public import Idealize.ShloMosaic.Lib.Pipeline.Value
public import Idealize.ShloMosaic.Lib.Pointwise

@[expose] public section

noncomputable section

namespace Cert.Tiles

/-- The factors of a sum of products, exchanged. -/
theorem swap {K : ℕ} (f g : Fin K → EReal) : ∑ k, f k * g k = ∑ k, g k * f k := Finset.sum_congr rfl fun _ _ => mul_comm _ _

/-- A sum over four shards, shard by shard. -/
theorem four {N : ℕ} (C : ℕ) (h : N = C + C + C + C) (f : Fin N → EReal) :
    ∑ k, f k = ∑ k : Fin C, f ⟨k, by omega⟩ + ∑ k : Fin C, f ⟨C + k, by omega⟩ + ∑ k : Fin C, f ⟨C + C + k, by omega⟩
      + ∑ k : Fin C, f ⟨C + C + C + k, by omega⟩ := by
  subst h
  rw [Fin.sum_univ_add, Fin.sum_univ_add, Fin.sum_univ_add]
  rfl

/-- Two sums, each over two shards, shard by shard. -/
theorem halves {N : ℕ} (C : ℕ) (h : N = C + C) (f g : Fin N → EReal) :
    ∑ k, f k + ∑ k, g k = ∑ k : Fin C, f ⟨k, by omega⟩ + ∑ k : Fin C, f ⟨C + k, by omega⟩ + ∑ k : Fin C, g ⟨k, by omega⟩
      + ∑ k : Fin C, g ⟨C + k, by omega⟩ := by
  subst h
  rw [Fin.sum_univ_add, Fin.sum_univ_add, add_assoc (_ + _)]
  rfl

theorem zero_sub' (x : EReal) : 0 - x = -x := by rw [sub_eq_add_neg, zero_add]

end Cert.Tiles

end
-- ==== Proof.WeightGrads.lean ====
/-
  Gradients of weights: the transposed activations times the cotangent, tile by tile.
-/
module

public import proofs.«01_k».proof.Defs
public import proofs.«01_k».proof.Proof.Tiles
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.SquareDwIdeal.Value
public import proofs.«01_k».proof.Proof.Gen.SquareDwRefIdeal.Run
public import proofs.«01_k».proof.Proof.Gen.SquareDwRefIdeal.Read
public import proofs.«01_k».proof.Proof.Gen.XqDwIdeal.Value
public import proofs.«01_k».proof.Proof.Gen.XqDwRefIdeal.Run
public import proofs.«01_k».proof.Proof.Gen.XqDwRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.DownDwIdeal.Product

open Cert.DownDwIdeal Cert.DownDwIdeal.Gen Cert.DownDwRefIdeal.Read

theorem tiles : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1408) (q : Fin 512), y = ix2 r q := ⟨y 0, y 1, eq_ix2 y⟩
  pointwise [k0_pay1, val_main_v4, val_main_v3, val_main_v1]
  refine (Cert.Tiles.swap _ _).trans ?_
  blk_point [iblk, V, (tiles t).1, (tiles t).2]

theorem claim : Cert.algebraic_DownDwIdeal_DownDwRefIdeal (hDownDwIdeal := facts) (hDownDwRefIdeal := Cert.DownDwRefIdeal.Gen.facts) :=
  fun m ρ m' ρ' _ hag => ⟨fun c => val_main_v4 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.DownDwRefIdeal.Value.run (F := Ideal) m' ρ')⟩

end Cert.DownDwIdeal.Product

namespace Cert.InDwIdeal.Product

open Cert.InDwIdeal Cert.InDwIdeal.Gen Cert.InDwRefIdeal.Read

theorem tiles : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 768), y = ix2 r q := ⟨y 0, y 1, eq_ix2 y⟩
  pointwise [k0_pay1, val_main_v5, val_main_v4, val_main_v3, val_main_v2, val_main_v1]
  refine (Cert.Tiles.swap _ _).trans ?_
  blk_point [iblk, V, (tiles t).1, (tiles t).2]

theorem claim : Cert.algebraic_InDwIdeal_InDwRefIdeal (hInDwIdeal := facts) (hInDwRefIdeal := Cert.InDwRefIdeal.Gen.facts) :=
  fun m ρ m' ρ' _ hag => ⟨fun c => val_main_v5 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.InDwRefIdeal.Value.run (F := Ideal) m' ρ')⟩

end Cert.InDwIdeal.Product

namespace Cert.SquareDwIdeal.Product

open Cert.SquareDwIdeal Cert.SquareDwIdeal.Gen Cert.SquareDwRefIdeal.Read

theorem tiles : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 512), y = ix2 r q := ⟨y 0, y 1, eq_ix2 y⟩
  pointwise [k0_pay1, val_main_v4, val_main_v3, val_main_v2, val_main_v1]
  refine (Cert.Tiles.swap _ _).trans ?_
  blk_point [iblk, V, (tiles t).1, (tiles t).2]

theorem claim : Cert.algebraic_SquareDwIdeal_SquareDwRefIdeal (hSquareDwIdeal := facts) (hSquareDwRefIdeal := Cert.SquareDwRefIdeal.Gen.facts) :=
  fun m ρ m' ρ' _ hag => ⟨fun c => val_main_v4 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.SquareDwRefIdeal.Value.run (F := Ideal) m' ρ')⟩

end Cert.SquareDwIdeal.Product

namespace Cert.XqDwIdeal.Product

open Cert.XqDwIdeal Cert.XqDwIdeal.Gen Cert.XqDwRefIdeal.Read

theorem tiles : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v5, val_main_v4, val_main_v3, val_main_v2, val_main_v1]
  refine (Cert.Tiles.swap _ _).trans ?_
  blk_point [iblk, V, (tiles t).1, (tiles t).2]

theorem claim : Cert.algebraic_XqDwIdeal_XqDwRefIdeal (hXqDwIdeal := facts) (hXqDwRefIdeal := Cert.XqDwRefIdeal.Gen.facts) :=
  fun m ρ m' ρ' _ hag => ⟨fun c => val_main_v5 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XqDwRefIdeal.Value.run (F := Ideal) m' ρ')⟩

end Cert.XqDwIdeal.Product

end
-- ==== Proof.ActivationGrads.lean ====
/-
  Gradients of activations: the cotangent times the transposed weights, tile by tile.
-/
module

public import proofs.«01_k».proof.Defs
public import proofs.«01_k».proof.Proof.Tiles
public import proofs.«01_k».proof.Proof.Gen.DownDaIdeal.Value
public import proofs.«01_k».proof.Proof.Gen.DownDaRefIdeal.Run
public import proofs.«01_k».proof.Proof.Gen.DownDaRefIdeal.Read
public import proofs.«01_k».proof.Proof.Gen.InDaIdeal.Value
public import proofs.«01_k».proof.Proof.Gen.InDaRefIdeal.Run
public import proofs.«01_k».proof.Proof.Gen.InDaRefIdeal.Read
public import proofs.«01_k».proof.Proof.Gen.SquareDaIdeal.Value
public import proofs.«01_k».proof.Proof.Gen.SquareDaRefIdeal.Run
public import proofs.«01_k».proof.Proof.Gen.SquareDaRefIdeal.Read
public import proofs.«01_k».proof.Proof.Gen.XqDaIdeal.Value
public import proofs.«01_k».proof.Proof.Gen.XqDaRefIdeal.Run
public import proofs.«01_k».proof.Proof.Gen.XqDaRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.DownDaIdeal.Product

open Cert.DownDaIdeal Cert.DownDaIdeal.Gen Cert.DownDaRefIdeal.Read

theorem tiles : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 512) (q : Fin 2816), y = ix2 r q := ⟨y 0, y 1, eq_ix2 y⟩
  pointwise [k0_pay1, val_main_v3, val_main_v1]
  blk_point [iblk, V, (tiles t).1, (tiles t).2]

theorem claim : Cert.algebraic_DownDaIdeal_DownDaRefIdeal (hDownDaIdeal := facts) (hDownDaRefIdeal := Cert.DownDaRefIdeal.Gen.facts) :=
  fun m ρ m' ρ' _ hag => ⟨fun c => val_main_v3 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.DownDaRefIdeal.Value.run (F := Ideal) m' ρ')⟩

end Cert.DownDaIdeal.Product

namespace Cert.InDaIdeal.Product

open Cert.InDaIdeal Cert.InDaIdeal.Gen Cert.InDaRefIdeal.Read

theorem tiles : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 512), y = ix2 r q := ⟨y 0, y 1, eq_ix2 y⟩
  pointwise [k0_pay1, val_main_v4, val_main_v3, val_main_v2, val_main_v1]
  blk_point [iblk, V, (tiles t).1, (tiles t).2]

theorem claim : Cert.algebraic_InDaIdeal_InDaRefIdeal (hInDaIdeal := facts) (hInDaRefIdeal := Cert.InDaRefIdeal.Gen.facts) :=
  fun m ρ m' ρ' _ hag => ⟨fun c => val_main_v4 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.InDaRefIdeal.Value.run (F := Ideal) m' ρ')⟩

end Cert.InDaIdeal.Product

namespace Cert.SquareDaIdeal.Product

open Cert.SquareDaIdeal Cert.SquareDaIdeal.Gen Cert.SquareDaRefIdeal.Read

theorem tiles : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v3, val_main_v2, val_main_v1]
  blk_point [iblk, V, (tiles t).1, (tiles t).2]

theorem claim : Cert.algebraic_SquareDaIdeal_SquareDaRefIdeal (hSquareDaIdeal := facts) (hSquareDaRefIdeal := Cert.SquareDaRefIdeal.Gen.facts) :=
  fun m ρ m' ρ' _ hag => ⟨fun c => val_main_v3 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.SquareDaRefIdeal.Value.run (F := Ideal) m' ρ')⟩

end Cert.SquareDaIdeal.Product

namespace Cert.XqDaIdeal.Product

open Cert.XqDaIdeal Cert.XqDaIdeal.Gen Cert.XqDaRefIdeal.Read

theorem tiles : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v4, val_main_v3, val_main_v2, val_main_v1]
  blk_point [iblk, V, (tiles t).1, (tiles t).2]

theorem claim : Cert.algebraic_XqDaIdeal_XqDaRefIdeal (hXqDaIdeal := facts) (hXqDaRefIdeal := Cert.XqDaRefIdeal.Gen.facts) :=
  fun m ρ m' ρ' _ hag => ⟨fun c => val_main_v4 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XqDaRefIdeal.Value.run (F := Ideal) m' ρ')⟩

end Cert.XqDaIdeal.Product

end
-- ==== Proof.ForwardProducts.lean ====
/-
  Forward products: activations times weights, tile by tile.
-/
module

public import proofs.«01_k».proof.Defs
public import proofs.«01_k».proof.Proof.Tiles
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.SquareFwdIdeal.Value
public import proofs.«01_k».proof.Proof.Gen.SquareFwdRefIdeal.Run
public import proofs.«01_k».proof.Proof.Gen.SquareFwdRefIdeal.Read
public import proofs.«01_k».proof.Proof.Gen.XqFwdIdeal.Value
public import proofs.«01_k».proof.Proof.Gen.XqFwdRefIdeal.Run
public import proofs.«01_k».proof.Proof.Gen.XqFwdRefIdeal.Read
public import proofs.«01_k».proof.Proof.Gen.DownFwdIdeal.Value
public import proofs.«01_k».proof.Proof.Gen.DownFwdRefIdeal.Run
public import proofs.«01_k».proof.Proof.Gen.DownFwdRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.InFwdIdeal.Product

open Cert.InFwdIdeal Cert.InFwdIdeal.Gen Cert.InFwdRefIdeal.Read

theorem tiles : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem final (m : (ℓ : Loc nD τ sig) → Buf (Elt Ideal) ℓ) (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 768), y = ix2 r q := ⟨y 0, y 1, eq_ix2 y⟩
  pointwise [k0_pay1, val_main_v2, val_main_v1, val_main_v0]
  blk_point [iblk, V, (tiles t).1, (tiles t).2]

theorem claim : Cert.algebraic_InFwdIdeal_InFwdRefIdeal (hInFwdIdeal := facts) (hInFwdRefIdeal := Cert.InFwdRefIdeal.Gen.facts) :=
  fun m ρ m' ρ' _ hag => ⟨fun c => val_main_v2 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.InFwdRefIdeal.Value.run (F := Ideal) m' ρ')⟩

end Cert.InFwdIdeal.Product

namespace Cert.SquareFwdIdeal.Product

open Cert.SquareFwdIdeal Cert.SquareFwdIdeal.Gen Cert.SquareFwdRefIdeal.Read

theorem tiles : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem final (m : (ℓ : Loc nD τ sig) → Buf (Elt Ideal) ℓ) (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v2, val_main_v1, val_main_v0]
  blk_point [iblk, V, (tiles t).1, (tiles t).2]

theorem claim : Cert.algebraic_SquareFwdIdeal_SquareFwdRefIdeal (hSquareFwdIdeal := facts) (hSquareFwdRefIdeal := Cert.SquareFwdRefIdeal.Gen.facts) :=
  fun m ρ m' ρ' _ hag => ⟨fun c => val_main_v2 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.SquareFwdRefIdeal.Value.run (F := Ideal) m' ρ')⟩

end Cert.SquareFwdIdeal.Product

namespace Cert.XqFwdIdeal.Product

open Cert.XqFwdIdeal Cert.XqFwdIdeal.Gen Cert.XqFwdRefIdeal.Read

theorem tiles : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v3, val_main_v2, val_main_v1, val_main_v0]
  blk_point [iblk, V, (tiles t).1, (tiles t).2]

theorem claim : Cert.algebraic_XqFwdIdeal_XqFwdRefIdeal (hXqFwdIdeal := facts) (hXqFwdRefIdeal := Cert.XqFwdRefIdeal.Gen.facts) :=
  fun m ρ m' ρ' _ hag => ⟨fun c => val_main_v3 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XqFwdRefIdeal.Value.run (F := Ideal) m' ρ')⟩

end Cert.XqFwdIdeal.Product

namespace Cert.DownFwdIdeal.Product

open Cert.DownFwdIdeal Cert.DownFwdIdeal.Gen Cert.DownFwdRefIdeal.Read

theorem tiles : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem final (m : (ℓ : Loc nD τ sig) → Buf (Elt Ideal) ℓ) (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 1024) (q : Fin 1024), y = ix2 r q := ⟨y 0, y 1, eq_ix2 y⟩
  pointwise [k0_pay1, val_main_v2, val_main_v1, val_main_v0]
  blk_point [iblk, V, (tiles t).1, (tiles t).2]

theorem claim : Cert.algebraic_DownFwdIdeal_DownFwdRefIdeal (hDownFwdIdeal := facts) (hDownFwdRefIdeal := Cert.DownFwdRefIdeal.Gen.facts) :=
  fun m ρ m' ρ' _ hag => ⟨fun c => val_main_v2 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.DownFwdRefIdeal.Value.run (F := Ideal) m' ρ')⟩

end Cert.DownFwdIdeal.Product

end
-- ==== Proof.Shards.lean ====
/-
  Products with weights whose columns lie in four shards.
-/
module

public import proofs.«01_k».proof.Defs
public import proofs.«01_k».proof.Proof.Tiles
public import proofs.«01_k».proof.Proof.Gen.XkvDaIdeal.Value
public import proofs.«01_k».proof.Proof.Gen.XkvDaRefIdeal.Run
public import proofs.«01_k».proof.Proof.Gen.XkvDaRefIdeal.Read
public import proofs.«01_k».proof.Proof.Gen.XkvDwIdeal.Value
public import proofs.«01_k».proof.Proof.Gen.XkvDwRefIdeal.Run
public import proofs.«01_k».proof.Proof.Gen.XkvDwRefIdeal.Read
public import proofs.«01_k».proof.Proof.Gen.XkvFwdIdeal.Value
public import proofs.«01_k».proof.Proof.Gen.XkvFwdRefIdeal.Run
public import proofs.«01_k».proof.Proof.Gen.XkvFwdRefIdeal.Read
public import proofs.«01_k».proof.Proof.Gen.GateUpDaIdeal.Value
public import proofs.«01_k».proof.Proof.Gen.GateUpDaRefIdeal.Run
public import proofs.«01_k».proof.Proof.Gen.GateUpDaRefIdeal.Read
public import proofs.«01_k».proof.Proof.Gen.GateUpDwIdeal.Value
public import proofs.«01_k».proof.Proof.Gen.GateUpDwRefIdeal.Run
public import proofs.«01_k».proof.Proof.Gen.GateUpDwRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.XkvFwdIdeal.Product

open Cert.XkvFwdIdeal Cert.XkvFwdIdeal.Gen Cert.XkvFwdRefIdeal.Read

theorem tiles : ∀ t : Fin cfg0.N, win0_0.index t = ![win0_2.index t 0, 0] ∧ win0_1.index t = ![win0_2.index t 1, 0, 0] :=
  (by decide +kernel : ∀ t : Fin grid0.N, win0_0.index t = ![win0_2.index t 0, 0] ∧ win0_1.index t = ![win0_2.index t 1, 0, 0])

theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 256) (q : Fin 512), y = ix2 r q := ⟨y 0, y 1, eq_ix2 y⟩
  pointwise [k0_pay1, val_main_v5, val_main_v4, val_main_v3, val_main_v2, val_main_v1, val_main_v0]
  blk_point [iblk, V, (tiles t).1, (tiles t).2]

theorem claim : Cert.algebraic_XkvFwdIdeal_XkvFwdRefIdeal (hXkvFwdIdeal := facts) (hXkvFwdRefIdeal := Cert.XkvFwdRefIdeal.Gen.facts) :=
  fun m ρ m' ρ' _ hag => ⟨fun c => val_main_v5 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XkvFwdRefIdeal.Value.run (F := Ideal) m' ρ')⟩

end Cert.XkvFwdIdeal.Product

namespace Cert.XkvDwIdeal.Product

open Cert.XkvDwIdeal Cert.XkvDwIdeal.Gen Cert.XkvDwRefIdeal.Read

theorem tiles : ∀ t : Fin cfg0.N, win0_0.index t = ![0, 0] ∧ win0_1.index t = ![0, win0_2.index t 0] ∧ win0_2.index t 1 = 0 ∧ win0_2.index t 2 = 0 :=
  (by decide +kernel : ∀ t : Fin grid0.N, win0_0.index t = ![0, 0] ∧ win0_1.index t = ![0, win0_2.index t 0] ∧ win0_2.index t 1 = 0 ∧ win0_2.index t 2 = 0)

theorem final (m : (ℓ : Loc nD τ sig) → Buf (Elt Ideal) ℓ) (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨s, r, q, rfl⟩ : ∃ (s : Fin 1) (r : Fin 1024) (q : Fin 512), y = ix3 s r q := ⟨y 0, y 1, y 2, eq_ix3 y⟩
  pointwise [k0_pay1, val_main_v8, val_main_v7, val_main_v6, val_main_v5, val_main_v4, val_main_v3, val_main_v2, val_main_v1]
  refine (Cert.Tiles.swap _ _).trans ?_
  blk_point [iblk, V, (tiles t).1, (tiles t).2.1, (tiles t).2.2.1, (tiles t).2.2.2]

theorem claim : Cert.algebraic_XkvDwIdeal_XkvDwRefIdeal (hXkvDwIdeal := facts) (hXkvDwRefIdeal := Cert.XkvDwRefIdeal.Gen.facts) :=
  fun m ρ m' ρ' _ hag => ⟨fun c => val_main_v8 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XkvDwRefIdeal.Value.run (F := Ideal) m' ρ')⟩

end Cert.XkvDwIdeal.Product

namespace Cert.XkvDaIdeal.Product

open Cert.XkvDaIdeal Cert.XkvDaIdeal.Gen Cert.XkvDaRefIdeal.Read

theorem tiles : ∀ t : Fin cfg0.N, win0_0.index t = ![win0_2.index t 0, 0] ∧ win0_1.index t = ![0, win0_2.index t 1, 0] :=
  (by decide +kernel : ∀ t : Fin grid0.N, win0_0.index t = ![win0_2.index t 0, 0] ∧ win0_1.index t = ![0, win0_2.index t 1, 0])

theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 256) (q : Fin 1024), y = ix2 r q := ⟨y 0, y 1, eq_ix2 y⟩
  pointwise [k0_pay1, val_main_v5, val_main_v4, val_main_v3, val_main_v2, val_main_v1]
  refine Eq.trans ?_ (Cert.Tiles.four 512 rfl _).symm
  blk_point [iblk, V, (tiles t).1, (tiles t).2]

theorem claim : Cert.algebraic_XkvDaIdeal_XkvDaRefIdeal (hXkvDaIdeal := facts) (hXkvDaRefIdeal := Cert.XkvDaRefIdeal.Gen.facts) :=
  fun m ρ m' ρ' _ hag => ⟨fun c => val_main_v5 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.XkvDaRefIdeal.Value.run (F := Ideal) m' ρ')⟩

end Cert.XkvDaIdeal.Product

namespace Cert.GateUpDwIdeal.Product

open Cert.GateUpDwIdeal Cert.GateUpDwIdeal.Gen Cert.GateUpDwRefIdeal.Read

theorem tiles : ∀ t : Fin cfg0.N, win0_0.index t = ![0, win0_2.index t 1] ∧ win0_1.index t = ![win0_2.index t 0 / 2, 0, win0_2.index t 0 % 2] ∧ (win0_2.index t 2 = 0 ∧ win0_2.index t 1 = 0) ∧ win0_2.index t 0 < 4 :=
  (by decide +kernel : ∀ t : Fin grid0.N, win0_0.index t = ![0, win0_2.index t 1] ∧ win0_1.index t = ![win0_2.index t 0 / 2, 0, win0_2.index t 0 % 2] ∧ (win0_2.index t 2 = 0 ∧ win0_2.index t 1 = 0) ∧ win0_2.index t 0 < 4)

theorem final (m : (ℓ : Loc nD τ sig) → Buf (Elt Ideal) ℓ) (c : Dev nD) : (dats m 0 c).arrAt 2 cfg0.N
    = val_main_v19 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨s, r, q, rfl⟩ : ∃ (s : Fin 1) (r : Fin 1024) (q : Fin 1408), y = ix3 s r q := ⟨y 0, y 1, y 2, eq_ix3 y⟩
  have e := (tiles t).2.2.2
  have hy : ((View.whole main_v0).slice (win0_2.rect t)).emb (ix3 s r q)
      = (ix3 ⟨win0_2.index t 0, e⟩ ⟨win0_2.index t 1 * 1024 + r, by have := (tiles t).2.2.1.2; omega⟩ q : S4x1024x1408.Idx) := by
    blk_ext [(tiles t).2.2.1.1]
  rw [hy]
  pointwise [k0_pay1, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  refine (Cert.Tiles.swap _ _).trans ?_
  blk_point [iblk, V, (tiles t).1, (tiles t).2.1, (tiles t).2.2.1.1, (tiles t).2.2.1.2]

theorem claim : Cert.algebraic_GateUpDwIdeal_GateUpDwRefIdeal (hGateUpDwIdeal := facts) (hGateUpDwRefIdeal := Cert.GateUpDwRefIdeal.Gen.facts) :=
  fun m ρ m' ρ' _ hag => ⟨fun c => val_main_v19 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.GateUpDwRefIdeal.Value.run (F := Ideal) m' ρ')⟩

end Cert.GateUpDwIdeal.Product

namespace Cert.GateUpDaIdeal.Product

open Cert.GateUpDaIdeal Cert.GateUpDaIdeal.Gen Cert.GateUpDaRefIdeal.Read

theorem tiles : ∀ t : Fin cfg0.N, win0_0.index t = ![0, win0_2.index t 0, 0] ∧ win0_1.index t = ![0, win0_2.index t 1, 0] :=
  (by decide +kernel : ∀ t : Fin grid0.N, win0_0.index t = ![0, win0_2.index t 0, 0] ∧ win0_1.index t = ![0, win0_2.index t 1, 0])

theorem final (m : (ℓ : Loc nD τ sig) → Buf (Elt Ideal) ℓ) (c : Dev nD) : (dats m 0 c).arrAt 2 cfg0.N
    = val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 512) (q : Fin 512), y = ix2 r q := ⟨y 0, y 1, eq_ix2 y⟩
  pointwise [k0_pay1, val_main_v16, val_main_v15, val_main_v14, val_main_v13, val_main_v12, val_main_v11, val_main_v10, val_main_v9, val_main_v8, val_main_v7, val_main_v6, val_main_v5, val_main_v4, val_main_v3, val_main_v2, val_main_v1]
  refine Eq.trans ?_ (Cert.Tiles.halves 1408 rfl _ _).symm
  blk_point [iblk, V, (tiles t).1, (tiles t).2]

theorem claim : Cert.algebraic_GateUpDaIdeal_GateUpDaRefIdeal (hGateUpDaIdeal := facts) (hGateUpDaRefIdeal := Cert.GateUpDaRefIdeal.Gen.facts) :=
  fun m ρ m' ρ' _ hag => ⟨fun c => val_main_v16 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.GateUpDaRefIdeal.Value.run (F := Ideal) m' ρ')⟩

end Cert.GateUpDaIdeal.Product

end
-- ==== Proof.GateUp.lean ====
/-
  The gated activation: both halves of the gate-and-up product, and their gated product.
-/
module

public import proofs.«01_k».proof.Defs
public import proofs.«01_k».proof.Proof.Tiles
public import proofs.«01_k».proof.Proof.Gen.GateUpFwdIdeal.Value
public import proofs.«01_k».proof.Proof.Gen.GateUpFwdRefIdeal.Run
public import proofs.«01_k».proof.Proof.Gen.GateUpFwdRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.GateUpFwdIdeal.Product

open Cert.GateUpFwdIdeal Cert.GateUpFwdIdeal.Gen Cert.GateUpFwdRefIdeal.Read

theorem tiles : ∀ t : Fin cfg0.N, win0_0.index t = ![win0_4.index t 0, 0] ∧ win0_1.index t = ![win0_4.index t 1, 0, 0]
    ∧ win0_2.index t = ![2 + win0_4.index t 1, 0, 0] ∧ win0_3.index t = ![0, win0_4.index t 0, win0_4.index t 1] ∧ win0_4.index t 1 < 2 ∧ win0_4.index t 0 < 2 :=
  (by decide +kernel : ∀ t : Fin grid0.N, win0_0.index t = ![win0_4.index t 0, 0] ∧ win0_1.index t = ![win0_4.index t 1, 0, 0]
    ∧ win0_2.index t = ![2 + win0_4.index t 1, 0, 0] ∧ win0_3.index t = ![0, win0_4.index t 0, win0_4.index t 1] ∧ win0_4.index t 1 < 2 ∧ win0_4.index t 0 < 2)

theorem final_act (m : (ℓ : Loc nD τ sig) → Buf (Elt Ideal) ℓ) (c : Dev nD) : (dats m 0 c).arrAt 4 cfg0.N
    = val_main_v16 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  obtain ⟨r, q, rfl⟩ : ∃ (r : Fin 1024) (q : Fin 1408), y = ix2 r q := ⟨y 0, y 1, eq_ix2 y⟩
  pointwise [k0_pay5, k0_pay1, k0_pay2, k0_pay3, k0_pay4, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_cst, val_main_call0_v2, val_main_call0_v3, val_main_call0_cst_0, val_main_call0_v4, val_main_call0_v5]
  rw [Cert.Tiles.zero_sub']
  have e := (tiles t).2.2.2.2.1
  blk_point [iblk, V, (tiles t).1, (tiles t).2.1, (tiles t).2.2.1]

theorem final_gu (m : (ℓ : Loc nD τ sig) → Buf (Elt Ideal) ℓ) (c : Dev nD) : (dats m 0 c).arrAt 3 cfg0.N
    = val_main_v9 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  obtain ⟨s, r, q, rfl⟩ : ∃ (s : Fin 2) (r : Fin 1024) (q : Fin 1408), y = ix3 s r q := ⟨y 0, y 1, y 2, eq_ix3 y⟩
  have e := (tiles t).2.2.2.2.1
  have hy : ((View.whole main_v0_0).slice (win0_3.rect t)).emb (ix3 s r q)
      = (ix3 s ⟨win0_4.index t 0 * 1024 + r, by have := (tiles t).2.2.2.2.2; omega⟩
          ⟨win0_4.index t 1 * 1408 + q, by omega⟩ : S2x2048x2816.Idx) := by
    blk_ext [(tiles t).2.2.2.1]
  rw [hy]
  canon_tiles x h
  · obtain rfl : s = 1 := Fin.ext (h0.trans (by omega))
    obtain rfl : x = ix3 0 r q := funext fun a => Fin.ext (match a with | ⟨0, _⟩ => by show (x 0).val = 0; omega | ⟨1, _⟩ => h1.symm | ⟨2, _⟩ => h2.symm)
    pointwise [k0_pay4, k0_pay2, val_main_v9, val_main_v8, val_main_v7, val_main_v6, val_main_v5, val_main_v4, val_main_v3, val_main_v2, val_main_v1, val_main_v0]
    blk_point [iblk, V, (tiles t).1, (tiles t).2.1, (tiles t).2.2.1]
  · obtain rfl : s = 0 := Fin.ext (h0.trans (by omega))
    obtain rfl : x = ix3 0 r q := funext fun a => Fin.ext (match a with | ⟨0, _⟩ => by show (x 0).val = 0; omega | ⟨1, _⟩ => h1.symm | ⟨2, _⟩ => h2.symm)
    pointwise [k0_pay3, k0_pay1, val_main_v9, val_main_v8, val_main_v7, val_main_v6, val_main_v5, val_main_v4, val_main_v3, val_main_v2, val_main_v1, val_main_v0]
    blk_point [iblk, V, (tiles t).1, (tiles t).2.1, (tiles t).2.2.1]

theorem claim : Cert.algebraic_GateUpFwdIdeal_GateUpFwdRefIdeal (hGateUpFwdIdeal := facts) (hGateUpFwdRefIdeal := Cert.GateUpFwdRefIdeal.Gen.facts) :=
  fun m ρ m' ρ' _ hag => ⟨fun c => val_main_v9 (F := Ideal) (m ((c : Thread nD τ).loc main_arg0)) (m ((c : Thread nD τ).loc main_arg1)),
    fun c => val_main_v16 (F := Ideal) (m ((c : Thread nD τ).loc main_arg0)) (m ((c : Thread nD τ).loc main_arg1)),
    (θ_run _ _ _).mono (fun _ h c => ⟨(h c).1.trans (final_gu m c), (h c).2.1.trans (final_act m c), (h c).2.2⟩) (Value.run_blocks m ρ),
    (θ_run _ _ _).mono (fun _ h c => ⟨(h c).1.trans (by rw [(hag c).1, (hag c).2]; rfl), (h c).2.1.trans (by rw [(hag c).1, (hag c).2]; rfl), (h c).2.2⟩)
      (Cert.GateUpFwdRefIdeal.Value.run (F := Ideal) m' ρ')⟩

end Cert.GateUpFwdIdeal.Product
end
-- ==== Proof.AdamStep.lean ====
/-
  One step of AdamW, element by element, on arrays of any shape, and how it goes with laying a weight's layers out as rows.
-/
module

public import proofs.«01_k».proof.Defs
public import Idealize.ShloMosaic.Lib.Pointwise
public import Idealize.ShloMosaic.Lib.Pipeline.ValueKit

@[expose] public section

noncomputable section

open Idealize.ShloMosaic Idealize.ShloMosaic.TcCoe

namespace Cert.AdamStep

variable {S T : Shape}

/-- The new first moment. -/
def newM (g m : FVec Ideal S .f32) : FVec Ideal S .f32 :=
  addf (mulf (broadcast S (Scalar.ofBits .f32 0x3F666666#32)) m) (mulf (broadcast S (Scalar.ofBits .f32 0x3DCCCCCD#32)) g)

/-- The new second moment. -/
def newV (g v : FVec Ideal S .f32) : FVec Ideal S .f32 :=
  addf (mulf (broadcast S (Scalar.ofBits .f32 0x3F7FBE77#32)) v) (mulf (broadcast S (Scalar.ofBits .f32 0x3A83126F#32)) (mulf g g))

/-- The change of the weight: the corrected first moment over the root of the corrected second, with the weight's decay. -/
def delta (w g m v : FVec Ideal S .f32) : FVec Ideal S .f32 :=
  mulf (broadcast S (Scalar.ofBits .f32 0xBA83126F#32))
    (addf (divf (divf (newM g m) (broadcast S (Scalar.ofBits .f32 0x3F26BD02#32)))
        (addf (sqrt (divf (newV g v) (broadcast S (Scalar.ofBits .f32 0x3C231ACC#32)))) (broadcast S (Scalar.ofBits .f32 0x322BCC77#32))))
      (mulf (broadcast S (Scalar.ofBits .f32 0x3C23D70A#32)) w))

theorem newM_rows (h : S.ShapeCasts T) (g m : FVec Ideal S .f32) :
    (shapeCast T (newM g m) h : FVec Ideal T .f32) = newM (shapeCast T g h) (shapeCast T m h) := rfl

theorem newV_rows (h : S.ShapeCasts T) (g v : FVec Ideal S .f32) :
    (shapeCast T (newV g v) h : FVec Ideal T .f32) = newV (shapeCast T g h) (shapeCast T v h) := rfl

theorem delta_rows (h : S.ShapeCasts T) (w g m v : FVec Ideal S .f32) :
    (shapeCast T (delta w g m v) h : FVec Ideal T .f32) = delta (shapeCast T w h) (shapeCast T g h) (shapeCast T m h) (shapeCast T v h) := rfl

end Cert.AdamStep

end
-- ==== Proof.AdamVectors.lean ====
/-
  The optimiser's step on the weights that are vectors and short convolutions.
-/
module

public import proofs.«01_k».proof.Defs
public import proofs.«01_k».proof.Proof.Gen.AdamVecIdeal.Value
public import proofs.«01_k».proof.Proof.Gen.AdamVecRefIdeal.Run
public import proofs.«01_k».proof.Proof.Gen.AdamVecRefIdeal.Read
public import proofs.«01_k».proof.Proof.Gen.AdamSconvIdeal.Value
public import proofs.«01_k».proof.Proof.Gen.AdamSconvRefIdeal.Run
public import proofs.«01_k».proof.Proof.Gen.AdamSconvRefIdeal.Read
public import proofs.«01_k».proof.Proof.Gen.AdamGconvIdeal.Value
public import proofs.«01_k».proof.Proof.Gen.AdamGconvRefIdeal.Run
public import proofs.«01_k».proof.Proof.Gen.AdamGconvRefIdeal.Read
public import proofs.«01_k».proof.Proof.Gen.AdamHeadIdeal.Value
public import proofs.«01_k».proof.Proof.Gen.AdamHeadRefIdeal.Run
public import proofs.«01_k».proof.Proof.Gen.AdamHeadRefIdeal.Read
public import proofs.«01_k».proof.Proof.Gen.AdamGnormIdeal.Value
public import proofs.«01_k».proof.Proof.Gen.AdamGnormRefIdeal.Run
public import proofs.«01_k».proof.Proof.Gen.AdamGnormRefIdeal.Read
public import proofs.«01_k».proof.Proof.AdamStep
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.AdamVecIdeal.Product

open Cert.AdamVecIdeal Cert.AdamVecIdeal.Gen Cert.AdamVecRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, k0_pay2, k0_pay3, AdamStep.newM]
  blk_point [iblk, V, (tiles t).1, (tiles t).2.1, (tiles t).2.2.1, (tiles t).2.2.2.1, (tiles t).2.2.2.2.1, (tiles t).2.2.2.2.2]

theorem final_v : (dats m 0 c).arrAt 6 cfg0.N = AdamStep.newV (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay1, k0_pay2, k0_pay3, AdamStep.newV]
  blk_point [iblk, V, (tiles t).1, (tiles t).2.1, (tiles t).2.2.1, (tiles t).2.2.2.1, (tiles t).2.2.2.2.1, (tiles t).2.2.2.2.2]

theorem final_d : (dats m 0 c).arrAt 4 cfg0.N = AdamStep.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, k0_pay3, AdamStep.delta, AdamStep.newM, AdamStep.newV]
  blk_point [iblk, V, (tiles t).1, (tiles t).2.1, (tiles t).2.2.1, (tiles t).2.2.2.1, (tiles t).2.2.2.2.1, (tiles t).2.2.2.2.2]

theorem claim : Cert.algebraic_AdamVecIdeal_AdamVecRefIdeal (hAdamVecIdeal := facts) (hAdamVecRefIdeal := Cert.AdamVecRefIdeal.Gen.facts) :=
  fun m ρ m' ρ' _ hag => ⟨fun c => val_main_v23 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)),
    (θ_run _ _ _).mono (fun _ h c => ⟨(h c).1.trans (final_d m c),
      (h c).2.1.trans (final_m m c), (h c).2.2.1.trans (final_v m c), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamVecRefIdeal.Value.run (F := Ideal) m' ρ')⟩

end Cert.AdamVecIdeal.Product

namespace Cert.AdamSconvIdeal.Product

open Cert.AdamSconvIdeal Cert.AdamSconvIdeal.Gen Cert.AdamSconvRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x3x64_S12x64 := by
  show StableHlo.after hostOps0 _ _ = _
  unfold hostOps0
  after_results
  rfl

theorem rows1 : V m c main_v1 = shapeCast _ (m ((c : Thread nD τ).loc main_arg1)) shapeCasts_S4x3x64_S12x64 := by
  show StableHlo.after hostOps0 _ _ = _
  unfold hostOps0
  after_results
  rfl

theorem rows2 : V m c main_v2 = shapeCast _ (m ((c : Thread nD τ).loc main_arg2)) shapeCasts_S4x3x64_S12x64 := by
  show StableHlo.after hostOps0 _ _ = _
  unfold hostOps0
  after_results
  rfl

theorem rows3 : V m c main_v3 = shapeCast _ (m ((c : Thread nD τ).loc main_arg3)) shapeCasts_S4x3x64_S12x64 := by
  show StableHlo.after hostOps0 _ _ = _
  unfold hostOps0
  after_results
  rfl

theorem claim : Cert.algebraic_AdamSconvIdeal_AdamSconvRefIdeal (hAdamSconvIdeal := facts) (hAdamSconvRefIdeal := Cert.AdamSconvRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamSconvRefIdeal.Value.run (F := Ideal) m' ρ')⟩

end Cert.AdamSconvIdeal.Product

namespace Cert.AdamGconvIdeal.Product

open Cert.AdamGconvIdeal Cert.AdamGconvIdeal.Gen Cert.AdamGconvRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x4x384_S16x384 := by
  show StableHlo.after hostOps0 _ _ = _
  unfold hostOps0
  after_results
  rfl

theorem rows1 : V m c main_v1 = shapeCast _ (m ((c : Thread nD τ).loc main_arg1)) shapeCasts_S4x4x384_S16x384 := by
  show StableHlo.after hostOps0 _ _ = _
  unfold hostOps0
  after_results
  rfl

theorem rows2 : V m c main_v2 = shapeCast _ (m ((c : Thread nD τ).loc main_arg2)) shapeCasts_S4x4x384_S16x384 := by
  show StableHlo.after hostOps0 _ _ = _
  unfold hostOps0
  after_results
  rfl

theorem rows3 : V m c main_v3 = shapeCast _ (m ((c : Thread nD τ).loc main_arg3)) shapeCasts_S4x4x384_S16x384 := by
  show StableHlo.after hostOps0 _ _ = _
  unfold hostOps0
  after_results
  rfl

theorem claim : Cert.algebraic_AdamGconvIdeal_AdamGconvRefIdeal (hAdamGconvIdeal := facts) (hAdamGconvRefIdeal := Cert.AdamGconvRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamGconvRefIdeal.Value.run (F := Ideal) m' ρ')⟩

end Cert.AdamGconvIdeal.Product

namespace Cert.AdamHeadIdeal.Product

open Cert.AdamHeadIdeal Cert.AdamHeadIdeal.Gen Cert.AdamHeadRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, k0_pay2, k0_pay3, AdamStep.newM]
  blk_point [iblk, V, (tiles t).1, (tiles t).2.1, (tiles t).2.2.1, (tiles t).2.2.2.1, (tiles t).2.2.2.2.1, (tiles t).2.2.2.2.2]

theorem final_v : (dats m 0 c).arrAt 6 cfg0.N = AdamStep.newV (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay1, k0_pay2, k0_pay3, AdamStep.newV]
  blk_point [iblk, V, (tiles t).1, (tiles t).2.1, (tiles t).2.2.1, (tiles t).2.2.2.1, (tiles t).2.2.2.2.1, (tiles t).2.2.2.2.2]

theorem final_d : (dats m 0 c).arrAt 4 cfg0.N = AdamStep.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, k0_pay3, AdamStep.delta, AdamStep.newM, AdamStep.newV]
  blk_point [iblk, V, (tiles t).1, (tiles t).2.1, (tiles t).2.2.1, (tiles t).2.2.2.1, (tiles t).2.2.2.2.1, (tiles t).2.2.2.2.2]

theorem claim : Cert.algebraic_AdamHeadIdeal_AdamHeadRefIdeal (hAdamHeadIdeal := facts) (hAdamHeadRefIdeal := Cert.AdamHeadRefIdeal.Gen.facts) :=
  fun m ρ m' ρ' _ hag => ⟨fun c => val_main_v23 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)),
    (θ_run _ _ _).mono (fun _ h c => ⟨(h c).1.trans (final_d m c),
      (h c).2.1.trans (final_m m c), (h c).2.2.1.trans (final_v m c), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamHeadRefIdeal.Value.run (F := Ideal) m' ρ')⟩

end Cert.AdamHeadIdeal.Product

namespace Cert.AdamGnormIdeal.Product

open Cert.AdamGnormIdeal Cert.AdamGnormIdeal.Gen Cert.AdamGnormRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, k0_pay2, k0_pay3, AdamStep.newM]
  blk_point [iblk, V, (tiles t).1, (tiles t).2.1, (tiles t).2.2.1, (tiles t).2.2.2.1, (tiles t).2.2.2.2.1, (tiles t).2.2.2.2.2]

theorem final_v : (dats m 0 c).arrAt 6 cfg0.N = AdamStep.newV (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay1, k0_pay2, k0_pay3, AdamStep.newV]
  blk_point [iblk, V, (tiles t).1, (tiles t).2.1, (tiles t).2.2.1, (tiles t).2.2.2.1, (tiles t).2.2.2.2.1, (tiles t).2.2.2.2.2]

theorem final_d : (dats m 0 c).arrAt 4 cfg0.N = AdamStep.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, k0_pay3, AdamStep.delta, AdamStep.newM, AdamStep.newV]
  blk_point [iblk, V, (tiles t).1, (tiles t).2.1, (tiles t).2.2.1, (tiles t).2.2.2.1, (tiles t).2.2.2.2.1, (tiles t).2.2.2.2.2]

theorem claim : Cert.algebraic_AdamGnormIdeal_AdamGnormRefIdeal (hAdamGnormIdeal := facts) (hAdamGnormRefIdeal := Cert.AdamGnormRefIdeal.Gen.facts) :=
  fun m ρ m' ρ' _ hag => ⟨fun c => val_main_v23 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)),
    (θ_run _ _ _).mono (fun _ h c => ⟨(h c).1.trans (final_d m c),
      (h c).2.1.trans (final_m m c), (h c).2.2.1.trans (final_v m c), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamGnormRefIdeal.Value.run (F := Ideal) m' ρ')⟩

end Cert.AdamGnormIdeal.Product

end
-- ==== Proof.AdamMatrices.lean ====
/-
  The optimiser's step on the weights that are matrices, each device's share of the four layers laid out as rows.
-/
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamXkvIdeal.Value
public import proofs.«01_k».proof.Proof.Gen.AdamXkvRefIdeal.Run
public import proofs.«01_k».proof.Proof.Gen.AdamXkvRefIdeal.Read
public import proofs.«01_k».proof.Proof.Gen.AdamGateUpIdeal.Value
public import proofs.«01_k».proof.Proof.Gen.AdamGateUpRefIdeal.Run
public import proofs.«01_k».proof.Proof.Gen.AdamGateUpRefIdeal.Read
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.AdamStep
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.AdamInIdeal.Product

open Cert.AdamInIdeal Cert.AdamInIdeal.Gen Cert.AdamInRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x1024x898_S4096x898 := by
  show StableHlo.after hostOps0 _ _ = _
  unfold hostOps0
  after_results
  rfl

theorem rows1 : V m c main_v1 = shapeCast _ (m ((c : Thread nD τ).loc main_arg1)) shapeCasts_S4x1024x898_S4096x898 := by
  show StableHlo.after hostOps0 _ _ = _
  unfold hostOps0
  after_results
  rfl

theorem rows2 : V m c main_v2 = shapeCast _ (m ((c : Thread nD τ).loc main_arg2)) shapeCasts_S4x1024x898_S4096x898 := by
  show StableHlo.after hostOps0 _ _ = _
  unfold hostOps0
  after_results
  rfl

theorem rows3 : V m c main_v3 = shapeCast _ (m ((c : Thread nD τ).loc main_arg3)) shapeCasts_S4x1024x898_S4096x898 := by
  show StableHlo.after hostOps0 _ _ = _
  unfold hostOps0
  after_results
  rfl

theorem claim : Cert.algebraic_AdamInIdeal_AdamInRefIdeal (hAdamInIdeal := facts) (hAdamInRefIdeal := Cert.AdamInRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamInRefIdeal.Value.run (F := Ideal) m' ρ')⟩

end Cert.AdamInIdeal.Product

namespace Cert.AdamSquareIdeal.Product

open Cert.AdamSquareIdeal Cert.AdamSquareIdeal.Gen Cert.AdamSquareRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x256x1024_S1024x1024 := by
  show StableHlo.after hostOps0 _ _ = _
  unfold hostOps0
  after_results
  rfl

theorem rows1 : V m c main_v1 = shapeCast _ (m ((c : Thread nD τ).loc main_arg1)) shapeCasts_S4x256x1024_S1024x1024 := by
  show StableHlo.after hostOps0 _ _ = _
  unfold hostOps0
  after_results
  rfl

theorem rows2 : V m c main_v2 = shapeCast _ (m ((c : Thread nD τ).loc main_arg2)) shapeCasts_S4x256x1024_S1024x1024 := by
  show StableHlo.after hostOps0 _ _ = _
  unfold hostOps0
  after_results
  rfl

theorem rows3 : V m c main_v3 = shapeCast _ (m ((c : Thread nD τ).loc main_arg3)) shapeCasts_S4x256x1024_S1024x1024 := by
  show StableHlo.after hostOps0 _ _ = _
  unfold hostOps0
  after_results
  rfl

theorem claim : Cert.algebraic_AdamSquareIdeal_AdamSquareRefIdeal (hAdamSquareIdeal := facts) (hAdamSquareRefIdeal := Cert.AdamSquareRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamSquareRefIdeal.Value.run (F := Ideal) m' ρ')⟩

end Cert.AdamSquareIdeal.Product

namespace Cert.AdamXkvIdeal.Product

open Cert.AdamXkvIdeal Cert.AdamXkvIdeal.Gen Cert.AdamXkvRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x1024x512_S4096x512 := by
  show StableHlo.after hostOps0 _ _ = _
  unfold hostOps0
  after_results
  rfl

theorem rows1 : V m c main_v1 = shapeCast _ (m ((c : Thread nD τ).loc main_arg1)) shapeCasts_S4x1024x512_S4096x512 := by
  show StableHlo.after hostOps0 _ _ = _
  unfold hostOps0
  after_results
  rfl

theorem rows2 : V m c main_v2 = shapeCast _ (m ((c : Thread nD τ).loc main_arg2)) shapeCasts_S4x1024x512_S4096x512 := by
  show StableHlo.after hostOps0 _ _ = _
  unfold hostOps0
  after_results
  rfl

theorem rows3 : V m c main_v3 = shapeCast _ (m ((c : Thread nD τ).loc main_arg3)) shapeCasts_S4x1024x512_S4096x512 := by
  show StableHlo.after hostOps0 _ _ = _
  unfold hostOps0
  after_results
  rfl

theorem claim : Cert.algebraic_AdamXkvIdeal_AdamXkvRefIdeal (hAdamXkvIdeal := facts) (hAdamXkvRefIdeal := Cert.AdamXkvRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamXkvRefIdeal.Value.run (F := Ideal) m' ρ')⟩

end Cert.AdamXkvIdeal.Product

namespace Cert.AdamGateUpIdeal.Product

open Cert.AdamGateUpIdeal Cert.AdamGateUpIdeal.Gen Cert.AdamGateUpRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x1024x1408_S4096x1408 := by
  show StableHlo.after hostOps0 _ _ = _
  unfold hostOps0
  after_results
  rfl

theorem rows1 : V m c main_v1 = shapeCast _ (m ((c : Thread nD τ).loc main_arg1)) shapeCasts_S4x1024x1408_S4096x1408 := by
  show StableHlo.after hostOps0 _ _ = _
  unfold hostOps0
  after_results
  rfl

theorem rows2 : V m c main_v2 = shapeCast _ (m ((c : Thread nD τ).loc main_arg2)) shapeCasts_S4x1024x1408_S4096x1408 := by
  show StableHlo.after hostOps0 _ _ = _
  unfold hostOps0
  after_results
  rfl

theorem rows3 : V m c main_v3 = shapeCast _ (m ((c : Thread nD τ).loc main_arg3)) shapeCasts_S4x1024x1408_S4096x1408 := by
  show StableHlo.after hostOps0 _ _ = _
  unfold hostOps0
  after_results
  rfl

theorem claim : Cert.algebraic_AdamGateUpIdeal_AdamGateUpRefIdeal (hAdamGateUpIdeal := facts) (hAdamGateUpRefIdeal := Cert.AdamGateUpRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamGateUpRefIdeal.Value.run (F := Ideal) m' ρ')⟩

end Cert.AdamGateUpIdeal.Product

namespace Cert.AdamDownIdeal.Product

open Cert.AdamDownIdeal Cert.AdamDownIdeal.Gen Cert.AdamDownRefIdeal.Read

variable (m : (ℓ : Loc nD τ sig) → Buf (Elt Ideal) ℓ) (c : Dev nD)

theorem tiles : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t :=
  (by decide +kernel : ∀ t : Fin grid0.N, win0_0.index t = win0_4.index t ∧ win0_1.index t = win0_4.index t ∧ win0_2.index t = win0_4.index t
    ∧ win0_3.index t = win0_4.index t ∧ win0_5.index t = win0_4.index t ∧ win0_6.index t = win0_4.index t)

theorem final_m : (dats m 0 c).arrAt 5 cfg0.N = AdamStep.newM (V m c main_v1) (V m c main_v2) := by
  refine (dats m 0 c).arrAt_eq_of_covers 5 _ (by decide +kernel) fun t _ y => ?_
  blk_simp
  rw [after0_5]
  frame_out
  pointwise [k0_pay1, k0_pay2, k0_pay3, k0_pay4, AdamStep.newM]
  blk_point [iblk, (tiles t).1, (tiles t).2.1, (tiles t).2.2.1, (tiles t).2.2.2.1, (tiles t).2.2.2.2.1, (tiles t).2.2.2.2.2]

theorem final_v : (dats m 0 c).arrAt 6 cfg0.N = AdamStep.newV (V m c main_v1) (V m c main_v3) := by
  refine (dats m 0 c).arrAt_eq_of_covers 6 _ (by decide +kernel) fun t _ y => ?_
  blk_simp
  rw [after0_6]
  frame_out
  pointwise [k0_pay1, k0_pay2, k0_pay3, k0_pay4, AdamStep.newV]
  blk_point [iblk, (tiles t).1, (tiles t).2.1, (tiles t).2.2.1, (tiles t).2.2.2.1, (tiles t).2.2.2.2.1, (tiles t).2.2.2.2.2]

theorem final_d : (dats m 0 c).arrAt 4 cfg0.N = AdamStep.delta (V m c main_v0) (V m c main_v1) (V m c main_v2) (V m c main_v3) := by
  refine (dats m 0 c).arrAt_eq_of_covers 4 _ (by decide +kernel) fun t _ y => ?_
  blk_simp
  rw [after0_4]
  frame_out
  pointwise [k0_pay1, k0_pay2, k0_pay3, k0_pay4, AdamStep.delta, AdamStep.newM, AdamStep.newV]
  blk_point [iblk, (tiles t).1, (tiles t).2.1, (tiles t).2.2.1, (tiles t).2.2.2.1, (tiles t).2.2.2.2.1, (tiles t).2.2.2.2.2]

theorem rows0 : V m c main_v0 = shapeCast _ (m ((c : Thread nD τ).loc main_arg0)) shapeCasts_S4x704x1024_S2816x1024 := by
  show StableHlo.after hostOps0 _ _ = _
  unfold hostOps0
  after_results
  rfl

theorem rows1 : V m c main_v1 = shapeCast _ (m ((c : Thread nD τ).loc main_arg1)) shapeCasts_S4x704x1024_S2816x1024 := by
  show StableHlo.after hostOps0 _ _ = _
  unfold hostOps0
  after_results
  rfl

theorem rows2 : V m c main_v2 = shapeCast _ (m ((c : Thread nD τ).loc main_arg2)) shapeCasts_S4x704x1024_S2816x1024 := by
  show StableHlo.after hostOps0 _ _ = _
  unfold hostOps0
  after_results
  rfl

theorem rows3 : V m c main_v3 = shapeCast _ (m ((c : Thread nD τ).loc main_arg3)) shapeCasts_S4x704x1024_S2816x1024 := by
  show StableHlo.after hostOps0 _ _ = _
  unfold hostOps0
  after_results
  rfl

theorem claim : Cert.algebraic_AdamDownIdeal_AdamDownRefIdeal (hAdamDownIdeal := facts) (hAdamDownRefIdeal := Cert.AdamDownRefIdeal.Gen.facts) :=
  fun m ρ m' ρ' _ hag => ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg1)) (m ((c : Thread nD τ).loc main_arg2)),
    fun c => val_main_v26 (F := Ideal) (m ((c : Thread nD τ).loc main_arg1)) (m ((c : Thread nD τ).loc main_arg3)),
    (θ_run _ _ _).mono (fun _ h c => ⟨(h c).1.trans ((final_d m c).trans (by rw [rows0, rows1, rows2, rows3]; rfl)),
      (h c).2.1.trans ((final_m m c).trans (by rw [rows1, rows2]; rfl)), (h c).2.2.1.trans ((final_v m c).trans (by rw [rows1, rows3]; rfl)), (h c).2.2.2⟩) (Value.run_blocks m ρ),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.AdamDownRefIdeal.Value.run (F := Ideal) m' ρ')⟩

end Cert.AdamDownIdeal.Product

end
-- ==== Proof.NormRow.lean ====
/-
  One row of the norm's gradient: the closed form a fused kernel uses and the form differentiation gives are the same
  function of the extended reals, with no assumption on the row.
-/
module

public import Idealize.ShloMosaic.PureOps
public import Idealize.ShloMosaic.Lib.Pointwise
public import proofs.«01_k».proof.Proof.SoftmaxRow

@[expose] public section

noncomputable section

open Idealize.ShloMosaic

namespace Cert.NormRow

variable {n : ℕ}

/-- The row's length, as the programs write it. -/
def len : EReal := Ideal.ofBits .f32 0x44800000#32
/-- The constant added to the mean square. -/
def eps : EReal := Ideal.ofBits .f32 0x358637BD#32
/-- Minus one half. -/
def mhalf : EReal := Ideal.ofBits .f32 0xBF000000#32

theorem len_eq : len = ((1024 : ℝ) : EReal) := by
  unfold len
  simp [Ideal.ofBits, Ideal.ieee, -EReal.coe_mul]; norm_num

theorem mhalf_eq : mhalf = ((-(1 / 2) : ℝ) : EReal) := by
  unfold mhalf
  simp [Ideal.ofBits, Ideal.ieee, -EReal.coe_mul, -EReal.coe_neg]; norm_num

theorem eps_pos : ∃ e : ℝ, 0 < e ∧ eps = e := by
  refine ⟨8796093 / 2 ^ 43, by norm_num, ?_⟩
  unfold eps
  simp [Ideal.ofBits, Ideal.ieee, -EReal.coe_mul]; norm_num

/-- The mean square, and the constant. -/
def ms (x : Fin n → EReal) : EReal := Ideal.div (∑ k, x k * x k) len + eps
/-- The reciprocal root of it. -/
def rs (x : Fin n → EReal) : EReal := Ideal.rsqrt (ms x)
/-- The gradient in closed form: the upstream row less its part along the normalised row. -/
def grad (x g : Fin n → EReal) (i : Fin n) : EReal :=
  rs x * (g i - x i * rs x * Ideal.div (∑ k, g k * (x k * rs x)) len)
/-- What the mean square receives from upstream, per entry. -/
def back (x g : Fin n → EReal) : EReal := Ideal.div ((∑ k, x k * g k) * (mhalf * Ideal.div (rs x) (ms x))) len
/-- The gradient step by step: through the product, and through both factors of the square. -/
def gradV (x g : Fin n → EReal) (i : Fin n) : EReal := g i * rs x + x i * back x g + back x g * x i

theorem mul_self_nonneg' (a : EReal) : 0 ≤ a * a := by
  induction a with
  | bot => simp
  | top => simp
  | coe r => exact_mod_cast mul_self_nonneg r

theorem ms_cases (x : Fin n → EReal) : ms x = ⊤ ∨ ∃ r : ℝ, 0 < r ∧ ms x = r := by
  obtain ⟨e, he, hE⟩ := eps_pos
  have h0 : 0 ≤ ∑ k, x k * x k := Finset.sum_nonneg fun k _ => mul_self_nonneg' _
  unfold ms
  rw [len_eq, SoftmaxRow.div_coe _ _ (by norm_num), hE]
  generalize ∑ k, x k * x k = s at h0
  induction s with
  | bot => simp at h0
  | top =>
    left
    rw [EReal.top_mul_coe_of_pos (by norm_num), EReal.top_add_coe]
  | coe r =>
    right
    refine ⟨r * (1024 : ℝ)⁻¹ + e, ?_, ?_⟩
    · have : (0 : ℝ) ≤ r := by exact_mod_cast h0
      positivity
    · norm_cast

/-- A negative multiple, twice. -/
theorem twice (X : EReal) (d : ℝ) (hd : 0 < d) : X * ((-d : ℝ) : EReal) + X * ((-d : ℝ) : EReal) = -(X * ((2 * d : ℝ) : EReal)) := by
  have h1 : -d < 0 := by linarith
  have h2 : 0 < 2 * d := by linarith
  induction X with
  | bot => rw [EReal.bot_mul_coe_of_neg h1, EReal.bot_mul_coe_of_pos h2]; rfl
  | top => rw [EReal.top_mul_coe_of_neg h1, EReal.top_mul_coe_of_pos h2]; rfl
  | coe r => norm_cast; ring

theorem gradV_eq_grad (x g : Fin n → EReal) (i : Fin n) : gradV x g i = grad x g i := by
  rcases ms_cases x with h | ⟨r, hr, h⟩
  · have h0 : rs x = 0 := by unfold rs; rw [h]; rfl
    have hb : back x g = 0 := by
      unfold back
      rw [h0, h, len_eq, SoftmaxRow.div_coe _ _ (by norm_num)]
      simp [Ideal.div]
    unfold gradV grad
    rw [h0, hb]
    simp
  · have hs : rs x = (((Real.sqrt r)⁻¹ : ℝ) : EReal) := by
      unfold rs
      rw [h, Ideal.rsqrt_coe, if_neg (not_lt.mpr hr.le), if_neg hr.ne']
    have hq : 0 < (Real.sqrt r)⁻¹ := inv_pos.mpr (Real.sqrt_pos.mpr hr)
    have hqr : (Real.sqrt r)⁻¹ * (Real.sqrt r)⁻¹ = r⁻¹ := by rw [← mul_inv, Real.mul_self_sqrt hr.le]
    unfold gradV grad back
    rw [hs, h, len_eq, mhalf_eq]
    generalize (Real.sqrt r)⁻¹ = q at hq hqr
    simp only [SoftmaxRow.div_coe _ _ hr, SoftmaxRow.div_coe _ (1024 : ℝ) (by norm_num)]
    have hS : ∑ k, g k * (x k * (q : EReal)) = (q : EReal) * ∑ k, x k * g k := by
      rw [SoftmaxRow.coe_mul_sum q hq.le]
      exact Finset.sum_congr rfl fun k _ => by rw [← mul_assoc, mul_comm, mul_comm (g k)]
    rw [hS]
    generalize ∑ k, x k * g k = S
    have hl : x i * (S * (((-(1 / 2) : ℝ) : EReal) * ((q : EReal) * ((r⁻¹ : ℝ) : EReal))) * (((1024 : ℝ)⁻¹ : ℝ) : EReal))
        = (x i * S) * ((-(1 / 2 * (q * r⁻¹) * (1024 : ℝ)⁻¹) : ℝ) : EReal) := by
      have : ((-(1 / 2 * (q * r⁻¹) * (1024 : ℝ)⁻¹) : ℝ) : EReal)
          = (((-(1 / 2) : ℝ) : EReal) * ((q : EReal) * ((r⁻¹ : ℝ) : EReal))) * (((1024 : ℝ)⁻¹ : ℝ) : EReal) := by
        norm_cast; ring
      rw [this, mul_assoc (x i) S, mul_assoc S]
    rw [add_assoc, mul_comm (S * _ * _) (x i), hl, twice _ _ (by positivity), sub_eq_add_neg,
      EReal.left_distrib_of_nonneg_of_ne_top (by exact_mod_cast hq.le) (EReal.coe_ne_top q), mul_comm (g i)]
    refine congrArg (fun z => (q : EReal) * g i + z) ?_
    rw [mul_neg]
    refine congrArg Neg.neg ?_
    have : ((2 * (1 / 2 * (q * r⁻¹) * (1024 : ℝ)⁻¹) : ℝ) : EReal) = (q : EReal) * ((q : EReal) * ((q : EReal) * (((1024 : ℝ)⁻¹ : ℝ) : EReal))) := by
      rw [← hqr]; norm_cast; ring
    rw [this]
    ac_rfl

section arrays

variable {R : ℕ} (X D : Vec Ideal ⟨2, ![R, 1024]⟩ .f32) (W : Vec Ideal ⟨2, ![1, 1024]⟩ .f32)

/-- A row of the array under the norm. -/
def xrow (r : Fin R) : Fin 1024 → EReal := fun k => X (ix2 r k)
/-- A row of what comes from upstream, times the weight. -/
def grow (r : Fin R) : Fin 1024 → EReal := fun k => D (ix2 r k) * W (ix2 0 k)

/-- The gradient in the array, row by row. -/
def dX : Vec Ideal ⟨2, ![R, 1024]⟩ .f32 := fun y => grad (xrow X (y 0)) (grow D W (y 0)) (y 1)
/-- The gradient in the weight: the sum over the rows. -/
def dW : Vec Ideal ⟨2, ![1, 1024]⟩ .f32 := fun y => ∑ r : Fin R, D (ix2 r (y 1)) * (X (ix2 r (y 1)) * rs (xrow X r))
/-- The gradient in the array, and what reaches it past the norm. -/
def dXres (S : Vec Ideal ⟨2, ![R, 1024]⟩ .f32) : Vec Ideal ⟨2, ![R, 1024]⟩ .f32 := fun y => dX X D W y + S y

end arrays

end Cert.NormRow

end
-- ==== Proof.NormGrad.lean ====
/-
  The gradient of the norm: the kernel's two results are the reference's, on every argument.
-/
module

public import proofs.«01_k».proof.Defs
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.NormRow
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.NormBwdIdeal.Grad

open Cert.NormRow Cert.NormBwdIdeal Cert.NormBwdIdeal.Gen Cert.NormBwdRefIdeal.Read

variable (m : (ℓ : Loc nD τ sig) → Buf (Elt Ideal) ℓ) (c : Dev nD)

section payloads

variable (x0 x2 : Vec Ideal S1024x1024 .f32) (x1 a : Vec Ideal S1x1024 .f32)

theorem pay3 (r k : Fin 1024) : k0_pay3 x0 x2 x1 (ix2 r k)
    = NormRow.grad (fun k => x0 (ix2 r k)) (fun k => x2 (ix2 r k) * x1 (ix2 0 k)) k := by
  pointwise [k0_pay3, k0_pay2, k0_pay1, NormRow.grad, NormRow.rs, NormRow.ms]
  rfl

theorem pay5 (k : Fin 1024) : k0_pay5 x0 x2 a (ix2 0 k)
    = a (ix2 0 k) + ∑ r : Fin 1024, x2 (ix2 r k) * (x0 (ix2 r k) * NormRow.rs (fun k => x0 (ix2 r k))) := by
  pointwise [k0_pay5, k0_pay2, k0_pay1, NormRow.rs, NormRow.ms]
  rfl

end payloads

theorem tiles : ∀ t : Fin cfg0.N, win0_0.index t = win0_3.index t ∧ win0_2.index t = win0_3.index t ∧ win0_3.index t 0 = t.val
    ∧ win0_3.index t 1 = 0 ∧ win0_1.index t 0 = 0 ∧ win0_1.index t 1 = 0 ∧ win0_4.index t 0 = 0 ∧ win0_4.index t 1 = 0 :=
  (by decide +kernel : ∀ t : Fin grid0.N, win0_0.index t = win0_3.index t ∧ win0_2.index t = win0_3.index t ∧ win0_3.index t 0 = t.val
    ∧ win0_3.index t 1 = 0 ∧ win0_1.index t 0 = 0 ∧ win0_1.index t 1 = 0 ∧ win0_4.index t 0 = 0 ∧ win0_4.index t 1 = 0)

theorem outs_x (t : Fin cfg0.N) : (outsAt0 m c t.val t.isLt).1 = k0_pay3 (iblk m c 0 t) (iblk m c 2 t) (iblk m c 1 t) := by
  by_cases h : t.val % 2 = 0
  · rw [outsAt0_A m c t h]; frame_out
  · rw [outsAt0_B m c t h]; frame_out

theorem final_x : (dats m 0 c).arrAt 3 cfg0.N = dX (m ((c : Thread nD τ).loc main_arg0)) (m ((c : Thread nD τ).loc main_arg2)) (m ((c : Thread nD τ).loc main_arg1)) := by
  refine (dats m 0 c).arrAt_eq_of_covers 3 _ (by decide +kernel) fun t _ y => ?_
  blk_simp
  rw [after0_3, outs_x]
  obtain ⟨r, q, rfl⟩ : ∃ (r q : Fin 1024), y = ix2 r q := ⟨y 0, y 1, eq_ix2 y⟩
  rw [pay3]
  unfold dX xrow grow
  blk_point [iblk, V, (tiles t).1, (tiles t).2.1, (tiles t).2.2.1, (tiles t).2.2.2.1, (tiles t).2.2.2.2.1, (tiles t).2.2.2.2.2.1]

/-- What one block of rows adds to the weight's gradient. -/
def part (x0 x2 : Vec Ideal S1024x1024 .f32) : S1x1024.Idx → EReal := fun y =>
  ∑ r : Fin 1024, x2 (ix2 r (y 1)) * (x0 (ix2 r (y 1)) * NormRow.rs (fun k => x0 (ix2 r k)))

theorem pay5' (x0 x2 : Vec Ideal S1024x1024 .f32) (a : Vec Ideal S1x1024 .f32) (y : S1x1024.Idx) :
    k0_pay5 x0 x2 a y = a y + part x0 x2 y := by
  obtain ⟨k, rfl⟩ : ∃ k : Fin 1024, y = ix2 0 k := ⟨y 1, by rw [eq_ix2 y]; congr 1; exact Subsingleton.elim (α := Fin 1) _ _⟩
  exact pay5 x0 x2 a k

theorem outs_w (t : Fin cfg0.N) (ht : t.val + 1 = cfg0.N) (y : S1x1024.Idx) :
    (outsAt0 m c t.val t.isLt).2 y = (k0_pay4 (F := Ideal) y : EReal) + ∑ p : Fin cfg0.N, part (iblk m c 0 p) (iblk m c 2 p) y :=
  Pipeline.eq_sum_fin_of_reset_step_apply_last (fun n h => ((outsAt0 m c n h).2 : S1x1024.Idx → EReal)) 2 (k0_pay4 (F := Ideal)) (fun t => part (iblk m c 0 t) (iblk m c 2 t))
    (fun t h y => by rw [outsAt0_A m c t h]; frame_out; rw [pay5'])
    (fun t h y => by rw [outsAt0_B m c t h]; frame_out; rw [pay5']) (by decide) t ht y

theorem final_w : (dats m 0 c).arrAt 4 cfg0.N = dW (m ((c : Thread nD τ).loc main_arg0)) (m ((c : Thread nD τ).loc main_arg2)) := by
  refine (dats m 0 c).arrAt_eq_of_covers 4 _ (by decide +kernel) fun t hf y => ?_
  blk_simp
  have ht : t.val + 1 = cfg0.N := by
    have hN : cfg0.N = 2 := N_0
    have := (flush0_4 t).mp hf
    have := t.isLt
    omega
  rw [after0_4]
  refine (outs_w m c t ht y).trans ?_
  rw [show (k0_pay4 (F := Ideal) y : EReal) = 0 from Ideal.ofBits_zero_f32, zero_add]
  unfold part dW xrow
  refine Fin.sum_mul_add_congr fun s k hl => ?_
  blk_point [iblk, V, (tiles t).2.2.2.2.2.2.1, (tiles t).2.2.2.2.2.2.2, (tiles s).1, (tiles s).2.1, (tiles s).2.2.1, (tiles s).2.2.2.1]

theorem z0 (i : Cert.NormBwdRefIdeal.S_.Idx) : (val_main_cst (F := Ideal) i : EReal) = 0 := Ideal.ofBits_zero_f32
theorem z3 (i : Cert.NormBwdRefIdeal.S_.Idx) : (val_main_cst_3 (F := Ideal) i : EReal) = 0 := Ideal.ofBits_zero_f32
theorem z4 (i : Cert.NormBwdRefIdeal.S_.Idx) : (val_main_cst_4 (F := Ideal) i : EReal) = 0 := Ideal.ofBits_zero_f32
theorem z5 (i : Cert.NormBwdRefIdeal.S_.Idx) : (val_main_cst_5 (F := Ideal) i : EReal) = 0 := Ideal.ofBits_zero_f32
theorem z7 (i : Cert.NormBwdRefIdeal.S_.Idx) : (val_main_cst_7 (F := Ideal) i : EReal) = 0 := Ideal.ofBits_zero_f32

/-- The reference's gradient in the array. -/
theorem ref_x (X : Vec Ideal S2048x1024 .f32) (W : Vec Ideal S1x1024 .f32) (D : Vec Ideal S2048x1024 .f32) :
    val_main_v36 (F := Ideal) X W D = dX X D W := by
  funext y
  obtain ⟨r, q, rfl⟩ : ∃ (r : Fin 2048) (q : Fin 1024), y = ix2 r q := ⟨y 0, y 1, eq_ix2 y⟩
  show _ = NormRow.grad (xrow X r) (grow D W r) q
  rw [← NormRow.gradV_eq_grad]
  pointwise [val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0, NormRow.gradV, NormRow.back, NormRow.rs, NormRow.ms]
  simp only [z0, z5, z7, zero_add, Fin.sum_univ_one]
  rfl

/-- The reference's gradient in the weight. -/
theorem ref_w (X D : Vec Ideal S2048x1024 .f32) : val_main_v37 (F := Ideal) X D = dW X D := by
  funext y
  obtain ⟨k, rfl⟩ : ∃ k : Fin 1024, y = ix2 0 k := ⟨y 1, by rw [eq_ix2 y]; congr 1; exact Subsingleton.elim (α := Fin 1) _ _⟩
  show _ = ∑ r : Fin 2048, D (ix2 r k) * (X (ix2 r k) * NormRow.rs (xrow X r))
  pointwise [val_main_v37, val_main_v22, val_main_v19, val_main_v18, val_main_v17, val_main_v13, val_main_v12, val_main_v8, val_main_v7, val_main_v6, val_main_v5, val_main_v4, val_main_v3, val_main_v2, val_main_v1]
  simp only [z0, z3, z4, zero_add, Fin.sum_univ_one]
  refine Finset.sum_congr rfl fun r _ => ?_
  rw [mul_comm]
  rfl

theorem claim : Cert.algebraic_NormBwdIdeal_NormBwdRefIdeal (hNormBwdIdeal := facts) (hNormBwdRefIdeal := Cert.NormBwdRefIdeal.Gen.facts) :=
  fun m ρ m' ρ' _ hag => ⟨fun c => dX (m ((c : Thread nD τ).loc main_arg0)) (m ((c : Thread nD τ).loc main_arg2)) (m ((c : Thread nD τ).loc main_arg1)),
    fun c => dW (m ((c : Thread nD τ).loc main_arg0)) (m ((c : Thread nD τ).loc main_arg2)),
    (θ_run _ _ _).mono (fun _ h c => ⟨(h c).1.trans (final_x m c), (h c).2.1.trans (final_w m c), (h c).2.2⟩) (Value.run_blocks m ρ),
    (θ_run _ _ _).mono (fun _ h c => ⟨(h c).1.trans (by rw [(hag c).1, (hag c).2.1, (hag c).2.2]; exact ref_x _ _ _),
      (h c).2.1.trans (by rw [(hag c).1, (hag c).2.2]; exact ref_w _ _), (h c).2.2⟩)
      (Cert.NormBwdRefIdeal.Value.run (F := Ideal) m' ρ')⟩

end Cert.NormBwdIdeal.Grad

end
-- ==== Proof.NormGradRes.lean ====
/-
  The gradient of a norm whose input also goes past it: the kernel's two results are the reference's, on every argument.
-/
module

public import proofs.«01_k».proof.Defs
public import proofs.«01_k».proof.Proof.Gen.ResNormBwdIdeal.Value
public import proofs.«01_k».proof.Proof.Gen.ResNormBwdRefIdeal.Run
public import proofs.«01_k».proof.Proof.Gen.ResNormBwdRefIdeal.Read
public import proofs.«01_k».proof.Proof.NormRow
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.ResNormBwdIdeal.Grad

open Cert.NormRow Cert.ResNormBwdIdeal Cert.ResNormBwdIdeal.Gen Cert.ResNormBwdRefIdeal.Read

variable (m : (ℓ : Loc nD τ sig) → Buf (Elt Ideal) ℓ) (c : Dev nD)

section payloads

variable (x0 x2 x3 : Vec Ideal S1024x1024 .f32) (x1 a : Vec Ideal S1x1024 .f32)

theorem pay3 (r k : Fin 1024) : k0_pay3 x0 x2 x1 x3 (ix2 r k)
    = NormRow.grad (fun k => x0 (ix2 r k)) (fun k => x2 (ix2 r k) * x1 (ix2 0 k)) k + x3 (ix2 r k) := by
  pointwise [k0_pay3, k0_pay2, k0_pay1, NormRow.grad, NormRow.rs, NormRow.ms]
  rfl

theorem pay5 (k : Fin 1024) : k0_pay5 x0 x2 a (ix2 0 k)
    = a (ix2 0 k) + ∑ r : Fin 1024, x2 (ix2 r k) * (x0 (ix2 r k) * NormRow.rs (fun k => x0 (ix2 r k))) := by
  pointwise [k0_pay5, k0_pay2, k0_pay1, NormRow.rs, NormRow.ms]
  rfl

end payloads

theorem tiles : ∀ t : Fin cfg0.N, win0_0.index t = win0_4.index t ∧ win0_2.index t = win0_4.index t ∧ win0_4.index t 0 = t.val
    ∧ win0_4.index t 1 = 0 ∧ win0_1.index t 0 = 0 ∧ win0_1.index t 1 = 0 ∧ win0_5.index t 0 = 0 ∧ win0_5.index t 1 = 0 ∧ win0_3.index t = win0_4.index t :=
  (by decide +kernel : ∀ t : Fin grid0.N, win0_0.index t = win0_4.index t ∧ win0_2.index t = win0_4.index t ∧ win0_4.index t 0 = t.val
    ∧ win0_4.index t 1 = 0 ∧ win0_1.index t 0 = 0 ∧ win0_1.index t 1 = 0 ∧ win0_5.index t 0 = 0 ∧ win0_5.index t 1 = 0 ∧ win0_3.index t = win0_4.index t)

theorem outs_x (t : Fin cfg0.N) : (outsAt0 m c t.val t.isLt).1 = k0_pay3 (iblk m c 0 t) (iblk m c 2 t) (iblk m c 1 t) (iblk m c 3 t) := by
  by_cases h : t.val % 2 = 0
  · rw [outsAt0_A m c t h]; frame_out
  · rw [outsAt0_B m c t h]; frame_out

theorem final_x : (dats m 0 c).arrAt 4 cfg0.N = dXres (m ((c : Thread nD τ).loc main_arg0)) (m ((c : Thread nD τ).loc main_arg2)) (m ((c : Thread nD τ).loc main_arg1)) (m ((c : Thread nD τ).loc main_arg3)) := by
  refine (dats m 0 c).arrAt_eq_of_covers 4 _ (by decide +kernel) fun t _ y => ?_
  blk_simp
  rw [after0_4, outs_x]
  obtain ⟨r, q, rfl⟩ : ∃ (r q : Fin 1024), y = ix2 r q := ⟨y 0, y 1, eq_ix2 y⟩
  rw [pay3]
  unfold dXres dX xrow grow
  blk_point [iblk, V, (tiles t).1, (tiles t).2.1, (tiles t).2.2.1, (tiles t).2.2.2.1, (tiles t).2.2.2.2.1, (tiles t).2.2.2.2.2.1, (tiles t).2.2.2.2.2.2.2.2]

/-- What one block of rows adds to the weight's gradient. -/
def part (x0 x2 : Vec Ideal S1024x1024 .f32) : S1x1024.Idx → EReal := fun y =>
  ∑ r : Fin 1024, x2 (ix2 r (y 1)) * (x0 (ix2 r (y 1)) * NormRow.rs (fun k => x0 (ix2 r k)))

theorem pay5' (x0 x2 : Vec Ideal S1024x1024 .f32) (a : Vec Ideal S1x1024 .f32) (y : S1x1024.Idx) :
    k0_pay5 x0 x2 a y = a y + part x0 x2 y := by
  obtain ⟨k, rfl⟩ : ∃ k : Fin 1024, y = ix2 0 k := ⟨y 1, by rw [eq_ix2 y]; congr 1; exact Subsingleton.elim (α := Fin 1) _ _⟩
  exact pay5 x0 x2 a k

theorem outs_w (t : Fin cfg0.N) (ht : t.val + 1 = cfg0.N) (y : S1x1024.Idx) :
    (outsAt0 m c t.val t.isLt).2 y = (k0_pay4 (F := Ideal) y : EReal) + ∑ p : Fin cfg0.N, part (iblk m c 0 p) (iblk m c 2 p) y :=
  Pipeline.eq_sum_fin_of_reset_step_apply_last (fun n h => ((outsAt0 m c n h).2 : S1x1024.Idx → EReal)) 2 (k0_pay4 (F := Ideal)) (fun t => part (iblk m c 0 t) (iblk m c 2 t))
    (fun t h y => by rw [outsAt0_A m c t h]; frame_out; rw [pay5'])
    (fun t h y => by rw [outsAt0_B m c t h]; frame_out; rw [pay5']) (by decide) t ht y

theorem final_w : (dats m 0 c).arrAt 5 cfg0.N = dW (m ((c : Thread nD τ).loc main_arg0)) (m ((c : Thread nD τ).loc main_arg2)) := by
  refine (dats m 0 c).arrAt_eq_of_covers 5 _ (by decide +kernel) fun t hf y => ?_
  blk_simp
  have ht : t.val + 1 = cfg0.N := by
    have hN : cfg0.N = 2 := N_0
    have := (flush0_5 t).mp hf
    have := t.isLt
    omega
  rw [after0_5]
  refine (outs_w m c t ht y).trans ?_
  rw [show (k0_pay4 (F := Ideal) y : EReal) = 0 from Ideal.ofBits_zero_f32, zero_add]
  unfold part dW xrow
  refine Fin.sum_mul_add_congr fun s k hl => ?_
  blk_point [iblk, V, (tiles t).2.2.2.2.2.2.1, (tiles t).2.2.2.2.2.2.2.1, (tiles s).1, (tiles s).2.1, (tiles s).2.2.1, (tiles s).2.2.2.1]

theorem z0 (i : Cert.ResNormBwdRefIdeal.S_.Idx) : (val_main_cst (F := Ideal) i : EReal) = 0 := Ideal.ofBits_zero_f32
theorem z3 (i : Cert.ResNormBwdRefIdeal.S_.Idx) : (val_main_cst_3 (F := Ideal) i : EReal) = 0 := Ideal.ofBits_zero_f32
theorem z4 (i : Cert.ResNormBwdRefIdeal.S_.Idx) : (val_main_cst_4 (F := Ideal) i : EReal) = 0 := Ideal.ofBits_zero_f32
theorem z5 (i : Cert.ResNormBwdRefIdeal.S_.Idx) : (val_main_cst_5 (F := Ideal) i : EReal) = 0 := Ideal.ofBits_zero_f32
theorem z7 (i : Cert.ResNormBwdRefIdeal.S_.Idx) : (val_main_cst_7 (F := Ideal) i : EReal) = 0 := Ideal.ofBits_zero_f32

/-- The reference's gradient in the array. -/
theorem ref_x (X : Vec Ideal S2048x1024 .f32) (W : Vec Ideal S1x1024 .f32) (D S : Vec Ideal S2048x1024 .f32) :
    val_main_v37 (F := Ideal) X W D S = dXres X D W S := by
  funext y
  obtain ⟨r, q, rfl⟩ : ∃ (r : Fin 2048) (q : Fin 1024), y = ix2 r q := ⟨y 0, y 1, eq_ix2 y⟩
  show _ = NormRow.grad (xrow X r) (grow D W r) q + S (ix2 r q)
  rw [← NormRow.gradV_eq_grad]
  pointwise [val_main_v37, val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0, NormRow.gradV, NormRow.back, NormRow.rs, NormRow.ms]
  simp only [z0, z5, z7, zero_add, Fin.sum_univ_one]
  rw [add_comm _ (S (ix2 r q)), ← add_assoc, ← add_assoc]
  rfl

/-- The reference's gradient in the weight. -/
theorem ref_w (X D : Vec Ideal S2048x1024 .f32) : val_main_v38 (F := Ideal) X D = dW X D := by
  funext y
  obtain ⟨k, rfl⟩ : ∃ k : Fin 1024, y = ix2 0 k := ⟨y 1, by rw [eq_ix2 y]; congr 1; exact Subsingleton.elim (α := Fin 1) _ _⟩
  show _ = ∑ r : Fin 2048, D (ix2 r k) * (X (ix2 r k) * NormRow.rs (xrow X r))
  pointwise [val_main_v38, val_main_v22, val_main_v19, val_main_v18, val_main_v17, val_main_v13, val_main_v12, val_main_v8, val_main_v7, val_main_v6, val_main_v5, val_main_v4, val_main_v3, val_main_v2, val_main_v1]
  simp only [z0, z3, z4, zero_add, Fin.sum_univ_one]
  refine Finset.sum_congr rfl fun r _ => ?_
  rw [mul_comm]
  rfl

theorem claim : Cert.algebraic_ResNormBwdIdeal_ResNormBwdRefIdeal (hResNormBwdIdeal := facts) (hResNormBwdRefIdeal := Cert.ResNormBwdRefIdeal.Gen.facts) :=
  fun m ρ m' ρ' _ hag => ⟨fun c => dXres (m ((c : Thread nD τ).loc main_arg0)) (m ((c : Thread nD τ).loc main_arg2)) (m ((c : Thread nD τ).loc main_arg1)) (m ((c : Thread nD τ).loc main_arg3)),
    fun c => dW (m ((c : Thread nD τ).loc main_arg0)) (m ((c : Thread nD τ).loc main_arg2)),
    (θ_run _ _ _).mono (fun _ h c => ⟨(h c).1.trans (final_x m c), (h c).2.1.trans (final_w m c), (h c).2.2⟩) (Value.run_blocks m ρ),
    (θ_run _ _ _).mono (fun _ h c => ⟨(h c).1.trans (by unfold Cert.ResNormBwdRefIdeal.Value.res_main_v37; rw [(hag c).1, (hag c).2.1, (hag c).2.2.1, (hag c).2.2.2]; exact ref_x _ _ _ _),
      (h c).2.1.trans (by rw [(hag c).1, (hag c).2.2.1]; exact ref_w _ _), (h c).2.2⟩)
      (Cert.ResNormBwdRefIdeal.Value.run (F := Ideal) m' ρ')⟩

end Cert.ResNormBwdIdeal.Grad

end
-- ==== Proof.NormGradMem.lean ====
/-
  The gradient of the memory's norm, whose rows are one block: the kernel's two results are the reference's, on every argument.
-/
module

public import proofs.«01_k».proof.Defs
public import proofs.«01_k».proof.Proof.Gen.MemNormBwdIdeal.Value
public import proofs.«01_k».proof.Proof.Gen.MemNormBwdRefIdeal.Run
public import proofs.«01_k».proof.Proof.Gen.MemNormBwdRefIdeal.Read
public import proofs.«01_k».proof.Proof.NormRow
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.MemNormBwdIdeal.Grad

open Cert.NormRow Cert.MemNormBwdIdeal Cert.MemNormBwdIdeal.Gen Cert.MemNormBwdRefIdeal.Read

variable (m : (ℓ : Loc nD τ sig) → Buf (Elt Ideal) ℓ) (c : Dev nD)

section payloads

variable (x0 x2 : Vec Ideal S256x1024 .f32) (x1 a : Vec Ideal S1x1024 .f32)

theorem pay3 (r : Fin 256) (k : Fin 1024) : k0_pay3 x0 x2 x1 (ix2 r k)
    = NormRow.grad (fun k => x0 (ix2 r k)) (fun k => x2 (ix2 r k) * x1 (ix2 0 k)) k := by
  pointwise [k0_pay3, k0_pay2, k0_pay1, NormRow.grad, NormRow.rs, NormRow.ms]
  rfl

theorem pay5 (k : Fin 1024) : k0_pay5 x0 x2 a (ix2 0 k)
    = a (ix2 0 k) + ∑ r : Fin 256, x2 (ix2 r k) * (x0 (ix2 r k) * NormRow.rs (fun k => x0 (ix2 r k))) := by
  pointwise [k0_pay5, k0_pay2, k0_pay1, NormRow.rs, NormRow.ms]
  rfl

end payloads

theorem tiles : ∀ t : Fin cfg0.N, win0_0.index t = win0_3.index t ∧ win0_2.index t = win0_3.index t ∧ win0_3.index t 0 = t.val
    ∧ win0_3.index t 1 = 0 ∧ win0_1.index t 0 = 0 ∧ win0_1.index t 1 = 0 ∧ win0_4.index t 0 = 0 ∧ win0_4.index t 1 = 0 :=
  (by decide +kernel : ∀ t : Fin grid0.N, win0_0.index t = win0_3.index t ∧ win0_2.index t = win0_3.index t ∧ win0_3.index t 0 = t.val
    ∧ win0_3.index t 1 = 0 ∧ win0_1.index t 0 = 0 ∧ win0_1.index t 1 = 0 ∧ win0_4.index t 0 = 0 ∧ win0_4.index t 1 = 0)

theorem final_x : (dats m 0 c).arrAt 3 cfg0.N = dX (m ((c : Thread nD τ).loc main_arg0)) (m ((c : Thread nD τ).loc main_arg2)) (m ((c : Thread nD τ).loc main_arg1)) := by
  refine (dats m 0 c).arrAt_eq_of_covers 3 _ (by decide +kernel) fun t _ y => ?_
  blk_simp
  rw [after0_3]
  unfold outsAt0
  frame_out
  obtain ⟨r, q, rfl⟩ : ∃ (r : Fin 256) (q : Fin 1024), y = ix2 r q := ⟨y 0, y 1, eq_ix2 y⟩
  rw [pay3]
  unfold dX xrow grow
  blk_point [iblk, V, (tiles t).1, (tiles t).2.1, (tiles t).2.2.1, (tiles t).2.2.2.1, (tiles t).2.2.2.2.1, (tiles t).2.2.2.2.2.1]

/-- What one block of rows adds to the weight's gradient. -/
def part (x0 x2 : Vec Ideal S256x1024 .f32) : S1x1024.Idx → EReal := fun y =>
  ∑ r : Fin 256, x2 (ix2 r (y 1)) * (x0 (ix2 r (y 1)) * NormRow.rs (fun k => x0 (ix2 r k)))

theorem pay5' (x0 x2 : Vec Ideal S256x1024 .f32) (a : Vec Ideal S1x1024 .f32) (y : S1x1024.Idx) :
    k0_pay5 x0 x2 a y = a y + part x0 x2 y := by
  obtain ⟨k, rfl⟩ : ∃ k : Fin 1024, y = ix2 0 k := ⟨y 1, by rw [eq_ix2 y]; congr 1; exact Subsingleton.elim (α := Fin 1) _ _⟩
  exact pay5 x0 x2 a k

theorem final_w : (dats m 0 c).arrAt 4 cfg0.N = dW (m ((c : Thread nD τ).loc main_arg0)) (m ((c : Thread nD τ).loc main_arg2)) := by
  refine (dats m 0 c).arrAt_eq_of_covers 4 _ (by decide +kernel) fun t hf y => ?_
  blk_simp
  rw [after0_4]
  unfold outsAt0
  frame_out
  rw [pay5', show (k0_pay4 (F := Ideal) y : EReal) = 0 from Ideal.ofBits_zero_f32, zero_add]
  unfold part dW xrow
  blk_point [iblk, V, (tiles t).1, (tiles t).2.1, (tiles t).2.2.1, (tiles t).2.2.2.1, (tiles t).2.2.2.2.2.2.1, (tiles t).2.2.2.2.2.2.2]

theorem z0 (i : Cert.MemNormBwdRefIdeal.S_.Idx) : (val_main_cst (F := Ideal) i : EReal) = 0 := Ideal.ofBits_zero_f32
theorem z3 (i : Cert.MemNormBwdRefIdeal.S_.Idx) : (val_main_cst_3 (F := Ideal) i : EReal) = 0 := Ideal.ofBits_zero_f32
theorem z4 (i : Cert.MemNormBwdRefIdeal.S_.Idx) : (val_main_cst_4 (F := Ideal) i : EReal) = 0 := Ideal.ofBits_zero_f32
theorem z5 (i : Cert.MemNormBwdRefIdeal.S_.Idx) : (val_main_cst_5 (F := Ideal) i : EReal) = 0 := Ideal.ofBits_zero_f32
theorem z7 (i : Cert.MemNormBwdRefIdeal.S_.Idx) : (val_main_cst_7 (F := Ideal) i : EReal) = 0 := Ideal.ofBits_zero_f32

/-- The reference's gradient in the array. -/
theorem ref_x (X : Vec Ideal S256x1024 .f32) (W : Vec Ideal S1x1024 .f32) (D : Vec Ideal S256x1024 .f32) :
    val_main_v36 (F := Ideal) X W D = dX X D W := by
  funext y
  obtain ⟨r, q, rfl⟩ : ∃ (r : Fin 256) (q : Fin 1024), y = ix2 r q := ⟨y 0, y 1, eq_ix2 y⟩
  show _ = NormRow.grad (xrow X r) (grow D W r) q
  rw [← NormRow.gradV_eq_grad]
  pointwise [val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0, NormRow.gradV, NormRow.back, NormRow.rs, NormRow.ms]
  simp only [z0, z5, z7, zero_add, Fin.sum_univ_one]
  rfl

/-- The reference's gradient in the weight. -/
theorem ref_w (X D : Vec Ideal S256x1024 .f32) : val_main_v37 (F := Ideal) X D = dW X D := by
  funext y
  obtain ⟨k, rfl⟩ : ∃ k : Fin 1024, y = ix2 0 k := ⟨y 1, by rw [eq_ix2 y]; congr 1; exact Subsingleton.elim (α := Fin 1) _ _⟩
  show _ = ∑ r : Fin 256, D (ix2 r k) * (X (ix2 r k) * NormRow.rs (xrow X r))
  pointwise [val_main_v37, val_main_v22, val_main_v19, val_main_v18, val_main_v17, val_main_v13, val_main_v12, val_main_v8, val_main_v7, val_main_v6, val_main_v5, val_main_v4, val_main_v3, val_main_v2, val_main_v1]
  simp only [z0, z3, z4, zero_add, Fin.sum_univ_one]
  refine Finset.sum_congr rfl fun r _ => ?_
  rw [mul_comm]
  rfl

theorem claim : Cert.algebraic_MemNormBwdIdeal_MemNormBwdRefIdeal (hMemNormBwdIdeal := facts) (hMemNormBwdRefIdeal := Cert.MemNormBwdRefIdeal.Gen.facts) :=
  fun m ρ m' ρ' _ hag => ⟨fun c => dX (m ((c : Thread nD τ).loc main_arg0)) (m ((c : Thread nD τ).loc main_arg2)) (m ((c : Thread nD τ).loc main_arg1)),
    fun c => dW (m ((c : Thread nD τ).loc main_arg0)) (m ((c : Thread nD τ).loc main_arg2)),
    (θ_run _ _ _).mono (fun _ h c => ⟨(h c).1.trans (final_x m c), (h c).2.1.trans (final_w m c), (h c).2.2⟩) (Value.run_blocks m ρ),
    (θ_run _ _ _).mono (fun _ h c => ⟨(h c).1.trans (by rw [(hag c).1, (hag c).2.1, (hag c).2.2]; exact ref_x _ _ _),
      (h c).2.1.trans (by rw [(hag c).1, (hag c).2.2]; exact ref_w _ _), (h c).2.2⟩)
      (Cert.MemNormBwdRefIdeal.Value.run (F := Ideal) m' ρ')⟩

end Cert.MemNormBwdIdeal.Grad

end
-- ==== Proof.LossNorm.lean ====
/-
  The loss with its gradient, and the norm forward, alone and added to the stream.
-/
module

public import proofs.«01_k».proof.Defs
public import proofs.«01_k».proof.Proof.Gen.LossGradIdeal.Value
public import proofs.«01_k».proof.Proof.Gen.LossGradRefIdeal.Run
public import proofs.«01_k».proof.Proof.Gen.LossGradRefIdeal.Read
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.ResNormFwdIdeal.Value
public import proofs.«01_k».proof.Proof.Gen.ResNormFwdRefIdeal.Run
public import proofs.«01_k».proof.Proof.Gen.ResNormFwdRefIdeal.Read
public import proofs.«01_k».proof.Proof.NormRow
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.LossGradIdeal.Grad

open Cert.LossGradIdeal Cert.LossGradIdeal.Gen Cert.LossGradRefIdeal.Read

/-- One over twice the row's length. -/
def half : EReal := Ideal.ofBits .f32 0x3A000000#32

theorem half_eq : half = ((1 / 2048 : ℝ) : EReal) := by
  unfold half
  simp [Ideal.ofBits, Ideal.ieee, -EReal.coe_mul]; norm_num

theorem inv_eq : Ideal.ofBits .f32 0x3A800000#32 = ((1 / 1024 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem hf_eq : Ideal.ofBits .f32 0x3F000000#32 = ((1 / 2 : ℝ) : EReal) := by
  simp [Ideal.ofBits, Ideal.ieee, -EReal.coe_mul]; norm_num

variable (m : (ℓ : Loc nD τ sig) → Buf (Elt Ideal) ℓ) (c : Dev nD)

/-- The squared errors of one row, summed. -/
def sq {R : ℕ} (Y T : Vec Ideal ⟨2, ![R, 1024]⟩ .f32) (r : Fin R) : EReal :=
  ∑ k : Fin 1024, (Y (ix2 r k) - T (ix2 r k)) * (Y (ix2 r k) - T (ix2 r k))

/-- The loss, in every lane. -/
def loss (Y T : Vec Ideal S2048x1024 .f32) : Vec Ideal S1x128 .f32 := fun _ => ∑ r : Fin 2048, half * sq Y T r

/-- What one block of rows adds to the loss. -/
def part (x0 x1 : Vec Ideal S1024x1024 .f32) : S1x128.Idx → EReal := fun _ => ∑ r : Fin 1024, half * sq x0 x1 r

theorem pay4 (x0 x1 : Vec Ideal S1024x1024 .f32) (a : Vec Ideal S1x128 .f32) (y : S1x128.Idx) :
    k0_pay4 x0 x1 a y = a y + part x0 x1 y := by
  obtain ⟨k, rfl⟩ : ∃ k : Fin 128, y = ix2 0 k := ⟨y 1, by rw [eq_ix2 y]; congr 1; exact Subsingleton.elim (α := Fin 1) _ _⟩
  have hp : part x0 x1 (ix2 0 k) = half * ∑ r : Fin 1024, sq x0 x1 r := by
    unfold part
    rw [half_eq, SoftmaxRow.coe_mul_sum _ (by norm_num)]
  rw [hp]
  pointwise [k0_pay4, k0_pay1]
  rfl

theorem tiles : ∀ t : Fin cfg0.N, win0_0.index t = win0_3.index t ∧ win0_1.index t = win0_3.index t ∧ win0_3.index t 0 = t.val
    ∧ win0_3.index t 1 = 0 ∧ win0_2.index t 0 = 0 ∧ win0_2.index t 1 = 0 :=
  (by decide +kernel : ∀ t : Fin grid0.N, win0_0.index t = win0_3.index t ∧ win0_1.index t = win0_3.index t ∧ win0_3.index t 0 = t.val
    ∧ win0_3.index t 1 = 0 ∧ win0_2.index t 0 = 0 ∧ win0_2.index t 1 = 0)

theorem outs_l (t : Fin cfg0.N) (ht : t.val + 1 = cfg0.N) (y : S1x128.Idx) :
    (outsAt0 m c t.val t.isLt).1 y = (k0_pay3 (F := Ideal) y : EReal) + ∑ p : Fin cfg0.N, part (iblk m c 0 p) (iblk m c 1 p) y :=
  Pipeline.eq_sum_fin_of_reset_step_apply_last (fun n h => ((outsAt0 m c n h).1 : S1x128.Idx → EReal)) 2 (k0_pay3 (F := Ideal))
    (fun t => part (iblk m c 0 t) (iblk m c 1 t))
    (fun t h y => by rw [outsAt0_A m c t h]; frame_out; rw [pay4])
    (fun t h y => by rw [outsAt0_B m c t h]; frame_out; rw [pay4]) (by decide) t ht y

theorem final_l : (dats m 0 c).arrAt 2 cfg0.N = loss (m ((c : Thread nD τ).loc main_arg0)) (m ((c : Thread nD τ).loc main_arg1)) := by
  refine (dats m 0 c).arrAt_eq_of_covers 2 _ (by decide +kernel) fun t hf y => ?_
  blk_simp
  have ht : t.val + 1 = cfg0.N := by
    have hN : cfg0.N = 2 := N_0
    have := (flush0_2 t).mp hf
    have := t.isLt
    omega
  rw [after0_2]
  refine (outs_l m c t ht y).trans ?_
  rw [show (k0_pay3 (F := Ideal) y : EReal) = 0 from Ideal.ofBits_zero_f32, zero_add]
  unfold part loss sq
  refine Fin.sum_mul_add_congr fun s k hl => ?_
  blk_point [iblk, V, (tiles s).1, (tiles s).2.1, (tiles s).2.2.1, (tiles s).2.2.2.1]

theorem outs_g (t : Fin cfg0.N) : (outsAt0 m c t.val t.isLt).2 = k0_pay2 (iblk m c 0 t) (iblk m c 1 t) := by
  by_cases h : t.val % 2 = 0
  · rw [outsAt0_A m c t h]; frame_out
  · rw [outsAt0_B m c t h]; frame_out

/-- The gradient: the error over the row's length. -/
def grad (Y T : Vec Ideal S2048x1024 .f32) : Vec Ideal S2048x1024 .f32 := fun y => (Y y - T y) * Ideal.ofBits .f32 0x3A800000#32

theorem final_g : (dats m 0 c).arrAt 3 cfg0.N = grad (m ((c : Thread nD τ).loc main_arg0)) (m ((c : Thread nD τ).loc main_arg1)) := by
  refine (dats m 0 c).arrAt_eq_of_covers 3 _ (by decide +kernel) fun t _ y => ?_
  blk_simp
  rw [after0_3, outs_g]
  obtain ⟨r, q, rfl⟩ : ∃ (r q : Fin 1024), y = ix2 r q := ⟨y 0, y 1, eq_ix2 y⟩
  pointwise [k0_pay2, k0_pay1, grad]
  blk_point [iblk, V, (tiles t).1, (tiles t).2.1, (tiles t).2.2.1, (tiles t).2.2.2.1]

theorem z0 (i : Cert.LossGradRefIdeal.S_.Idx) : (val_main_cst_0 (F := Ideal) i : EReal) = 0 := Ideal.ofBits_zero_f32
theorem z2 (i : Cert.LossGradRefIdeal.S_.Idx) : (val_main_cst_2 (F := Ideal) i : EReal) = 0 := Ideal.ofBits_zero_f32
theorem c1 (i : Cert.LossGradRefIdeal.S_.Idx) : (val_main_cst_1 (F := Ideal) i : EReal) = ((1024 : ℝ) : EReal) := NormRow.len_eq
theorem c6 (i : Cert.LossGradRefIdeal.S_.Idx) : (val_main_cst_6 (F := Ideal) i : EReal) = ((1024 : ℝ) : EReal) := NormRow.len_eq
theorem c3 (i : Cert.LossGradRefIdeal.S_.Idx) : (val_main_cst_3 (F := Ideal) i : EReal) = ((1 / 2 : ℝ) : EReal) := hf_eq
theorem c4 (i : Cert.LossGradRefIdeal.S_.Idx) : (val_main_cst_4 (F := Ideal) i : EReal) = ((1 / 2 : ℝ) : EReal) := hf_eq
theorem c5 (i : Cert.LossGradRefIdeal.S_.Idx) : (val_main_cst_5 (F := Ideal) i : EReal) = 1 := Ideal.ofBits_one_f32
theorem c0 (i : Cert.LossGradRefIdeal.S_.Idx) : (val_main_cst (F := Ideal) i : EReal) = ((2 : ℝ) : EReal) := two_eq

theorem ref_l (Y T : Vec Ideal S2048x1024 .f32) : val_main_v15 (F := Ideal) Y T = loss Y T := by
  funext y
  obtain ⟨k, rfl⟩ : ∃ k : Fin 128, y = ix2 0 k := ⟨y 1, by rw [eq_ix2 y]; congr 1; exact Subsingleton.elim (α := Fin 1) _ _⟩
  show _ = ∑ r : Fin 2048, half * sq Y T r
  pointwise [val_main_v15, val_main_v8, val_main_v7, val_main_v6, val_main_v5, val_main_v4, val_main_v1, val_main_v0]
  simp only [z0, z2, c1, c3, zero_add, SoftmaxRow.div_coe _ (1024 : ℝ) (by norm_num)]
  rw [SoftmaxRow.coe_mul_sum _ (by norm_num)]
  refine Finset.sum_congr rfl fun r _ => ?_
  rw [half_eq, mul_left_comm, ← EReal.coe_mul, mul_comm]
  norm_num
  rfl

theorem ref_g (Y T : Vec Ideal S2048x1024 .f32) : val_main_v14 (F := Ideal) Y T = grad Y T := by
  funext y
  obtain ⟨r, q, rfl⟩ : ∃ (r : Fin 2048) (q : Fin 1024), y = ix2 r q := ⟨y 0, y 1, eq_ix2 y⟩
  show _ = (Y (ix2 r q) - T (ix2 r q)) * Ideal.ofBits .f32 0x3A800000#32
  pointwise [val_main_v14, val_main_v13, val_main_v12, val_main_v11, val_main_v10, val_main_v9, val_main_v3, val_main_v2, val_main_v0]
  simp only [c0, c4, c5, c6, mul_one, SoftmaxRow.div_coe _ (1024 : ℝ) (by norm_num)]
  rw [inv_eq, ← mul_assoc, ← EReal.coe_mul, ← EReal.coe_mul, mul_comm]
  congr 2
  norm_num

theorem claim : Cert.algebraic_LossGradIdeal_LossGradRefIdeal (hLossGradIdeal := facts) (hLossGradRefIdeal := Cert.LossGradRefIdeal.Gen.facts) :=
  fun m ρ m' ρ' _ hag => ⟨fun c => loss (m ((c : Thread nD τ).loc main_arg0)) (m ((c : Thread nD τ).loc main_arg1)),
    fun c => grad (m ((c : Thread nD τ).loc main_arg0)) (m ((c : Thread nD τ).loc main_arg1)),
    (θ_run _ _ _).mono (fun _ h c => ⟨(h c).1.trans (final_l m c), (h c).2.1.trans (final_g m c), (h c).2.2⟩) (Value.run_blocks m ρ),
    (θ_run _ _ _).mono (fun _ h c => ⟨(h c).1.trans (by rw [(hag c).1, (hag c).2]; exact ref_l _ _),
      (h c).2.1.trans (by rw [(hag c).1, (hag c).2]; exact ref_g _ _), (h c).2.2⟩)
      (Cert.LossGradRefIdeal.Value.run (F := Ideal) m' ρ')⟩

end Cert.LossGradIdeal.Grad

namespace Cert.NormFwdIdeal.Product

open Cert.NormFwdIdeal Cert.NormFwdIdeal.Gen Cert.NormFwdRefIdeal.Read

variable (m : (ℓ : Loc nD τ sig) → Buf (Elt Ideal) ℓ) (c : Dev nD)

theorem tiles : ∀ t : Fin cfg0.N, win0_0.index t = win0_2.index t ∧ win0_2.index t 0 = t.val
    ∧ win0_2.index t 1 = 0 ∧ win0_1.index t 0 = 0 ∧ win0_1.index t 1 = 0 :=
  (by decide +kernel : ∀ t : Fin grid0.N, win0_0.index t = win0_2.index t ∧ win0_2.index t 0 = t.val
    ∧ win0_2.index t 1 = 0 ∧ win0_1.index t 0 = 0 ∧ win0_1.index t 1 = 0)

theorem z (i : Cert.NormFwdRefIdeal.S_.Idx) : (val_main_cst (F := Ideal) i : EReal) = 0 := Ideal.ofBits_zero_f32

theorem final : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r q : Fin 1024), y = ix2 r q := ⟨y 0, y 1, eq_ix2 y⟩
  pointwise [k0_pay1, val_main_v12, val_main_v11, val_main_v10, val_main_v9, val_main_v8, val_main_v7, val_main_v6, val_main_v5, val_main_v4, val_main_v3, val_main_v2, val_main_v1, val_main_v0]
  simp only [z, zero_add]
  blk_point [iblk, V, (tiles t).1, (tiles t).2.1, (tiles t).2.2.1, (tiles t).2.2.2.1, (tiles t).2.2.2.2] <;> rfl

theorem claim : Cert.algebraic_NormFwdIdeal_NormFwdRefIdeal (hNormFwdIdeal := facts) (hNormFwdRefIdeal := Cert.NormFwdRefIdeal.Gen.facts) :=
  fun m ρ m' ρ' _ hag => ⟨fun c => val_main_v12 (F := Ideal) (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.NormFwdRefIdeal.Value.run (F := Ideal) m' ρ')⟩

end Cert.NormFwdIdeal.Product

namespace Cert.ResNormFwdIdeal.Product

open Cert.ResNormFwdIdeal Cert.ResNormFwdIdeal.Gen Cert.ResNormFwdRefIdeal.Read

variable (m : (ℓ : Loc nD τ sig) → Buf (Elt Ideal) ℓ) (c : Dev nD)

theorem tiles : ∀ t : Fin cfg0.N, win0_0.index t = win0_3.index t ∧ win0_1.index t = win0_3.index t ∧ win0_3.index t 0 = t.val
    ∧ win0_3.index t 1 = 0 ∧ win0_2.index t 0 = 0 ∧ win0_2.index t 1 = 0 :=
  (by decide +kernel : ∀ t : Fin grid0.N, win0_0.index t = win0_3.index t ∧ win0_1.index t = win0_3.index t ∧ win0_3.index t 0 = t.val
    ∧ win0_3.index t 1 = 0 ∧ win0_2.index t 0 = 0 ∧ win0_2.index t 1 = 0)

theorem z (i : Cert.ResNormFwdRefIdeal.S_.Idx) : (val_main_cst (F := Ideal) i : EReal) = 0 := Ideal.ofBits_zero_f32

theorem final : (dats m 0 c).arrAt 3 cfg0.N = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, q, rfl⟩ : ∃ (r q : Fin 1024), y = ix2 r q := ⟨y 0, y 1, eq_ix2 y⟩
  pointwise [k0_pay1, val_main_v12, val_main_v11, val_main_v10, val_main_v9, val_main_v8, val_main_v7, val_main_v6, val_main_v5, val_main_v4, val_main_v3, val_main_v2, val_main_v1, val_main_v0]
  simp only [z, zero_add]
  blk_point [iblk, V, (tiles t).1, (tiles t).2.1, (tiles t).2.2.1, (tiles t).2.2.2.1, (tiles t).2.2.2.2.1, (tiles t).2.2.2.2.2] <;> rfl

theorem claim : Cert.algebraic_ResNormFwdIdeal_ResNormFwdRefIdeal (hResNormFwdIdeal := facts) (hResNormFwdRefIdeal := Cert.ResNormFwdRefIdeal.Gen.facts) :=
  fun m ρ m' ρ' _ hag => ⟨fun c => val_main_v12 (F := Ideal) (m ((c : Thread nD τ).loc main_arg0)) (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2]; rfl), (h c).2⟩)
      (Cert.ResNormFwdRefIdeal.Value.run (F := Ideal) m' ρ')⟩

end Cert.ResNormFwdIdeal.Product

end
-- ==== Proof.Shift.lean ====
/-
  Shifting the rows of a matrix down or up, the rows let in being zero: as the kernels do it (a rotation and a choice by the row's
  number) and as it is written plainly (a slice of the matrix with rows of zeros before or after it). Causal convolutions of short
  width are sums of shifted columns.
-/
module

public import proofs.«01_k».proof.Defs
public import Idealize.ShloMosaic.Lib.Pointwise
public import Idealize.ShloMosaic.Lib.Pipeline.ValueKit
public import Idealize.ShloMosaic.Lib.KernelVsHost
public import Idealize.ShloMosaic.Lib.WordCmp

@[expose] public section

set_option maxRecDepth 16384

noncomputable section

open Idealize.ShloMosaic Idealize.ShloMosaic.TcCoe

namespace Cert.Shift

/-- A column moved down by `n` rows. -/
def down {S : ℕ} (n : ℕ) (f : Fin S → EReal) (t : Fin S) : EReal := if n ≤ t.val then f ⟨t.val - n, by omega⟩ else 0

/-- A column moved up by `n` rows. -/
def up {S : ℕ} (n : ℕ) (f : Fin S → EReal) (t : Fin S) : EReal := if h : t.val + n < S then f ⟨t.val + n, h⟩ else 0

/-- Every column moved down. -/
def downM (n : ℕ) (x : FVec Ideal ⟨2, ![2048, 128]⟩ .f32) : FVec Ideal ⟨2, ![2048, 128]⟩ .f32 := fun y => down n (fun t => x (ix2 t (y 1))) (y 0)

/-- Every column moved up. -/
def upM (n : ℕ) (x : FVec Ideal ⟨2, ![2048, 128]⟩ .f32) : FVec Ideal ⟨2, ![2048, 128]⟩ .f32 := fun y => up n (fun t => x (ix2 t (y 1))) (y 0)

theorem downM_ix2 (n : ℕ) (x : FVec Ideal ⟨2, ![2048, 128]⟩ .f32) (r : Fin 2048) (q : Fin 128) :
    downM n x (ix2 r q) = down n (fun t => x (ix2 t q)) r := rfl

theorem upM_ix2 (n : ℕ) (x : FVec Ideal ⟨2, ![2048, 128]⟩ .f32) (r : Fin 2048) (q : Fin 128) :
    upM n x (ix2 r q) = up n (fun t => x (ix2 t q)) r := rfl

/-- The kernels' way of moving down. -/
theorem rotate_down (n : ℕ) (hn : n < 2048) (x : FVec Ideal ⟨2, ![2048, 128]⟩ .f32) (h : Shape.Rotates ⟨2, ![2048, 128]⟩ 0 none)
    (hi : Shape.Iotas ⟨2, ![2048, 128]⟩ .tc 32 [0]) :
    select (cmpi .sge (iota .tc ⟨2, ![2048, 128]⟩ 32 [0] hi) (broadcast ⟨2, ![2048, 128]⟩ (BitVec.ofNat 32 n)))
      (dynamicRotate 0 (BitVec.ofNat 32 n) none x h) (broadcast ⟨2, ![2048, 128]⟩ (Scalar.ofBits .f32 0x00000000#32 : Ideal .f32)) = downM n x := by
  funext y
  obtain ⟨r, q, rfl⟩ : ∃ (r : Fin 2048) (q : Fin 128), y = ix2 r q := ⟨y 0, y 1, eq_ix2 y⟩
  have hr := r.isLt
  have hb : (BitVec.ofNat 32 n).toNat = n := by rw [BitVec.toNat_ofNat]; omega
  rw [downM_ix2]
  show Scalar.select (IntOp.cmpi .sge (BitVec.ofNat 32 (0 * 2048 + r.val)) (BitVec.ofNat 32 n)) _ _ = _
  rw [Nat.zero_mul, Nat.zero_add, WordCmp.cmpi_sge_ofNat (by omega) (by omega)]
  unfold down
  by_cases hd : n ≤ r.val
  · rw [decide_eq_true hd, if_pos hd]
    refine (show Scalar.select 1#1 _ _ = _ from if_pos rfl).trans ?_
    refine dynamicRotate_apply 0 _ x h (ix2 r q) (ix2 ⟨r.val - n, by omega⟩ q) fun b => ?_
    rw [hb]
    match b with
    | ⟨0, _⟩ => show r.val - n = (r.val + 2048 - n % 2048) % 2048; omega
    | ⟨1, _⟩ => rfl
  · rw [decide_eq_false hd, if_neg hd]
    exact (show Scalar.select 0#1 _ _ = _ from if_neg (by decide)).trans Ideal.ofBits_zero_f32

/-- The kernels' way of moving up: a rotation down by the rest of the rows. -/
theorem rotate_up (n k : ℕ) (hk : n + k = 2048) (hn : 0 < n) (x : FVec Ideal ⟨2, ![2048, 128]⟩ .f32) (h : Shape.Rotates ⟨2, ![2048, 128]⟩ 0 none)
    (hi : Shape.Iotas ⟨2, ![2048, 128]⟩ .tc 32 [0]) :
    select (cmpi .slt (iota .tc ⟨2, ![2048, 128]⟩ 32 [0] hi) (broadcast ⟨2, ![2048, 128]⟩ (BitVec.ofNat 32 k)))
      (dynamicRotate 0 (BitVec.ofNat 32 k) none x h) (broadcast ⟨2, ![2048, 128]⟩ (Scalar.ofBits .f32 0x00000000#32 : Ideal .f32)) = upM n x := by
  funext y
  obtain ⟨r, q, rfl⟩ : ∃ (r : Fin 2048) (q : Fin 128), y = ix2 r q := ⟨y 0, y 1, eq_ix2 y⟩
  have hr := r.isLt
  have hb : (BitVec.ofNat 32 k).toNat = k := by rw [BitVec.toNat_ofNat]; omega
  rw [upM_ix2]
  show Scalar.select (IntOp.cmpi .slt (BitVec.ofNat 32 (0 * 2048 + r.val)) (BitVec.ofNat 32 k)) _ _ = _
  rw [Nat.zero_mul, Nat.zero_add, WordCmp.cmpi_slt_ofNat (by omega) (by omega)]
  unfold up
  by_cases hd : r.val < k
  · rw [decide_eq_true hd, dif_pos (by omega)]
    refine (show Scalar.select 1#1 _ _ = _ from if_pos rfl).trans ?_
    refine dynamicRotate_apply 0 _ x h (ix2 r q) (ix2 ⟨r.val + n, by omega⟩ q) fun b => ?_
    rw [hb]
    match b with
    | ⟨0, _⟩ => show r.val + n = (r.val + 2048 - k % 2048) % 2048; omega
    | ⟨1, _⟩ => rfl
  · rw [decide_eq_false hd, dif_neg (by omega)]
    exact (show Scalar.select 0#1 _ _ = _ from if_neg (by decide)).trans Ideal.ofBits_zero_f32

variable {S W T K : ℕ}

/-- The plain way of moving down: a slice of the matrix below `K` rows of zeros. -/
theorem slice_below (n : ℕ) (o : Fin 2 → ℕ) (ho : o 0 + n = K) (ho1 : o 1 = 0) (Z : Vec Ideal ⟨2, ![K, W]⟩ .f32) (hZ : ∀ i, (Z i : EReal) = 0)
    (x : Vec Ideal ⟨2, ![S, W]⟩ .f32) (hc : Shape.Concatenates [⟨2, ![K, W]⟩, ⟨2, ![S, W]⟩] ⟨2, ![T, W]⟩ 0)
    (hs : Shape.Slices ⟨2, ![T, W]⟩ o ⟨2, ![S, W]⟩) (r : Fin S) (q : Fin W) :
    (extractStridedSlice ⟨2, ![S, W]⟩ o (concatenate ⟨2, ![T, W]⟩ 0 [⟨⟨2, ![K, W]⟩, Z⟩, ⟨⟨2, ![S, W]⟩, x⟩] hc) hs (ix2 r q) : EReal)
      = down n (fun t => x (ix2 t q)) r := by
  have hT : o 0 + S ≤ T := by have := hs.2 0; simpa using this
  have hr := r.isLt
  refine (extractStridedSlice_apply o _ hs (ix2 r q) (ix2 ⟨o 0 + r.val, by omega⟩ q) ?_).trans ?_
  · intro b
    match b with
    | ⟨0, _⟩ => rfl
    | ⟨1, _⟩ => show q.val = o 1 + q.val; omega
  unfold down
  by_cases hd : n ≤ r.val
  · rw [if_pos hd]
    refine concatenate_pair_apply_right 0 Z x hc (ix2 ⟨o 0 + r.val, by omega⟩ q) rfl rfl (ix2 ⟨r.val - n, by omega⟩ q) ?_ ?_
    · intro b hb
      match b with
      | ⟨0, _⟩ => exact absurd rfl hb
      | ⟨1, _⟩ => rfl
    · show r.val - n + K = o 0 + r.val; omega
  · rw [if_neg hd]
    refine (concatenate_pair_apply_left 0 Z x hc (ix2 ⟨o 0 + r.val, by omega⟩ q) rfl (ix2 ⟨o 0 + r.val, by omega⟩ q) ?_).trans (hZ _)
    intro b
    match b with
    | ⟨0, _⟩ => rfl
    | ⟨1, _⟩ => rfl

/-- The plain way of moving up: the matrix among rows of zeros, from row `K` on. -/
theorem slice_pad (n : ℕ) (lo hi int : Fin 2 → ℕ) (hl : lo 0 + n = K) (hl1 : lo 1 = 0) (hint : ∀ a, int a = 0) {u : Shape} (z : u.Idx → Ideal .f32) (hu : 0 < u.numel)
    (hz : ∀ i, (z i : EReal) = 0) (x : Vec Ideal ⟨2, ![S, W]⟩ .f32) (hp : Shape.Pads ⟨2, ![S, W]⟩ lo hi int ⟨2, ![T, W]⟩)
    (r : Fin S) (q : Fin W) (hr : K + r.val < T) :
    (pad ⟨2, ![T, W]⟩ lo hi int x z hp hu (ix2 ⟨K + r.val, hr⟩ q) : EReal) = up n (fun t => x (ix2 t q)) r := by
  unfold up
  by_cases hd : r.val + n < S
  · rw [dif_pos hd]
    refine pad_apply_of_inside lo hi int x z hp hu _ (ix2 ⟨r.val + n, hd⟩ q) fun a => ?_
    rw [hint]
    match a with
    | ⟨0, _⟩ => show K + r.val = lo 0 + (r.val + n) * (0 + 1); omega
    | ⟨1, _⟩ => show q.val = lo 1 + q.val * (0 + 1); omega
  · rw [dif_neg hd]
    refine (pad_apply_of_not_inside lo hi int x z hp hu _ 0 ?_).trans (hz _)
    rintro ⟨_, _, h3⟩
    rw [hint] at h3
    have h4 : (K + r.val - lo 0) / (0 + 1) < S := h3
    omega

/-- A row of an array that is one row among rows of zeros. -/
theorem pad_row {H : ℕ} (lo hi int : Fin 2 → ℕ) (hl1 : lo 1 = 0) (hint : ∀ a, int a = 0) {u : Shape} (z : u.Idx → Ideal .f32) (hu : 0 < u.numel)
    (hz : ∀ i, (z i : EReal) = 0) (x : Vec Ideal ⟨2, ![1, W]⟩ .f32) (hp : Shape.Pads ⟨2, ![1, W]⟩ lo hi int ⟨2, ![H, W]⟩)
    (j : Fin H) (q : Fin W) :
    (pad ⟨2, ![H, W]⟩ lo hi int x z hp hu (ix2 j q) : EReal) = if j.val = lo 0 then (x (ix2 0 q) : EReal) else 0 := by
  by_cases hd : j.val = lo 0
  · rw [if_pos hd]
    refine pad_apply_of_inside lo hi int x z hp hu _ (ix2 0 q) fun a => ?_
    rw [hint]
    match a with
    | ⟨0, _⟩ => show j.val = lo 0 + 0 * (0 + 1); omega
    | ⟨1, _⟩ => show q.val = lo 1 + q.val * (0 + 1); omega
  · rw [if_neg hd]
    refine (pad_apply_of_not_inside lo hi int x z hp hu _ 0 ?_).trans (hz _)
    rintro ⟨h1, _, h3⟩
    rw [hint] at h3
    have h4 : (j.val - lo 0) / (0 + 1) < 1 := h3
    have h5 : lo 0 ≤ j.val := h1
    omega

theorem down_zero (f : Fin S → EReal) (t : Fin S) : down 0 f t = f t := by
  unfold down
  rw [if_pos (Nat.zero_le _)]
  rfl

theorem up_zero (f : Fin S → EReal) (t : Fin S) : up 0 f t = f t := by
  unfold up
  rw [dif_pos (by have := t.isLt; omega)]
  rfl

theorem up_mul (n : ℕ) (a : EReal) (f : Fin S → EReal) (t : Fin S) : up n (fun s => a * f s) t = a * up n f t := by
  unfold up
  split
  · rfl
  · rw [mul_zero]

/-- The causal convolution of a column with three weights. -/
def conv3 (f : Fin S → EReal) (w : Fin 3 → EReal) (t : Fin S) : EReal := f t * w 2 + down 2 f t * w 0 + down 1 f t * w 1

/-- The column's gradient through it. -/
def grad3 (g : Fin S → EReal) (w : Fin 3 → EReal) (t : Fin S) : EReal := g t * w 2 + up 2 g t * w 0 + up 1 g t * w 1

/-- The causal convolution of a column with four weights. -/
def conv4 (f : Fin S → EReal) (w : Fin 4 → EReal) (t : Fin S) : EReal :=
  f t * w 3 + down 3 f t * w 0 + down 2 f t * w 1 + down 1 f t * w 2

/-- The column's gradient through it. -/
def grad4 (g : Fin S → EReal) (w : Fin 4 → EReal) (t : Fin S) : EReal := g t * w 3 + up 3 g t * w 0 + up 2 g t * w 1 + up 1 g t * w 2

/-- The gradient of the weight that meets the column `n` rows down. -/
def wgrad (n : ℕ) (g f : Fin S → EReal) : EReal := ∑ t, g t * down n f t

end Cert.Shift
end
end
-- ==== Proof.SconvGrad.lean ====
/-
  The gradient of the short gated convolution: of its gate, of the two columns multiplied into it, and of its weights.
-/
module

public import proofs.«01_k».proof.Defs
public import proofs.«01_k».proof.Proof.Gen.SconvBwdIdeal.Value
public import proofs.«01_k».proof.Proof.Gen.SconvBwdRefIdeal.Run
public import proofs.«01_k».proof.Proof.Gen.SconvBwdRefIdeal.Read
public import proofs.«01_k».proof.Proof.Shift
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.SconvBwdIdeal.Grad

open Cert.SconvBwdIdeal Cert.SconvBwdIdeal.Gen Cert.SconvBwdRefIdeal.Read Cert.Shift

variable (m : (ℓ : Loc nD τ sig) → Buf (Elt Ideal) ℓ) (c : Dev nD)

/-- The weights of one column. -/
def wc {W : ℕ} (w : Vec Ideal ⟨2, ![3, W]⟩ .f32) (k : Fin W) (j : Fin 3) : EReal := w (ix2 j k)

/-- The column that is convolved. -/
def zc (P : Vec Ideal S2048x3840 .f32) (k : Fin 256) (t : Fin 2048) : EReal :=
  P (ix2 t ⟨1024 + k.val, by omega⟩) * P (ix2 t ⟨1280 + k.val, by omega⟩)

/-- The cotangent of the convolution. -/
def gc (P : Vec Ideal S2048x3840 .f32) (D : Vec Ideal S2048x1024 .f32) (k : Fin 256) (t : Fin 2048) : EReal :=
  D (ix2 t ⟨256 + k.val, by omega⟩) * P (ix2 t ⟨768 + k.val, by omega⟩)

variable (P : Vec Ideal S2048x3840 .f32) (w : Vec Ideal S3x256 .f32) (D : Vec Ideal S2048x1024 .f32)

def db : Vec Ideal S2048x256 .bf16 := fun y => D (ix2 (y 0) ⟨256 + (y 1).val, by have := (y 1).isLt; show _ < 1024; change (y 1).val < 256 at this; omega⟩) * conv3 (zc P (y 1)) (wc w (y 1)) (y 0)
def dc : Vec Ideal S2048x256 .bf16 := fun y => grad3 (gc P D (y 1)) (wc w (y 1)) (y 0) * P (ix2 (y 0) ⟨1280 + (y 1).val, by have := (y 1).isLt; show _ < 3840; change (y 1).val < 256 at this; omega⟩)
def dx : Vec Ideal S2048x256 .bf16 := fun y => grad3 (gc P D (y 1)) (wc w (y 1)) (y 0) * P (ix2 (y 0) ⟨1024 + (y 1).val, by have := (y 1).isLt; show _ < 3840; change (y 1).val < 256 at this; omega⟩)
def dw : Vec Ideal S3x256 .f32 := fun y => wgrad (2 - (y 0).val) (gc P D (y 1)) (zc P (y 1))

theorem pay3 (v0 v1 : Vec Ideal S2048x128 .f32) (v2 : Vec Ideal S3x128 .f32) (v3 : Vec Ideal S2048x128 .f32) (r : Fin 2048) (q : Fin 128) :
    (k0_pay3 v0 v1 v2 v3 (ix2 r q) : EReal) = v3 (ix2 r q) * conv3 (fun t => v0 (ix2 t q) * v1 (ix2 t q)) (wc v2 q) r := by
  dsimp only [k0_pay3]
  rw [rotate_down 2 (by omega), rotate_down 1 (by omega)]
  pointwise [k0_pay2, downM_ix2]
  rfl

theorem pay7 (v2 : Vec Ideal S3x128 .f32) (v3 v31 : Vec Ideal S2048x128 .f32) (r : Fin 2048) (q : Fin 128) :
    (k0_pay7 v2 (k0_pay4 v3 v31) (k0_pay5 v2 v3 v31) k0_pay6 (ix2 r q) : EReal)
      = grad3 (fun t => v3 (ix2 t q) * v31 (ix2 t q)) (wc v2 q) r := by
  dsimp only [k0_pay7, k0_pay5, k0_pay6]
  rw [rotate_up 2 2046 (by omega) (by omega), rotate_up 1 2047 (by omega) (by omega)]
  pointwise [k0_pay4, upM_ix2]
  rfl

theorem pay8 (v0 v1 v3 v31 : Vec Ideal S2048x128 .f32) (j : Fin 3) (q : Fin 128) :
    (k0_pay8 (k0_pay2 v0 v1) (k0_pay4 v3 v31) (ix2 j q) : EReal)
      = wgrad (2 - j.val) (fun t => v3 (ix2 t q) * v31 (ix2 t q)) (fun t => v0 (ix2 t q) * v1 (ix2 t q)) := by
  dsimp only [k0_pay8]
  rw [rotate_down 2 (by omega), rotate_down 1 (by omega)]
  match j with
  | ⟨0, _⟩ => pointwise [k0_pay4, k0_pay2, downM_ix2]; rfl
  | ⟨1, _⟩ => pointwise [k0_pay4, k0_pay2, downM_ix2]; rfl
  | ⟨2, _⟩ =>
    pointwise [k0_pay4, k0_pay2, downM_ix2]
    unfold wgrad
    simp only [Nat.sub_self, down_zero]

/-- The gradient of the second column, and of the third, at one entry. -/
theorem pay9 (u : Vec Ideal S2048x128 .f32) (v2 : Vec Ideal S3x128 .f32) (v3 v31 : Vec Ideal S2048x128 .f32) (r : Fin 2048) (q : Fin 128) :
    (k0_pay9 u v2 (k0_pay4 v3 v31) (k0_pay5 v2 v3 v31) k0_pay6 (ix2 r q) : EReal)
      = grad3 (fun t => v3 (ix2 t q) * v31 (ix2 t q)) (wc v2 q) r * u (ix2 r q) := by
  rw [← pay7]
  rfl

theorem pay10 (u : Vec Ideal S2048x128 .f32) (v2 : Vec Ideal S3x128 .f32) (v3 v31 : Vec Ideal S2048x128 .f32) (r : Fin 2048) (q : Fin 128) :
    (k0_pay1 (k0_pay10 u v2 (k0_pay4 v3 v31) (k0_pay5 v2 v3 v31) k0_pay6) (ix2 r q) : EReal)
      = grad3 (fun t => v3 (ix2 t q) * v31 (ix2 t q)) (wc v2 q) r * u (ix2 r q) := by
  rw [← pay7]
  rfl

/-- The pieces the kernel hands from one part of its body to the next. -/
theorem held (x0 x1 x2 : Vec Ideal S2048x128 .f32) (x3 : Vec Ideal S3x128 .f32) (x4 : Vec Ideal S2048x128 .f32) :
    k0_pay11 x0 x1 x2 x3 x4 = k0_pay4 x4 x0 ∧ k0_pay12 x0 x1 x2 x3 x4 = k0_pay5 x3 x4 x0 ∧ k0_pay13 x0 x1 x2 x3 x4 = k0_pay6 := by
  refine ⟨?_, ?_, rfl⟩
  · unfold k0_pay11
    simp (disch := decide) only [View.ld_unit_lit']
  · unfold k0_pay12
    simp (disch := decide) only [View.ld_unit_lit']

theorem tiles : ∀ t : Fin cfg0.N, win0_0.index t 0 = 0 ∧ win0_0.index t 1 = 6 + t.val
    ∧ win0_1.index t 0 = 0 ∧ win0_1.index t 1 = 8 + t.val
    ∧ win0_2.index t 0 = 0 ∧ win0_2.index t 1 = 10 + t.val
    ∧ win0_3.index t 0 = 0 ∧ win0_3.index t 1 = t.val
    ∧ win0_4.index t 0 = 0 ∧ win0_4.index t 1 = 2 + t.val
    ∧ win0_5.index t 0 = 0 ∧ win0_5.index t 1 = t.val
    ∧ win0_6.index t 0 = 0 ∧ win0_6.index t 1 = t.val
    ∧ win0_7.index t 0 = 0 ∧ win0_7.index t 1 = t.val
    ∧ win0_8.index t 0 = 0 ∧ win0_8.index t 1 = t.val :=
  (by decide +kernel : ∀ t : Fin grid0.N, win0_0.index t 0 = 0 ∧ win0_0.index t 1 = 6 + t.val
    ∧ win0_1.index t 0 = 0 ∧ win0_1.index t 1 = 8 + t.val
    ∧ win0_2.index t 0 = 0 ∧ win0_2.index t 1 = 10 + t.val
    ∧ win0_3.index t 0 = 0 ∧ win0_3.index t 1 = t.val
    ∧ win0_4.index t 0 = 0 ∧ win0_4.index t 1 = 2 + t.val
    ∧ win0_5.index t 0 = 0 ∧ win0_5.index t 1 = t.val
    ∧ win0_6.index t 0 = 0 ∧ win0_6.index t 1 = t.val
    ∧ win0_7.index t 0 = 0 ∧ win0_7.index t 1 = t.val
    ∧ win0_8.index t 0 = 0 ∧ win0_8.index t 1 = t.val)

theorem final_b : (dats m 0 c).arrAt 5 cfg0.N = db (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  obtain ⟨r, q, rfl⟩ : ∃ (r : Fin 2048) (q : Fin 128), y = ix2 r q := ⟨y 0, y 1, eq_ix2 y⟩
  obtain ⟨a0, a1, b0, b1, c0, c1, d0, d1, e0, e1, f0, f1, g0, g1, h0, h1, i0, i1⟩ := tiles t
  refine (pay3 _ _ _ _ r q).trans ?_
  have hy : ((View.whole main_v0_0).slice (win0_5.rect t)).emb (ix2 r q)
      = ix2 r ⟨t.val * 128 + q.val, by have := t.isLt; have h : cfg0.N = 2 := N_0; have := q.isLt; omega⟩ := by
    blk_point [f0, f1]
  show _ = db _ _ _ (((View.whole main_v0_0).slice (win0_5.rect t)).emb (ix2 r q))
  rw [hy]
  unfold db wc zc
  dsimp only [ix2_0, ix2_1]
  blk_point [iblk, V, a0, a1, b0, b1, c0, c1, d0, d1, e0, e1, f0, f1]

theorem final_c : (dats m 0 c).arrAt 6 cfg0.N = dc (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  obtain ⟨r, q, rfl⟩ : ∃ (r : Fin 2048) (q : Fin 128), y = ix2 r q := ⟨y 0, y 1, eq_ix2 y⟩
  obtain ⟨a0, a1, b0, b1, c0, c1, d0, d1, e0, e1, f0, f1, g0, g1, h0, h1, i0, i1⟩ := tiles t
  rw [(held _ _ _ _ _).1, (held _ _ _ _ _).2.1, (held _ _ _ _ _).2.2]
  refine (pay9 _ _ _ _ r q).trans ?_
  have hy : ((View.whole main_v0_1).slice (win0_6.rect t)).emb (ix2 r q)
      = ix2 r ⟨t.val * 128 + q.val, by have := t.isLt; have h : cfg0.N = 2 := N_0; have := q.isLt; omega⟩ := by
    blk_point [g0, g1]
  show _ = dc _ _ _ (((View.whole main_v0_1).slice (win0_6.rect t)).emb (ix2 r q))
  rw [hy]
  unfold dc wc gc
  dsimp only [ix2_0, ix2_1]
  blk_point [iblk, V, a0, a1, b0, b1, c0, c1, d0, d1, e0, e1, g0, g1]

theorem final_x : (dats m 0 c).arrAt 7 cfg0.N = dx (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  obtain ⟨r, q, rfl⟩ : ∃ (r : Fin 2048) (q : Fin 128), y = ix2 r q := ⟨y 0, y 1, eq_ix2 y⟩
  obtain ⟨a0, a1, b0, b1, c0, c1, d0, d1, e0, e1, f0, f1, g0, g1, h0, h1, i0, i1⟩ := tiles t
  rw [(held _ _ _ _ _).1, (held _ _ _ _ _).2.1, (held _ _ _ _ _).2.2]
  refine (pay10 _ _ _ _ r q).trans ?_
  have hy : ((View.whole main_v0_2).slice (win0_7.rect t)).emb (ix2 r q)
      = ix2 r ⟨t.val * 128 + q.val, by have := t.isLt; have h : cfg0.N = 2 := N_0; have := q.isLt; omega⟩ := by
    blk_point [h0, h1]
  show _ = dx _ _ _ (((View.whole main_v0_2).slice (win0_7.rect t)).emb (ix2 r q))
  rw [hy]
  unfold dx wc gc
  dsimp only [ix2_0, ix2_1]
  blk_point [iblk, V, a0, a1, b0, b1, c0, c1, d0, d1, e0, e1, h0, h1]

theorem final_w : (dats m 0 c).arrAt 8 cfg0.N = dw (m ((c : Thread nD τ).loc main_arg0)) (m ((c : Thread nD τ).loc main_arg2)) := by
  refine (dats m 0 c).arrAt_eq_of_covers 8 _ (by decide +kernel) fun t _ y => ?_
  blk_simp
  rw [after0_8]
  frame_out
  obtain ⟨r, q, rfl⟩ : ∃ (r : Fin 3) (q : Fin 128), y = ix2 r q := ⟨y 0, y 1, eq_ix2 y⟩
  obtain ⟨a0, a1, b0, b1, c0, c1, d0, d1, e0, e1, f0, f1, g0, g1, h0, h1, i0, i1⟩ := tiles t
  rw [(held _ _ _ _ _).1]
  refine (pay8 _ _ _ _ r q).trans ?_
  have hy : ((View.whole main_v0_3).slice (win0_8.rect t)).emb (ix2 r q)
      = ix2 r ⟨t.val * 128 + q.val, by have := t.isLt; have h : cfg0.N = 2 := N_0; have := q.isLt; omega⟩ := by
    blk_point [i0, i1]
  show _ = dw _ _ (((View.whole main_v0_3).slice (win0_8.rect t)).emb (ix2 r q))
  rw [hy]
  unfold dw gc zc
  dsimp only [ix2_0, ix2_1]
  blk_point [iblk, V, a0, a1, b0, b1, c0, c1, d0, d1, e0, e1, i0, i1]

/-! The reference. -/

theorem zero4 (i : Cert.SconvBwdRefIdeal.S2x256.Idx) : (val_main_v4 (F := Ideal) i : EReal) = 0 := Ideal.ofBits_zero_f32

theorem col (k : Fin 256) : (fun t => val_main_v3 (F := Ideal) P (ix2 t k)) = zc P k := by
  funext t
  pointwise [val_main_v3, val_main_v1, val_main_v2]
  rfl

theorem cot (r : Fin 2048) (k : Fin 256) : (val_main_v29 (F := Ideal) P D (ix2 r k) : EReal) = gc P D k r := by
  unfold gc
  pointwise [val_main_v29, val_main_v0, val_main_v28]
  rw [mul_comm]

theorem moved2 (r : Fin 2048) (k : Fin 256) : (val_main_v9 (F := Ideal) P (ix2 r k) : EReal) = down 2 (zc P k) r :=
  (slice_below 2 ![0, 0] rfl rfl _ zero4 _ _ _ r k).trans (by rw [col])

theorem moved1 (r : Fin 2048) (k : Fin 256) : (val_main_v15 (F := Ideal) P (ix2 r k) : EReal) = down 1 (zc P k) r :=
  (slice_below 1 ![1, 0] rfl rfl _ zero4 _ _ _ r k).trans (by rw [col])

theorem moved0 (r : Fin 2048) (k : Fin 256) : (val_main_v22 (F := Ideal) P (ix2 r k) : EReal) = zc P k r :=
  (slice_below 0 ![2, 0] rfl rfl _ zero4 _ _ _ r k).trans (by rw [col, down_zero])

theorem conv (r : Fin 2048) (k : Fin 256) : (val_main_v26 (F := Ideal) P w (ix2 r k) : EReal) = conv3 (zc P k) (wc w k) r := by
  have e : (val_main_v26 (F := Ideal) P w (ix2 r k) : EReal)
      = wc w k 0 * val_main_v9 (F := Ideal) P (ix2 r k) + wc w k 1 * val_main_v15 (F := Ideal) P (ix2 r k)
        + wc w k 2 * val_main_v22 (F := Ideal) P (ix2 r k) := by
    pointwise [val_main_v26, val_main_v25, val_main_v24, val_main_v23, val_main_v21, val_main_v20, val_main_v19, val_main_v18, val_main_v17,
      val_main_v16, val_main_v14, val_main_v13, val_main_v12, val_main_v11, val_main_v10, val_main_v8, val_main_v7]
    rfl
  rw [e, moved0, moved1, moved2]
  unfold conv3
  rw [mul_comm (wc w k 0), mul_comm (wc w k 1), mul_comm (wc w k 2), add_comm _ (_ * wc w k 2), add_assoc]

theorem ref_b : val_main_v66 (F := Ideal) P w D = db P w D := by
  funext y
  obtain ⟨r, k, rfl⟩ : ∃ (r : Fin 2048) (k : Fin 256), y = ix2 r k := ⟨y 0, y 1, eq_ix2 y⟩
  have e : (val_main_v66 (F := Ideal) P w D (ix2 r k) : EReal) = D (ix2 r ⟨256 + k.val, by omega⟩) * val_main_v26 (F := Ideal) P w (ix2 r k) := by
    pointwise [val_main_v66, val_main_v30, val_main_v28]
  rw [e, conv]
  rfl

theorem back2 (r : Fin 2048) (k : Fin 256) : (val_main_v37 (F := Ideal) P w D (ix2 ⟨2 + r.val, by omega⟩ k) : EReal) = wc w k 2 * gc P D k r := by
  refine (slice_pad 0 ![2, 0] ![0, 0] ![0, 0] rfl rfl (by decide) _ _ (fun _ => Ideal.ofBits_zero_f32) _ _ r k (by have := r.isLt; change 2 + r.val < 2050; omega)).trans ?_
  rw [up_zero, ← cot]
  pointwise [val_main_v32, val_main_v31, val_main_v23, val_main_v21, val_main_v20]
  rfl

theorem back1 (r : Fin 2048) (k : Fin 256) : (val_main_v46 (F := Ideal) P w D (ix2 ⟨2 + r.val, by omega⟩ k) : EReal) = wc w k 1 * up 1 (gc P D k) r := by
  refine (slice_pad 1 ![1, 0] ![1, 0] ![0, 0] rfl rfl (by decide) _ _ (fun _ => Ideal.ofBits_zero_f32) _ _ r k (by have := r.isLt; change 2 + r.val < 2050; omega)).trans ?_
  rw [← up_mul]
  congr 1
  funext t
  rw [← cot]
  pointwise [val_main_v41, val_main_v40, val_main_v16, val_main_v14, val_main_v13]
  rfl

theorem back0 (r : Fin 2048) (k : Fin 256) : (val_main_v57 (F := Ideal) P w D (ix2 ⟨2 + r.val, by omega⟩ k) : EReal) = wc w k 0 * up 2 (gc P D k) r := by
  refine (slice_pad 2 ![0, 0] ![2, 0] ![0, 0] rfl rfl (by decide) _ _ (fun _ => Ideal.ofBits_zero_f32) _ _ r k (by have := r.isLt; change 2 + r.val < 2050; omega)).trans ?_
  rw [← up_mul]
  congr 1
  funext t
  rw [← cot]
  pointwise [val_main_v52, val_main_v51, val_main_v10, val_main_v8, val_main_v7]
  rfl

theorem back (r : Fin 2048) (k : Fin 256) : (val_main_v63 (F := Ideal) P w D (ix2 r k) : EReal) = grad3 (gc P D k) (wc w k) r := by
  have e : (val_main_v63 (F := Ideal) P w D (ix2 r k) : EReal) = val_main_v37 (F := Ideal) P w D (ix2 ⟨2 + r.val, by omega⟩ k)
      + val_main_v46 (F := Ideal) P w D (ix2 ⟨2 + r.val, by omega⟩ k) + val_main_v57 (F := Ideal) P w D (ix2 ⟨2 + r.val, by omega⟩ k) := by
    pointwise [val_main_v63, val_main_v58, val_main_v47]
  rw [e, back0, back1, back2]
  unfold grad3
  rw [mul_comm (wc w k 0), mul_comm (wc w k 1), mul_comm (wc w k 2), add_right_comm]

theorem ref_c : val_main_v68 (F := Ideal) P w D = dx P w D := by
  funext y
  obtain ⟨r, k, rfl⟩ : ∃ (r : Fin 2048) (k : Fin 256), y = ix2 r k := ⟨y 0, y 1, eq_ix2 y⟩
  have e : (val_main_v68 (F := Ideal) P w D (ix2 r k) : EReal) = P (ix2 r ⟨1024 + k.val, by omega⟩) * val_main_v63 (F := Ideal) P w D (ix2 r k) := by
    pointwise [val_main_v68, val_main_v64, val_main_v1]
  rw [e, back, mul_comm]
  rfl

theorem ref_x : val_main_v67 (F := Ideal) P w D = dc P w D := by
  funext y
  obtain ⟨r, k, rfl⟩ : ∃ (r : Fin 2048) (k : Fin 256), y = ix2 r k := ⟨y 0, y 1, eq_ix2 y⟩
  have e : (val_main_v67 (F := Ideal) P w D (ix2 r k) : EReal) = val_main_v63 (F := Ideal) P w D (ix2 r k) * P (ix2 r ⟨1280 + k.val, by omega⟩) := by
    pointwise [val_main_v67, val_main_v65, val_main_v2]
  rw [e, back]
  rfl

theorem z1 (i : Cert.SconvBwdRefIdeal.S_.Idx) : (val_main_cst_1 (F := Ideal) i : EReal) = 0 := Ideal.ofBits_zero_f32
theorem z2 (i : Cert.SconvBwdRefIdeal.S_.Idx) : (val_main_cst_2 (F := Ideal) i : EReal) = 0 := Ideal.ofBits_zero_f32
theorem z5 (i : Cert.SconvBwdRefIdeal.S_.Idx) : (val_main_cst_5 (F := Ideal) i : EReal) = 0 := Ideal.ofBits_zero_f32
theorem z6 (i : Cert.SconvBwdRefIdeal.S_.Idx) : (val_main_cst_6 (F := Ideal) i : EReal) = 0 := Ideal.ofBits_zero_f32
theorem z9 (i : Cert.SconvBwdRefIdeal.S_.Idx) : (val_main_cst_9 (F := Ideal) i : EReal) = 0 := Ideal.ofBits_zero_f32
theorem z10 (i : Cert.SconvBwdRefIdeal.S_.Idx) : (val_main_cst_10 (F := Ideal) i : EReal) = 0 := Ideal.ofBits_zero_f32

theorem sum2 (k : Fin 256) : (val_main_v38 (F := Ideal) P D (ix2 0 k) : EReal) = wgrad 0 (gc P D k) (zc P k) := by
  have e : (val_main_v38 (F := Ideal) P D (ix2 0 k) : EReal)
      = ∑ t : Fin 2048, val_main_v29 (F := Ideal) P D (ix2 t k) * val_main_v22 (F := Ideal) P (ix2 t k) := by
    pointwise [val_main_v38, val_main_v36, val_main_v35, val_main_v34, val_main_v33]
    simp only [z1, z2, zero_add, Fin.sum_univ_one]
  rw [e]
  exact Finset.sum_congr rfl fun t _ => by rw [cot, moved0, down_zero]

theorem sum1 (k : Fin 256) : (val_main_v48 (F := Ideal) P D (ix2 0 k) : EReal) = wgrad 1 (gc P D k) (zc P k) := by
  have e : (val_main_v48 (F := Ideal) P D (ix2 0 k) : EReal)
      = ∑ t : Fin 2048, val_main_v29 (F := Ideal) P D (ix2 t k) * val_main_v15 (F := Ideal) P (ix2 t k) := by
    pointwise [val_main_v48, val_main_v45, val_main_v44, val_main_v43, val_main_v42]
    simp only [z5, z6, zero_add, Fin.sum_univ_one]
  rw [e]
  exact Finset.sum_congr rfl fun t _ => by rw [cot, moved1]

theorem sum0 (k : Fin 256) : (val_main_v59 (F := Ideal) P D (ix2 0 k) : EReal) = wgrad 2 (gc P D k) (zc P k) := by
  have e : (val_main_v59 (F := Ideal) P D (ix2 0 k) : EReal)
      = ∑ t : Fin 2048, val_main_v29 (F := Ideal) P D (ix2 t k) * val_main_v9 (F := Ideal) P (ix2 t k) := by
    pointwise [val_main_v59, val_main_v56, val_main_v55, val_main_v54, val_main_v53]
    simp only [z9, z10, zero_add, Fin.sum_univ_one]
  rw [e]
  exact Finset.sum_congr rfl fun t _ => by rw [cot, moved2]

theorem ref_w : val_main_v61 (F := Ideal) P D = dw P D := by
  funext y
  obtain ⟨j, k, rfl⟩ : ∃ (j : Fin 3) (k : Fin 256), y = ix2 j k := ⟨y 0, y 1, eq_ix2 y⟩
  have e : (val_main_v61 (F := Ideal) P D (ix2 j k) : EReal) = val_main_v39 (F := Ideal) P D (ix2 j k) + val_main_v49 (F := Ideal) P D (ix2 j k)
      + val_main_v60 (F := Ideal) P D (ix2 j k) := by
    pointwise [val_main_v61, val_main_v50]
  rw [e]
  rw [show (val_main_v39 (F := Ideal) P D (ix2 j k) : EReal) = _ from pad_row ![2, 0] ![0, 0] ![0, 0] rfl (by decide) _ _ (fun _ => Ideal.ofBits_zero_f32) _ _ j k,
    show (val_main_v49 (F := Ideal) P D (ix2 j k) : EReal) = _ from pad_row ![1, 0] ![1, 0] ![0, 0] rfl (by decide) _ _ (fun _ => Ideal.ofBits_zero_f32) _ _ j k,
    show (val_main_v60 (F := Ideal) P D (ix2 j k) : EReal) = _ from pad_row ![0, 0] ![2, 0] ![0, 0] rfl (by decide) _ _ (fun _ => Ideal.ofBits_zero_f32) _ _ j k,
    sum0, sum1, sum2]
  match j with
  | ⟨0, _⟩ => simp; rfl
  | ⟨1, _⟩ => simp; rfl
  | ⟨2, _⟩ => simp; rfl

theorem claim : Cert.algebraic_SconvBwdIdeal_SconvBwdRefIdeal (hSconvBwdIdeal := facts) (hSconvBwdRefIdeal := Cert.SconvBwdRefIdeal.Gen.facts) :=
  fun m ρ m' ρ' _ hag => ⟨fun c => db (m ((c : Thread nD τ).loc main_arg0)) (m ((c : Thread nD τ).loc main_arg1)) (m ((c : Thread nD τ).loc main_arg2)), fun c => dc (m ((c : Thread nD τ).loc main_arg0)) (m ((c : Thread nD τ).loc main_arg1)) (m ((c : Thread nD τ).loc main_arg2)), fun c => dx (m ((c : Thread nD τ).loc main_arg0)) (m ((c : Thread nD τ).loc main_arg1)) (m ((c : Thread nD τ).loc main_arg2)), fun c => dw (m ((c : Thread nD τ).loc main_arg0)) (m ((c : Thread nD τ).loc main_arg2)),
    (θ_run _ _ _).mono (fun _ h c => ⟨(h c).1.trans (final_b m c), (h c).2.1.trans (final_c m c), (h c).2.2.1.trans (final_x m c),
      (h c).2.2.2.1.trans (final_w m c), (h c).2.2.2.2⟩) (Value.run_blocks m ρ),
    (θ_run _ _ _).mono (fun _ h c => ⟨(h c).1.trans (by rw [(hag c).1, (hag c).2.1, (hag c).2.2]; exact ref_b _ _ _),
      (h c).2.1.trans (by rw [(hag c).1, (hag c).2.1, (hag c).2.2]; exact ref_x _ _ _),
      (h c).2.2.1.trans (by rw [(hag c).1, (hag c).2.1, (hag c).2.2]; exact ref_c _ _ _),
      (h c).2.2.2.1.trans (by rw [(hag c).1, (hag c).2.2]; exact ref_w _ _), (h c).2.2.2.2⟩)
      (Cert.SconvBwdRefIdeal.Value.run (F := Ideal) m' ρ')⟩

end Cert.SconvBwdIdeal.Grad
end
end
-- ==== Proof.Logistic.lean ====
/-
  The logistic function and the softplus among the extended reals, and columns between columns of zeros.
-/
module

public import proofs.«01_k».proof.Proof.SoftmaxRow
public import Idealize.ShloMosaic.Lib.Pointwise
public import Idealize.ShloMosaic.Lib.KernelVsHost
public import Idealize.ShloMosaic.Lib.Pipeline.ValueKit
public import Idealize.ShloMosaic.Lib.WordCmp
public import Mathlib.Analysis.SpecialFunctions.Log.Basic

@[expose] public section

set_option maxRecDepth 16384

noncomputable section

open Idealize.ShloMosaic

namespace Cert.Logistic

/-- The logistic function. -/
def sg (x : EReal) : EReal := Ideal.div 1 (1 + Ideal.exp (-x))

/-- The softplus, written so that no exponential is of a positive number. -/
def sp (z : EReal) : EReal := max z 0 + Ideal.log (1 + Ideal.exp (-(max z (-z))))

theorem sg_coe (r : ℝ) : sg r = (((1 + Real.exp (-r))⁻¹ : ℝ) : EReal) := by
  have hp : 0 < 1 + Real.exp (-r) := by positivity
  have e : (1 : EReal) + Ideal.exp (-(r : EReal)) = ((1 + Real.exp (-r) : ℝ) : EReal) := by
    rw [← EReal.coe_neg, EReal.coe_add]
    rfl
  unfold sg
  rw [e, SoftmaxRow.div_coe _ _ hp, one_mul]

theorem sp_coe (r : ℝ) : sp r = ((Real.log (1 + Real.exp r) : ℝ) : EReal) := by
  have hm : max (r : EReal) (-(r : EReal)) = ((|r| : ℝ) : EReal) := by
    rw [← EReal.coe_neg]
    exact (EReal.coe_strictMono.monotone.map_max (a := r) (b := -r)).symm
  have h0 : max (r : EReal) 0 = ((max r 0 : ℝ) : EReal) := by
    exact (EReal.coe_strictMono.monotone.map_max (a := r) (b := 0)).symm
  have hp : 0 < 1 + Real.exp (-|r|) := by positivity
  have e : (1 : EReal) + Ideal.exp (-((|r| : ℝ) : EReal)) = ((1 + Real.exp (-|r|) : ℝ) : EReal) := by
    rw [← EReal.coe_neg, EReal.coe_add]
    rfl
  have l : Ideal.log ((1 + Real.exp (-|r|) : ℝ) : EReal) = ((Real.log (1 + Real.exp (-|r|)) : ℝ) : EReal) := if_neg (not_le.mpr hp)
  unfold sp
  rw [hm, h0, e, l, ← EReal.coe_add]
  congr 1
  rcases le_total 0 r with h | h
  · rw [max_eq_left h, abs_of_nonneg h]
    nth_rw 1 [← Real.log_exp r]
    rw [← Real.log_mul (by positivity) (by positivity), mul_add, ← Real.exp_add]
    simp [add_comm]
  · rw [max_eq_right h, abs_of_nonpos h, neg_neg, zero_add]

/-- The derivative of the softplus, as an exponential of a difference, is the logistic function. -/
theorem slope (r : ℝ) : Ideal.exp ((r : EReal) - sp r) = sg r := by
  rw [sp_coe, sg_coe, ← EReal.coe_sub]
  show ((Real.exp _ : ℝ) : EReal) = _
  congr 1
  rw [Real.exp_sub, Real.exp_log (by positivity), Real.exp_neg]
  have := Real.exp_pos r
  field_simp
  ring

/-- Columns of an array among columns of zeros. -/
theorem pad_cols {S W T : ℕ} (o : ℕ) (lo hi int : Fin 2 → ℕ) (hl0 : lo 0 = 0) (hl1 : lo 1 = o) (hint : ∀ a, int a = 0) {u : Shape} (z : u.Idx → Ideal .f32) (hu : 0 < u.numel)
    (hz : ∀ i, (z i : EReal) = 0) (x : Vec Ideal ⟨2, ![S, W]⟩ .f32) (hp : Shape.Pads ⟨2, ![S, W]⟩ lo hi int ⟨2, ![S, T]⟩)
    (r : Fin S) (q : Fin T) :
    (pad ⟨2, ![S, T]⟩ lo hi int x z hp hu (ix2 r q) : EReal)
      = if h : o ≤ q.val ∧ q.val - o < W then (x (ix2 r ⟨q.val - o, h.2⟩) : EReal) else 0 := by
  subst hl1
  by_cases hd : lo 1 ≤ q.val ∧ q.val - lo 1 < W
  · rw [dif_pos hd]
    refine pad_apply_of_inside lo hi int x z hp hu _ (ix2 r ⟨q.val - lo 1, hd.2⟩) fun a => ?_
    rw [hint]
    match a with
    | ⟨0, _⟩ => show r.val = lo 0 + r.val * (0 + 1); omega
    | ⟨1, _⟩ => show q.val = lo 1 + (q.val - lo 1) * (0 + 1); omega
  · rw [dif_neg hd]
    refine (pad_apply_of_not_inside lo hi int x z hp hu _ 1 ?_).trans (hz _)
    rintro ⟨h1, _, h3⟩
    rw [hint] at h3
    have h4 : (q.val - lo 1) / (0 + 1) < W := h3
    have h5 : lo 1 ≤ q.val := h1
    omega

/-- A number below infinity in absolute value is real. -/
theorem real_of_cmp (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have h2 : max x (-x) < ⊤ := by
    unfold Ideal.cmp at h
    by_contra hn
    simp [hn] at h
  induction x with
  | bot => simp at h2
  | top => simp at h2
  | coe r => exact ⟨r, rfl⟩

/-- The sum of real numbers among the extended reals. -/
theorem coe_sum {n : ℕ} (f : Fin n → ℝ) : ((∑ d, f d : ℝ) : EReal) = ∑ d, (f d : EReal) :=
  map_sum (⟨⟨Real.toEReal, rfl⟩, EReal.coe_add⟩ : ℝ →+ EReal) f Finset.univ

/-- Columns told apart by their number. -/
theorem lane (n : ℕ) (hn : n < 2 ^ 31) (q : Fin 128) (u v : EReal) :
    Scalar.select (IntOp.cmpi .slt (BitVec.ofNat 32 q.val) (BitVec.ofNat 32 n)) u v = if q.val < n then u else v := by
  rw [WordCmp.cmpi_slt_ofNat (by omega) (by omega)]
  by_cases hd : q.val < n
  · rw [decide_eq_true hd, if_pos hd]
    rfl
  · rw [decide_eq_false hd, if_neg hd]
    rfl

/-- Blocks told apart by their number. -/
theorem block {α : Type} (n j : ℕ) (hn : n < 2 ^ 31) (hj : j < 2 ^ 31) (u v : α) :
    Scalar.select (IntOp.cmpi .slt (BitVec.ofNat 32 j) (BitVec.ofNat 32 n)) u v = if j < n then u else v := by
  rw [WordCmp.cmpi_slt_ofNat (by omega) (by omega)]
  by_cases hd : j < n
  · rw [decide_eq_true hd, if_pos hd]
    rfl
  · rw [decide_eq_false hd, if_neg hd]
    rfl

/-- The derivative of the product of a number with its logistic function, in two ways. -/
theorem silu (c d : ℝ) : ∃ u : ℝ, (d : EReal) * sg c * (1 + c * (1 - sg c)) = u
    ∧ (d : EReal) * sg c + c * d * (sg c * (1 - sg c)) = u := by
  rw [sg_coe]
  generalize (1 + Real.exp (-c))⁻¹ = s
  refine ⟨d * s * (1 + c * (1 - s)), ?_, ?_⟩
  · rw [← EReal.coe_one]
    norm_cast
  · rw [← EReal.coe_one]
    norm_cast
    ring

theorem one_eq : Ideal.ofBits .f32 0x3F800000#32 = 1 := Ideal.ofBits_one_f32

theorem inf_eq : Ideal.ofBits .f32 0x7F800000#32 = ⊤ := by
  simp [Ideal.ofBits, Ideal.ieee]

end Cert.Logistic
end
end
-- ==== Proof.GatesGrad.lean ====
/-
  The gradient of the gates of the gated delta rule: of their rows, of the decay's scale and of its shift.
-/
module

public import proofs.«01_k».proof.Defs
public import proofs.«01_k».proof.Proof.Gen.GatesBwdIdeal.Value
public import proofs.«01_k».proof.Proof.Gen.GatesBwdRefIdeal.Run
public import proofs.«01_k».proof.Proof.Gen.GatesBwdRefIdeal.Read
public import proofs.«01_k».proof.Proof.Logistic
public import Idealize.ShloMosaic.Lib.ReduceAll
public import Idealize.ShloMosaic.Lib.WordCmp
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.Pre_finite_gates

/-- The predicate's side conditions. -/
theorem sides : Cert.Pre_finite_gates.Facts where
  bcast_S_S2048x3840 := by decide
  reducesTo_S2048x3840_S_d0_1 := by decide
  h_S_ := by decide
  bcast_S_S1x128 := by decide
  reducesTo_S1x128_S_d0_1 := by decide
  bcast_S_S2048x128 := by decide
  reducesTo_S2048x128_S_d0_1 := by decide

instance : Subsingleton S_.Idx := ⟨fun a b => funext fun i => i.elim0⟩

/-- Under the predicate every entry of every argument is real. -/
theorem real [Cert.Pre_finite_gates.Facts] (x0 : FVec Ideal S2048x3840 .f32) (x1 x2 : FVec Ideal S1x128 .f32) (x3 : FVec Ideal S2048x128 .f32)
    (h : fn (F := Ideal) x0 x1 x2 x3 = fun _ => 1#1) : (∀ i, ∃ r : ℝ, (x0 i : EReal) = r) ∧ (∀ i, ∃ r : ℝ, (x1 i : EReal) = r)
      ∧ (∀ i, ∃ r : ℝ, (x2 i : EReal) = r) ∧ (∀ i, ∃ r : ℝ, (x3 i : EReal) = r) := by
  have h0 := congrFun h (fun a => a.elim0)
  unfold fn fn_part1 at h0
  have h1 := IntOp.andi_eq_one.1 h0
  have h2 := IntOp.andi_eq_one.1 h1.1
  have h3 := IntOp.andi_eq_one.1 h2.1
  exact ⟨fun i => Logistic.real_of_cmp _ (Host.reduce_andi_all _ _ _ _ _ h3.1 i), fun i => Logistic.real_of_cmp _ (Host.reduce_andi_all _ _ _ _ _ h3.2 i),
    fun i => Logistic.real_of_cmp _ (Host.reduce_andi_all _ _ _ _ _ h2.2 i), fun i => Logistic.real_of_cmp _ (Host.reduce_andi_all _ _ _ _ _ h1.2 i)⟩

end Cert.Pre_finite_gates

namespace Cert.GatesBwdIdeal.Grad

open Cert.GatesBwdIdeal Cert.GatesBwdIdeal.Gen Cert.GatesBwdRefIdeal.Read Cert.Logistic

variable (x : Vec Ideal S2048x3840 .f32) (a t : Vec Ideal S1x128 .f32) (d : Vec Ideal S2048x128 .f32)

/-- The decay's argument and scale, and the gradient of the argument, of one row's one column. -/
def zz (r : Fin 2048) (q : Fin 128) : EReal := x (ix2 r ⟨3584 + q.val, by omega⟩) + t (ix2 0 q)
def ea (q : Fin 128) : EReal := -Ideal.exp (a (ix2 0 q))
def da (r : Fin 2048) (q : Fin 128) : EReal := if q.val < 4 then d (ix2 r q) * ea a q * sg (zz x t r q) else 0

/-- The gradients of the rows, the scale and the shift, entry by entry. -/
def ex (r : Fin 2048) (q : Fin 128) : EReal :=
  if q.val < 4 then da x a t d r q else if q.val < 8 then
    d (ix2 r q) * sg (x (ix2 r ⟨3584 + q.val, by omega⟩)) * (1 + -sg (x (ix2 r ⟨3584 + q.val, by omega⟩))) else 0
def el (q : Fin 128) : EReal := ∑ r : Fin 2048, if q.val < 4 then d (ix2 r q) * ea a q * sp (zz x t r q) else 0
def et (q : Fin 128) : EReal := ∑ r : Fin 2048, da x a t d r q
def gx : Vec Ideal S2048x128 .bf16 := fun i => ex x a t d (i 0) (i 1)
def gl : Vec Ideal S1x128 .f32 := fun i => el x a t d (i 1)
def gt : Vec Ideal S1x128 .f32 := fun i => et x a t d (i 1)

theorem pay7 (v0 v1 : Vec Ideal S2048x128 .f32) (v5 v9 : Vec Ideal S1x128 .f32) (r : Fin 2048) (q : Fin 128) :
    (k0_pay7 v0 v1 v5 v9 (ix2 r q) : EReal) = if q.val < 4 then v1 (ix2 r q) * (-Ideal.exp (v5 (ix2 0 q))) * sg (v0 (ix2 r q) + v9 (ix2 0 q)) else 0 := by
  pointwise [k0_pay7, k0_pay4, k0_pay5, k0_pay6]
  rw [lane 4 (by norm_num), zero_sub, zero_sub]
  rfl

theorem pay1 (v0 v1 : Vec Ideal S2048x128 .f32) (u : FVec Ideal S2048x128 .f32) (r : Fin 2048) (q : Fin 128) :
    (k0_pay1 k0_pay4 u (k0_pay8 v0 v1) (ix2 r q) : EReal)
      = if q.val < 4 then u (ix2 r q) else if q.val < 8 then v1 (ix2 r q) * sg (v0 (ix2 r q)) * (1 + -sg (v0 (ix2 r q))) else 0 := by
  pointwise [k0_pay1, k0_pay4, k0_pay8]
  rw [lane 4 (by norm_num), lane 8 (by norm_num), zero_sub]
  rfl

theorem pay2 (v0 v1 : Vec Ideal S2048x128 .f32) (v5 v9 : Vec Ideal S1x128 .f32) (q : Fin 128) :
    (k0_pay2 v1 k0_pay4 (k0_pay5 v5) (k0_pay6 v0 v9) (ix2 0 q) : EReal)
      = ∑ r : Fin 2048, if q.val < 4 then v1 (ix2 r q) * (-Ideal.exp (v5 (ix2 0 q))) * sp (v0 (ix2 r q) + v9 (ix2 0 q)) else 0 := by
  pointwise [k0_pay2, k0_pay4, k0_pay5, k0_pay6]
  refine Finset.sum_congr rfl fun r _ => ?_
  rw [lane 4 (by norm_num), zero_sub, zero_sub]
  rfl

theorem pay3 (u : FVec Ideal S2048x128 .f32) (q : Fin 128) : (k0_pay3 u (ix2 0 q) : EReal) = ∑ r : Fin 2048, (u (ix2 r q) : EReal) := by
  pointwise [k0_pay3]

/-- The pieces the kernel hands from one part of its body to the next. -/
theorem held (x0 : Vec Ideal S2048x128 .f32) (x1 x2 : Vec Ideal S1x128 .f32) (x3 : Vec Ideal S2048x128 .f32) :
    k0_pay9 x0 x1 x2 x3 = k0_pay4 ∧ k0_pay10 x0 x1 x2 x3 = k0_pay7 x0 x3 x1 x2 := by
  refine ⟨rfl, ?_⟩
  unfold k0_pay10
  simp (disch := decide) only [View.ld_unit_lit']

theorem tiles : ∀ t : Fin cfg0.N, win0_0.index t 0 = 0 ∧ win0_0.index t 1 = 28
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0 :=
  (by decide +kernel : ∀ t : Fin grid0.N, win0_0.index t 0 = 0 ∧ win0_0.index t 1 = 28
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0)

variable (m : (ℓ : Loc nD τ sig) → Buf (Elt Ideal) ℓ) (c : Dev nD)

theorem final_x : (dats m 0 c).arrAt 4 cfg0.N = gx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨r, q, rfl⟩ : ∃ (r : Fin 2048) (q : Fin 128), y = ix2 r q := ⟨y 0, y 1, eq_ix2 y⟩
  obtain ⟨a0, a1, b0, b1, c0, c1, d0, d1, e0, e1, f0, f1, g0, g1⟩ := tiles t
  have hy : ((View.whole main_v0_0).slice (win0_4.rect t)).emb (ix2 r q) = ix2 r q := by blk_point [e0, e1]
  rw [(held _ _ _ _).1, (held _ _ _ _).2]
  refine (pay1 _ _ _ r q).trans ?_
  rw [pay7]
  show _ = gx _ _ _ _ (((View.whole main_v0_0).slice (win0_4.rect t)).emb (ix2 r q))
  rw [hy]
  show _ = ex _ _ _ _ r q
  unfold ex da ea zz
  blk_point [iblk, V, a0, a1, b0, b1, c0, c1, d0, d1]

theorem final_l : (dats m 0 c).arrAt 5 cfg0.N = gl (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  obtain ⟨q, rfl⟩ : ∃ q : Fin 128, y = ix2 0 q := ⟨y 1, by rw [eq_ix2 y]; congr 1; exact Subsingleton.elim (α := Fin 1) _ _⟩
  obtain ⟨a0, a1, b0, b1, c0, c1, d0, d1, e0, e1, f0, f1, g0, g1⟩ := tiles t
  have hy : ((View.whole main_v0_1).slice (win0_5.rect t)).emb (ix2 0 q) = ix2 0 q := by blk_point [f0, f1]
  rw [(held _ _ _ _).1]
  refine (pay2 _ _ _ _ q).trans ?_
  show _ = gl _ _ _ _ (((View.whole main_v0_1).slice (win0_5.rect t)).emb (ix2 0 q))
  rw [hy]
  show _ = el _ _ _ _ q
  unfold el ea zz
  blk_point [iblk, V, a0, a1, b0, b1, c0, c1, d0, d1]

theorem final_t : (dats m 0 c).arrAt 6 cfg0.N = gt (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  obtain ⟨q, rfl⟩ : ∃ q : Fin 128, y = ix2 0 q := ⟨y 1, by rw [eq_ix2 y]; congr 1; exact Subsingleton.elim (α := Fin 1) _ _⟩
  obtain ⟨a0, a1, b0, b1, c0, c1, d0, d1, e0, e1, f0, f1, g0, g1⟩ := tiles t
  have hy : ((View.whole main_v0_2).slice (win0_6.rect t)).emb (ix2 0 q) = ix2 0 q := by blk_point [g0, g1]
  rw [(held _ _ _ _).2]
  refine (pay3 _ q).trans ?_
  simp only [pay7]
  show _ = gt _ _ _ _ (((View.whole main_v0_2).slice (win0_6.rect t)).emb (ix2 0 q))
  rw [hy]
  show _ = et _ _ _ _ q
  unfold et da ea zz
  blk_point [iblk, V, a0, a1, b0, b1, c0, c1, d0, d1]

/-! The reference, of real arguments. -/

theorem soft (r : Fin 2048) (h : Fin 4) : (val_main_v12_0 (F := Ideal) x t (ix2 r h) : EReal) = sp (zz x t r ⟨h.val, by omega⟩) := by
  pointwise [val_main_v12_0, val_main_call0_v4, val_main_call0_v6, val_main_call0_v11, val_main_call0_v1, val_main_call0_v10, val_main_call0_v9,
    val_main_call0_v8, val_main_call0_v7, val_main_call0_v3, val_main_call0_v2, val_main_call0_v0, val_main_call0_v5, val_main_call0_cst,
    val_main_v11, val_main_v10, val_main_v9, val_main_v8, val_main_v7, val_main_v1, val_main_v0]
  rw [if_neg (not_not.mpr rfl)]
  rfl

theorem slope' (r : Fin 2048) (h : Fin 4) (hr : ∃ u : ℝ, zz x t r ⟨h.val, by omega⟩ = u) :
    (val_main_v12_1 (F := Ideal) x t (ix2 r h) : EReal) = sg (zz x t r ⟨h.val, by omega⟩) := by
  pointwise [val_main_v12_1, val_main_call0_v21, val_main_call0_v20, val_main_call0_v19, val_main_call0_v18, val_main_call0_v17, val_main_call0_v16,
    val_main_call0_v15, val_main_call0_v14, val_main_call0_v13, val_main_call0_cst_0, val_main_call0_cst_1, val_main_call0_cst_2, val_main_call0_cst_3,
    val_main_v11, val_main_v10, val_main_v9, val_main_v8, val_main_v7, val_main_v1, val_main_v0]
  obtain ⟨u, hu⟩ := hr
  rw [soft, show x (ix2 r ⟨3584 + h.val, _⟩) + t (ix2 0 ⟨h.val, _⟩) = zz x t r ⟨h.val, by omega⟩ from rfl, hu, inf_eq, if_neg (EReal.coe_ne_top u),
    if_neg (by rw [sp_coe]; exact EReal.coe_ne_top _), slope]

theorem v38 (r : Fin 2048) (h : Fin 4) (hr : ∃ u : ℝ, zz x t r ⟨h.val, by omega⟩ = u) :
    (val_main_v38 (F := Ideal) x a t d (ix2 r h) : EReal) = d (ix2 r ⟨h.val, by omega⟩) * ea a ⟨h.val, by omega⟩ * sg (zz x t r ⟨h.val, by omega⟩) := by
  have e : (val_main_v38 (F := Ideal) x a t d (ix2 r h) : EReal)
      = -Ideal.exp (a (ix2 0 ⟨h.val, by omega⟩)) * d (ix2 r ⟨h.val, by omega⟩) * val_main_v12_1 (F := Ideal) x t (ix2 r h) := by
    pointwise [val_main_v38, val_main_v33, val_main_v32, val_main_v13, val_main_v6, val_main_v5, val_main_v4, val_main_v3, val_main_v28]
  rw [e, slope' _ _ _ _ hr, mul_comm (d _)]
  rfl

theorem v31 (r : Fin 2048) (h : Fin 4) : (val_main_v31 (F := Ideal) x d (ix2 r h) : EReal)
    = d (ix2 r ⟨4 + h.val, by omega⟩) * (sg (x (ix2 r ⟨3584 + (4 + h.val), by omega⟩)) * (1 + -sg (x (ix2 r ⟨3584 + (4 + h.val), by omega⟩)))) := by
  pointwise [val_main_v31, val_main_v29, val_main_v24, val_main_v23, val_main_v22, val_main_v21, val_main_v20, val_main_v19, val_main_v18, val_main_v17,
    val_main_v16, val_main_v2, val_main_v0, val_main_cst, val_main_cst_0, val_main_cst_1]
  rfl

theorem ref_x (hr : ∀ r q, ∃ u : ℝ, zz x t r q = u) : val_main_v51 (F := Ideal) x a t d = gx x a t d := by
  funext y
  obtain ⟨r, q, rfl⟩ : ∃ (r : Fin 2048) (q : Fin 128), y = ix2 r q := ⟨y 0, y 1, eq_ix2 y⟩
  have e : (val_main_v51 (F := Ideal) x a t d (ix2 r q) : EReal) = val_main_v48 (F := Ideal) x d (ix2 r q) + val_main_v49 (F := Ideal) x a t d (ix2 r q) := by
    pointwise [val_main_v51, val_main_v50]
  rw [e, show (val_main_v48 (F := Ideal) x d (ix2 r q) : EReal) = _ from pad_cols 4 ![0, 4] ![0, 120] ![0, 0] rfl rfl (by decide) _ _ (fun _ => Ideal.ofBits_zero_f32) _ _ r q,
    show (val_main_v49 (F := Ideal) x a t d (ix2 r q) : EReal) = _ from pad_cols 0 ![0, 0] ![0, 124] ![0, 0] rfl rfl (by decide) _ _ (fun _ => Ideal.ofBits_zero_f32) _ _ r q]
  show _ = ex _ _ _ _ r q
  unfold ex
  by_cases h4 : q.val < 4
  · rw [dif_neg (by rintro ⟨h, _⟩; omega), dif_pos ⟨Nat.zero_le _, h4⟩, if_pos h4, zero_add, v38 _ _ _ _ _ _ (hr _ _)]
    unfold da
    rw [if_pos h4]
    rfl
  · rw [if_neg h4]
    by_cases h8 : q.val < 8
    · have hi : 4 ≤ q.val ∧ q.val - 4 < 4 := by omega
      rw [dif_pos hi, dif_neg (by rintro ⟨_, h⟩; omega), if_pos h8, add_zero, v31]
      have hq : 4 + (q.val - 4) = q.val := by omega
      show d (ix2 r ⟨4 + (q.val - 4), _⟩) * (sg (x (ix2 r ⟨3584 + (4 + (q.val - 4)), _⟩)) * (1 + -sg (x (ix2 r ⟨3584 + (4 + (q.val - 4)), _⟩)))) = _
      simp only [hq]
      exact (mul_assoc _ _ _).symm
    · rw [if_neg h8, dif_neg (by rintro ⟨_, h⟩; omega), dif_neg (by rintro ⟨_, h⟩; omega), add_zero]

theorem z4 (i : Cert.GatesBwdRefIdeal.S_.Idx) : (val_main_cst_4 (F := Ideal) i : EReal) = 0 := Ideal.ofBits_zero_f32
theorem z5 (i : Cert.GatesBwdRefIdeal.S_.Idx) : (val_main_cst_5 (F := Ideal) i : EReal) = 0 := Ideal.ofBits_zero_f32
theorem z6 (i : Cert.GatesBwdRefIdeal.S_.Idx) : (val_main_cst_6 (F := Ideal) i : EReal) = 0 := Ideal.ofBits_zero_f32
theorem z7 (i : Cert.GatesBwdRefIdeal.S_.Idx) : (val_main_cst_7 (F := Ideal) i : EReal) = 0 := Ideal.ofBits_zero_f32

theorem ref_t (hr : ∀ r q, ∃ u : ℝ, zz x t r q = u) : val_main_v43 (F := Ideal) x a t d = gt x a t d := by
  funext y
  obtain ⟨q, rfl⟩ : ∃ q : Fin 128, y = ix2 0 q := ⟨y 1, by rw [eq_ix2 y]; congr 1; exact Subsingleton.elim (α := Fin 1) _ _⟩
  rw [show (val_main_v43 (F := Ideal) x a t d (ix2 0 q) : EReal) = _ from pad_cols 0 ![0, 0] ![0, 124] ![0, 0] rfl rfl (by decide) _ _ (fun _ => Ideal.ofBits_zero_f32) _ _ 0 q]
  show _ = et _ _ _ _ q
  unfold et da
  by_cases h4 : q.val < 4
  · rw [dif_pos ⟨Nat.zero_le _, h4⟩]
    simp only [if_pos h4]
    have e : ∀ h : Fin 4, (val_main_v42 (F := Ideal) x a t d (ix2 0 h) : EReal) = ∑ r : Fin 2048, val_main_v38 (F := Ideal) x a t d (ix2 r h) := fun h => by
      pointwise [val_main_v42, val_main_v41, val_main_v40, val_main_v39]
      simp only [z6, z7, zero_add, Fin.sum_univ_one]
    refine (e ⟨q.val, h4⟩).trans (Finset.sum_congr rfl fun r _ => v38 _ _ _ _ _ _ (hr _ _))
  · rw [dif_neg (by rintro ⟨_, h⟩; omega)]
    simp only [if_neg h4, Finset.sum_const_zero]

theorem ref_l (hr : ∀ r q, ∃ u : ℝ, zz x t r q = u) (ha : ∀ i, ∃ u : ℝ, (a i : EReal) = u) (hd : ∀ i, ∃ u : ℝ, (d i : EReal) = u) :
    val_main_v47 (F := Ideal) x a t d = gl x a t d := by
  funext y
  obtain ⟨q, rfl⟩ : ∃ q : Fin 128, y = ix2 0 q := ⟨y 1, by rw [eq_ix2 y]; congr 1; exact Subsingleton.elim (α := Fin 1) _ _⟩
  rw [show (val_main_v47 (F := Ideal) x a t d (ix2 0 q) : EReal) = _ from pad_cols 0 ![0, 0] ![0, 124] ![0, 0] rfl rfl (by decide) _ _ (fun _ => Ideal.ofBits_zero_f32) _ _ 0 q]
  show _ = el _ _ _ _ q
  unfold el
  by_cases h4 : q.val < 4
  · rw [dif_pos ⟨Nat.zero_le _, h4⟩]
    simp only [if_pos h4]
    have e : ∀ h : Fin 4, (val_main_v46 (F := Ideal) x a t d (ix2 0 h) : EReal)
        = -(∑ r : Fin 2048, d (ix2 r ⟨h.val, by omega⟩) * val_main_v12_0 (F := Ideal) x t (ix2 r h)) * Ideal.exp (a (ix2 0 ⟨h.val, by omega⟩)) := fun h => by
      pointwise [val_main_v46, val_main_v45, val_main_v44, val_main_v37, val_main_v36, val_main_v35, val_main_v34, val_main_v28, val_main_v5, val_main_v4,
        val_main_v3]
      simp only [z4, z5, zero_add, Fin.sum_univ_one]
    refine (e ⟨q.val, h4⟩).trans ?_
    simp only [soft]
    choose Z hZ using fun r => hr r q
    choose D hD using fun r => hd (ix2 r q)
    obtain ⟨u, hu⟩ := ha (ix2 0 q)
    have hk : ∀ r, (d (ix2 r q) * ea a q * sp (zz x t r q) : EReal) = ((D r * -Real.exp u * Real.log (1 + Real.exp (Z r)) : ℝ) : EReal) := fun r => by
      unfold ea
      rw [hD, hZ, hu, sp_coe, EReal.coe_mul, EReal.coe_mul, EReal.coe_neg]
      rfl
    have hs : ∀ r, (d (ix2 r q) * sp (zz x t r q) : EReal) = ((D r * Real.log (1 + Real.exp (Z r)) : ℝ) : EReal) := fun r => by
      rw [hD, hZ, sp_coe, EReal.coe_mul]
    show -(∑ r : Fin 2048, (d (ix2 r q) * sp (zz x t r q) : EReal)) * Ideal.exp (a (ix2 0 q)) = _
    simp only [hk, hs]
    rw [← coe_sum, ← coe_sum, hu, ← EReal.coe_neg]
    show ((_ : ℝ) : EReal) * ((Real.exp u : ℝ) : EReal) = _
    rw [← EReal.coe_mul]
    congr 1
    rw [neg_mul, Finset.sum_mul, ← Finset.sum_neg_distrib]
    exact Finset.sum_congr rfl fun r _ => by ring
  · rw [dif_neg (by rintro ⟨_, h⟩; omega)]
    simp only [if_neg h4, Finset.sum_const_zero]

theorem claim : Cert.algebraic_GatesBwdIdeal_GatesBwdRefIdeal_pre_finite_gates (hGatesBwdIdeal := facts) (hGatesBwdRefIdeal := Cert.GatesBwdRefIdeal.Gen.facts)
    (hPre_finite_gates := Cert.Pre_finite_gates.sides) :=
  fun m ρ m' ρ' hpre hag => by
    have hz : ∀ (c : Dev nD) (r : Fin 2048) (q : Fin 128), ∃ u : ℝ, zz (m ((c : Thread nD τ).loc main_arg0)) (m ((c : Thread nD τ).loc main_arg2)) r q = u := fun c r q => by
      obtain ⟨h0, _, h2, _⟩ := @Cert.Pre_finite_gates.real Cert.Pre_finite_gates.sides _ _ _ _ (hpre c)
      obtain ⟨u, hu⟩ := h0 (ix2 r ⟨3584 + q.val, by omega⟩)
      obtain ⟨v, hv⟩ := h2 (ix2 0 q)
      exact ⟨u + v, by unfold zz; rw [hu, hv, EReal.coe_add]⟩
    have ha := fun c => (@Cert.Pre_finite_gates.real Cert.Pre_finite_gates.sides _ _ _ _ (hpre c)).2.1
    have hd := fun c => (@Cert.Pre_finite_gates.real Cert.Pre_finite_gates.sides _ _ _ _ (hpre c)).2.2.2
    exact ⟨fun c => gx (m ((c : Thread nD τ).loc main_arg0)) (m ((c : Thread nD τ).loc main_arg1)) (m ((c : Thread nD τ).loc main_arg2)) (m ((c : Thread nD τ).loc main_arg3)), fun c => gl (m ((c : Thread nD τ).loc main_arg0)) (m ((c : Thread nD τ).loc main_arg1)) (m ((c : Thread nD τ).loc main_arg2)) (m ((c : Thread nD τ).loc main_arg3)), fun c => gt (m ((c : Thread nD τ).loc main_arg0)) (m ((c : Thread nD τ).loc main_arg1)) (m ((c : Thread nD τ).loc main_arg2)) (m ((c : Thread nD τ).loc main_arg3)),
      (θ_run _ _ _).mono (fun _ h c => ⟨(h c).1.trans (final_x m c), (h c).2.1.trans (final_l m c), (h c).2.2.1.trans (final_t m c), (h c).2.2.2⟩)
        (Value.run_blocks m ρ),
      (θ_run _ _ _).mono (fun _ h c => ⟨(h c).1.trans (by
          unfold Cert.GatesBwdRefIdeal.Value.res_main_v51; rw [(hag c).1, (hag c).2.1, (hag c).2.2.1, (hag c).2.2.2]; exact ref_x _ _ _ _ (hz c)),
        (h c).2.1.trans (by rw [(hag c).1, (hag c).2.1, (hag c).2.2.1, (hag c).2.2.2]; exact ref_l _ _ _ _ (hz c) (ha c) (hd c)),
        (h c).2.2.1.trans (by
          unfold Cert.GatesBwdRefIdeal.Value.res_main_v43; rw [(hag c).1, (hag c).2.1, (hag c).2.2.1, (hag c).2.2.2]; exact ref_t _ _ _ _ (hz c)),
        (h c).2.2.2⟩)
        (Cert.GatesBwdRefIdeal.Value.run (F := Ideal) m' ρ')⟩

end Cert.GatesBwdIdeal.Grad
end
end
-- ==== Proof.HeadNorm.lean ====
/-
  The heads of the gated delta rule: the causal convolution of a block of columns, its silu, and the division of a row by its length;
  the derivative of all three, one block of columns at a time.
-/
module

public import proofs.«01_k».proof.Proof.Shift
public import proofs.«01_k».proof.Proof.NormRow
public import proofs.«01_k».proof.Proof.Logistic
public import Idealize.ShloMosaic.Lib.Pipeline.Value

@[expose] public section

set_option maxRecDepth 16384

noncomputable section

open Idealize.ShloMosaic

namespace Cert.HeadNorm

open Cert.Logistic Cert.Shift

variable {n : ℕ}

/-- The sum of squares, and the constant. -/
def ms (y : Fin n → EReal) : EReal := (∑ k, y k * y k) + NormRow.eps
/-- The reciprocal root of it. -/
def rs (y : Fin n → EReal) : EReal := Ideal.rsqrt (ms y)
/-- The gradient in closed form. -/
def grad (y g : Fin n → EReal) (i : Fin n) : EReal := rs y * (g i - y i * rs y * ∑ k, g k * (y k * rs y))
/-- The gradient step by step. -/
def gradV (y g : Fin n → EReal) (i : Fin n) : EReal :=
  g i * rs y + y i * ((∑ k, y k * g k) * (NormRow.mhalf * Ideal.div (rs y) (ms y))) + (∑ k, y k * g k) * (NormRow.mhalf * Ideal.div (rs y) (ms y)) * y i

theorem grads (y g : Fin n → ℝ) (i : Fin n) : ∃ u : ℝ, grad (fun k => (y k : EReal)) (fun k => (g k : EReal)) i = u
    ∧ gradV (fun k => (y k : EReal)) (fun k => (g k : EReal)) i = u := by
  obtain ⟨e, he, hE⟩ := NormRow.eps_pos
  have hm : ms (fun k => (y k : EReal)) = (((∑ k, y k * y k) + e : ℝ) : EReal) := by
    unfold ms
    rw [hE, EReal.coe_add, coe_sum]
    simp only [EReal.coe_mul]
  have hp : 0 < (∑ k, y k * y k) + e := by
    have := Finset.sum_nonneg (s := Finset.univ) fun k _ => mul_self_nonneg (y k)
    linarith
  generalize (∑ k, y k * y k) + e = M at hm hp
  have hs : rs (fun k => (y k : EReal)) = (((Real.sqrt M)⁻¹ : ℝ) : EReal) := by
    unfold rs
    rw [hm, Ideal.rsqrt_coe, if_neg (not_lt.mpr hp.le), if_neg hp.ne']
  have hq : (Real.sqrt M)⁻¹ * (Real.sqrt M)⁻¹ = M⁻¹ := by rw [← mul_inv, Real.mul_self_sqrt hp.le]
  unfold grad gradV
  rw [hs, hm, NormRow.mhalf_eq, SoftmaxRow.div_coe _ _ hp]
  generalize (Real.sqrt M)⁻¹ = q at hq
  rw [← hq]
  have h1 : (∑ k, (g k : EReal) * ((y k : EReal) * (q : EReal))) = ((q * ∑ k, y k * g k : ℝ) : EReal) := by
    rw [Finset.mul_sum, coe_sum]
    refine Finset.sum_congr rfl fun k _ => ?_
    norm_cast
    ring
  have h2 : (∑ k, (y k : EReal) * (g k : EReal)) = ((∑ k, y k * g k : ℝ) : EReal) := by
    rw [coe_sum]
    simp only [EReal.coe_mul]
  rw [h1, h2]
  generalize ∑ k, y k * g k = S
  refine ⟨q * (g i - y i * q * (q * S)), ?_, ?_⟩
  · norm_cast
  · simp only [← EReal.coe_mul, ← EReal.coe_add, ← EReal.coe_sub]
    congr 1
    ring

theorem down_real {S : ℕ} (k : ℕ) (f : Fin S → EReal) (hf : ∀ t, ∃ u : ℝ, f t = u) (t : Fin S) : ∃ u : ℝ, down k f t = u := by
  unfold down
  split
  · exact hf _
  · exact ⟨0, rfl⟩

theorem conv4_real {S : ℕ} (f : Fin S → EReal) (w : Fin 4 → EReal) (hf : ∀ t, ∃ u : ℝ, f t = u) (hw : ∀ j, ∃ u : ℝ, w j = u) (t : Fin S) :
    ∃ u : ℝ, conv4 f w t = u := by
  obtain ⟨a, ha⟩ := hf t
  obtain ⟨b, hb⟩ := down_real 1 f hf t
  obtain ⟨c, hc⟩ := down_real 2 f hf t
  obtain ⟨d, hd⟩ := down_real 3 f hf t
  obtain ⟨p0, h0⟩ := hw 0
  obtain ⟨p1, h1⟩ := hw 1
  obtain ⟨p2, h2⟩ := hw 2
  obtain ⟨p3, h3⟩ := hw 3
  unfold conv4
  rw [ha, hb, hc, hd, h0, h1, h2, h3]
  exact ⟨a * p3 + d * p0 + c * p1 + b * p2, by norm_cast⟩

/-- The scale of a query. -/
def qs : EReal := Ideal.ofBits .f32 0x3DB504F3#32

theorem qs_real : ∃ u : ℝ, qs = u := by
  unfold qs
  exact ⟨_, by simp only [Ideal.ofBits, Ideal.ieee]; rfl⟩

/-- Three thirds side by side. -/
theorem thirds (x y z : Vec Ideal ⟨2, ![2048, 512]⟩ .f32) (hc : Shape.Concatenates [⟨2, ![2048, 512]⟩, ⟨2, ![2048, 512]⟩, ⟨2, ![2048, 512]⟩] ⟨2, ![2048, 1536]⟩ 1)
    (r : Fin 2048) (n : Fin 512) :
    concatenate ⟨2, ![2048, 1536]⟩ 1 [⟨⟨2, ![2048, 512]⟩, x⟩, ⟨⟨2, ![2048, 512]⟩, y⟩, ⟨⟨2, ![2048, 512]⟩, z⟩] hc (ix2 r ⟨n.val, by omega⟩) = x (ix2 r n)
    ∧ concatenate ⟨2, ![2048, 1536]⟩ 1 [⟨⟨2, ![2048, 512]⟩, x⟩, ⟨⟨2, ![2048, 512]⟩, y⟩, ⟨⟨2, ![2048, 512]⟩, z⟩] hc (ix2 r ⟨512 + n.val, by omega⟩) = y (ix2 r n)
    ∧ concatenate ⟨2, ![2048, 1536]⟩ 1 [⟨⟨2, ![2048, 512]⟩, x⟩, ⟨⟨2, ![2048, 512]⟩, y⟩, ⟨⟨2, ![2048, 512]⟩, z⟩] hc (ix2 r ⟨1024 + n.val, by omega⟩) = z (ix2 r n) := by
  refine ⟨concatenate_apply_piece (t := ⟨2, ![2048, 1536]⟩) 1 [⟨⟨2, ![2048, 512]⟩, x⟩, ⟨⟨2, ![2048, 512]⟩, y⟩, ⟨⟨2, ![2048, 512]⟩, z⟩] hc _ 0 (by simp) ⟨2, ![2048, 512]⟩ x rfl rfl 0 rfl (ix2 r n) ?_ (Nat.zero_add _),
    concatenate_apply_piece (t := ⟨2, ![2048, 1536]⟩) 1 [⟨⟨2, ![2048, 512]⟩, x⟩, ⟨⟨2, ![2048, 512]⟩, y⟩, ⟨⟨2, ![2048, 512]⟩, z⟩] hc _ 1 (by simp) ⟨2, ![2048, 512]⟩ y rfl rfl 512 rfl (ix2 r n) ?_ rfl,
    concatenate_apply_piece (t := ⟨2, ![2048, 1536]⟩) 1 [⟨⟨2, ![2048, 512]⟩, x⟩, ⟨⟨2, ![2048, 512]⟩, y⟩, ⟨⟨2, ![2048, 512]⟩, z⟩] hc _ 2 (by simp) ⟨2, ![2048, 512]⟩ z rfl rfl 1024 rfl (ix2 r n) ?_ rfl⟩
  all_goals
    intro a ha
    match a with
    | ⟨0, _⟩ => rfl
    | ⟨1, _⟩ => exact absurd rfl ha

section block

variable (j : ℕ) (X : Fin 2048 → Fin 128 → EReal) (W : Fin 4 → Fin 128 → EReal) (D : Fin 2048 → Fin 128 → EReal)

/-- The convolved block, its silu, and what comes from upstream with the scale of its kind: queries, keys, values. -/
def cB (k : Fin 128) (r : Fin 2048) : EReal := conv4 (fun t => X t k) (fun i => W i k) r
def yB (k : Fin 128) (r : Fin 2048) : EReal := cB X W k r * sg (cB X W k r)
def gB (k : Fin 128) (r : Fin 2048) : EReal := D r k * if j < 4 then qs else 1
/-- The gradient after the silu, and before it. -/
def dyB (k : Fin 128) (r : Fin 2048) : EReal := if j < 8 then grad (fun i => yB X W i r) (fun i => gB j D i r) k else D r k
def dcB (k : Fin 128) (r : Fin 2048) : EReal := dyB j X W D k r * sg (cB X W k r) * (1 + cB X W k r * (1 - sg (cB X W k r)))

/-- The same step by step. -/
def dyV (k : Fin 128) (r : Fin 2048) : EReal := if j < 8 then gradV (fun i => yB X W i r) (fun i => gB j D i r) k else D r k
def dcV (k : Fin 128) (r : Fin 2048) : EReal :=
  dyV j X W D k r * sg (cB X W k r) + cB X W k r * dyV j X W D k r * (sg (cB X W k r) * (1 - sg (cB X W k r)))

theorem dcV_eq (hX : ∀ t k, ∃ u : ℝ, X t k = u) (hW : ∀ i k, ∃ u : ℝ, W i k = u) (hD : ∀ t k, ∃ u : ℝ, D t k = u) (k : Fin 128) (r : Fin 2048) :
    dcV j X W D k r = dcB j X W D k r := by
  have hc : ∀ k, ∃ u : ℝ, cB X W k r = u := fun k => conv4_real _ _ (fun t => hX t k) (fun i => hW i k) r
  have hy : ∀ k, ∃ u : ℝ, yB X W k r = u := fun k => by
    obtain ⟨c, h⟩ := hc k
    unfold yB
    rw [h, sg_coe]
    exact ⟨_, (EReal.coe_mul _ _).symm⟩
  have hg : ∀ k, ∃ u : ℝ, gB j D k r = u := fun k => by
    obtain ⟨d, h⟩ := hD r k
    obtain ⟨s, hs⟩ := qs_real
    unfold gB
    rw [h, hs]
    split
    · exact ⟨_, (EReal.coe_mul _ _).symm⟩
    · exact ⟨d, mul_one _⟩
  choose Y hY using hy
  choose G hG using hg
  have hd : ∃ u : ℝ, dyB j X W D k r = u ∧ dyV j X W D k r = u := by
    unfold dyB dyV
    split
    · simp only [hY, hG]
      exact grads Y G k
    · obtain ⟨d, h⟩ := hD r k
      exact ⟨d, h, h⟩
  obtain ⟨d, h1, h2⟩ := hd
  obtain ⟨c, h⟩ := hc k
  obtain ⟨u, e1, e2⟩ := silu c d
  unfold dcV dcB
  rw [h1, h2, h, e1, e2]

end block

end Cert.HeadNorm
end
end
-- ==== Proof.GdnPreGrad.lean ====
/-
  The gradient of the heads of the gated delta rule: through the division of each query and key by its length, the silu and the
  causal convolution, to the columns it is of and to the convolution's weights.
-/
module

public import proofs.«01_k».proof.Defs
public import proofs.«01_k».proof.Proof.Gen.GdnPreBwdIdeal.Value
public import proofs.«01_k».proof.Proof.Gen.GdnPreBwdRefIdeal.Run
public import proofs.«01_k».proof.Proof.Gen.GdnPreBwdRefIdeal.Read
public import proofs.«01_k».proof.Proof.HeadNorm
public import Idealize.ShloMosaic.Lib.ReduceAll
public import Idealize.ShloMosaic.Lib.WordCmp
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.GdnPreBwdRefIdeal.Stage
open Cert.GdnPreBwdRefIdeal Cert.GdnPreBwdRefIdeal.Gen Cert.GdnPreBwdRefIdeal.Read StableHlo

/-- The reference leaves its last two stages, as functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = val_main_v143 (F := Ideal) (m ((c.tc : Thread nD τ).loc main_arg0)) (m ((c.tc : Thread nD τ).loc main_arg1)) (m ((c.tc : Thread nD τ).loc main_arg2))
      ∧ r.2.mem ((c.tc : Thread nD τ).loc main_v140) = val_main_v140 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v143_eq (launchContents m c)), (h c).2.1.trans (val_main_v140_eq (launchContents m c)), (h c).2.2⟩)
    (Cert.GdnPreBwdRefIdeal.Value.run (F := Ideal) m ρ)

end Cert.GdnPreBwdRefIdeal.Stage

namespace Cert.Pre_finite_heads

/-- The predicate's side conditions. -/
theorem sides : Cert.Pre_finite_heads.Facts where
  bcast_S_S2048x3840 := by decide
  reducesTo_S2048x3840_S_d0_1 := by decide
  h_S_ := by decide
  bcast_S_S4x1536 := by decide
  reducesTo_S4x1536_S_d0_1 := by decide
  bcast_S_S2048x1536 := by decide
  reducesTo_S2048x1536_S_d0_1 := by decide

instance : Subsingleton S_.Idx := ⟨fun a b => funext fun i => i.elim0⟩

/-- Under the predicate every entry of every argument is real. -/
theorem real [Cert.Pre_finite_heads.Facts] (x0 : FVec Ideal S2048x3840 .f32) (x1 : FVec Ideal S4x1536 .f32) (x2 : FVec Ideal S2048x1536 .f32)
    (h : fn (F := Ideal) x0 x1 x2 = fun _ => 1#1) : (∀ i, ∃ r : ℝ, (x0 i : EReal) = r) ∧ (∀ i, ∃ r : ℝ, (x1 i : EReal) = r)
      ∧ (∀ i, ∃ r : ℝ, (x2 i : EReal) = r) := by
  have h0 := congrFun h (fun a => a.elim0)
  unfold fn at h0
  have h1 := IntOp.andi_eq_one.1 h0
  have h2 := IntOp.andi_eq_one.1 h1.1
  exact ⟨fun i => Logistic.real_of_cmp _ (Host.reduce_andi_all _ _ _ _ _ h2.1 i), fun i => Logistic.real_of_cmp _ (Host.reduce_andi_all _ _ _ _ _ h2.2 i),
    fun i => Logistic.real_of_cmp _ (Host.reduce_andi_all _ _ _ _ _ h1.2 i)⟩

end Cert.Pre_finite_heads

namespace Cert.GdnPreBwdIdeal.Grad

open Cert.GdnPreBwdIdeal Cert.GdnPreBwdIdeal.Gen Cert.GdnPreBwdRefIdeal.Read Cert.Shift Cert.Logistic Cert.HeadNorm

/-- A matrix's entries. -/
abbrev ent {a b : ℕ} (x : Vec Ideal ⟨2, ![a, b]⟩ .f32) (r : Fin a) (k : Fin b) : EReal := x (ix2 r k)

section payloads

variable (v0 : Vec Ideal S2048x128 .f32) (v1 : Vec Ideal S4x128 .f32) (v2 : Vec Ideal S2048x128 .f32)

theorem pay3 (r : Fin 2048) (q : Fin 128) : (k0_pay3 v0 v1 (ix2 r q) : EReal) = cB (ent v0) (ent v1) q r := by
  dsimp only [k0_pay3]
  rw [rotate_down 3 (by omega), rotate_down 2 (by omega), rotate_down 1 (by omega)]
  pointwise [downM_ix2]
  rfl

theorem pay4 (r : Fin 2048) (q : Fin 128) : (k0_pay4 v0 v1 (ix2 r q) : EReal) = 1 + Ideal.exp (-(cB (ent v0) (ent v1) q r)) := by
  dsimp only [k0_pay4]
  pointwise [pay3]
  rw [zero_sub]

variable (j : ℕ) (hj : j < 2 ^ 31)
include hj

theorem pay5 (r : Fin 2048) (q : Fin 128) :
    (k0_pay5 (BitVec.ofNat 32 j) v2 (k0_pay3 v0 v1) (k0_pay4 v0 v1) (Scalar.ofBits .f32 0x3F800000#32) (ix2 r q) : EReal)
      = dcB j (ent v0) (ent v1) (ent v2) q r := by
  have hs : ∀ {α : Type} (n : ℕ) (_ : n < 2 ^ 31) (u v : α), Scalar.select (Scalar.cmpi .slt (BitVec.ofNat 32 j) (BitVec.ofNat 32 n)) u v = if j < n then u else v :=
    fun n hn u v => block n j hn hj u v
  dsimp only [k0_pay5]
  rw [hs 4 (by norm_num), hs 8 (by norm_num)]
  unfold dcB dyB
  by_cases h8 : j < 8
  · rw [if_pos h8, if_pos h8]
    pointwise [pay3, pay4]
    rfl
  · rw [if_neg h8, if_neg h8]
    pointwise [pay3, pay4]
    rfl

/-- The gradient of the columns, one entry. -/
theorem payx (r : Fin 2048) (q : Fin 128) :
    (k0_pay2 (k0_pay9 v1 (k0_pay5 (BitVec.ofNat 32 j) v2 (k0_pay3 v0 v1) (k0_pay4 v0 v1) (Scalar.ofBits .f32 0x3F800000#32))
        (k0_pay6 (BitVec.ofNat 32 j) v1 v2 (k0_pay3 v0 v1) (k0_pay4 v0 v1) (Scalar.ofBits .f32 0x3F800000#32))) (ix2 r q) : EReal)
      = grad4 (dcB j (ent v0) (ent v1) (ent v2) q) (fun i => ent v1 i q) r := by
  dsimp only [k0_pay2, k0_pay9, k0_pay6]
  rw [rotate_up 3 2045 (by omega) (by omega), rotate_up 2 2046 (by omega) (by omega), rotate_up 1 2047 (by omega) (by omega)]
  have h5 := pay5 v0 v1 v2 j hj
  generalize k0_pay5 (F := Ideal) (BitVec.ofNat 32 j) v2 (k0_pay3 v0 v1) (k0_pay4 v0 v1) (Scalar.ofBits .f32 0x3F800000#32) = u at h5 ⊢
  pointwise [upM_ix2]
  simp only [h5]
  rfl

/-- The gradient of the weights, one entry. -/
theorem payw (i : Fin 4) (q : Fin 128) :
    (k0_pay1 v0 (k0_pay5 (BitVec.ofNat 32 j) v2 (k0_pay3 v0 v1) (k0_pay4 v0 v1) (Scalar.ofBits .f32 0x3F800000#32))
        (k0_pay7 v0 (k0_pay5 (BitVec.ofNat 32 j) v2 (k0_pay3 v0 v1) (k0_pay4 v0 v1) (Scalar.ofBits .f32 0x3F800000#32)))
        (k0_pay8 v0 (k0_pay5 (BitVec.ofNat 32 j) v2 (k0_pay3 v0 v1) (k0_pay4 v0 v1) (Scalar.ofBits .f32 0x3F800000#32)))
        k0_pay10 (k0_pay11 v0) (k0_pay12 (F := Ideal)) (ix2 i q) : EReal)
      = wgrad (3 - i.val) (dcB j (ent v0) (ent v1) (ent v2) q) (fun t => ent v0 t q) := by
  dsimp only [k0_pay1, k0_pay7, k0_pay8, k0_pay10, k0_pay11, k0_pay12]
  rw [rotate_down 3 (by omega), rotate_down 2 (by omega), rotate_down 1 (by omega)]
  have h5 := pay5 v0 v1 v2 j hj
  generalize k0_pay5 (F := Ideal) (BitVec.ofNat 32 j) v2 (k0_pay3 v0 v1) (k0_pay4 v0 v1) (Scalar.ofBits .f32 0x3F800000#32) = u at h5 ⊢
  match i with
  | ⟨0, _⟩ => pointwise [downM_ix2]; simp only [h5]; rfl
  | ⟨1, _⟩ => pointwise [downM_ix2]; simp only [h5]; rfl
  | ⟨2, _⟩ => pointwise [downM_ix2]; simp only [h5]; rfl
  | ⟨3, _⟩ =>
    pointwise [downM_ix2]
    simp only [h5]
    unfold wgrad
    simp only [Nat.sub_self, down_zero]

end payloads

/-! The two results as arrays, by blocks of 128 columns. -/

section arrays

variable (P : Vec Ideal S2048x3840 .f32) (w : Vec Ideal S4x1536 .f32) (D : Vec Ideal S2048x1536 .f32)

def Xb (b : Fin 12) (r : Fin 2048) (k : Fin 128) : EReal := P (ix2 r ⟨1536 + (b.val * 128 + k.val), by omega⟩)
def Wb (b : Fin 12) (i : Fin 4) (k : Fin 128) : EReal := w (ix2 i ⟨b.val * 128 + k.val, by omega⟩)
def Db (b : Fin 12) (r : Fin 2048) (k : Fin 128) : EReal := D (ix2 r ⟨b.val * 128 + k.val, by omega⟩)

def exb (b : Fin 12) (k : Fin 128) (r : Fin 2048) : EReal := grad4 (dcB b.val (Xb P b) (Wb w b) (Db D b) k) (fun i => Wb w b i k) r
def ewb (b : Fin 12) (k : Fin 128) (i : Fin 4) : EReal := wgrad (3 - i.val) (dcB b.val (Xb P b) (Wb w b) (Db D b) k) (fun t => Xb P b t k)

def ex (r : Fin 2048) (n : Fin 1536) : EReal := exb P w D ⟨n.val / 128, by omega⟩ ⟨n.val % 128, by omega⟩ r
def ew (i : Fin 4) (n : Fin 1536) : EReal := ewb P w D ⟨n.val / 128, by omega⟩ ⟨n.val % 128, by omega⟩ i

def gx : Vec Ideal S2048x1536 .bf16 := fun y => ex P w D (y 0) (y 1)
def gw : Vec Ideal S4x1536 .f32 := fun y => ew P w D (y 0) (y 1)

theorem ex_block (b : Fin 12) (k : Fin 128) (r : Fin 2048) (h : b.val * 128 + k.val < 1536) : ex P w D r ⟨b.val * 128 + k.val, h⟩ = exb P w D b k r := by
  unfold ex
  have hb : (⟨(b.val * 128 + k.val) / 128, by omega⟩ : Fin 12) = b := Fin.ext (by show (b.val * 128 + k.val) / 128 = b.val; omega)
  have hk : (⟨(b.val * 128 + k.val) % 128, by omega⟩ : Fin 128) = k := Fin.ext (by show (b.val * 128 + k.val) % 128 = k.val; omega)
  simp only [hb, hk]

theorem ew_block (b : Fin 12) (k : Fin 128) (i : Fin 4) (h : b.val * 128 + k.val < 1536) : ew P w D i ⟨b.val * 128 + k.val, h⟩ = ewb P w D b k i := by
  unfold ew
  have hb : (⟨(b.val * 128 + k.val) / 128, by omega⟩ : Fin 12) = b := Fin.ext (by show (b.val * 128 + k.val) / 128 = b.val; omega)
  have hk : (⟨(b.val * 128 + k.val) % 128, by omega⟩ : Fin 128) = k := Fin.ext (by show (b.val * 128 + k.val) % 128 = k.val; omega)
  simp only [hb, hk]

end arrays

/-- The pieces the kernel hands from one part of its body to the next. -/
theorem held (i : grid0.Coords) (x0 : Vec Ideal S2048x128 .f32) (x1 : Vec Ideal S4x128 .f32) (x2 : Vec Ideal S2048x128 .f32) :
    k0_pay13 i x0 x1 x2 = k0_pay3 x0 x1 ∧ k0_pay14 i x0 x1 x2 = k0_pay4 x0 x1
    ∧ k0_pay15 i x0 x1 x2 = k0_pay5 (BitVec.ofNat 32 (i 0).val) x2 (k0_pay3 x0 x1) (k0_pay4 x0 x1) (Scalar.ofBits .f32 0x3F800000#32) := by
  have h1 : k0_pay13 i x0 x1 x2 = k0_pay3 x0 x1 := by
    unfold k0_pay13
    simp (disch := decide) only [View.ld_unit_lit']
  have h2 : k0_pay14 i x0 x1 x2 = k0_pay4 x0 x1 := by
    unfold k0_pay14
    simp (disch := decide) only [View.ld_unit_lit']
  refine ⟨h1, h2, ?_⟩
  unfold k0_pay15
  rw [h1, h2]
  simp (disch := decide) only [View.ld_unit_lit']

theorem tiles : ∀ t : Fin cfg0.N, win0_0.index t 0 = 0 ∧ win0_0.index t 1 = 12 + t.val
    ∧ win0_1.index t 0 = 0 ∧ win0_1.index t 1 = t.val
    ∧ win0_2.index t 0 = 0 ∧ win0_2.index t 1 = t.val
    ∧ win0_3.index t 0 = 0 ∧ win0_3.index t 1 = t.val
    ∧ win0_4.index t 0 = 0 ∧ win0_4.index t 1 = t.val
    ∧ (cfg0.grid.coords t 0).val = t.val :=
  (by decide +kernel : ∀ t : Fin grid0.N, win0_0.index t 0 = 0 ∧ win0_0.index t 1 = 12 + t.val
    ∧ win0_1.index t 0 = 0 ∧ win0_1.index t 1 = t.val
    ∧ win0_2.index t 0 = 0 ∧ win0_2.index t 1 = t.val
    ∧ win0_3.index t 0 = 0 ∧ win0_3.index t 1 = t.val
    ∧ win0_4.index t 0 = 0 ∧ win0_4.index t 1 = t.val
    ∧ (grid0.coords t 0).val = t.val)

variable (m : (ℓ : Loc nD τ sig) → Buf (Elt Ideal) ℓ) (c : Dev nD)

/-- A point of the grid, as the number of its block. -/
def bk (t : Fin cfg0.N) : Fin 12 := ⟨t.val, by have := t.isLt; have h : cfg0.N = 12 := N_0; omega⟩

theorem blk0 (t : Fin cfg0.N) : ent (iblk m c 0 t) = Xb (m ((c : Thread nD τ).loc main_arg0)) (bk t) := by
  obtain ⟨a0, a1, b0, b1, c0, c1, d0, d1, e0, e1, f⟩ := tiles t
  funext r k
  unfold Xb bk ent
  blk_point [iblk, V, a0, a1]

theorem blk1 (t : Fin cfg0.N) : ent (iblk m c 1 t) = Wb (m ((c : Thread nD τ).loc main_arg1)) (bk t) := by
  obtain ⟨a0, a1, b0, b1, c0, c1, d0, d1, e0, e1, f⟩ := tiles t
  funext r k
  unfold Wb bk ent
  blk_point [iblk, V, b0, b1]

theorem blk2 (t : Fin cfg0.N) : ent (iblk m c 2 t) = Db (m ((c : Thread nD τ).loc main_arg2)) (bk t) := by
  obtain ⟨a0, a1, b0, b1, c0, c1, d0, d1, e0, e1, f⟩ := tiles t
  funext r k
  unfold Db bk ent
  blk_point [iblk, V, c0, c1]

theorem final_x : (dats m 0 c).arrAt 3 cfg0.N = gx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, q, rfl⟩ : ∃ (r : Fin 2048) (q : Fin 128), y = ix2 r q := ⟨y 0, y 1, eq_ix2 y⟩
  obtain ⟨a0, a1, b0, b1, c0, c1, d0, d1, e0, e1, f⟩ := tiles t
  rw [(held _ _ _ _).1, (held _ _ _ _).2.1, (held _ _ _ _).2.2]
  refine (payx _ _ _ _ (by rw [f]; have := t.isLt; have h : cfg0.N = 12 := N_0; omega) r q).trans ?_
  have hy : ((View.whole main_v0_0).slice (win0_3.rect t)).emb (ix2 r q)
      = ix2 r ⟨(bk t).val * 128 + q.val, by have := (bk t).isLt; have := q.isLt; omega⟩ := by
    unfold bk
    blk_point [d0, d1]
  show _ = gx _ _ _ (((View.whole main_v0_0).slice (win0_3.rect t)).emb (ix2 r q))
  rw [hy]
  refine Eq.trans ?_ (ex_block _ _ _ (bk t) q r _).symm
  show grad4 (dcB (cfg0.grid.coords t 0).val _ _ _ _) _ _ = _
  rw [f]
  unfold exb
  rw [blk0, blk1, blk2]
  rfl

theorem final_w : (dats m 0 c).arrAt 4 cfg0.N = gw (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  obtain ⟨i, q, rfl⟩ : ∃ (i : Fin 4) (q : Fin 128), y = ix2 i q := ⟨y 0, y 1, eq_ix2 y⟩
  obtain ⟨a0, a1, b0, b1, c0, c1, d0, d1, e0, e1, f⟩ := tiles t
  rw [(held _ _ _ _).2.2]
  refine (payw _ _ _ _ (by rw [f]; have := t.isLt; have h : cfg0.N = 12 := N_0; omega) i q).trans ?_
  have hy : ((View.whole main_v0_1).slice (win0_4.rect t)).emb (ix2 i q)
      = ix2 i ⟨(bk t).val * 128 + q.val, by have := (bk t).isLt; have := q.isLt; omega⟩ := by
    unfold bk
    blk_point [e0, e1]
  show _ = gw _ _ _ (((View.whole main_v0_1).slice (win0_4.rect t)).emb (ix2 i q))
  rw [hy]
  refine Eq.trans ?_ (ew_block _ _ _ (bk t) q i _).symm
  show wgrad _ (dcB (cfg0.grid.coords t 0).val _ _ _ _) _ = _
  rw [f]
  unfold ewb
  rw [blk0, blk1, blk2]
  rfl

/-! The reference, block by block. -/

section reference

variable (P : Vec Ideal S2048x3840 .f32) (w : Vec Ideal S4x1536 .f32) (D : Vec Ideal S2048x1536 .f32)

/-- Column `k` of block `b`. -/
abbrev col (b : Fin 12) (k : Fin 128) : Fin 1536 := ⟨b.val * 128 + k.val, by omega⟩

theorem zero3 (i : Cert.GdnPreBwdRefIdeal.S3x1536.Idx) : (val_main_v1 (F := Ideal) i : EReal) = 0 := Ideal.ofBits_zero_f32

theorem colX (b : Fin 12) (k : Fin 128) : (fun t => val_main_v0 (F := Ideal) P (ix2 t (col b k))) = fun t => Xb P b t k := by
  funext t
  pointwise [val_main_v0]
  rfl

theorem moved3 (b : Fin 12) (k : Fin 128) (r : Fin 2048) : (val_main_v6 (F := Ideal) P (ix2 r (col b k)) : EReal) = down 3 (fun t => Xb P b t k) r :=
  (slice_below 3 ![0, 0] rfl rfl _ zero3 _ _ _ r (col b k)).trans (by rw [colX])
theorem moved2 (b : Fin 12) (k : Fin 128) (r : Fin 2048) : (val_main_v12 (F := Ideal) P (ix2 r (col b k)) : EReal) = down 2 (fun t => Xb P b t k) r :=
  (slice_below 2 ![1, 0] rfl rfl _ zero3 _ _ _ r (col b k)).trans (by rw [colX])
theorem moved1 (b : Fin 12) (k : Fin 128) (r : Fin 2048) : (val_main_v19 (F := Ideal) P (ix2 r (col b k)) : EReal) = down 1 (fun t => Xb P b t k) r :=
  (slice_below 1 ![2, 0] rfl rfl _ zero3 _ _ _ r (col b k)).trans (by rw [colX])
theorem moved0 (b : Fin 12) (k : Fin 128) (r : Fin 2048) : (val_main_v26 (F := Ideal) P (ix2 r (col b k)) : EReal) = Xb P b r k :=
  (slice_below 0 ![3, 0] rfl rfl _ zero3 _ _ _ r (col b k)).trans (by rw [colX, down_zero])

theorem conv (b : Fin 12) (k : Fin 128) (r : Fin 2048) : (val_main_v30 (F := Ideal) P w (ix2 r (col b k)) : EReal) = cB (Xb P b) (Wb w b) k r := by
  have e : (val_main_v30 (F := Ideal) P w (ix2 r (col b k)) : EReal)
      = Wb w b 0 k * val_main_v6 (F := Ideal) P (ix2 r (col b k)) + Wb w b 1 k * val_main_v12 (F := Ideal) P (ix2 r (col b k))
        + Wb w b 2 k * val_main_v19 (F := Ideal) P (ix2 r (col b k)) + Wb w b 3 k * val_main_v26 (F := Ideal) P (ix2 r (col b k)) := by
    pointwise [val_main_v30, val_main_v29, val_main_v28, val_main_v27, val_main_v25, val_main_v24, val_main_v23, val_main_v22, val_main_v21, val_main_v20,
      val_main_v18, val_main_v17, val_main_v16, val_main_v15, val_main_v14, val_main_v13, val_main_v11, val_main_v10, val_main_v9, val_main_v8, val_main_v7,
      val_main_v5, val_main_v4]
    rfl
  rw [e, moved0, moved1, moved2, moved3]
  unfold cB conv4
  rw [mul_comm (Wb w b 0 k), mul_comm (Wb w b 1 k), mul_comm (Wb w b 2 k), mul_comm (Wb w b 3 k), add_comm _ (_ * Wb w b 3 k)]
  simp only [add_assoc]

theorem sig (b : Fin 12) (k : Fin 128) (r : Fin 2048) : (val_main_v31_2 (F := Ideal) P w (ix2 r (col b k)) : EReal) = sg (cB (Xb P b) (Wb w b) k r) := by
  rw [← conv]
  pointwise [val_main_v31_2, val_main_call0_v4, val_main_call0_v3, val_main_call0_v2, val_main_call0_v1, val_main_call0_v0, val_main_call0_cst, val_main_call0_cst_0]
  rfl

theorem slo (b : Fin 12) (k : Fin 128) (r : Fin 2048) : (val_main_v31_1 (F := Ideal) P w (ix2 r (col b k)) : EReal)
    = sg (cB (Xb P b) (Wb w b) k r) * (1 - sg (cB (Xb P b) (Wb w b) k r)) := by
  rw [← sig]
  pointwise [val_main_v31_1, val_main_call0_v7, val_main_call0_v6, val_main_call0_cst_1]

theorem act (b : Fin 12) (k : Fin 128) (r : Fin 2048) : (val_main_v31_0 (F := Ideal) P w (ix2 r (col b k)) : EReal) = yB (Xb P b) (Wb w b) k r := by
  unfold yB
  rw [← sig, ← conv]
  pointwise [val_main_v31_0]

/-- The block of query head `h`, and of key head `h`, and of value head `h`. -/
abbrev qb (h : Fin 4) : Fin 12 := ⟨h.val, by omega⟩
abbrev kb (h : Fin 4) : Fin 12 := ⟨4 + h.val, by omega⟩
abbrev vb (h : Fin 4) : Fin 12 := ⟨8 + h.val, by omega⟩

theorem colq (h : Fin 4) (k : Fin 128) (e : 0 + (h.val * 128 + k.val) < 1536) : (⟨0 + (h.val * 128 + k.val), e⟩ : Fin 1536) = col (qb h) k := Fin.ext (by show 0 + _ = h.val * 128 + k.val; omega)
theorem colk (h : Fin 4) (k : Fin 128) (e : 512 + (h.val * 128 + k.val) < 1536) : (⟨512 + (h.val * 128 + k.val), e⟩ : Fin 1536) = col (kb h) k := Fin.ext (by show 512 + _ = (4 + h.val) * 128 + k.val; omega)
theorem colv (h : Fin 4) (k : Fin 128) (e : 1024 + (h.val * 128 + k.val) < 1536) : (⟨1024 + (h.val * 128 + k.val), e⟩ : Fin 1536) = col (vb h) k := Fin.ext (by show 1024 + _ = (8 + h.val) * 128 + k.val; omega)

theorem qy (r : Fin 2048) (h : Fin 4) (k : Fin 128) : (val_main_v35 (F := Ideal) P w (ix3 r h k) : EReal) = yB (Xb P (qb h)) (Wb w (qb h)) k r := by
  rw [← act]
  pointwise [val_main_v35, val_main_v32]
theorem ky (r : Fin 2048) (h : Fin 4) (k : Fin 128) : (val_main_v36 (F := Ideal) P w (ix3 r h k) : EReal) = yB (Xb P (kb h)) (Wb w (kb h)) k r := by
  rw [← act, ← colk h k (by omega)]
  pointwise [val_main_v36, val_main_v33]
theorem qg (r : Fin 2048) (h : Fin 4) (k : Fin 128) : (val_main_v82 (F := Ideal) D (ix3 r h k) : EReal) = gB (qb h).val (Db D (qb h)) k r := by
  unfold gB Db
  rw [if_pos h.isLt]
  pointwise [val_main_v82, val_main_v68, val_main_v64, val_main_v81, val_main_cst_10]
  rfl
theorem kg (r : Fin 2048) (h : Fin 4) (k : Fin 128) : (val_main_v67 (F := Ideal) D (ix3 r h k) : EReal) = gB (kb h).val (Db D (kb h)) k r := by
  unfold gB Db
  rw [if_neg (by show ¬ 4 + h.val < 4; omega), mul_one]
  show _ = D (ix2 r (col (kb h) k))
  rw [← colk h k (by omega)]
  pointwise [val_main_v67, val_main_v65]

theorem sums : (∀ i, (val_main_cst_1 (F := Ideal) i : EReal) = 0) ∧ (∀ i, (val_main_cst_5 (F := Ideal) i : EReal) = 0) ∧ (∀ i, (val_main_cst_8 (F := Ideal) i : EReal) = 0)
    ∧ (∀ i, (val_main_cst_9 (F := Ideal) i : EReal) = 0) ∧ (∀ i, (val_main_cst_11 (F := Ideal) i : EReal) = 0) ∧ (∀ i, (val_main_cst_12 (F := Ideal) i : EReal) = 0) :=
  ⟨fun _ => Ideal.ofBits_zero_f32, fun _ => Ideal.ofBits_zero_f32, fun _ => Ideal.ofBits_zero_f32, fun _ => Ideal.ofBits_zero_f32, fun _ => Ideal.ofBits_zero_f32,
    fun _ => Ideal.ofBits_zero_f32⟩

theorem qms (r : Fin 2048) (h : Fin 4) : (val_main_v41 (F := Ideal) P w (ix3 r h 0) : EReal) = ms fun k => yB (Xb P (qb h)) (Wb w (qb h)) k r := by
  unfold ms
  pointwise [val_main_v41, val_main_v40, val_main_v39, val_main_v38, val_main_v37, val_main_cst_2]
  simp only [sums.1, zero_add, qy]
  rfl
theorem kms (r : Fin 2048) (h : Fin 4) : (val_main_v54 (F := Ideal) P w (ix3 r h 0) : EReal) = ms fun k => yB (Xb P (kb h)) (Wb w (kb h)) k r := by
  unfold ms
  pointwise [val_main_v54, val_main_v53, val_main_v52, val_main_v51, val_main_v50, val_main_cst_6]
  simp only [sums.2.1, zero_add, ky]
  rfl

theorem qd (r : Fin 2048) (h : Fin 4) (k : Fin 128) : (val_main_v94 (F := Ideal) P w D (ix3 r h k) : EReal) = dyV (qb h).val (Xb P (qb h)) (Wb w (qb h)) (Db D (qb h)) k r := by
  unfold dyV
  rw [if_pos (by show h.val < 8; omega)]
  unfold gradV rs
  pointwise [val_main_v94, val_main_v93, val_main_v92, val_main_v91, val_main_v90, val_main_v89, val_main_v88, val_main_v87, val_main_v86, val_main_v85, val_main_v84,
    val_main_v83, val_main_v42, val_main_v43, val_main_v44, val_main_v45, val_main_cst_3]
  simp only [sums.2.2.2.2.1, sums.2.2.2.2.2, zero_add, Fin.sum_univ_one, qy, qg, qms]
  rfl
theorem kd (r : Fin 2048) (h : Fin 4) (k : Fin 128) : (val_main_v80 (F := Ideal) P w D (ix3 r h k) : EReal) = dyV (kb h).val (Xb P (kb h)) (Wb w (kb h)) (Db D (kb h)) k r := by
  unfold dyV
  rw [if_pos (by show 4 + h.val < 8; omega)]
  unfold gradV rs
  pointwise [val_main_v80, val_main_v79, val_main_v78, val_main_v77, val_main_v76, val_main_v75, val_main_v74, val_main_v73, val_main_v72, val_main_v71, val_main_v70,
    val_main_v69, val_main_v55, val_main_v56, val_main_v57, val_main_v58, val_main_cst_7]
  simp only [sums.2.2.1, sums.2.2.2.1, zero_add, Fin.sum_univ_one, ky, kg, kms]
  rfl

theorem qrow (r : Fin 2048) (h : Fin 4) (k : Fin 128) : (val_main_v96 (F := Ideal) P w D (ix2 r ⟨h.val * 128 + k.val, by omega⟩) : EReal) = val_main_v94 (F := Ideal) P w D (ix3 r h k) := by
  pointwise [val_main_v96]
theorem krow (r : Fin 2048) (h : Fin 4) (k : Fin 128) : (val_main_v95 (F := Ideal) P w D (ix2 r ⟨h.val * 128 + k.val, by omega⟩) : EReal) = val_main_v80 (F := Ideal) P w D (ix3 r h k) := by
  pointwise [val_main_v95]
theorem vrow (r : Fin 2048) (h : Fin 4) (k : Fin 128) : (val_main_v66 (F := Ideal) D (ix2 r ⟨h.val * 128 + k.val, by omega⟩) : EReal) = Db D (vb h) r k := by
  show _ = D (ix2 r (col (vb h) k))
  rw [← colv h k (by omega)]
  pointwise [val_main_v66]

/-- What comes to the silu from upstream. -/
theorem up' (b : Fin 12) (k : Fin 128) (r : Fin 2048) : (val_main_v97 (F := Ideal) P w D (ix2 r (col b k)) : EReal) = dyV b.val (Xb P b) (Wb w b) (Db D b) k r := by
  by_cases h4 : b.val < 4
  · obtain ⟨h, rfl⟩ : ∃ h : Fin 4, b = qb h := ⟨⟨b.val, h4⟩, rfl⟩
    rw [← qd, ← qrow]
    exact (thirds _ _ _ _ r ⟨h.val * 128 + k.val, by omega⟩).1
  · by_cases h8 : b.val < 8
    · obtain ⟨h, rfl⟩ : ∃ h : Fin 4, b = kb h := ⟨⟨b.val - 4, by omega⟩, Fin.ext (by show b.val = 4 + (b.val - 4); omega)⟩
      rw [← kd, ← krow, ← colk h k (by omega)]
      exact (thirds _ _ _ _ r ⟨h.val * 128 + k.val, by omega⟩).2.1
    · obtain ⟨h, rfl⟩ : ∃ h : Fin 4, b = vb h := ⟨⟨b.val - 8, by omega⟩, Fin.ext (by show b.val = 8 + (b.val - 8); omega)⟩
      unfold dyV
      rw [if_neg h8, ← vrow, ← colv h k (by omega)]
      exact (thirds _ _ _ _ r ⟨h.val * 128 + k.val, by omega⟩).2.2

theorem dcv (b : Fin 12) (k : Fin 128) (r : Fin 2048) : (val_main_v98 (F := Ideal) P w D (ix2 r (col b k)) : EReal) = dcV b.val (Xb P b) (Wb w b) (Db D b) k r := by
  unfold dcV
  rw [← up', ← slo, ← sig, ← conv]
  pointwise [val_main_v98, val_main_call1_v2, val_main_call1_v1, val_main_call1_v0]

variable (hP : ∀ i, ∃ u : ℝ, (P i : EReal) = u) (hw : ∀ i, ∃ u : ℝ, (w i : EReal) = u) (hD : ∀ i, ∃ u : ℝ, (D i : EReal) = u)
include hP hw hD

/-- The gradient before the silu. -/
theorem dc (b : Fin 12) (k : Fin 128) : (fun r => (val_main_v98 (F := Ideal) P w D (ix2 r (col b k)) : EReal)) = dcB b.val (Xb P b) (Wb w b) (Db D b) k := by
  funext r
  rw [dcv]
  exact dcV_eq _ _ _ _ (fun _ _ => hP _) (fun _ _ => hw _) (fun _ _ => hD _) k r

theorem back3 (b : Fin 12) (k : Fin 128) (r : Fin 2048) : (val_main_v105 (F := Ideal) P w D (ix2 ⟨3 + r.val, by omega⟩ (col b k)) : EReal)
    = Wb w b 3 k * dcB b.val (Xb P b) (Wb w b) (Db D b) k r := by
  refine (slice_pad 0 ![3, 0] ![0, 0] ![0, 0] rfl rfl (by decide) _ _ (fun _ => Ideal.ofBits_zero_f32) _ _ r _ (by have := r.isLt; change 3 + r.val < 2051; omega)).trans ?_
  rw [up_zero, ← dc P w D hP hw hD]
  pointwise [val_main_v100, val_main_v99, val_main_v27, val_main_v25, val_main_v24]
  rfl
theorem back2 (b : Fin 12) (k : Fin 128) (r : Fin 2048) : (val_main_v114 (F := Ideal) P w D (ix2 ⟨3 + r.val, by omega⟩ (col b k)) : EReal)
    = Wb w b 2 k * up 1 (dcB b.val (Xb P b) (Wb w b) (Db D b) k) r := by
  refine (slice_pad 1 ![2, 0] ![1, 0] ![0, 0] rfl rfl (by decide) _ _ (fun _ => Ideal.ofBits_zero_f32) _ _ r _ (by have := r.isLt; change 3 + r.val < 2051; omega)).trans ?_
  rw [← up_mul, ← dc P w D hP hw hD]
  congr 1
  funext t
  pointwise [val_main_v109, val_main_v108, val_main_v20, val_main_v18, val_main_v17]
  rfl
theorem back1 (b : Fin 12) (k : Fin 128) (r : Fin 2048) : (val_main_v125 (F := Ideal) P w D (ix2 ⟨3 + r.val, by omega⟩ (col b k)) : EReal)
    = Wb w b 1 k * up 2 (dcB b.val (Xb P b) (Wb w b) (Db D b) k) r := by
  refine (slice_pad 2 ![1, 0] ![2, 0] ![0, 0] rfl rfl (by decide) _ _ (fun _ => Ideal.ofBits_zero_f32) _ _ r _ (by have := r.isLt; change 3 + r.val < 2051; omega)).trans ?_
  rw [← up_mul, ← dc P w D hP hw hD]
  congr 1
  funext t
  pointwise [val_main_v120, val_main_v119, val_main_v13, val_main_v11, val_main_v10]
  rfl
theorem back0 (b : Fin 12) (k : Fin 128) (r : Fin 2048) : (val_main_v136 (F := Ideal) P w D (ix2 ⟨3 + r.val, by omega⟩ (col b k)) : EReal)
    = Wb w b 0 k * up 3 (dcB b.val (Xb P b) (Wb w b) (Db D b) k) r := by
  refine (slice_pad 3 ![0, 0] ![3, 0] ![0, 0] rfl rfl (by decide) _ _ (fun _ => Ideal.ofBits_zero_f32) _ _ r _ (by have := r.isLt; change 3 + r.val < 2051; omega)).trans ?_
  rw [← up_mul, ← dc P w D hP hw hD]
  congr 1
  funext t
  pointwise [val_main_v131, val_main_v130, val_main_v7, val_main_v5, val_main_v4]
  rfl

theorem back (b : Fin 12) (k : Fin 128) (r : Fin 2048) : (val_main_v142 (F := Ideal) P w D (ix2 r (col b k)) : EReal) = exb P w D b k r := by
  have e : (val_main_v142 (F := Ideal) P w D (ix2 r (col b k)) : EReal) = val_main_v105 (F := Ideal) P w D (ix2 ⟨3 + r.val, by omega⟩ (col b k))
      + val_main_v114 (F := Ideal) P w D (ix2 ⟨3 + r.val, by omega⟩ (col b k)) + val_main_v125 (F := Ideal) P w D (ix2 ⟨3 + r.val, by omega⟩ (col b k))
      + val_main_v136 (F := Ideal) P w D (ix2 ⟨3 + r.val, by omega⟩ (col b k)) := by
    pointwise [val_main_v142, val_main_v137, val_main_v126, val_main_v115]
  rw [e, back0 P w D hP hw hD, back1 P w D hP hw hD, back2 P w D hP hw hD, back3 P w D hP hw hD]
  unfold exb grad4
  rw [mul_comm (Wb w b 0 k), mul_comm (Wb w b 1 k), mul_comm (Wb w b 2 k), mul_comm (Wb w b 3 k)]
  simp only [add_comm, add_left_comm]

theorem ref_x : val_main_v143 (F := Ideal) P w D = gx P w D := by
  funext y
  obtain ⟨r, n, rfl⟩ : ∃ (r : Fin 2048) (n : Fin 1536), y = ix2 r n := ⟨y 0, y 1, eq_ix2 y⟩
  obtain ⟨b, k, rfl⟩ : ∃ (b : Fin 12) (k : Fin 128), n = col b k :=
    ⟨⟨n.val / 128, by omega⟩, ⟨n.val % 128, by omega⟩, Fin.ext (by show n.val = n.val / 128 * 128 + n.val % 128; omega)⟩
  refine Eq.trans ?_ (ex_block P w D b k r _).symm
  exact back P w D hP hw hD b k r

omit hP hw hD in
theorem zeros : (∀ i, (val_main_cst_13 (F := Ideal) i : EReal) = 0) ∧ (∀ i, (val_main_cst_14 (F := Ideal) i : EReal) = 0) ∧ (∀ i, (val_main_cst_17 (F := Ideal) i : EReal) = 0)
    ∧ (∀ i, (val_main_cst_18 (F := Ideal) i : EReal) = 0) ∧ (∀ i, (val_main_cst_21 (F := Ideal) i : EReal) = 0) ∧ (∀ i, (val_main_cst_22 (F := Ideal) i : EReal) = 0)
    ∧ (∀ i, (val_main_cst_25 (F := Ideal) i : EReal) = 0) ∧ (∀ i, (val_main_cst_26 (F := Ideal) i : EReal) = 0) :=
  ⟨fun _ => Ideal.ofBits_zero_f32, fun _ => Ideal.ofBits_zero_f32, fun _ => Ideal.ofBits_zero_f32, fun _ => Ideal.ofBits_zero_f32, fun _ => Ideal.ofBits_zero_f32,
    fun _ => Ideal.ofBits_zero_f32, fun _ => Ideal.ofBits_zero_f32, fun _ => Ideal.ofBits_zero_f32⟩

theorem sum3 (b : Fin 12) (k : Fin 128) : (val_main_v106 (F := Ideal) P w D (ix2 0 (col b k)) : EReal)
    = wgrad 0 (dcB b.val (Xb P b) (Wb w b) (Db D b) k) (fun t => Xb P b t k) := by
  obtain ⟨z1, z2, -⟩ := zeros
  have e : (val_main_v106 (F := Ideal) P w D (ix2 0 (col b k)) : EReal)
      = ∑ t : Fin 2048, val_main_v98 (F := Ideal) P w D (ix2 t (col b k)) * val_main_v26 (F := Ideal) P (ix2 t (col b k)) := by
    pointwise [val_main_v106, val_main_v104, val_main_v103, val_main_v102, val_main_v101]
    simp only [z1, z2, zero_add, Fin.sum_univ_one]
  rw [e, ← dc P w D hP hw hD]
  exact Finset.sum_congr rfl fun t _ => by rw [moved0, down_zero]
theorem sum2 (b : Fin 12) (k : Fin 128) : (val_main_v116 (F := Ideal) P w D (ix2 0 (col b k)) : EReal)
    = wgrad 1 (dcB b.val (Xb P b) (Wb w b) (Db D b) k) (fun t => Xb P b t k) := by
  obtain ⟨-, -, z1, z2, -⟩ := zeros
  have e : (val_main_v116 (F := Ideal) P w D (ix2 0 (col b k)) : EReal)
      = ∑ t : Fin 2048, val_main_v98 (F := Ideal) P w D (ix2 t (col b k)) * val_main_v19 (F := Ideal) P (ix2 t (col b k)) := by
    pointwise [val_main_v116, val_main_v113, val_main_v112, val_main_v111, val_main_v110]
    simp only [z1, z2, zero_add, Fin.sum_univ_one]
  rw [e, ← dc P w D hP hw hD]
  exact Finset.sum_congr rfl fun t _ => by rw [moved1]
theorem sum1 (b : Fin 12) (k : Fin 128) : (val_main_v127 (F := Ideal) P w D (ix2 0 (col b k)) : EReal)
    = wgrad 2 (dcB b.val (Xb P b) (Wb w b) (Db D b) k) (fun t => Xb P b t k) := by
  obtain ⟨-, -, -, -, z1, z2, -⟩ := zeros
  have e : (val_main_v127 (F := Ideal) P w D (ix2 0 (col b k)) : EReal)
      = ∑ t : Fin 2048, val_main_v98 (F := Ideal) P w D (ix2 t (col b k)) * val_main_v12 (F := Ideal) P (ix2 t (col b k)) := by
    pointwise [val_main_v127, val_main_v124, val_main_v123, val_main_v122, val_main_v121]
    simp only [z1, z2, zero_add, Fin.sum_univ_one]
  rw [e, ← dc P w D hP hw hD]
  exact Finset.sum_congr rfl fun t _ => by rw [moved2]
theorem sum0 (b : Fin 12) (k : Fin 128) : (val_main_v138 (F := Ideal) P w D (ix2 0 (col b k)) : EReal)
    = wgrad 3 (dcB b.val (Xb P b) (Wb w b) (Db D b) k) (fun t => Xb P b t k) := by
  obtain ⟨-, -, -, -, -, -, z1, z2⟩ := zeros
  have e : (val_main_v138 (F := Ideal) P w D (ix2 0 (col b k)) : EReal)
      = ∑ t : Fin 2048, val_main_v98 (F := Ideal) P w D (ix2 t (col b k)) * val_main_v6 (F := Ideal) P (ix2 t (col b k)) := by
    pointwise [val_main_v138, val_main_v135, val_main_v134, val_main_v133, val_main_v132]
    simp only [z1, z2, zero_add, Fin.sum_univ_one]
  rw [e, ← dc P w D hP hw hD]
  exact Finset.sum_congr rfl fun t _ => by rw [moved3]

theorem ref_w : val_main_v140 (F := Ideal) P w D = gw P w D := by
  funext y
  obtain ⟨j, n, rfl⟩ : ∃ (j : Fin 4) (n : Fin 1536), y = ix2 j n := ⟨y 0, y 1, eq_ix2 y⟩
  obtain ⟨b, k, rfl⟩ : ∃ (b : Fin 12) (k : Fin 128), n = col b k :=
    ⟨⟨n.val / 128, by omega⟩, ⟨n.val % 128, by omega⟩, Fin.ext (by show n.val = n.val / 128 * 128 + n.val % 128; omega)⟩
  refine Eq.trans ?_ (ew_block P w D b k j _).symm
  have e : (val_main_v140 (F := Ideal) P w D (ix2 j (col b k)) : EReal) = val_main_v107 (F := Ideal) P w D (ix2 j (col b k)) + val_main_v117 (F := Ideal) P w D (ix2 j (col b k))
      + val_main_v128 (F := Ideal) P w D (ix2 j (col b k)) + val_main_v139 (F := Ideal) P w D (ix2 j (col b k)) := by
    pointwise [val_main_v140, val_main_v129, val_main_v118]
  rw [e, show (val_main_v107 (F := Ideal) P w D (ix2 j (col b k)) : EReal) = _ from pad_row ![3, 0] ![0, 0] ![0, 0] rfl (by decide) _ _ (fun _ => Ideal.ofBits_zero_f32) _ _ j _,
    show (val_main_v117 (F := Ideal) P w D (ix2 j (col b k)) : EReal) = _ from pad_row ![2, 0] ![1, 0] ![0, 0] rfl (by decide) _ _ (fun _ => Ideal.ofBits_zero_f32) _ _ j _,
    show (val_main_v128 (F := Ideal) P w D (ix2 j (col b k)) : EReal) = _ from pad_row ![1, 0] ![2, 0] ![0, 0] rfl (by decide) _ _ (fun _ => Ideal.ofBits_zero_f32) _ _ j _,
    show (val_main_v139 (F := Ideal) P w D (ix2 j (col b k)) : EReal) = _ from pad_row ![0, 0] ![3, 0] ![0, 0] rfl (by decide) _ _ (fun _ => Ideal.ofBits_zero_f32) _ _ j _,
    sum0 P w D hP hw hD, sum1 P w D hP hw hD, sum2 P w D hP hw hD, sum3 P w D hP hw hD]
  match j with
  | ⟨0, _⟩ => simp; rfl
  | ⟨1, _⟩ => simp; rfl
  | ⟨2, _⟩ => simp; rfl
  | ⟨3, _⟩ => simp; rfl

end reference

theorem claim : Cert.algebraic_GdnPreBwdIdeal_GdnPreBwdRefIdeal_pre_finite_heads (hGdnPreBwdIdeal := facts) (hGdnPreBwdRefIdeal := Cert.GdnPreBwdRefIdeal.Gen.facts)
    (hPre_finite_heads := Cert.Pre_finite_heads.sides) :=
  fun m ρ m' ρ' hpre hag => by
    have hr := fun c => @Cert.Pre_finite_heads.real Cert.Pre_finite_heads.sides _ _ _ (hpre c)
    exact ⟨fun c => gx (m ((c : Thread nD τ).loc main_arg0)) (m ((c : Thread nD τ).loc main_arg1)) (m ((c : Thread nD τ).loc main_arg2)), fun c => gw (m ((c : Thread nD τ).loc main_arg0)) (m ((c : Thread nD τ).loc main_arg1)) (m ((c : Thread nD τ).loc main_arg2)),
      (θ_run _ _ _).mono (fun _ h c => ⟨(h c).1.trans (final_x m c), (h c).2.1.trans (final_w m c), (h c).2.2⟩) (Value.run_blocks m ρ),
      (θ_run _ _ _).mono (fun _ h c => ⟨(h c).1.trans (by rw [(hag c).1, (hag c).2.1, (hag c).2.2]; exact ref_x _ _ _ (hr c).1 (hr c).2.1 (hr c).2.2),
        (h c).2.1.trans (by rw [(hag c).1, (hag c).2.1, (hag c).2.2]; exact ref_w _ _ _ (hr c).1 (hr c).2.1 (hr c).2.2), (h c).2.2⟩)
        (Cert.GdnPreBwdRefIdeal.Stage.run m' ρ')⟩

end Cert.GdnPreBwdIdeal.Grad
end
end
-- ==== Proof.SwigluGrad.lean ====
/-
  The gradient of the gated unit: of the gate, through its silu, and of the other factor.
-/
module

public import proofs.«01_k».proof.Defs
public import proofs.«01_k».proof.Proof.Gen.SwigluBwdIdeal.Value
public import proofs.«01_k».proof.Proof.Gen.SwigluBwdRefIdeal.Run
public import proofs.«01_k».proof.Proof.Gen.SwigluBwdRefIdeal.Read
public import proofs.«01_k».proof.Proof.Logistic
public import Idealize.ShloMosaic.Lib.ReduceAll
public import Idealize.ShloMosaic.Lib.WordCmp
public import Idealize.ShloMosaic.Lib.Writes
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.Pre_finite_swiglu

/-- The predicate's side conditions. -/
theorem sides : Cert.Pre_finite_swiglu.Facts where
  bcast_S_S2x2048x2816 := by decide
  reducesTo_S2x2048x2816_S_d0_1_2 := by decide
  h_S_ := by decide
  bcast_S_S2048x2816 := by decide
  reducesTo_S2048x2816_S_d0_1 := by decide

instance : Subsingleton S_.Idx := ⟨fun a b => funext fun i => i.elim0⟩

/-- Under the predicate every entry of both arguments is real. -/
theorem real [Cert.Pre_finite_swiglu.Facts] (x0 : FVec Ideal S2x2048x2816 .f32) (x1 : FVec Ideal S2048x2816 .f32)
    (h : fn (F := Ideal) x0 x1 = fun _ => 1#1) : (∀ i, ∃ r : ℝ, (x0 i : EReal) = r) ∧ ∀ i, ∃ r : ℝ, (x1 i : EReal) = r := by
  have h0 := congrFun h (fun a => a.elim0)
  unfold fn at h0
  have h1 := IntOp.andi_eq_one.1 h0
  exact ⟨fun i => Logistic.real_of_cmp _ (Host.reduce_andi_all _ _ _ _ _ h1.1 i), fun i => Logistic.real_of_cmp _ (Host.reduce_andi_all _ _ _ _ _ h1.2 i)⟩

end Cert.Pre_finite_swiglu

namespace Cert.SwigluBwdIdeal.Grad

open Cert.SwigluBwdIdeal Cert.SwigluBwdIdeal.Gen Cert.SwigluBwdRefIdeal.Read Cert.Logistic

/-- One entry of the gradient of the gate, and of the other factor. -/
def eg (d u g : EReal) : EReal := d * u * sg g * (1 + g * (1 - sg g))
def eu (d g : EReal) : EReal := d * g * sg g

/-- Both gradients, one above the other. -/
def out (x : Vec Ideal S2x2048x2816 .f32) (d : Vec Ideal S2048x2816 .f32) : Vec Ideal S2x2048x2816 .bf16 := fun y =>
  if (y 0).val = 0 then eg (d (ix2 (y 1) (y 2))) (x (ix3 1 (y 1) (y 2))) (x (ix3 0 (y 1) (y 2))) else eu (d (ix2 (y 1) (y 2))) (x (ix3 0 (y 1) (y 2)))

section payloads

variable (v0 : Vec Ideal S1x512x1408 .f32) (v2 : Vec Ideal S512x1408 .f32) (v10 : Vec Ideal S1x512x1408 .f32)

theorem pay3 (r : Fin 512) (q : Fin 1408) : (k0_pay3 v0 v2 v10 (ix3 0 r q) : EReal) = eg (v2 (ix2 r q)) (v10 (ix3 0 r q)) (v0 (ix3 0 r q)) := by
  pointwise [k0_pay3, k0_pay2, k0_pay1]
  rw [zero_sub]
  rfl

theorem pay4 (r : Fin 512) (q : Fin 1408) : (k0_pay4 v0 v2 (ix3 0 r q) : EReal) = eu (v2 (ix2 r q)) (v0 (ix3 0 r q)) := by
  pointwise [k0_pay4, k0_pay2, k0_pay1]
  rw [zero_sub]
  rfl

end payloads

section stores

variable (x : Vec Ideal S2x512x1408 .f32) (d : Vec Ideal S512x1408 .f32) (r : Fin 512) (q : Fin 1408)

/-- Where the two halves of a block lie in it, and the rows of the other argument. -/
theorem half0 : r0_0.emb (ix3 0 r q) = ix3 0 r q :=
  Rect.emb_eq_of_coords _ _ _ fun a => by
    match a with
    | ⟨0, _⟩ => rfl
    | ⟨1, _⟩ => show r.val = 0 + 1 * r.val; omega
    | ⟨2, _⟩ => show q.val = 0 + 1 * q.val; omega
theorem half1 : r0_2.emb (ix3 0 r q) = ix3 1 r q :=
  Rect.emb_eq_of_coords _ _ _ fun a => by
    match a with
    | ⟨0, _⟩ => rfl
    | ⟨1, _⟩ => show r.val = 0 + 1 * r.val; omega
    | ⟨2, _⟩ => show q.val = 0 + 1 * q.val; omega
theorem rows : r0_1.emb (ix2 r q) = ix2 r q :=
  Rect.emb_eq_of_coords _ _ _ fun a => by
    match a with
    | ⟨0, _⟩ => show r.val = 0 + 1 * r.val; omega
    | ⟨1, _⟩ => show q.val = 0 + 1 * q.val; omega

/-- What the body leaves in the two halves of its block. -/
theorem upper : (out0_2 x d (ix3 0 r q) : EReal) = eg (d (ix2 r q)) (x (ix3 1 r q)) (x (ix3 0 r q)) := by
  unfold out0_2
  rw [View.canon_cons_of_not_mem _ _ (Rect.not_mem_set_of_axis _ _ 0 1 1 rfl rfl rfl (Or.inl Nat.zero_lt_one))]
  refine (congrArg (View.canon _) (half0 r q).symm).trans ((View.canon_cons_emb _ _ _ _).trans ((pay3 _ _ _ r q).trans ?_))
  show eg (d (r0_1.emb (ix2 r q))) (x (r0_2.emb (ix3 0 r q))) (x (r0_0.emb (ix3 0 r q))) = _
  rw [rows, half0, half1]

theorem lower : (out0_2 x d (ix3 1 r q) : EReal) = eu (d (ix2 r q)) (x (ix3 0 r q)) := by
  unfold out0_2
  refine (congrArg (View.canon _) (half1 r q).symm).trans ((View.canon_cons_emb _ _ _ _).trans ((pay4 _ _ r q).trans ?_))
  show eu (d (r0_1.emb (ix2 r q))) (x (r0_0.emb (ix3 0 r q))) = _
  rw [rows, half0]

end stores

theorem tiles : ∀ t : Fin cfg0.N, win0_0.index t 0 = 0 ∧ win0_0.index t 1 = t.val / 2 ∧ win0_0.index t 2 = t.val % 2
    ∧ win0_1.index t 0 = t.val / 2 ∧ win0_1.index t 1 = t.val % 2
    ∧ win0_2.index t 0 = 0 ∧ win0_2.index t 1 = t.val / 2 ∧ win0_2.index t 2 = t.val % 2 :=
  (by decide +kernel : ∀ t : Fin grid0.N, win0_0.index t 0 = 0 ∧ win0_0.index t 1 = t.val / 2 ∧ win0_0.index t 2 = t.val % 2
    ∧ win0_1.index t 0 = t.val / 2 ∧ win0_1.index t 1 = t.val % 2
    ∧ win0_2.index t 0 = 0 ∧ win0_2.index t 1 = t.val / 2 ∧ win0_2.index t 2 = t.val % 2)

variable (m : (ℓ : Loc nD τ sig) → Buf (Elt Ideal) ℓ) (c : Dev nD)

theorem final : (dats m 0 c).arrAt 2 cfg0.N = out (m ((c : Thread nD τ).loc main_arg0)) (m ((c : Thread nD τ).loc main_arg1)) := by
  refine (dats m 0 c).arrAt_eq_of_covers 2 _ (by decide +kernel) fun t _ y => ?_
  blk_simp
  rw [after0_2]
  obtain ⟨a0, a1, a2, b0, b1, c0, c1, c2⟩ := tiles t
  have ht : t.val < 8 := by have := t.isLt; have h : cfg0.N = 8 := N_0; omega
  obtain ⟨k, r, q, rfl⟩ : ∃ (k : Fin 2) (r : Fin 512) (q : Fin 1408), y = ix3 k r q := ⟨y 0, y 1, y 2, eq_ix3 y⟩
  have hy : ((View.whole main_v0).slice (win0_2.rect t)).emb (ix3 k r q)
      = ix3 k ⟨t.val / 2 * 512 + r.val, by omega⟩ ⟨t.val % 2 * 1408 + q.val, by omega⟩ := by
    blk_point [c0, c1, c2]
  have hx : ∀ j : Fin 2, iblk m c 0 t (ix3 j r q) = m ((c : Thread nD τ).loc main_arg0) (ix3 j ⟨t.val / 2 * 512 + r.val, by omega⟩ ⟨t.val % 2 * 1408 + q.val, by omega⟩) := fun j => by
    blk_point [iblk, V, a0, a1, a2]
  have hd : iblk m c 1 t (ix2 r q) = m ((c : Thread nD τ).loc main_arg1) (ix2 ⟨t.val / 2 * 512 + r.val, by omega⟩ ⟨t.val % 2 * 1408 + q.val, by omega⟩) := by
    blk_point [iblk, V, b0, b1]
  show _ = out _ _ (((View.whole main_v0).slice (win0_2.rect t)).emb (ix3 k r q))
  rw [hy]
  match k with
  | ⟨0, _⟩ => exact (upper _ _ r q).trans (by rw [hx, hx, hd]; rfl)
  | ⟨1, _⟩ => exact (lower _ _ r q).trans (by rw [hx, hd]; rfl)

/-! The reference. -/

section reference

variable (x : Vec Ideal S2x2048x2816 .f32) (d : Vec Ideal S2048x2816 .f32) (r : Fin 2048) (q : Fin 2816)

theorem v6 : (val_main_v6 (F := Ideal) x d (ix2 r q) : EReal) = x (ix3 0 r q) * sg (x (ix3 0 r q)) * d (ix2 r q) := by
  pointwise [val_main_v6, val_main_v2_0, val_main_v1, val_main_v0, val_main_v2_2, val_main_call0_v4, val_main_call0_v3, val_main_call0_v2, val_main_call0_v1, val_main_call0_v0,
    val_main_call0_cst, val_main_call0_cst_0]
  rfl

theorem v10 : (val_main_v10 (F := Ideal) x d (ix2 r q) : EReal) = d (ix2 r q) * x (ix3 1 r q) * sg (x (ix3 0 r q))
    + x (ix3 0 r q) * (d (ix2 r q) * x (ix3 1 r q)) * (sg (x (ix3 0 r q)) * (1 - sg (x (ix3 0 r q)))) := by
  pointwise [val_main_v10, val_main_call1_v2, val_main_call1_v1, val_main_call1_v0, val_main_v7, val_main_v4, val_main_v3, val_main_v2_1, val_main_call0_v7, val_main_call0_v6,
    val_main_call0_cst_1, val_main_v1, val_main_v0, val_main_v2_2, val_main_call0_v4, val_main_call0_v3, val_main_call0_v2, val_main_call0_v1, val_main_call0_v0,
    val_main_call0_cst, val_main_call0_cst_0]
  rfl

theorem zeros : (∀ i, (val_main_cst (F := Ideal) i : EReal) = 0) ∧ ∀ i, (val_main_cst_0 (F := Ideal) i : EReal) = 0 :=
  ⟨fun _ => Ideal.ofBits_zero_f32, fun _ => Ideal.ofBits_zero_f32⟩

/-- The two gradients, each above or below zeros. -/
theorem v9 : (val_main_v9 (F := Ideal) x d (ix3 0 r q) : EReal) = 0 ∧ (val_main_v9 (F := Ideal) x d (ix3 1 r q) : EReal) = val_main_v6 (F := Ideal) x d (ix2 r q) := by
  constructor
  · refine (pad_apply_of_not_inside (s := Cert.SwigluBwdRefIdeal.S1x2048x2816) _ _ _ _ _ _ _ _ 0 ?_).trans (zeros.1 _)
    rintro ⟨h, _⟩
    exact absurd (show 1 ≤ 0 from h) (by norm_num)
  · refine (pad_apply_of_inside (s := Cert.SwigluBwdRefIdeal.S1x2048x2816) _ _ _ _ _ _ _ _ (ix3 0 r q) fun a => ?_).trans ?_
    · match a with
      | ⟨0, _⟩ => rfl
      | ⟨1, _⟩ => show r.val = 0 + r.val * (0 + 1); omega
      | ⟨2, _⟩ => show q.val = 0 + q.val * (0 + 1); omega
    · pointwise [val_main_v8]

theorem v12 : (val_main_v12 (F := Ideal) x d (ix3 1 r q) : EReal) = 0 ∧ (val_main_v12 (F := Ideal) x d (ix3 0 r q) : EReal) = val_main_v10 (F := Ideal) x d (ix2 r q) := by
  constructor
  · refine (pad_apply_of_not_inside (s := Cert.SwigluBwdRefIdeal.S1x2048x2816) _ _ _ _ _ _ _ _ 0 ?_).trans (zeros.2 _)
    rintro ⟨_, _, h⟩
    exact absurd (show (1 - 0) / (0 + 1) < 1 from h) (by norm_num)
  · refine (pad_apply_of_inside (s := Cert.SwigluBwdRefIdeal.S1x2048x2816) _ _ _ _ _ _ _ _ (ix3 0 r q) fun a => ?_).trans ?_
    · match a with
      | ⟨0, _⟩ => rfl
      | ⟨1, _⟩ => show r.val = 0 + r.val * (0 + 1); omega
      | ⟨2, _⟩ => show q.val = 0 + q.val * (0 + 1); omega
    · pointwise [val_main_v11]

omit r q in
theorem ref (hx : ∀ i, ∃ u : ℝ, (x i : EReal) = u) (hd : ∀ i, ∃ u : ℝ, (d i : EReal) = u) : val_main_v14 (F := Ideal) x d = out x d := by
  funext y
  obtain ⟨k, r, q, rfl⟩ : ∃ (k : Fin 2) (r : Fin 2048) (q : Fin 2816), y = ix3 k r q := ⟨y 0, y 1, y 2, eq_ix3 y⟩
  have e : (val_main_v14 (F := Ideal) x d (ix3 k r q) : EReal) = val_main_v9 (F := Ideal) x d (ix3 k r q) + val_main_v12 (F := Ideal) x d (ix3 k r q) := by
    pointwise [val_main_v14, val_main_v13]
  refine e.trans ?_
  match k with
  | ⟨0, _⟩ =>
    refine (congrArg₂ (· + ·) (v9 x d r q).1 ((v12 x d r q).2.trans (v10 x d r q))).trans ?_
    show 0 + _ = eg (d (ix2 r q)) (x (ix3 1 r q)) (x (ix3 0 r q))
    unfold eg
    obtain ⟨g, hg⟩ := hx (ix3 0 r q)
    obtain ⟨u, hu⟩ := hx (ix3 1 r q)
    obtain ⟨v, hv⟩ := hd (ix2 r q)
    obtain ⟨w, h1, h2⟩ := silu g (v * u)
    rw [hg, hu, hv, ← EReal.coe_mul, zero_add]
    exact h2.trans h1.symm
  | ⟨1, _⟩ =>
    refine (congrArg₂ (· + ·) ((v9 x d r q).2.trans (v6 x d r q)) (v12 x d r q).1).trans ?_
    show _ + 0 = eu (d (ix2 r q)) (x (ix3 0 r q))
    unfold eu
    rw [add_zero, mul_comm _ (d _), mul_assoc]

end reference

theorem claim : Cert.algebraic_SwigluBwdIdeal_SwigluBwdRefIdeal_pre_finite_swiglu (hSwigluBwdIdeal := facts) (hSwigluBwdRefIdeal := Cert.SwigluBwdRefIdeal.Gen.facts)
    (hPre_finite_swiglu := Cert.Pre_finite_swiglu.sides) :=
  fun m ρ m' ρ' hpre hag => ⟨fun c => out (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨((h c).1.trans (val_main_v14_eq _ _)).trans (by
        rw [(hag c).1, (hag c).2]
        have hr := @Cert.Pre_finite_swiglu.real Cert.Pre_finite_swiglu.sides _ _ (hpre c)
        exact ref _ _ hr.1 hr.2), (h c).2⟩)
      (Cert.SwigluBwdRefIdeal.Value.run (F := Ideal) m' ρ')⟩

end Cert.SwigluBwdIdeal.Grad
end
end
-- ==== Proof.SconvOut.lean ====
/-
  The short gated convolution.
-/
module

public import proofs.«01_k».proof.Defs
public import proofs.«01_k».proof.Proof.Gen.SconvFwdIdeal.Value
public import proofs.«01_k».proof.Proof.Gen.SconvFwdRefIdeal.Run
public import proofs.«01_k».proof.Proof.Gen.SconvFwdRefIdeal.Read
public import proofs.«01_k».proof.Proof.Shift
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.SconvFwdIdeal.Out

open Cert.SconvFwdIdeal Cert.SconvFwdIdeal.Gen Cert.SconvFwdRefIdeal.Read Cert.Shift

variable (m : (ℓ : Loc nD τ sig) → Buf (Elt Ideal) ℓ) (c : Dev nD)

/-- The weights of one column. -/
def wc {W : ℕ} (w : Vec Ideal ⟨2, ![3, W]⟩ .f32) (k : Fin W) (j : Fin 3) : EReal := w (ix2 j k)

variable (P : Vec Ideal S2048x3840 .f32) (w : Vec Ideal S3x256 .f32)

/-- The column that is convolved. -/
def zc (k : Fin 256) (t : Fin 2048) : EReal := P (ix2 t ⟨1024 + k.val, by omega⟩) * P (ix2 t ⟨1280 + k.val, by omega⟩)

def entry (r : Fin 2048) (k : Fin 256) : EReal := P (ix2 r ⟨768 + k.val, by omega⟩) * conv3 (zc P k) (wc w k) r

/-- The gate times the convolution. -/
def out : Vec Ideal S2048x256 .bf16 := fun y => entry P w (y 0) (y 1)

theorem pay (v0 v1 : Vec Ideal S2048x128 .f32) (v3 : Vec Ideal S3x128 .f32) (v27 : Vec Ideal S2048x128 .f32) (r : Fin 2048) (q : Fin 128) :
    (k0_pay1 v0 v1 v3 v27 (ix2 r q) : EReal) = v27 (ix2 r q) * conv3 (fun t => v0 (ix2 t q) * v1 (ix2 t q)) (wc v3 q) r := by
  dsimp only [k0_pay1]
  rw [rotate_down 2 (by omega), rotate_down 1 (by omega)]
  pointwise [downM_ix2]
  rfl

theorem tiles : ∀ t : Fin cfg0.N, win0_0.index t 0 = 0 ∧ win0_0.index t 1 = 6 + t.val
    ∧ win0_1.index t 0 = 0 ∧ win0_1.index t 1 = 8 + t.val
    ∧ win0_2.index t 0 = 0 ∧ win0_2.index t 1 = 10 + t.val
    ∧ win0_3.index t 0 = 0 ∧ win0_3.index t 1 = t.val
    ∧ win0_4.index t 0 = 0 ∧ win0_4.index t 1 = t.val :=
  (by decide +kernel : ∀ t : Fin grid0.N, win0_0.index t 0 = 0 ∧ win0_0.index t 1 = 6 + t.val
    ∧ win0_1.index t 0 = 0 ∧ win0_1.index t 1 = 8 + t.val
    ∧ win0_2.index t 0 = 0 ∧ win0_2.index t 1 = 10 + t.val
    ∧ win0_3.index t 0 = 0 ∧ win0_3.index t 1 = t.val
    ∧ win0_4.index t 0 = 0 ∧ win0_4.index t 1 = t.val)

theorem final : (dats m 0 c).arrAt 4 cfg0.N = out (m ((c : Thread nD τ).loc main_arg0)) (m ((c : Thread nD τ).loc main_arg1)) := by
  refine (dats m 0 c).arrAt_eq_of_covers 4 _ (by decide +kernel) fun t _ y => ?_
  blk_simp
  rw [after0_4]
  frame_out
  obtain ⟨r, q, rfl⟩ : ∃ (r : Fin 2048) (q : Fin 128), y = ix2 r q := ⟨y 0, y 1, eq_ix2 y⟩
  obtain ⟨a0, a1, b0, b1, c0, c1, d0, d1, e0, e1⟩ := tiles t
  refine (pay _ _ _ _ r q).trans ?_
  have hy : ((View.whole main_v0).slice (win0_4.rect t)).emb (ix2 r q)
      = ix2 r ⟨t.val * 128 + q.val, by have := t.isLt; have h : cfg0.N = 2 := N_0; have := q.isLt; omega⟩ := by
    blk_point [e0, e1]
  show _ = out _ _ (((View.whole main_v0).slice (win0_4.rect t)).emb (ix2 r q))
  rw [hy]
  unfold out entry wc zc
  dsimp only [ix2_0, ix2_1]
  blk_point [iblk, V, a0, a1, b0, b1, c0, c1, d0, d1, e0, e1]

/-! The reference. -/

theorem zero4 (i : Cert.SconvFwdRefIdeal.S2x256.Idx) : (val_main_v4 (F := Ideal) i : EReal) = 0 := Ideal.ofBits_zero_f32

theorem col (k : Fin 256) : (fun t => val_main_v3 (F := Ideal) P (ix2 t k)) = zc P k := by
  funext t
  pointwise [val_main_v3, val_main_v1, val_main_v2]
  rfl

theorem moved2 (r : Fin 2048) (k : Fin 256) : (val_main_v8 (F := Ideal) P (ix2 r k) : EReal) = down 2 (zc P k) r :=
  (slice_below 2 ![0, 0] rfl rfl _ zero4 _ _ _ r k).trans (by rw [col])

theorem moved1 (r : Fin 2048) (k : Fin 256) : (val_main_v14 (F := Ideal) P (ix2 r k) : EReal) = down 1 (zc P k) r :=
  (slice_below 1 ![1, 0] rfl rfl _ zero4 _ _ _ r k).trans (by rw [col])

theorem moved0 (r : Fin 2048) (k : Fin 256) : (val_main_v21 (F := Ideal) P (ix2 r k) : EReal) = zc P k r :=
  (slice_below 0 ![2, 0] rfl rfl _ zero4 _ _ _ r k).trans (by rw [col, down_zero])

theorem ref : val_main_v27 (F := Ideal) P w = out P w := by
  funext y
  obtain ⟨r, k, rfl⟩ : ∃ (r : Fin 2048) (k : Fin 256), y = ix2 r k := ⟨y 0, y 1, eq_ix2 y⟩
  have e : (val_main_v27 (F := Ideal) P w (ix2 r k) : EReal) = P (ix2 r ⟨768 + k.val, by omega⟩)
      * (wc w k 0 * val_main_v8 (F := Ideal) P (ix2 r k) + wc w k 1 * val_main_v14 (F := Ideal) P (ix2 r k)
        + wc w k 2 * val_main_v21 (F := Ideal) P (ix2 r k)) := by
    pointwise [val_main_v27, val_main_v26, val_main_v25, val_main_v24, val_main_v23, val_main_v22, val_main_v20, val_main_v19, val_main_v18,
      val_main_v17, val_main_v16, val_main_v15, val_main_v13, val_main_v12, val_main_v11, val_main_v10, val_main_v9, val_main_v7, val_main_v6, val_main_v0]
    rfl
  rw [e, moved0, moved1, moved2]
  show _ = P _ * (_ + _ + _)
  rw [mul_comm (wc w k 0), mul_comm (wc w k 1), mul_comm (wc w k 2), add_comm _ (_ * wc w k 2), add_assoc]
  rfl

theorem claim : Cert.algebraic_SconvFwdIdeal_SconvFwdRefIdeal (hSconvFwdIdeal := facts) (hSconvFwdRefIdeal := Cert.SconvFwdRefIdeal.Gen.facts) :=
  fun m ρ m' ρ' _ hag => ⟨fun c => out (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]; exact ref _ _), (h c).2⟩)
      (Cert.SconvFwdRefIdeal.Value.run (F := Ideal) m' ρ')⟩

end Cert.SconvFwdIdeal.Out
end
end
-- ==== Proof.GatesOut.lean ====
/-
  The decay and write gates of the gated delta rule.
-/
module

public import proofs.«01_k».proof.Defs
public import proofs.«01_k».proof.Proof.Gen.GatesFwdIdeal.Value
public import proofs.«01_k».proof.Proof.Gen.GatesFwdRefIdeal.Run
public import proofs.«01_k».proof.Proof.Gen.GatesFwdRefIdeal.Read
public import proofs.«01_k».proof.Proof.Logistic
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.GatesFwdIdeal.Out

open Cert.GatesFwdIdeal Cert.GatesFwdIdeal.Gen Cert.GatesFwdRefIdeal.Read Cert.Logistic

variable (x : Vec Ideal S2048x3840 .f32) (a t : Vec Ideal S1x128 .f32)

/-- One lane of one row: the decay in the first four, the write gate in the next four, then zeros. -/
def entry (r : Fin 2048) (q : Fin 128) : EReal :=
  if q.val < 4 then -Ideal.exp (a (ix2 0 q)) * sp (x (ix2 r ⟨3584 + q.val, by omega⟩) + t (ix2 0 q))
  else if q.val < 8 then sg (x (ix2 r ⟨3584 + q.val, by omega⟩)) else 0

def out : Vec Ideal S2048x128 .f32 := fun i => entry x a t (i 0) (i 1)

theorem pay (v0 : Vec Ideal S2048x128 .f32) (v2 v6 : Vec Ideal S1x128 .f32) (r : Fin 2048) (q : Fin 128) :
    (k0_pay1 v0 v2 v6 (ix2 r q) : EReal) = if q.val < 4 then -Ideal.exp (v2 (ix2 0 q)) * sp (v0 (ix2 r q) + v6 (ix2 0 q))
      else if q.val < 8 then sg (v0 (ix2 r q)) else 0 := by
  pointwise [k0_pay1]
  rw [lane 4 (by norm_num), lane 8 (by norm_num), zero_sub, zero_sub, zero_sub]
  rfl

theorem tiles : ∀ t : Fin cfg0.N, win0_0.index t 0 = 0 ∧ win0_0.index t 1 = 28
    ∧ win0_1.index t 0 = 0 ∧ win0_1.index t 1 = 0
    ∧ win0_2.index t 0 = 0 ∧ win0_2.index t 1 = 0
    ∧ win0_3.index t 0 = 0 ∧ win0_3.index t 1 = 0 :=
  (by decide +kernel : ∀ t : Fin grid0.N, win0_0.index t 0 = 0 ∧ win0_0.index t 1 = 28
    ∧ win0_1.index t 0 = 0 ∧ win0_1.index t 1 = 0
    ∧ win0_2.index t 0 = 0 ∧ win0_2.index t 1 = 0
    ∧ win0_3.index t 0 = 0 ∧ win0_3.index t 1 = 0)

variable (m : (ℓ : Loc nD τ sig) → Buf (Elt Ideal) ℓ) (c : Dev nD)

theorem final : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, q, rfl⟩ : ∃ (r : Fin 2048) (q : Fin 128), y = ix2 r q := ⟨y 0, y 1, eq_ix2 y⟩
  obtain ⟨a0, a1, b0, b1, c0, c1, d0, d1⟩ := tiles t
  have hy : ((View.whole main_v0).slice (win0_3.rect t)).emb (ix2 r q) = ix2 r q := by blk_point [d0, d1]
  refine (pay _ _ _ r q).trans ?_
  show _ = out _ _ _ (((View.whole main_v0).slice (win0_3.rect t)).emb (ix2 r q))
  rw [hy]
  show _ = entry _ _ _ r q
  unfold entry
  blk_point [iblk, V, a0, a1, b0, b1, c0, c1]

/-! The reference. -/

theorem soft (r : Fin 2048) (h : Fin 4) :
    (val_main_v12 (F := Ideal) x t (ix2 r h) : EReal) = sp (x (ix2 r ⟨3584 + h.val, by omega⟩) + t (ix2 0 ⟨h.val, by omega⟩)) := by
  pointwise [val_main_v12, val_main_call0_v4, val_main_call0_v6, val_main_call0_v11, val_main_call0_v1, val_main_call0_v10, val_main_call0_v9,
    val_main_call0_v8, val_main_call0_v7, val_main_call0_v3, val_main_call0_v2, val_main_call0_v0, val_main_call0_v5, val_main_call0_cst,
    val_main_v11, val_main_v10, val_main_v9, val_main_v8, val_main_v7, val_main_v1, val_main_v0]
  rw [if_neg (not_not.mpr rfl)]
  rfl

theorem decay (r : Fin 2048) (h : Fin 4) : (val_main_v15 (F := Ideal) x a t (ix2 r h) : EReal)
    = -Ideal.exp (a (ix2 0 ⟨h.val, by omega⟩)) * sp (x (ix2 r ⟨3584 + h.val, by omega⟩) + t (ix2 0 ⟨h.val, by omega⟩)) := by
  have e : (val_main_v15 (F := Ideal) x a t (ix2 r h) : EReal) = -Ideal.exp (a (ix2 0 ⟨h.val, by omega⟩)) * val_main_v12 (F := Ideal) x t (ix2 r h) := by
    pointwise [val_main_v15, val_main_v14, val_main_v13, val_main_v6, val_main_v5, val_main_v4, val_main_v3]
  rw [e, soft]

theorem write (r : Fin 2048) (h : Fin 4) : (val_main_v21 (F := Ideal) x (ix2 r h) : EReal) = sg (x (ix2 r ⟨3584 + (4 + h.val), by omega⟩)) := by
  pointwise [val_main_v21, val_main_v20, val_main_v19, val_main_v18, val_main_v17, val_main_v16, val_main_v2, val_main_v0, val_main_cst, val_main_cst_0]
  rfl

/-- Four columns, four columns and the rest side by side. -/
theorem lanes (u v : Vec Ideal ⟨2, ![2048, 4]⟩ .f32) (z : Vec Ideal ⟨2, ![2048, 120]⟩ .f32)
    (hc : Shape.Concatenates [⟨2, ![2048, 4]⟩, ⟨2, ![2048, 4]⟩, ⟨2, ![2048, 120]⟩] ⟨2, ![2048, 128]⟩ 1) (r : Fin 2048) :
    (∀ n : Fin 4, concatenate ⟨2, ![2048, 128]⟩ 1 [⟨⟨2, ![2048, 4]⟩, u⟩, ⟨⟨2, ![2048, 4]⟩, v⟩, ⟨⟨2, ![2048, 120]⟩, z⟩] hc (ix2 r ⟨n.val, by omega⟩) = u (ix2 r n))
    ∧ (∀ n : Fin 4, concatenate ⟨2, ![2048, 128]⟩ 1 [⟨⟨2, ![2048, 4]⟩, u⟩, ⟨⟨2, ![2048, 4]⟩, v⟩, ⟨⟨2, ![2048, 120]⟩, z⟩] hc (ix2 r ⟨4 + n.val, by omega⟩) = v (ix2 r n))
    ∧ ∀ n : Fin 120, concatenate ⟨2, ![2048, 128]⟩ 1 [⟨⟨2, ![2048, 4]⟩, u⟩, ⟨⟨2, ![2048, 4]⟩, v⟩, ⟨⟨2, ![2048, 120]⟩, z⟩] hc (ix2 r ⟨8 + n.val, by omega⟩) = z (ix2 r n) := by
  refine ⟨fun n => concatenate_apply_piece (t := ⟨2, ![2048, 128]⟩) 1 [⟨⟨2, ![2048, 4]⟩, u⟩, ⟨⟨2, ![2048, 4]⟩, v⟩, ⟨⟨2, ![2048, 120]⟩, z⟩] hc _ 0 (by simp) ⟨2, ![2048, 4]⟩ u rfl rfl 0 rfl (ix2 r n) ?_ (Nat.zero_add _),
    fun n => concatenate_apply_piece (t := ⟨2, ![2048, 128]⟩) 1 [⟨⟨2, ![2048, 4]⟩, u⟩, ⟨⟨2, ![2048, 4]⟩, v⟩, ⟨⟨2, ![2048, 120]⟩, z⟩] hc _ 1 (by simp) ⟨2, ![2048, 4]⟩ v rfl rfl 4 rfl (ix2 r n) ?_ rfl,
    fun n => concatenate_apply_piece (t := ⟨2, ![2048, 128]⟩) 1 [⟨⟨2, ![2048, 4]⟩, u⟩, ⟨⟨2, ![2048, 4]⟩, v⟩, ⟨⟨2, ![2048, 120]⟩, z⟩] hc _ 2 (by simp) ⟨2, ![2048, 120]⟩ z rfl rfl 8 rfl (ix2 r n) ?_ rfl⟩
  all_goals
    intro b hb
    match b with
    | ⟨0, _⟩ => rfl
    | ⟨1, _⟩ => exact absurd rfl hb

theorem ref : val_main_v23 (F := Ideal) x a t = out x a t := by
  funext y
  obtain ⟨r, q, rfl⟩ : ∃ (r : Fin 2048) (q : Fin 128), y = ix2 r q := ⟨y 0, y 1, eq_ix2 y⟩
  show _ = entry x a t r q
  obtain ⟨l1, l2, l3⟩ := lanes (val_main_v15 (F := Ideal) x a t) (val_main_v21 (F := Ideal) x) (val_main_v22 (F := Ideal))
    Cert.GatesFwdRefIdeal.Gen.concatenates_S2048x4_S2048x4_S2048x120_S2048x128_d1 r
  unfold entry
  by_cases h4 : q.val < 4
  · rw [if_pos h4]
    exact (l1 ⟨q.val, h4⟩).trans (decay x a t r ⟨q.val, h4⟩)
  · rw [if_neg h4]
    by_cases h8 : q.val < 8
    · rw [if_pos h8]
      obtain ⟨n, rfl⟩ : ∃ n : Fin 4, q = ⟨4 + n.val, (Nat.add_lt_add_left n.isLt 4).trans (by norm_num)⟩ := ⟨⟨q.val - 4, by omega⟩, Fin.ext (by show q.val = 4 + (q.val - 4); omega)⟩
      exact (l2 n).trans (write x r n)
    · rw [if_neg h8]
      obtain ⟨n, rfl⟩ : ∃ n : Fin 120, q = ⟨8 + n.val, Nat.add_lt_add_left n.isLt 8⟩ := ⟨⟨q.val - 8, by omega⟩, Fin.ext (by show q.val = 8 + (q.val - 8); omega)⟩
      exact (l3 n).trans Ideal.ofBits_zero_f32

theorem claim : Cert.algebraic_GatesFwdIdeal_GatesFwdRefIdeal (hGatesFwdIdeal := facts) (hGatesFwdRefIdeal := Cert.GatesFwdRefIdeal.Gen.facts) :=
  fun m ρ m' ρ' _ hag => ⟨fun c => out (m ((c : Thread nD τ).loc main_arg0)) (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2]; exact ref _ _ _), (h c).2⟩)
      (Cert.GatesFwdRefIdeal.Value.run (F := Ideal) m' ρ')⟩

end Cert.GatesFwdIdeal.Out
end
end
-- ==== Proof.GdnPreOut.lean ====
/-
  The heads of the gated delta rule: the convolution, its silu, and the division of queries and keys by their length.
-/
module

public import proofs.«01_k».proof.Defs
public import proofs.«01_k».proof.Proof.Gen.GdnPreFwdIdeal.Value
public import proofs.«01_k».proof.Proof.Gen.GdnPreFwdRefIdeal.Run
public import proofs.«01_k».proof.Proof.Gen.GdnPreFwdRefIdeal.Read
public import proofs.«01_k».proof.Proof.HeadNorm
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.GdnPreFwdIdeal.Out

open Cert.GdnPreFwdIdeal Cert.GdnPreFwdIdeal.Gen Cert.GdnPreFwdRefIdeal.Read Cert.Shift Cert.Logistic Cert.HeadNorm

/-- A matrix's entries. -/
abbrev ent {a b : ℕ} (x : Vec Ideal ⟨2, ![a, b]⟩ .f32) (r : Fin a) (k : Fin b) : EReal := x (ix2 r k)

/-- One entry of block `j`: queries are scaled, queries and keys divided by the length of their head, values kept. -/
def nB (j : ℕ) (X : Fin 2048 → Fin 128 → EReal) (W : Fin 4 → Fin 128 → EReal) (k : Fin 128) (r : Fin 2048) : EReal :=
  if j < 8 then yB X W k r * rs (fun i => yB X W i r) * (if j < 4 then qs else 1) else yB X W k r

section payloads

variable (v0 : Vec Ideal S2048x128 .f32) (v1 : Vec Ideal S4x128 .f32)

theorem pay2 (r : Fin 2048) (q : Fin 128) : (k0_pay2 v0 v1 (ix2 r q) : EReal) = yB (ent v0) (ent v1) q r := by
  dsimp only [k0_pay2]
  rw [rotate_down 3 (by omega), rotate_down 2 (by omega), rotate_down 1 (by omega)]
  pointwise [downM_ix2]
  rw [zero_sub]
  rfl

theorem pay1 (j : ℕ) (hj : j < 2 ^ 31) (r : Fin 2048) (q : Fin 128) :
    (k0_pay1 (BitVec.ofNat 32 j) (k0_pay2 v0 v1) (ix2 r q) : EReal) = nB j (ent v0) (ent v1) q r := by
  have hs : ∀ {α : Type} (n : ℕ) (_ : n < 2 ^ 31) (u v : α), Scalar.select (Scalar.cmpi .slt (BitVec.ofNat 32 j) (BitVec.ofNat 32 n)) u v = if j < n then u else v :=
    fun n hn u v => block n j hn hj u v
  have h2 := pay2 v0 v1
  generalize k0_pay2 (F := Ideal) v0 v1 = u at h2 ⊢
  dsimp only [k0_pay1]
  rw [hs 4 (by norm_num), hs 8 (by norm_num)]
  unfold nB rs ms
  by_cases h8 : j < 8
  · rw [if_pos h8, if_pos h8]
    pointwise []
    simp only [h2]
    rfl
  · rw [if_neg h8, if_neg h8]
    exact h2 r q

end payloads

section arrays

variable (P : Vec Ideal S2048x3840 .f32) (w : Vec Ideal S4x1536 .f32)

def Xb (b : Fin 12) (r : Fin 2048) (k : Fin 128) : EReal := P (ix2 r ⟨1536 + (b.val * 128 + k.val), by omega⟩)
def Wb (b : Fin 12) (i : Fin 4) (k : Fin 128) : EReal := w (ix2 i ⟨b.val * 128 + k.val, by omega⟩)

def entry (r : Fin 2048) (b : Fin 12) (k : Fin 128) : EReal := nB b.val (Xb P b) (Wb w b) k r

/-- The heads, by blocks of 128 columns. -/
def out : Vec Ideal S2048x1536 .f32 := fun y =>
  entry P w (y 0) ⟨(y 1).val / 128, by have := (y 1).isLt; change (y 1).val < 1536 at this; omega⟩ ⟨(y 1).val % 128, by omega⟩

theorem out_block (b : Fin 12) (k : Fin 128) (r : Fin 2048) (h : b.val * 128 + k.val < 1536) : out P w (ix2 r ⟨b.val * 128 + k.val, h⟩) = entry P w r b k := by
  have hb : (⟨(b.val * 128 + k.val) / 128, by omega⟩ : Fin 12) = b := Fin.ext (by show (b.val * 128 + k.val) / 128 = b.val; omega)
  have hk : (⟨(b.val * 128 + k.val) % 128, by omega⟩ : Fin 128) = k := Fin.ext (by show (b.val * 128 + k.val) % 128 = k.val; omega)
  show entry P w r ⟨(b.val * 128 + k.val) / 128, _⟩ ⟨(b.val * 128 + k.val) % 128, _⟩ = _
  simp only [hb, hk]

end arrays

theorem tiles : ∀ t : Fin cfg0.N, win0_0.index t 0 = 0 ∧ win0_0.index t 1 = 12 + t.val
    ∧ win0_1.index t 0 = 0 ∧ win0_1.index t 1 = t.val
    ∧ win0_2.index t 0 = 0 ∧ win0_2.index t 1 = t.val
    ∧ (cfg0.grid.coords t 0).val = t.val :=
  (by decide +kernel : ∀ t : Fin grid0.N, win0_0.index t 0 = 0 ∧ win0_0.index t 1 = 12 + t.val
    ∧ win0_1.index t 0 = 0 ∧ win0_1.index t 1 = t.val
    ∧ win0_2.index t 0 = 0 ∧ win0_2.index t 1 = t.val
    ∧ (grid0.coords t 0).val = t.val)

variable (m : (ℓ : Loc nD τ sig) → Buf (Elt Ideal) ℓ) (c : Dev nD)

/-- A point of the grid, as the number of its block. -/
def bk (t : Fin cfg0.N) : Fin 12 := ⟨t.val, by have := t.isLt; have h : cfg0.N = 12 := N_0; omega⟩

theorem blk0 (t : Fin cfg0.N) : ent (iblk m c 0 t) = Xb (m ((c : Thread nD τ).loc main_arg0)) (bk t) := by
  obtain ⟨a0, a1, b0, b1, c0, c1, f⟩ := tiles t
  funext r k
  unfold Xb bk ent
  blk_point [iblk, V, a0, a1]

theorem blk1 (t : Fin cfg0.N) : ent (iblk m c 1 t) = Wb (m ((c : Thread nD τ).loc main_arg1)) (bk t) := by
  obtain ⟨a0, a1, b0, b1, c0, c1, f⟩ := tiles t
  funext r k
  unfold Wb bk ent
  blk_point [iblk, V, b0, b1]

theorem final : (dats m 0 c).arrAt 2 cfg0.N = out (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, q, rfl⟩ : ∃ (r : Fin 2048) (q : Fin 128), y = ix2 r q := ⟨y 0, y 1, eq_ix2 y⟩
  obtain ⟨a0, a1, b0, b1, c0, c1, f⟩ := tiles t
  refine (pay1 _ _ _ (by rw [f]; have := t.isLt; have h : cfg0.N = 12 := N_0; omega) r q).trans ?_
  have hy : ((View.whole main_v0).slice (win0_2.rect t)).emb (ix2 r q)
      = ix2 r ⟨(bk t).val * 128 + q.val, by have := (bk t).isLt; have := q.isLt; omega⟩ := by
    unfold bk
    blk_point [c0, c1]
  show _ = out _ _ (((View.whole main_v0).slice (win0_2.rect t)).emb (ix2 r q))
  rw [hy]
  refine Eq.trans ?_ (out_block _ _ (bk t) q r _).symm
  show nB (cfg0.grid.coords t 0).val _ _ _ _ = _
  rw [f, blk0, blk1]
  rfl

/-! The reference, block by block. -/

section reference

variable (P : Vec Ideal S2048x3840 .f32) (w : Vec Ideal S4x1536 .f32)

/-- Column `k` of block `b`. -/
abbrev col (b : Fin 12) (k : Fin 128) : Fin 1536 := ⟨b.val * 128 + k.val, by omega⟩

theorem zero3 (i : Cert.GdnPreFwdRefIdeal.S3x1536.Idx) : (val_main_v1 (F := Ideal) i : EReal) = 0 := Ideal.ofBits_zero_f32

theorem colX (b : Fin 12) (k : Fin 128) : (fun t => val_main_v0 (F := Ideal) P (ix2 t (col b k))) = fun t => Xb P b t k := by
  funext t
  pointwise [val_main_v0]
  rfl

theorem moved3 (b : Fin 12) (k : Fin 128) (r : Fin 2048) : (val_main_v5 (F := Ideal) P (ix2 r (col b k)) : EReal) = down 3 (fun t => Xb P b t k) r :=
  (slice_below 3 ![0, 0] rfl rfl _ zero3 _ _ _ r (col b k)).trans (by rw [colX])
theorem moved2 (b : Fin 12) (k : Fin 128) (r : Fin 2048) : (val_main_v11 (F := Ideal) P (ix2 r (col b k)) : EReal) = down 2 (fun t => Xb P b t k) r :=
  (slice_below 2 ![1, 0] rfl rfl _ zero3 _ _ _ r (col b k)).trans (by rw [colX])
theorem moved1 (b : Fin 12) (k : Fin 128) (r : Fin 2048) : (val_main_v18 (F := Ideal) P (ix2 r (col b k)) : EReal) = down 1 (fun t => Xb P b t k) r :=
  (slice_below 1 ![2, 0] rfl rfl _ zero3 _ _ _ r (col b k)).trans (by rw [colX])
theorem moved0 (b : Fin 12) (k : Fin 128) (r : Fin 2048) : (val_main_v25 (F := Ideal) P (ix2 r (col b k)) : EReal) = Xb P b r k :=
  (slice_below 0 ![3, 0] rfl rfl _ zero3 _ _ _ r (col b k)).trans (by rw [colX, down_zero])

theorem conv (b : Fin 12) (k : Fin 128) (r : Fin 2048) : (val_main_v29 (F := Ideal) P w (ix2 r (col b k)) : EReal) = cB (Xb P b) (Wb w b) k r := by
  have e : (val_main_v29 (F := Ideal) P w (ix2 r (col b k)) : EReal)
      = Wb w b 0 k * val_main_v5 (F := Ideal) P (ix2 r (col b k)) + Wb w b 1 k * val_main_v11 (F := Ideal) P (ix2 r (col b k))
        + Wb w b 2 k * val_main_v18 (F := Ideal) P (ix2 r (col b k)) + Wb w b 3 k * val_main_v25 (F := Ideal) P (ix2 r (col b k)) := by
    pointwise [val_main_v29, val_main_v28, val_main_v27, val_main_v26, val_main_v24, val_main_v23, val_main_v22, val_main_v21, val_main_v20, val_main_v19,
      val_main_v17, val_main_v16, val_main_v15, val_main_v14, val_main_v13, val_main_v12, val_main_v10, val_main_v9, val_main_v8, val_main_v7, val_main_v6,
      val_main_v4, val_main_v3]
    rfl
  rw [e, moved0, moved1, moved2, moved3]
  unfold cB conv4
  rw [mul_comm (Wb w b 0 k), mul_comm (Wb w b 1 k), mul_comm (Wb w b 2 k), mul_comm (Wb w b 3 k), add_comm _ (_ * Wb w b 3 k)]
  simp only [add_assoc]

theorem act (b : Fin 12) (k : Fin 128) (r : Fin 2048) : (val_main_v30 (F := Ideal) P w (ix2 r (col b k)) : EReal) = yB (Xb P b) (Wb w b) k r := by
  unfold yB sg
  rw [← conv]
  pointwise [val_main_v30, val_main_call0_v5, val_main_call0_v4, val_main_call0_v3, val_main_call0_v2, val_main_call0_v1, val_main_call0_v0, val_main_call0_cst, val_main_call0_cst_0]

/-- The block of query head `h`, and of key head `h`, and of value head `h`. -/
abbrev qb (h : Fin 4) : Fin 12 := ⟨h.val, by omega⟩
abbrev kb (h : Fin 4) : Fin 12 := ⟨4 + h.val, by omega⟩
abbrev vb (h : Fin 4) : Fin 12 := ⟨8 + h.val, by omega⟩

theorem colq (h : Fin 4) (k : Fin 128) (e : 0 + (h.val * 128 + k.val) < 1536) : (⟨0 + (h.val * 128 + k.val), e⟩ : Fin 1536) = col (qb h) k := Fin.ext (by show 0 + _ = h.val * 128 + k.val; omega)
theorem colk (h : Fin 4) (k : Fin 128) (e : 512 + (h.val * 128 + k.val) < 1536) : (⟨512 + (h.val * 128 + k.val), e⟩ : Fin 1536) = col (kb h) k := Fin.ext (by show 512 + _ = (4 + h.val) * 128 + k.val; omega)
theorem colv (h : Fin 4) (k : Fin 128) (e : 1024 + (h.val * 128 + k.val) < 1536) : (⟨1024 + (h.val * 128 + k.val), e⟩ : Fin 1536) = col (vb h) k := Fin.ext (by show 1024 + _ = (8 + h.val) * 128 + k.val; omega)

theorem qy (r : Fin 2048) (h : Fin 4) (k : Fin 128) : (val_main_v34 (F := Ideal) P w (ix3 r h k) : EReal) = yB (Xb P (qb h)) (Wb w (qb h)) k r := by
  rw [← act]
  pointwise [val_main_v34, val_main_v31]
theorem ky (r : Fin 2048) (h : Fin 4) (k : Fin 128) : (val_main_v35 (F := Ideal) P w (ix3 r h k) : EReal) = yB (Xb P (kb h)) (Wb w (kb h)) k r := by
  rw [← act, ← colk h k (by omega)]
  pointwise [val_main_v35, val_main_v32]

theorem sums : (∀ i, (val_main_cst_0 (F := Ideal) i : EReal) = 0) ∧ ∀ i, (val_main_cst_3 (F := Ideal) i : EReal) = 0 :=
  ⟨fun _ => Ideal.ofBits_zero_f32, fun _ => Ideal.ofBits_zero_f32⟩

theorem qn (r : Fin 2048) (h : Fin 4) (k : Fin 128) : (val_main_v45 (F := Ideal) P w (ix3 r h k) : EReal) = entry P w r (qb h) k := by
  unfold entry nB
  rw [if_pos (by show h.val < 8; omega), if_pos h.isLt]
  unfold rs ms
  pointwise [val_main_v45, val_main_v44, val_main_v43, val_main_v42, val_main_v41, val_main_v40, val_main_v39, val_main_v38, val_main_v37, val_main_v36,
    val_main_cst_1, val_main_cst_2]
  simp only [sums.1, zero_add, qy]
  rfl
theorem kn (r : Fin 2048) (h : Fin 4) (k : Fin 128) : (val_main_v53 (F := Ideal) P w (ix3 r h k) : EReal) = entry P w r (kb h) k := by
  unfold entry nB
  rw [if_pos (by show 4 + h.val < 8; omega), if_neg (by show ¬ 4 + h.val < 4; omega), mul_one]
  unfold rs ms
  pointwise [val_main_v53, val_main_v52, val_main_v51, val_main_v50, val_main_v49, val_main_v48, val_main_v47, val_main_v46, val_main_cst_4]
  simp only [sums.2, zero_add, ky]
  rfl

theorem qrow (r : Fin 2048) (h : Fin 4) (k : Fin 128) : (val_main_v54 (F := Ideal) P w (ix2 r ⟨h.val * 128 + k.val, by omega⟩) : EReal) = val_main_v45 (F := Ideal) P w (ix3 r h k) := by
  pointwise [val_main_v54]
theorem krow (r : Fin 2048) (h : Fin 4) (k : Fin 128) : (val_main_v55 (F := Ideal) P w (ix2 r ⟨h.val * 128 + k.val, by omega⟩) : EReal) = val_main_v53 (F := Ideal) P w (ix3 r h k) := by
  pointwise [val_main_v55]
theorem vrow (r : Fin 2048) (h : Fin 4) (k : Fin 128) : (val_main_v33 (F := Ideal) P w (ix2 r ⟨h.val * 128 + k.val, by omega⟩) : EReal) = yB (Xb P (vb h)) (Wb w (vb h)) k r := by
  rw [← act, ← colv h k (by omega)]
  pointwise [val_main_v33]

theorem ref : val_main_v56 (F := Ideal) P w = out P w := by
  funext y
  obtain ⟨r, n, rfl⟩ : ∃ (r : Fin 2048) (n : Fin 1536), y = ix2 r n := ⟨y 0, y 1, eq_ix2 y⟩
  obtain ⟨b, k, rfl⟩ : ∃ (b : Fin 12) (k : Fin 128), n = col b k :=
    ⟨⟨n.val / 128, by omega⟩, ⟨n.val % 128, by omega⟩, Fin.ext (by show n.val = n.val / 128 * 128 + n.val % 128; omega)⟩
  refine Eq.trans ?_ (out_block P w b k r _).symm
  by_cases h4 : b.val < 4
  · obtain ⟨h, rfl⟩ : ∃ h : Fin 4, b = qb h := ⟨⟨b.val, h4⟩, rfl⟩
    rw [← qn, ← qrow]
    exact (thirds _ _ _ _ r ⟨h.val * 128 + k.val, by omega⟩).1
  · by_cases h8 : b.val < 8
    · obtain ⟨h, rfl⟩ : ∃ h : Fin 4, b = kb h := ⟨⟨b.val - 4, by omega⟩, Fin.ext (by show b.val = 4 + (b.val - 4); omega)⟩
      rw [← kn, ← krow, ← colk h k (by omega)]
      exact (thirds _ _ _ _ r ⟨h.val * 128 + k.val, by omega⟩).2.1
    · obtain ⟨h, rfl⟩ : ∃ h : Fin 4, b = vb h := ⟨⟨b.val - 8, by omega⟩, Fin.ext (by show b.val = 8 + (b.val - 8); omega)⟩
      unfold entry nB
      rw [if_neg h8, ← vrow, ← colv h k (by omega)]
      exact (thirds _ _ _ _ r ⟨h.val * 128 + k.val, by omega⟩).2.2

end reference

theorem claim : Cert.algebraic_GdnPreFwdIdeal_GdnPreFwdRefIdeal (hGdnPreFwdIdeal := facts) (hGdnPreFwdRefIdeal := Cert.GdnPreFwdRefIdeal.Gen.facts) :=
  fun m ρ m' ρ' _ hag => ⟨fun c => out (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨((h c).1.trans (val_main_v56_eq m' c)).trans (by
        show val_main_v56 (F := Ideal) (m' ((c.tc : Thread Cert.GdnPreFwdRefIdeal.nD Cert.GdnPreFwdRefIdeal.τ).loc Cert.GdnPreFwdRefIdeal.main_arg0)) (m' ((c.tc : Thread Cert.GdnPreFwdRefIdeal.nD Cert.GdnPreFwdRefIdeal.τ).loc Cert.GdnPreFwdRefIdeal.main_arg1)) = _
        rw [(hag c).1, (hag c).2]; exact ref _ _), (h c).2⟩)
      (Cert.GdnPreFwdRefIdeal.Value.run (F := Ideal) m' ρ')⟩

end Cert.GdnPreFwdIdeal.Out
end
end
-- ==== Proof.lean ====
/-
  The certificate: the step's matrix products, their gradients, and the gradients of its other parts.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownDa.Frame
public import proofs.«01_k».proof.Proof.Gen.DownDaIdeal.Frame
public import proofs.«01_k».proof.Proof.Gen.DownDaIdeal.Value
public import proofs.«01_k».proof.Proof.Gen.DownDaRefIdeal.Run
public import proofs.«01_k».proof.Proof.Gen.DownDaRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.GateUpDa.Frame
public import proofs.«01_k».proof.Proof.Gen.GateUpDaIdeal.Frame
public import proofs.«01_k».proof.Proof.Gen.GateUpDaIdeal.Value
public import proofs.«01_k».proof.Proof.Gen.GateUpDaRefIdeal.Run
public import proofs.«01_k».proof.Proof.Gen.GateUpDaRefIdeal.Read
public import proofs.«01_k».proof.Proof.Gen.GateUpDw.Frame
public import proofs.«01_k».proof.Proof.Gen.GateUpDwIdeal.Frame
public import proofs.«01_k».proof.Proof.Gen.GateUpDwIdeal.Value
public import proofs.«01_k».proof.Proof.Gen.GateUpDwRefIdeal.Run
public import proofs.«01_k».proof.Proof.Gen.GateUpDwRefIdeal.Read
public import proofs.«01_k».proof.Proof.Gen.InDa.Frame
public import proofs.«01_k».proof.Proof.Gen.InDaIdeal.Frame
public import proofs.«01_k».proof.Proof.Gen.InDaIdeal.Value
public import proofs.«01_k».proof.Proof.Gen.InDaRefIdeal.Run
public import proofs.«01_k».proof.Proof.Gen.InDaRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.SquareDa.Frame
public import proofs.«01_k».proof.Proof.Gen.SquareDaIdeal.Frame
public import proofs.«01_k».proof.Proof.Gen.SquareDaIdeal.Value
public import proofs.«01_k».proof.Proof.Gen.SquareDaRefIdeal.Run
public import proofs.«01_k».proof.Proof.Gen.SquareDaRefIdeal.Read
public import proofs.«01_k».proof.Proof.Gen.SquareDw.Frame
public import proofs.«01_k».proof.Proof.Gen.SquareDwIdeal.Frame
public import proofs.«01_k».proof.Proof.Gen.SquareDwIdeal.Value
public import proofs.«01_k».proof.Proof.Gen.SquareDwRefIdeal.Run
public import proofs.«01_k».proof.Proof.Gen.SquareDwRefIdeal.Read
public import proofs.«01_k».proof.Proof.Gen.XqDa.Frame
public import proofs.«01_k».proof.Proof.Gen.XqDaIdeal.Frame
public import proofs.«01_k».proof.Proof.Gen.XqDaIdeal.Value
public import proofs.«01_k».proof.Proof.Gen.XqDaRefIdeal.Run
public import proofs.«01_k».proof.Proof.Gen.XqDaRefIdeal.Read
public import proofs.«01_k».proof.Proof.Gen.XqDw.Frame
public import proofs.«01_k».proof.Proof.Gen.XqDwIdeal.Frame
public import proofs.«01_k».proof.Proof.Gen.XqDwIdeal.Value
public import proofs.«01_k».proof.Proof.Gen.XqDwRefIdeal.Run
public import proofs.«01_k».proof.Proof.Gen.XqDwRefIdeal.Read
public import proofs.«01_k».proof.Proof.Gen.XkvDa.Frame
public import proofs.«01_k».proof.Proof.Gen.XkvDaIdeal.Frame
public import proofs.«01_k».proof.Proof.Gen.XkvDaIdeal.Value
public import proofs.«01_k».proof.Proof.Gen.XkvDaRefIdeal.Run
public import proofs.«01_k».proof.Proof.Gen.XkvDaRefIdeal.Read
public import proofs.«01_k».proof.Proof.Gen.XkvDw.Frame
public import proofs.«01_k».proof.Proof.Gen.XkvDwIdeal.Frame
public import proofs.«01_k».proof.Proof.Gen.XkvDwIdeal.Value
public import proofs.«01_k».proof.Proof.Gen.XkvDwRefIdeal.Run
public import proofs.«01_k».proof.Proof.Gen.XkvDwRefIdeal.Read
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.SquareFwd.Frame
public import proofs.«01_k».proof.Proof.Gen.SquareFwdIdeal.Frame
public import proofs.«01_k».proof.Proof.Gen.SquareFwdIdeal.Value
public import proofs.«01_k».proof.Proof.Gen.SquareFwdRefIdeal.Run
public import proofs.«01_k».proof.Proof.Gen.SquareFwdRefIdeal.Read
public import proofs.«01_k».proof.Proof.Gen.XqFwd.Frame
public import proofs.«01_k».proof.Proof.Gen.XqFwdIdeal.Frame
public import proofs.«01_k».proof.Proof.Gen.XqFwdIdeal.Value
public import proofs.«01_k».proof.Proof.Gen.XqFwdRefIdeal.Run
public import proofs.«01_k».proof.Proof.Gen.XqFwdRefIdeal.Read
public import proofs.«01_k».proof.Proof.Gen.XkvFwd.Frame
public import proofs.«01_k».proof.Proof.Gen.XkvFwdIdeal.Frame
public import proofs.«01_k».proof.Proof.Gen.XkvFwdIdeal.Value
public import proofs.«01_k».proof.Proof.Gen.XkvFwdRefIdeal.Run
public import proofs.«01_k».proof.Proof.Gen.XkvFwdRefIdeal.Read
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.GateUpFwd.Frame
public import proofs.«01_k».proof.Proof.Gen.GateUpFwdIdeal.Frame
public import proofs.«01_k».proof.Proof.Gen.GateUpFwdIdeal.Value
public import proofs.«01_k».proof.Proof.Gen.GateUpFwdRefIdeal.Run
public import proofs.«01_k».proof.Proof.Gen.GateUpFwdRefIdeal.Read
public import proofs.«01_k».proof.Proof.Gen.AdamVec.Frame
public import proofs.«01_k».proof.Proof.Gen.AdamVecIdeal.Frame
public import proofs.«01_k».proof.Proof.Gen.AdamVecIdeal.Value
public import proofs.«01_k».proof.Proof.Gen.AdamVecRefIdeal.Run
public import proofs.«01_k».proof.Proof.Gen.AdamVecRefIdeal.Read
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamSconv.Frame
public import proofs.«01_k».proof.Proof.Gen.AdamSconvIdeal.Frame
public import proofs.«01_k».proof.Proof.Gen.AdamSconvIdeal.Value
public import proofs.«01_k».proof.Proof.Gen.AdamSconvRefIdeal.Run
public import proofs.«01_k».proof.Proof.Gen.AdamSconvRefIdeal.Read
public import proofs.«01_k».proof.Proof.Gen.AdamGconv.Frame
public import proofs.«01_k».proof.Proof.Gen.AdamGconvIdeal.Frame
public import proofs.«01_k».proof.Proof.Gen.AdamGconvIdeal.Value
public import proofs.«01_k».proof.Proof.Gen.AdamGconvRefIdeal.Run
public import proofs.«01_k».proof.Proof.Gen.AdamGconvRefIdeal.Read
public import proofs.«01_k».proof.Proof.Gen.AdamHead.Frame
public import proofs.«01_k».proof.Proof.Gen.AdamHeadIdeal.Frame
public import proofs.«01_k».proof.Proof.Gen.AdamHeadIdeal.Value
public import proofs.«01_k».proof.Proof.Gen.AdamHeadRefIdeal.Run
public import proofs.«01_k».proof.Proof.Gen.AdamHeadRefIdeal.Read
public import proofs.«01_k».proof.Proof.Gen.AdamGnorm.Frame
public import proofs.«01_k».proof.Proof.Gen.AdamGnormIdeal.Frame
public import proofs.«01_k».proof.Proof.Gen.AdamGnormIdeal.Value
public import proofs.«01_k».proof.Proof.Gen.AdamGnormRefIdeal.Run
public import proofs.«01_k».proof.Proof.Gen.AdamGnormRefIdeal.Read
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamXkv.Frame
public import proofs.«01_k».proof.Proof.Gen.AdamXkvIdeal.Frame
public import proofs.«01_k».proof.Proof.Gen.AdamXkvIdeal.Value
public import proofs.«01_k».proof.Proof.Gen.AdamXkvRefIdeal.Run
public import proofs.«01_k».proof.Proof.Gen.AdamXkvRefIdeal.Read
public import proofs.«01_k».proof.Proof.Gen.AdamGateUp.Frame
public import proofs.«01_k».proof.Proof.Gen.AdamGateUpIdeal.Frame
public import proofs.«01_k».proof.Proof.Gen.AdamGateUpIdeal.Value
public import proofs.«01_k».proof.Proof.Gen.AdamGateUpRefIdeal.Run
public import proofs.«01_k».proof.Proof.Gen.AdamGateUpRefIdeal.Read
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.ResNormBwd.Frame
public import proofs.«01_k».proof.Proof.Gen.ResNormBwdIdeal.Frame
public import proofs.«01_k».proof.Proof.Gen.ResNormBwdIdeal.Value
public import proofs.«01_k».proof.Proof.Gen.ResNormBwdRefIdeal.Run
public import proofs.«01_k».proof.Proof.Gen.ResNormBwdRefIdeal.Read
public import proofs.«01_k».proof.Proof.Gen.MemNormBwd.Frame
public import proofs.«01_k».proof.Proof.Gen.MemNormBwdIdeal.Frame
public import proofs.«01_k».proof.Proof.Gen.MemNormBwdIdeal.Value
public import proofs.«01_k».proof.Proof.Gen.MemNormBwdRefIdeal.Run
public import proofs.«01_k».proof.Proof.Gen.MemNormBwdRefIdeal.Read
public import proofs.«01_k».proof.Proof.Gen.LossGrad.Frame
public import proofs.«01_k».proof.Proof.Gen.LossGradIdeal.Frame
public import proofs.«01_k».proof.Proof.Gen.LossGradIdeal.Value
public import proofs.«01_k».proof.Proof.Gen.LossGradRefIdeal.Run
public import proofs.«01_k».proof.Proof.Gen.LossGradRefIdeal.Read
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.ResNormFwd.Frame
public import proofs.«01_k».proof.Proof.Gen.ResNormFwdIdeal.Frame
public import proofs.«01_k».proof.Proof.Gen.ResNormFwdIdeal.Value
public import proofs.«01_k».proof.Proof.Gen.ResNormFwdRefIdeal.Run
public import proofs.«01_k».proof.Proof.Gen.ResNormFwdRefIdeal.Read
public import proofs.«01_k».proof.Proof.Gen.SconvBwd.Frame
public import proofs.«01_k».proof.Proof.Gen.SconvBwdIdeal.Frame
public import proofs.«01_k».proof.Proof.Gen.SconvBwdIdeal.Value
public import proofs.«01_k».proof.Proof.Gen.SconvBwdRefIdeal.Run
public import proofs.«01_k».proof.Proof.Gen.SconvBwdRefIdeal.Read
public import proofs.«01_k».proof.Proof.Gen.GatesBwd.Frame
public import proofs.«01_k».proof.Proof.Gen.GatesBwdIdeal.Frame
public import proofs.«01_k».proof.Proof.Gen.GatesBwdIdeal.Value
public import proofs.«01_k».proof.Proof.Gen.GatesBwdRefIdeal.Run
public import proofs.«01_k».proof.Proof.Gen.GatesBwdRefIdeal.Read
public import proofs.«01_k».proof.Proof.Gen.GdnPreBwd.Frame
public import proofs.«01_k».proof.Proof.Gen.GdnPreBwdIdeal.Frame
public import proofs.«01_k».proof.Proof.Gen.GdnPreBwdIdeal.Value
public import proofs.«01_k».proof.Proof.Gen.GdnPreBwdRefIdeal.Run
public import proofs.«01_k».proof.Proof.Gen.GdnPreBwdRefIdeal.Read
public import proofs.«01_k».proof.Proof.Gen.SwigluBwd.Frame
public import proofs.«01_k».proof.Proof.Gen.SwigluBwdIdeal.Frame
public import proofs.«01_k».proof.Proof.Gen.SwigluBwdIdeal.Value
public import proofs.«01_k».proof.Proof.Gen.SwigluBwdRefIdeal.Run
public import proofs.«01_k».proof.Proof.Gen.SwigluBwdRefIdeal.Read
public import proofs.«01_k».proof.Proof.Gen.SconvFwd.Frame
public import proofs.«01_k».proof.Proof.Gen.SconvFwdIdeal.Frame
public import proofs.«01_k».proof.Proof.Gen.SconvFwdIdeal.Value
public import proofs.«01_k».proof.Proof.Gen.SconvFwdRefIdeal.Run
public import proofs.«01_k».proof.Proof.Gen.SconvFwdRefIdeal.Read
public import proofs.«01_k».proof.Proof.Gen.GatesFwd.Frame
public import proofs.«01_k».proof.Proof.Gen.GatesFwdIdeal.Frame
public import proofs.«01_k».proof.Proof.Gen.GatesFwdIdeal.Value
public import proofs.«01_k».proof.Proof.Gen.GatesFwdRefIdeal.Run
public import proofs.«01_k».proof.Proof.Gen.GatesFwdRefIdeal.Read
public import proofs.«01_k».proof.Proof.Gen.GdnPreFwd.Frame
public import proofs.«01_k».proof.Proof.Gen.GdnPreFwdIdeal.Frame
public import proofs.«01_k».proof.Proof.Gen.GdnPreFwdIdeal.Value
public import proofs.«01_k».proof.Proof.Gen.GdnPreFwdRefIdeal.Run
public import proofs.«01_k».proof.Proof.Gen.GdnPreFwdRefIdeal.Read
public import proofs.«01_k».proof.Proof.XattnKernel
public import proofs.«01_k».proof.Proof.XattnRef
public import proofs.«01_k».proof.Proof.XattnFinite
public import proofs.«01_k».proof.Proof.WeightGrads
public import proofs.«01_k».proof.Proof.ActivationGrads
public import proofs.«01_k».proof.Proof.ForwardProducts
public import proofs.«01_k».proof.Proof.Shards
public import proofs.«01_k».proof.Proof.GateUp
public import proofs.«01_k».proof.Proof.AdamVectors
public import proofs.«01_k».proof.Proof.AdamMatrices
public import proofs.«01_k».proof.Proof.NormGrad
public import proofs.«01_k».proof.Proof.NormGradRes
public import proofs.«01_k».proof.Proof.NormGradMem
public import proofs.«01_k».proof.Proof.LossNorm
public import proofs.«01_k».proof.Proof.Shift
public import proofs.«01_k».proof.Proof.SconvGrad
public import proofs.«01_k».proof.Proof.Logistic
public import proofs.«01_k».proof.Proof.GatesGrad
public import proofs.«01_k».proof.Proof.HeadNorm
public import proofs.«01_k».proof.Proof.GdnPreGrad
public import proofs.«01_k».proof.Proof.SwigluGrad
public import proofs.«01_k».proof.Proof.SconvOut
public import proofs.«01_k».proof.Proof.GatesOut
public import proofs.«01_k».proof.Proof.GdnPreOut

@[expose] public section

set_option maxRecDepth 16384

noncomputable section

namespace Cert.Proof

open Idealize.ShloMosaic Idealize.ShloMosaic.TcCoe

/-- Cross-attention: the kernel's two gradients are the reference's. -/
theorem xattn : Cert.algebraic_KernelIdeal_ReferenceIdeal_pre_finite (hKernelIdeal := Cert.KernelIdeal.Gen.facts)
    (hReferenceIdeal := Cert.ReferenceIdeal.Gen.facts) (hPre_finite := Cert.Pre_finite.sides) :=
  fun m ρ m' ρ' hpre hag => by
    refine ⟨fun c => Cert.KernelIdeal.Arrays.dq m c, fun c => Cert.KernelIdeal.Arrays.dkv m c, Cert.KernelIdeal.Arrays.run m ρ, ?_⟩
    refine (θ_run _ _ _).mono (fun _ h c => ?_) (Cert.ReferenceIdeal.Value.run (F := Ideal) m' ρ')
    obtain ⟨h0, h1, hrest⟩ := h c
    obtain ⟨a0, a1, a2⟩ := hag c
    have hs : ∀ s h e j, ∃ r : ℝ, Cert.ReferenceIdeal.Arrays.sc (m ((c : Thread Cert.KernelIdeal.nD Cert.KernelIdeal.τ).loc Cert.KernelIdeal.main_arg0))
        (m ((c : Thread Cert.KernelIdeal.nD Cert.KernelIdeal.τ).loc Cert.KernelIdeal.main_arg1)) s h e j = r := fun s h e j =>
      Cert.Xattn.score_real _ _
        (fun d => @Cert.Pre_finite.real0 Cert.Pre_finite.sides _ _ _ (hpre c) (ix2 s d))
        (fun j d => @Cert.Pre_finite.real1 Cert.Pre_finite.sides _ _ _ (hpre c) (ix2 j _)) _ _
    refine ⟨h0.trans ?_, h1.trans ?_, hrest⟩
    · rw [Cert.ReferenceIdeal.Read.val_main_v68_eq, a0, a1, a2]
      funext y
      rw [eq_ix2 y]
      exact Cert.ReferenceIdeal.Arrays.v68 _ _ _ hs (y 0) (y 1)
    · rw [Cert.ReferenceIdeal.Read.val_main_v66_eq, a0, a1, a2]
      funext y
      rw [eq_ix2 y]
      exact Cert.ReferenceIdeal.Arrays.v66 _ _ _ hs (y 0) (y 1)

theorem claim : Cert.Claim :=
  ⟨Cert.Kernel.Gen.facts, Cert.KernelIdeal.Gen.facts, Cert.ReferenceIdeal.Gen.facts, Cert.DownDa.Gen.facts, Cert.DownDaIdeal.Gen.facts, Cert.DownDaRefIdeal.Gen.facts, Cert.DownDw.Gen.facts, Cert.DownDwIdeal.Gen.facts, Cert.DownDwRefIdeal.Gen.facts, Cert.GateUpDa.Gen.facts, Cert.GateUpDaIdeal.Gen.facts, Cert.GateUpDaRefIdeal.Gen.facts, Cert.GateUpDw.Gen.facts, Cert.GateUpDwIdeal.Gen.facts, Cert.GateUpDwRefIdeal.Gen.facts, Cert.InDa.Gen.facts, Cert.InDaIdeal.Gen.facts, Cert.InDaRefIdeal.Gen.facts, Cert.InDw.Gen.facts, Cert.InDwIdeal.Gen.facts, Cert.InDwRefIdeal.Gen.facts, Cert.SquareDa.Gen.facts, Cert.SquareDaIdeal.Gen.facts, Cert.SquareDaRefIdeal.Gen.facts, Cert.SquareDw.Gen.facts, Cert.SquareDwIdeal.Gen.facts, Cert.SquareDwRefIdeal.Gen.facts, Cert.XqDa.Gen.facts, Cert.XqDaIdeal.Gen.facts, Cert.XqDaRefIdeal.Gen.facts, Cert.XqDw.Gen.facts, Cert.XqDwIdeal.Gen.facts, Cert.XqDwRefIdeal.Gen.facts, Cert.XkvDa.Gen.facts, Cert.XkvDaIdeal.Gen.facts, Cert.XkvDaRefIdeal.Gen.facts, Cert.XkvDw.Gen.facts, Cert.XkvDwIdeal.Gen.facts, Cert.XkvDwRefIdeal.Gen.facts, Cert.InFwd.Gen.facts, Cert.InFwdIdeal.Gen.facts, Cert.InFwdRefIdeal.Gen.facts, Cert.SquareFwd.Gen.facts, Cert.SquareFwdIdeal.Gen.facts, Cert.SquareFwdRefIdeal.Gen.facts, Cert.XqFwd.Gen.facts, Cert.XqFwdIdeal.Gen.facts, Cert.XqFwdRefIdeal.Gen.facts, Cert.XkvFwd.Gen.facts, Cert.XkvFwdIdeal.Gen.facts, Cert.XkvFwdRefIdeal.Gen.facts, Cert.DownFwd.Gen.facts, Cert.DownFwdIdeal.Gen.facts, Cert.DownFwdRefIdeal.Gen.facts, Cert.GateUpFwd.Gen.facts, Cert.GateUpFwdIdeal.Gen.facts, Cert.GateUpFwdRefIdeal.Gen.facts, Cert.AdamVec.Gen.facts, Cert.AdamVecIdeal.Gen.facts, Cert.AdamVecRefIdeal.Gen.facts, Cert.AdamIn.Gen.facts, Cert.AdamInIdeal.Gen.facts, Cert.AdamInRefIdeal.Gen.facts, Cert.AdamSconv.Gen.facts, Cert.AdamSconvIdeal.Gen.facts, Cert.AdamSconvRefIdeal.Gen.facts, Cert.AdamGconv.Gen.facts, Cert.AdamGconvIdeal.Gen.facts, Cert.AdamGconvRefIdeal.Gen.facts, Cert.AdamHead.Gen.facts, Cert.AdamHeadIdeal.Gen.facts, Cert.AdamHeadRefIdeal.Gen.facts, Cert.AdamGnorm.Gen.facts, Cert.AdamGnormIdeal.Gen.facts, Cert.AdamGnormRefIdeal.Gen.facts, Cert.AdamSquare.Gen.facts, Cert.AdamSquareIdeal.Gen.facts, Cert.AdamSquareRefIdeal.Gen.facts, Cert.AdamXkv.Gen.facts, Cert.AdamXkvIdeal.Gen.facts, Cert.AdamXkvRefIdeal.Gen.facts, Cert.AdamGateUp.Gen.facts, Cert.AdamGateUpIdeal.Gen.facts, Cert.AdamGateUpRefIdeal.Gen.facts, Cert.AdamDown.Gen.facts, Cert.AdamDownIdeal.Gen.facts, Cert.AdamDownRefIdeal.Gen.facts, Cert.NormBwd.Gen.facts, Cert.NormBwdIdeal.Gen.facts, Cert.NormBwdRefIdeal.Gen.facts, Cert.ResNormBwd.Gen.facts, Cert.ResNormBwdIdeal.Gen.facts, Cert.ResNormBwdRefIdeal.Gen.facts, Cert.MemNormBwd.Gen.facts, Cert.MemNormBwdIdeal.Gen.facts, Cert.MemNormBwdRefIdeal.Gen.facts, Cert.LossGrad.Gen.facts, Cert.LossGradIdeal.Gen.facts, Cert.LossGradRefIdeal.Gen.facts, Cert.NormFwd.Gen.facts, Cert.NormFwdIdeal.Gen.facts, Cert.NormFwdRefIdeal.Gen.facts, Cert.ResNormFwd.Gen.facts, Cert.ResNormFwdIdeal.Gen.facts, Cert.ResNormFwdRefIdeal.Gen.facts, Cert.SconvBwd.Gen.facts, Cert.SconvBwdIdeal.Gen.facts, Cert.SconvBwdRefIdeal.Gen.facts, Cert.GatesBwd.Gen.facts, Cert.GatesBwdIdeal.Gen.facts, Cert.GatesBwdRefIdeal.Gen.facts, Cert.GdnPreBwd.Gen.facts, Cert.GdnPreBwdIdeal.Gen.facts, Cert.GdnPreBwdRefIdeal.Gen.facts, Cert.SwigluBwd.Gen.facts, Cert.SwigluBwdIdeal.Gen.facts, Cert.SwigluBwdRefIdeal.Gen.facts, Cert.SconvFwd.Gen.facts, Cert.SconvFwdIdeal.Gen.facts, Cert.SconvFwdRefIdeal.Gen.facts, Cert.GatesFwd.Gen.facts, Cert.GatesFwdIdeal.Gen.facts, Cert.GatesFwdRefIdeal.Gen.facts, Cert.GdnPreFwd.Gen.facts, Cert.GdnPreFwdIdeal.Gen.facts, Cert.GdnPreFwdRefIdeal.Gen.facts, Cert.Pre_finite.sides, Cert.Pre_finite_gates.sides, Cert.Pre_finite_heads.sides, Cert.Pre_finite_swiglu.sides,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2, sem_eq_zero_of_no_sems (by decide) r.2⟩) (Cert.ReferenceIdeal.Value.run (F := Ideal) m ρ),
    fun m ρ _ => (θ_run _ _ _).mono (fun r h => ⟨fun c => (h c).2.2, sem_eq_zero_of_no_sems (by decide) r.2⟩) (Cert.ReferenceIdeal.Value.run (F := Ideal) m ρ),
    fun m ρ _ => Cert.DownDa.Gen.frame m ρ,
    fun m ρ _ => Cert.DownDaIdeal.Gen.frame m ρ,
    fun m ρ _ => (θ_run _ _ _).mono (fun r h => ⟨fun c => (h c).2, sem_eq_zero_of_no_sems (by decide) r.2⟩) (Cert.DownDaRefIdeal.Value.run (F := Ideal) m ρ),
    fun m ρ _ => Cert.DownDw.Gen.frame m ρ,
    fun m ρ _ => Cert.DownDwIdeal.Gen.frame m ρ,
    fun m ρ _ => (θ_run _ _ _).mono (fun r h => ⟨fun c => (h c).2, sem_eq_zero_of_no_sems (by decide) r.2⟩) (Cert.DownDwRefIdeal.Value.run (F := Ideal) m ρ),
    fun m ρ _ => Cert.GateUpDa.Gen.frame m ρ,
    fun m ρ _ => Cert.GateUpDaIdeal.Gen.frame m ρ,
    fun m ρ _ => (θ_run _ _ _).mono (fun r h => ⟨fun c => (h c).2, sem_eq_zero_of_no_sems (by decide) r.2⟩) (Cert.GateUpDaRefIdeal.Value.run (F := Ideal) m ρ),
    fun m ρ _ => Cert.GateUpDw.Gen.frame m ρ,
    fun m ρ _ => Cert.GateUpDwIdeal.Gen.frame m ρ,
    fun m ρ _ => (θ_run _ _ _).mono (fun r h => ⟨fun c => (h c).2, sem_eq_zero_of_no_sems (by decide) r.2⟩) (Cert.GateUpDwRefIdeal.Value.run (F := Ideal) m ρ),
    fun m ρ _ => Cert.InDa.Gen.frame m ρ,
    fun m ρ _ => Cert.InDaIdeal.Gen.frame m ρ,
    fun m ρ _ => (θ_run _ _ _).mono (fun r h => ⟨fun c => (h c).2, sem_eq_zero_of_no_sems (by decide) r.2⟩) (Cert.InDaRefIdeal.Value.run (F := Ideal) m ρ),
    fun m ρ _ => Cert.InDw.Gen.frame m ρ,
    fun m ρ _ => Cert.InDwIdeal.Gen.frame m ρ,
    fun m ρ _ => (θ_run _ _ _).mono (fun r h => ⟨fun c => (h c).2, sem_eq_zero_of_no_sems (by decide) r.2⟩) (Cert.InDwRefIdeal.Value.run (F := Ideal) m ρ),
    fun m ρ _ => Cert.SquareDa.Gen.frame m ρ,
    fun m ρ _ => Cert.SquareDaIdeal.Gen.frame m ρ,
    fun m ρ _ => (θ_run _ _ _).mono (fun r h => ⟨fun c => (h c).2, sem_eq_zero_of_no_sems (by decide) r.2⟩) (Cert.SquareDaRefIdeal.Value.run (F := Ideal) m ρ),
    fun m ρ _ => Cert.SquareDw.Gen.frame m ρ,
    fun m ρ _ => Cert.SquareDwIdeal.Gen.frame m ρ,
    fun m ρ _ => (θ_run _ _ _).mono (fun r h => ⟨fun c => (h c).2, sem_eq_zero_of_no_sems (by decide) r.2⟩) (Cert.SquareDwRefIdeal.Value.run (F := Ideal) m ρ),
    fun m ρ _ => Cert.XqDa.Gen.frame m ρ,
    fun m ρ _ => Cert.XqDaIdeal.Gen.frame m ρ,
    fun m ρ _ => (θ_run _ _ _).mono (fun r h => ⟨fun c => (h c).2, sem_eq_zero_of_no_sems (by decide) r.2⟩) (Cert.XqDaRefIdeal.Value.run (F := Ideal) m ρ),
    fun m ρ _ => Cert.XqDw.Gen.frame m ρ,
    fun m ρ _ => Cert.XqDwIdeal.Gen.frame m ρ,
    fun m ρ _ => (θ_run _ _ _).mono (fun r h => ⟨fun c => (h c).2, sem_eq_zero_of_no_sems (by decide) r.2⟩) (Cert.XqDwRefIdeal.Value.run (F := Ideal) m ρ),
    fun m ρ _ => Cert.XkvDa.Gen.frame m ρ,
    fun m ρ _ => Cert.XkvDaIdeal.Gen.frame m ρ,
    fun m ρ _ => (θ_run _ _ _).mono (fun r h => ⟨fun c => (h c).2, sem_eq_zero_of_no_sems (by decide) r.2⟩) (Cert.XkvDaRefIdeal.Value.run (F := Ideal) m ρ),
    fun m ρ _ => Cert.XkvDw.Gen.frame m ρ,
    fun m ρ _ => Cert.XkvDwIdeal.Gen.frame m ρ,
    fun m ρ _ => (θ_run _ _ _).mono (fun r h => ⟨fun c => (h c).2, sem_eq_zero_of_no_sems (by decide) r.2⟩) (Cert.XkvDwRefIdeal.Value.run (F := Ideal) m ρ),
    fun m ρ _ => Cert.InFwd.Gen.frame m ρ,
    fun m ρ _ => Cert.InFwdIdeal.Gen.frame m ρ,
    fun m ρ _ => (θ_run _ _ _).mono (fun r h => ⟨fun c => (h c).2, sem_eq_zero_of_no_sems (by decide) r.2⟩) (Cert.InFwdRefIdeal.Value.run (F := Ideal) m ρ),
    fun m ρ _ => Cert.SquareFwd.Gen.frame m ρ,
    fun m ρ _ => Cert.SquareFwdIdeal.Gen.frame m ρ,
    fun m ρ _ => (θ_run _ _ _).mono (fun r h => ⟨fun c => (h c).2, sem_eq_zero_of_no_sems (by decide) r.2⟩) (Cert.SquareFwdRefIdeal.Value.run (F := Ideal) m ρ),
    fun m ρ _ => Cert.XqFwd.Gen.frame m ρ,
    fun m ρ _ => Cert.XqFwdIdeal.Gen.frame m ρ,
    fun m ρ _ => (θ_run _ _ _).mono (fun r h => ⟨fun c => (h c).2, sem_eq_zero_of_no_sems (by decide) r.2⟩) (Cert.XqFwdRefIdeal.Value.run (F := Ideal) m ρ),
    fun m ρ _ => Cert.XkvFwd.Gen.frame m ρ,
    fun m ρ _ => Cert.XkvFwdIdeal.Gen.frame m ρ,
    fun m ρ _ => (θ_run _ _ _).mono (fun r h => ⟨fun c => (h c).2, sem_eq_zero_of_no_sems (by decide) r.2⟩) (Cert.XkvFwdRefIdeal.Value.run (F := Ideal) m ρ),
    fun m ρ _ => Cert.DownFwd.Gen.frame m ρ,
    fun m ρ _ => Cert.DownFwdIdeal.Gen.frame m ρ,
    fun m ρ _ => (θ_run _ _ _).mono (fun r h => ⟨fun c => (h c).2, sem_eq_zero_of_no_sems (by decide) r.2⟩) (Cert.DownFwdRefIdeal.Value.run (F := Ideal) m ρ),
    fun m ρ _ => Cert.GateUpFwd.Gen.frame m ρ,
    fun m ρ _ => Cert.GateUpFwdIdeal.Gen.frame m ρ,
    fun m ρ _ => (θ_run _ _ _).mono (fun r h => ⟨fun c => (h c).2.2, sem_eq_zero_of_no_sems (by decide) r.2⟩) (Cert.GateUpFwdRefIdeal.Value.run (F := Ideal) m ρ),
    fun m ρ _ => Cert.AdamVec.Gen.frame m ρ,
    fun m ρ _ => Cert.AdamVecIdeal.Gen.frame m ρ,
    fun m ρ _ => (θ_run _ _ _).mono (fun r h => ⟨fun c => (h c).2.2.2, sem_eq_zero_of_no_sems (by decide) r.2⟩) (Cert.AdamVecRefIdeal.Value.run (F := Ideal) m ρ),
    fun m ρ _ => Cert.AdamIn.Gen.frame m ρ,
    fun m ρ _ => Cert.AdamInIdeal.Gen.frame m ρ,
    fun m ρ _ => (θ_run _ _ _).mono (fun r h => ⟨fun c => (h c).2.2.2, sem_eq_zero_of_no_sems (by decide) r.2⟩) (Cert.AdamInRefIdeal.Value.run (F := Ideal) m ρ),
    fun m ρ _ => Cert.AdamSconv.Gen.frame m ρ,
    fun m ρ _ => Cert.AdamSconvIdeal.Gen.frame m ρ,
    fun m ρ _ => (θ_run _ _ _).mono (fun r h => ⟨fun c => (h c).2.2.2, sem_eq_zero_of_no_sems (by decide) r.2⟩) (Cert.AdamSconvRefIdeal.Value.run (F := Ideal) m ρ),
    fun m ρ _ => Cert.AdamGconv.Gen.frame m ρ,
    fun m ρ _ => Cert.AdamGconvIdeal.Gen.frame m ρ,
    fun m ρ _ => (θ_run _ _ _).mono (fun r h => ⟨fun c => (h c).2.2.2, sem_eq_zero_of_no_sems (by decide) r.2⟩) (Cert.AdamGconvRefIdeal.Value.run (F := Ideal) m ρ),
    fun m ρ _ => Cert.AdamHead.Gen.frame m ρ,
    fun m ρ _ => Cert.AdamHeadIdeal.Gen.frame m ρ,
    fun m ρ _ => (θ_run _ _ _).mono (fun r h => ⟨fun c => (h c).2.2.2, sem_eq_zero_of_no_sems (by decide) r.2⟩) (Cert.AdamHeadRefIdeal.Value.run (F := Ideal) m ρ),
    fun m ρ _ => Cert.AdamGnorm.Gen.frame m ρ,
    fun m ρ _ => Cert.AdamGnormIdeal.Gen.frame m ρ,
    fun m ρ _ => (θ_run _ _ _).mono (fun r h => ⟨fun c => (h c).2.2.2, sem_eq_zero_of_no_sems (by decide) r.2⟩) (Cert.AdamGnormRefIdeal.Value.run (F := Ideal) m ρ),
    fun m ρ _ => Cert.AdamSquare.Gen.frame m ρ,
    fun m ρ _ => Cert.AdamSquareIdeal.Gen.frame m ρ,
    fun m ρ _ => (θ_run _ _ _).mono (fun r h => ⟨fun c => (h c).2.2.2, sem_eq_zero_of_no_sems (by decide) r.2⟩) (Cert.AdamSquareRefIdeal.Value.run (F := Ideal) m ρ),
    fun m ρ _ => Cert.AdamXkv.Gen.frame m ρ,
    fun m ρ _ => Cert.AdamXkvIdeal.Gen.frame m ρ,
    fun m ρ _ => (θ_run _ _ _).mono (fun r h => ⟨fun c => (h c).2.2.2, sem_eq_zero_of_no_sems (by decide) r.2⟩) (Cert.AdamXkvRefIdeal.Value.run (F := Ideal) m ρ),
    fun m ρ _ => Cert.AdamGateUp.Gen.frame m ρ,
    fun m ρ _ => Cert.AdamGateUpIdeal.Gen.frame m ρ,
    fun m ρ _ => (θ_run _ _ _).mono (fun r h => ⟨fun c => (h c).2.2.2, sem_eq_zero_of_no_sems (by decide) r.2⟩) (Cert.AdamGateUpRefIdeal.Value.run (F := Ideal) m ρ),
    fun m ρ _ => Cert.AdamDown.Gen.frame m ρ,
    fun m ρ _ => Cert.AdamDownIdeal.Gen.frame m ρ,
    fun m ρ _ => (θ_run _ _ _).mono (fun r h => ⟨fun c => (h c).2.2.2, sem_eq_zero_of_no_sems (by decide) r.2⟩) (Cert.AdamDownRefIdeal.Value.run (F := Ideal) m ρ),
    fun m ρ _ => Cert.NormBwd.Gen.frame m ρ,
    fun m ρ _ => Cert.NormBwdIdeal.Gen.frame m ρ,
    fun m ρ _ => (θ_run _ _ _).mono (fun r h => ⟨fun c => (h c).2.2, sem_eq_zero_of_no_sems (by decide) r.2⟩) (Cert.NormBwdRefIdeal.Value.run (F := Ideal) m ρ),
    fun m ρ _ => Cert.ResNormBwd.Gen.frame m ρ,
    fun m ρ _ => Cert.ResNormBwdIdeal.Gen.frame m ρ,
    fun m ρ _ => (θ_run _ _ _).mono (fun r h => ⟨fun c => (h c).2.2, sem_eq_zero_of_no_sems (by decide) r.2⟩) (Cert.ResNormBwdRefIdeal.Value.run (F := Ideal) m ρ),
    fun m ρ _ => Cert.MemNormBwd.Gen.frame m ρ,
    fun m ρ _ => Cert.MemNormBwdIdeal.Gen.frame m ρ,
    fun m ρ _ => (θ_run _ _ _).mono (fun r h => ⟨fun c => (h c).2.2, sem_eq_zero_of_no_sems (by decide) r.2⟩) (Cert.MemNormBwdRefIdeal.Value.run (F := Ideal) m ρ),
    fun m ρ _ => Cert.LossGrad.Gen.frame m ρ,
    fun m ρ _ => Cert.LossGradIdeal.Gen.frame m ρ,
    fun m ρ _ => (θ_run _ _ _).mono (fun r h => ⟨fun c => (h c).2.2, sem_eq_zero_of_no_sems (by decide) r.2⟩) (Cert.LossGradRefIdeal.Value.run (F := Ideal) m ρ),
    fun m ρ _ => Cert.NormFwd.Gen.frame m ρ,
    fun m ρ _ => Cert.NormFwdIdeal.Gen.frame m ρ,
    fun m ρ _ => (θ_run _ _ _).mono (fun r h => ⟨fun c => (h c).2, sem_eq_zero_of_no_sems (by decide) r.2⟩) (Cert.NormFwdRefIdeal.Value.run (F := Ideal) m ρ),
    fun m ρ _ => Cert.ResNormFwd.Gen.frame m ρ,
    fun m ρ _ => Cert.ResNormFwdIdeal.Gen.frame m ρ,
    fun m ρ _ => (θ_run _ _ _).mono (fun r h => ⟨fun c => (h c).2, sem_eq_zero_of_no_sems (by decide) r.2⟩) (Cert.ResNormFwdRefIdeal.Value.run (F := Ideal) m ρ),
    fun m ρ _ => Cert.SconvBwd.Gen.frame m ρ,
    fun m ρ _ => Cert.SconvBwdIdeal.Gen.frame m ρ,
    fun m ρ _ => (θ_run _ _ _).mono (fun r h => ⟨fun c => (h c).2.2.2.2, sem_eq_zero_of_no_sems (by decide) r.2⟩) (Cert.SconvBwdRefIdeal.Value.run (F := Ideal) m ρ),
    fun m ρ _ => Cert.GatesBwd.Gen.frame m ρ,
    fun m ρ _ => Cert.GatesBwdIdeal.Gen.frame m ρ,
    fun m ρ _ => Cert.GatesBwdIdeal.Gen.frame m ρ,
    fun m ρ _ => (θ_run _ _ _).mono (fun r h => ⟨fun c => (h c).2.2.2, sem_eq_zero_of_no_sems (by decide) r.2⟩) (Cert.GatesBwdRefIdeal.Value.run (F := Ideal) m ρ),
    fun m ρ _ => (θ_run _ _ _).mono (fun r h => ⟨fun c => (h c).2.2.2, sem_eq_zero_of_no_sems (by decide) r.2⟩) (Cert.GatesBwdRefIdeal.Value.run (F := Ideal) m ρ),
    fun m ρ _ => Cert.GdnPreBwd.Gen.frame m ρ,
    fun m ρ _ => Cert.GdnPreBwdIdeal.Gen.frame m ρ,
    fun m ρ _ => Cert.GdnPreBwdIdeal.Gen.frame m ρ,
    fun m ρ _ => (θ_run _ _ _).mono (fun r h => ⟨fun c => (h c).2.2, sem_eq_zero_of_no_sems (by decide) r.2⟩) (Cert.GdnPreBwdRefIdeal.Value.run (F := Ideal) m ρ),
    fun m ρ _ => (θ_run _ _ _).mono (fun r h => ⟨fun c => (h c).2.2, sem_eq_zero_of_no_sems (by decide) r.2⟩) (Cert.GdnPreBwdRefIdeal.Value.run (F := Ideal) m ρ),
    fun m ρ _ => Cert.SwigluBwd.Gen.frame m ρ,
    fun m ρ _ => Cert.SwigluBwdIdeal.Gen.frame m ρ,
    fun m ρ _ => Cert.SwigluBwdIdeal.Gen.frame m ρ,
    fun m ρ _ => (θ_run _ _ _).mono (fun r h => ⟨fun c => (h c).2, sem_eq_zero_of_no_sems (by decide) r.2⟩) (Cert.SwigluBwdRefIdeal.Value.run (F := Ideal) m ρ),
    fun m ρ _ => (θ_run _ _ _).mono (fun r h => ⟨fun c => (h c).2, sem_eq_zero_of_no_sems (by decide) r.2⟩) (Cert.SwigluBwdRefIdeal.Value.run (F := Ideal) m ρ),
    fun m ρ _ => Cert.SconvFwd.Gen.frame m ρ,
    fun m ρ _ => Cert.SconvFwdIdeal.Gen.frame m ρ,
    fun m ρ _ => (θ_run _ _ _).mono (fun r h => ⟨fun c => (h c).2, sem_eq_zero_of_no_sems (by decide) r.2⟩) (Cert.SconvFwdRefIdeal.Value.run (F := Ideal) m ρ),
    fun m ρ _ => Cert.GatesFwd.Gen.frame m ρ,
    fun m ρ _ => Cert.GatesFwdIdeal.Gen.frame m ρ,
    fun m ρ _ => (θ_run _ _ _).mono (fun r h => ⟨fun c => (h c).2, sem_eq_zero_of_no_sems (by decide) r.2⟩) (Cert.GatesFwdRefIdeal.Value.run (F := Ideal) m ρ),
    fun m ρ _ => Cert.GdnPreFwd.Gen.frame m ρ,
    fun m ρ _ => Cert.GdnPreFwdIdeal.Gen.frame m ρ,
    fun m ρ _ => (θ_run _ _ _).mono (fun r h => ⟨fun c => (h c).2, sem_eq_zero_of_no_sems (by decide) r.2⟩) (Cert.GdnPreFwdRefIdeal.Value.run (F := Ideal) m ρ),
    trivial,
    xattn,
    trivial,
    Cert.DownDaIdeal.Product.claim,
    trivial,
    Cert.DownDwIdeal.Product.claim,
    trivial,
    Cert.GateUpDaIdeal.Product.claim,
    trivial,
    Cert.GateUpDwIdeal.Product.claim,
    trivial,
    Cert.InDaIdeal.Product.claim,
    trivial,
    Cert.InDwIdeal.Product.claim,
    trivial,
    Cert.SquareDaIdeal.Product.claim,
    trivial,
    Cert.SquareDwIdeal.Product.claim,
    trivial,
    Cert.XqDaIdeal.Product.claim,
    trivial,
    Cert.XqDwIdeal.Product.claim,
    trivial,
    Cert.XkvDaIdeal.Product.claim,
    trivial,
    Cert.XkvDwIdeal.Product.claim,
    trivial,
    Cert.InFwdIdeal.Product.claim,
    trivial,
    Cert.SquareFwdIdeal.Product.claim,
    trivial,
    Cert.XqFwdIdeal.Product.claim,
    trivial,
    Cert.XkvFwdIdeal.Product.claim,
    trivial,
    Cert.DownFwdIdeal.Product.claim,
    trivial,
    Cert.GateUpFwdIdeal.Product.claim,
    trivial,
    Cert.AdamVecIdeal.Product.claim,
    trivial,
    Cert.AdamInIdeal.Product.claim,
    trivial,
    Cert.AdamSconvIdeal.Product.claim,
    trivial,
    Cert.AdamGconvIdeal.Product.claim,
    trivial,
    Cert.AdamHeadIdeal.Product.claim,
    trivial,
    Cert.AdamGnormIdeal.Product.claim,
    trivial,
    Cert.AdamSquareIdeal.Product.claim,
    trivial,
    Cert.AdamXkvIdeal.Product.claim,
    trivial,
    Cert.AdamGateUpIdeal.Product.claim,
    trivial,
    Cert.AdamDownIdeal.Product.claim,
    trivial,
    Cert.NormBwdIdeal.Grad.claim,
    trivial,
    Cert.ResNormBwdIdeal.Grad.claim,
    trivial,
    Cert.MemNormBwdIdeal.Grad.claim,
    trivial,
    Cert.LossGradIdeal.Grad.claim,
    trivial,
    Cert.NormFwdIdeal.Product.claim,
    trivial,
    Cert.ResNormFwdIdeal.Product.claim,
    trivial,
    Cert.SconvBwdIdeal.Grad.claim,
    trivial,
    Cert.GatesBwdIdeal.Grad.claim,
    trivial,
    Cert.GdnPreBwdIdeal.Grad.claim,
    trivial,
    Cert.SwigluBwdIdeal.Grad.claim,
    trivial,
    Cert.SconvFwdIdeal.Out.claim,
    trivial,
    Cert.GatesFwdIdeal.Out.claim,
    trivial,
    Cert.GdnPreFwdIdeal.Out.claim⟩

end Cert.Proof

end
